-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x8192 : Shape := ⟨2, ![32, 8192]⟩
abbrev S64 : Shape := ⟨1, ![64]⟩
abbrev S1x64 : Shape := ⟨2, ![1, 64]⟩
abbrev S16x2x8192 : Shape := ⟨3, ![16, 2, 8192]⟩
abbrev S32x8192x64 : Shape := ⟨3, ![32, 8192, 64]⟩
abbrev S1x2x8192 : Shape := ⟨3, ![1, 2, 8192]⟩
abbrev S2x8192x64 : Shape := ⟨3, ![2, 8192, 64]⟩
abbrev S8192x128 : Shape := ⟨2, ![8192, 128]⟩
abbrev S1x128 : Shape := ⟨2, ![1, 128]⟩
abbrev S4x128 : Shape := ⟨2, ![4, 128]⟩
abbrev S2x8192 : Shape := ⟨2, ![2, 8192]⟩
abbrev S4x8192 : Shape := ⟨2, ![4, 8192]⟩
abbrev S256x128 : Shape := ⟨2, ![256, 128]⟩
abbrev S128x128 : Shape := ⟨2, ![128, 128]⟩
abbrev S16x8x128 : Shape := ⟨3, ![16, 8, 128]⟩
abbrev S1x8x1 : Shape := ⟨3, ![1, 8, 1]⟩
abbrev S1x8x128 : Shape := ⟨3, ![1, 8, 128]⟩
abbrev S8x16x128 : Shape := ⟨3, ![8, 16, 128]⟩
abbrev S8x8x128 : Shape := ⟨3, ![8, 8, 128]⟩
abbrev S8x1x1 : Shape := ⟨3, ![8, 1, 1]⟩
abbrev S8x1x8x128 : Shape := ⟨4, ![8, 1, 8, 128]⟩
abbrev S8x2x8x128 : Shape := ⟨4, ![8, 2, 8, 128]⟩
abbrev S2x8x128 : Shape := ⟨3, ![2, 8, 128]⟩
abbrev S4x32x128 : Shape := ⟨3, ![4, 32, 128]⟩
abbrev S4x16x128 : Shape := ⟨3, ![4, 16, 128]⟩
abbrev S4x1x1 : Shape := ⟨3, ![4, 1, 1]⟩
abbrev S4x1x16x128 : Shape := ⟨4, ![4, 1, 16, 128]⟩
abbrev S4x2x16x128 : Shape := ⟨4, ![4, 2, 16, 128]⟩
abbrev S4x8x128 : Shape := ⟨3, ![4, 8, 128]⟩
abbrev S2x64x128 : Shape := ⟨3, ![2, 64, 128]⟩
abbrev S2x32x128 : Shape := ⟨3, ![2, 32, 128]⟩
abbrev S2x1x1 : Shape := ⟨3, ![2, 1, 1]⟩
abbrev S2x1x32x128 : Shape := ⟨4, ![2, 1, 32, 128]⟩
abbrev S2x2x32x128 : Shape := ⟨4, ![2, 2, 32, 128]⟩
abbrev S1x128x128 : Shape := ⟨3, ![1, 128, 128]⟩
abbrev S1x64x128 : Shape := ⟨3, ![1, 64, 128]⟩
abbrev S1x1x64x128 : Shape := ⟨4, ![1, 1, 64, 128]⟩
abbrev S1x2x64x128 : Shape := ⟨4, ![1, 2, 64, 128]⟩
abbrev S512x128 : Shape := ⟨2, ![512, 128]⟩
abbrev S512x64 : Shape := ⟨2, ![512, 64]⟩
abbrev S1x512x64 : Shape := ⟨3, ![1, 512, 64]⟩

abbrev nBuf : Space → Nat
  | .hbm => 9
  | .vmem => 9
  | .smem => 0
  | _ => 0

abbrev bufTy : (tb : Table) → Fin (tcTables nBuf tb) → BufTy
  | .hbm, ⟨0, _⟩ => ⟨S32x8192, .f32⟩
  | .hbm, ⟨1, _⟩ => ⟨S32x8192, .f32⟩
  | .hbm, ⟨2, _⟩ => ⟨S64, .f32⟩
  | .hbm, ⟨3, _⟩ => ⟨S64, .f32⟩
  | .hbm, ⟨4, _⟩ => ⟨S1x64, .f32⟩
  | .hbm, ⟨5, _⟩ => ⟨S1x64, .f32⟩
  | .hbm, ⟨6, _⟩ => ⟨S16x2x8192, .f32⟩
  | .hbm, ⟨7, _⟩ => ⟨S16x2x8192, .f32⟩
  | .hbm, ⟨8, _⟩ => ⟨S32x8192x64, .f32⟩
  | .local _ .vmem, ⟨0, _⟩ => ⟨S1x2x8192, .f32⟩
  | .local _ .vmem, ⟨1, _⟩ => ⟨S1x2x8192, .f32⟩
  | .local _ .vmem, ⟨2, _⟩ => ⟨S1x2x8192, .f32⟩
  | .local _ .vmem, ⟨3, _⟩ => ⟨S1x2x8192, .f32⟩
  | .local _ .vmem, ⟨4, _⟩ => ⟨S1x64, .f32⟩
  | .local _ .vmem, ⟨5, _⟩ => ⟨S1x64, .f32⟩
  | .local _ .vmem, ⟨6, _⟩ => ⟨S2x8192x64, .f32⟩
  | .local _ .vmem, ⟨7, _⟩ => ⟨S2x8192x64, .f32⟩
  | .local _ .vmem, ⟨8, _⟩ => ⟨S8192x128, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v19 : BitVec 32 := Scalar.addi c0_i32 c8_i32
  let c1_i32 : BitVec 32 := 1#32
  ⟨c0_i32, v19, c1_i32⟩
def k0_off1 (k0_t1 : Fin k0_t1_loop.trips) : Fin 2 → Nat :=
  let c4_i32_76 : BitVec 32 := 4#32
  let c0_i32 : BitVec 32 := 0#32
  let c1_i32 : BitVec 32 := 1#32
  let arg7 : BitVec 32 := Scf.iv c0_i32 c1_i32 k0_t1
  let v36 : BitVec 32 := Scalar.muli c4_i32_76 arg7
  let c256_i32 : BitVec 32 := 256#32
  let v37 : BitVec 32 := Scalar.muli v36 c256_i32
  let v38 : Index := Scalar.indexCast v37
  let c0_77 : Index := 0#32
  ![v38.toNat, 0]
def k0_off2 (k0_t1 : Fin k0_t1_loop.trips) : Fin 2 → Nat :=
  let c4_i32_881 : BitVec 32 := 4#32
  let c0_i32 : BitVec 32 := 0#32
  let c1_i32 : BitVec 32 := 1#32
  let arg7 : BitVec 32 := Scf.iv c0_i32 c1_i32 k0_t1
  let v3122 : BitVec 32 := Scalar.muli c4_i32_881 arg7
  let c2_i32_882 : BitVec 32 := 2#32
  let v3123 : BitVec 32 := Scalar.addi v3122 c2_i32_882
  let c256_i32_883 : BitVec 32 := 256#32
  let v3124 : BitVec 32 := Scalar.muli v3123 c256_i32_883
  let v3125 : Index := Scalar.indexCast v3124
  let c0_884 : Index := 0#32
  ![v3125.toNat, 0]
@[reducible] def k0_t2_loop : Scf.Loop 32 :=
  let c0_i32_13 : BitVec 32 := 0#32
  let c8_i32_14 : BitVec 32 := 8#32
  let v20 : BitVec 32 := Scalar.addi c0_i32_13 c8_i32_14
  let c1_i32_15 : BitVec 32 := 1#32
  ⟨c0_i32_13, v20, c1_i32_15⟩
def k0_off3 (k0_t2 : Fin k0_t2_loop.trips) (c1_i32_77 : BitVec 32) : Fin 2 → Nat :=
  let c4_i32_76 : BitVec 32 := 4#32
  let c0_i32_13 : BitVec 32 := 0#32
  let c1_i32_15 : BitVec 32 := 1#32
  let arg7 : BitVec 32 := Scf.iv c0_i32_13 c1_i32_15 k0_t2
  let v36 : BitVec 32 := Scalar.muli c4_i32_76 arg7
  let v37 : BitVec 32 := Scalar.addi v36 c1_i32_77
  let c256_i32 : BitVec 32 := 256#32
  let v38 : BitVec 32 := Scalar.muli v37 c256_i32
  let v39 : Index := Scalar.indexCast v38
  let c0_78 : Index := 0#32
  ![v39.toNat, 0]
@[reducible] def k0_t3_loop : Scf.Loop 32 :=
  let c0_i32_17 : BitVec 32 := 0#32
  let c4_i32 : BitVec 32 := 4#32
  let v21 : BitVec 32 := Scalar.addi c0_i32_17 c4_i32
  let c1_i32_18 : BitVec 32 := 1#32
  ⟨c0_i32_17, v21, c1_i32_18⟩
def k0_off4 (k0_t3 : Fin k0_t3_loop.trips) : Fin 2 → Nat :=
  let c2_i32 : BitVec 32 := 2#32
  let c0_i32_17 : BitVec 32 := 0#32
  let c1_i32_18 : BitVec 32 := 1#32
  let arg7 : BitVec 32 := Scf.iv c0_i32_17 c1_i32_18 k0_t3
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c1_i32_76 : BitVec 32 := 1#32
  let c0_i32_79 : BitVec 32 := 0#32
  let v43 : BitVec 1 := Scalar.cmpi .sgt c1_i32_76 c0_i32_79
  let v44 : BitVec 32 := Scalar.extui v43
  let c0_i32_80 : BitVec 32 := 0#32
  let v45 : BitVec 1 := Scalar.cmpi .slt c1_i32_76 c0_i32_80
  let v46 : BitVec 32 := Scalar.extui v45
  let v47 : BitVec 32 := Scalar.subi v44 v46
  let v48 : BitVec 1 := Scalar.cmpi .ne v42 v47
  let v49 : BitVec 32 := Scalar.remsi v36 c1_i32_76
  let c0_i32_81 : BitVec 32 := 0#32
  let v50 : BitVec 1 := Scalar.cmpi .ne v49 c0_i32_81
  let v51 : BitVec 1 := Scalar.andi v48 v50
  let v37 : BitVec 32 := Scalar.divsi v36 c1_i32_76
  let c1_i32_82 : BitVec 32 := 1#32
  let v52 : BitVec 32 := Scalar.subi v37 c1_i32_82
  let v53 : BitVec 32 := Scalar.select v51 v52 v37
  let c2_i32_83 : BitVec 32 := 2#32
  let v54 : BitVec 32 := Scalar.muli v53 c2_i32_83
  let c1_i32_84 : BitVec 32 := 1#32
  let v55 : BitVec 32 := Scalar.muli v54 c1_i32_84
  let c0_i32_86 : BitVec 32 := 0#32
  let v57 : BitVec 1 := Scalar.cmpi .sgt v36 c0_i32_86
  let v58 : BitVec 32 := Scalar.extui v57
  let c0_i32_87 : BitVec 32 := 0#32
  let v59 : BitVec 1 := Scalar.cmpi .slt v36 c0_i32_87
  let v60 : BitVec 32 := Scalar.extui v59
  let v61 : BitVec 32 := Scalar.subi v58 v60
  let c1_i32_85 : BitVec 32 := 1#32
  let c0_i32_88 : BitVec 32 := 0#32
  let v62 : BitVec 1 := Scalar.cmpi .sgt c1_i32_85 c0_i32_88
  let v63 : BitVec 32 := Scalar.extui v62
  let c0_i32_89 : BitVec 32 := 0#32
  let v64 : BitVec 1 := Scalar.cmpi .slt c1_i32_85 c0_i32_89
  let v65 : BitVec 32 := Scalar.extui v64
  let v66 : BitVec 32 := Scalar.subi v63 v65
  let v67 : BitVec 1 := Scalar.cmpi .ne v61 v66
  let v68 : BitVec 32 := Scalar.remsi v36 c1_i32_85
  let c0_i32_90 : BitVec 32 := 0#32
  let v69 : BitVec 1 := Scalar.cmpi .ne v68 c0_i32_90
  let v70 : BitVec 1 := Scalar.andi v67 v69
  let v56 : BitVec 32 := Scalar.divsi v36 c1_i32_85
  let c1_i32_91 : BitVec 32 := 1#32
  let v71 : BitVec 32 := Scalar.subi v56 c1_i32_91
  let v72 : BitVec 32 := Scalar.select v70 v71 v56
  let c1_i32_92 : BitVec 32 := 1#32
  let v73 : BitVec 32 := Scalar.muli v72 c1_i32_92
  let v74 : BitVec 32 := Scalar.subi v36 v73
  let v75 : BitVec 32 := Scalar.addi v55 v74
  let c512_i32 : BitVec 32 := 512#32
  let v76 : BitVec 32 := Scalar.muli v75 c512_i32
  let v77 : Index := Scalar.indexCast v76
  let c0_93 : Index := 0#32
  ![v77.toNat, 0]
def k0_off5 (k0_t3 : Fin k0_t3_loop.trips) : Fin 2 → Nat :=
  let c2_i32_137 : BitVec 32 := 2#32
  let c0_i32_17 : BitVec 32 := 0#32
  let c1_i32_18 : BitVec 32 := 1#32
  let arg7 : BitVec 32 := Scf.iv c0_i32_17 c1_i32_18 k0_t3
  let v404 : BitVec 32 := Scalar.muli c2_i32_137 arg7
  let c1_i32_138 : BitVec 32 := 1#32
  let v405 : BitVec 32 := Scalar.addi v404 c1_i32_138
  let c0_i32_140 : BitVec 32 := 0#32
  let v407 : BitVec 1 := Scalar.cmpi .sgt v405 c0_i32_140
  let v408 : BitVec 32 := Scalar.extui v407
  let c0_i32_141 : BitVec 32 := 0#32
  let v409 : BitVec 1 := Scalar.cmpi .slt v405 c0_i32_141
  let v410 : BitVec 32 := Scalar.extui v409
  let v411 : BitVec 32 := Scalar.subi v408 v410
  let c1_i32_139 : BitVec 32 := 1#32
  let c0_i32_142 : BitVec 32 := 0#32
  let v412 : BitVec 1 := Scalar.cmpi .sgt c1_i32_139 c0_i32_142
  let v413 : BitVec 32 := Scalar.extui v412
  let c0_i32_143 : BitVec 32 := 0#32
  let v414 : BitVec 1 := Scalar.cmpi .slt c1_i32_139 c0_i32_143
  let v415 : BitVec 32 := Scalar.extui v414
  let v416 : BitVec 32 := Scalar.subi v413 v415
  let v417 : BitVec 1 := Scalar.cmpi .ne v411 v416
  let v418 : BitVec 32 := Scalar.remsi v405 c1_i32_139
  let c0_i32_144 : BitVec 32 := 0#32
  let v419 : BitVec 1 := Scalar.cmpi .ne v418 c0_i32_144
  let v420 : BitVec 1 := Scalar.andi v417 v419
  let v406 : BitVec 32 := Scalar.divsi v405 c1_i32_139
  let c1_i32_145 : BitVec 32 := 1#32
  let v421 : BitVec 32 := Scalar.subi v406 c1_i32_145
  let v422 : BitVec 32 := Scalar.select v420 v421 v406
  let c2_i32_146 : BitVec 32 := 2#32
  let v423 : BitVec 32 := Scalar.muli v422 c2_i32_146
  let c1_i32_147 : BitVec 32 := 1#32
  let v424 : BitVec 32 := Scalar.muli v423 c1_i32_147
  let c0_i32_149 : BitVec 32 := 0#32
  let v426 : BitVec 1 := Scalar.cmpi .sgt v405 c0_i32_149
  let v427 : BitVec 32 := Scalar.extui v426
  let c0_i32_150 : BitVec 32 := 0#32
  let v428 : BitVec 1 := Scalar.cmpi .slt v405 c0_i32_150
  let v429 : BitVec 32 := Scalar.extui v428
  let v430 : BitVec 32 := Scalar.subi v427 v429
  let c1_i32_148 : BitVec 32 := 1#32
  let c0_i32_151 : BitVec 32 := 0#32
  let v431 : BitVec 1 := Scalar.cmpi .sgt c1_i32_148 c0_i32_151
  let v432 : BitVec 32 := Scalar.extui v431
  let c0_i32_152 : BitVec 32 := 0#32
  let v433 : BitVec 1 := Scalar.cmpi .slt c1_i32_148 c0_i32_152
  let v434 : BitVec 32 := Scalar.extui v433
  let v435 : BitVec 32 := Scalar.subi v432 v434
  let v436 : BitVec 1 := Scalar.cmpi .ne v430 v435
  let v437 : BitVec 32 := Scalar.remsi v405 c1_i32_148
  let c0_i32_153 : BitVec 32 := 0#32
  let v438 : BitVec 1 := Scalar.cmpi .ne v437 c0_i32_153
  let v439 : BitVec 1 := Scalar.andi v436 v438
  let v425 : BitVec 32 := Scalar.divsi v405 c1_i32_148
  let c1_i32_154 : BitVec 32 := 1#32
  let v440 : BitVec 32 := Scalar.subi v425 c1_i32_154
  let v441 : BitVec 32 := Scalar.select v439 v440 v425
  let c1_i32_155 : BitVec 32 := 1#32
  let v442 : BitVec 32 := Scalar.muli v441 c1_i32_155
  let v443 : BitVec 32 := Scalar.subi v405 v442
  let v444 : BitVec 32 := Scalar.addi v424 v443
  let c512_i32_156 : BitVec 32 := 512#32
  let v445 : BitVec 32 := Scalar.muli v444 c512_i32_156
  let v446 : Index := Scalar.indexCast v445
  let c0_157 : Index := 0#32
  ![v446.toNat, 0]
@[reducible] def k0_t4_loop : Scf.Loop 32 :=
  let c0_i32_20 : BitVec 32 := 0#32
  let c4_i32_21 : BitVec 32 := 4#32
  let v22 : BitVec 32 := Scalar.addi c0_i32_20 c4_i32_21
  let c1_i32_22 : BitVec 32 := 1#32
  ⟨c0_i32_20, v22, c1_i32_22⟩
def k0_off6 (k0_t4 : Fin k0_t4_loop.trips) : Fin 2 → Nat :=
  let c2_i32 : BitVec 32 := 2#32
  let c0_i32_20 : BitVec 32 := 0#32
  let c1_i32_22 : BitVec 32 := 1#32
  let arg7 : BitVec 32 := Scf.iv c0_i32_20 c1_i32_22 k0_t4
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c1_i32_76 : BitVec 32 := 1#32
  let c0_i32_79 : BitVec 32 := 0#32
  let v43 : BitVec 1 := Scalar.cmpi .sgt c1_i32_76 c0_i32_79
  let v44 : BitVec 32 := Scalar.extui v43
  let c0_i32_80 : BitVec 32 := 0#32
  let v45 : BitVec 1 := Scalar.cmpi .slt c1_i32_76 c0_i32_80
  let v46 : BitVec 32 := Scalar.extui v45
  let v47 : BitVec 32 := Scalar.subi v44 v46
  let v48 : BitVec 1 := Scalar.cmpi .ne v42 v47
  let v49 : BitVec 32 := Scalar.remsi v36 c1_i32_76
  let c0_i32_81 : BitVec 32 := 0#32
  let v50 : BitVec 1 := Scalar.cmpi .ne v49 c0_i32_81
  let v51 : BitVec 1 := Scalar.andi v48 v50
  let v37 : BitVec 32 := Scalar.divsi v36 c1_i32_76
  let c1_i32_82 : BitVec 32 := 1#32
  let v52 : BitVec 32 := Scalar.subi v37 c1_i32_82
  let v53 : BitVec 32 := Scalar.select v51 v52 v37
  let c2_i32_83 : BitVec 32 := 2#32
  let v54 : BitVec 32 := Scalar.muli v53 c2_i32_83
  let c1_i32_84 : BitVec 32 := 1#32
  let v55 : BitVec 32 := Scalar.muli v54 c1_i32_84
  let c0_i32_86 : BitVec 32 := 0#32
  let v57 : BitVec 1 := Scalar.cmpi .sgt v36 c0_i32_86
  let v58 : BitVec 32 := Scalar.extui v57
  let c0_i32_87 : BitVec 32 := 0#32
  let v59 : BitVec 1 := Scalar.cmpi .slt v36 c0_i32_87
  let v60 : BitVec 32 := Scalar.extui v59
  let v61 : BitVec 32 := Scalar.subi v58 v60
  let c1_i32_85 : BitVec 32 := 1#32
  let c0_i32_88 : BitVec 32 := 0#32
  let v62 : BitVec 1 := Scalar.cmpi .sgt c1_i32_85 c0_i32_88
  let v63 : BitVec 32 := Scalar.extui v62
  let c0_i32_89 : BitVec 32 := 0#32
  let v64 : BitVec 1 := Scalar.cmpi .slt c1_i32_85 c0_i32_89
  let v65 : BitVec 32 := Scalar.extui v64
  let v66 : BitVec 32 := Scalar.subi v63 v65
  let v67 : BitVec 1 := Scalar.cmpi .ne v61 v66
  let v68 : BitVec 32 := Scalar.remsi v36 c1_i32_85
  let c0_i32_90 : BitVec 32 := 0#32
  let v69 : BitVec 1 := Scalar.cmpi .ne v68 c0_i32_90
  let v70 : BitVec 1 := Scalar.andi v67 v69
  let v56 : BitVec 32 := Scalar.divsi v36 c1_i32_85
  let c1_i32_91 : BitVec 32 := 1#32
  let v71 : BitVec 32 := Scalar.subi v56 c1_i32_91
  let v72 : BitVec 32 := Scalar.select v70 v71 v56
  let c1_i32_92 : BitVec 32 := 1#32
  let v73 : BitVec 32 := Scalar.muli v72 c1_i32_92
  let v74 : BitVec 32 := Scalar.subi v36 v73
  let v75 : BitVec 32 := Scalar.addi v55 v74
  let c1_i32_93 : BitVec 32 := 1#32
  let v76 : BitVec 32 := Scalar.addi v75 c1_i32_93
  let c512_i32 : BitVec 32 := 512#32
  let v77 : BitVec 32 := Scalar.muli v76 c512_i32
  let v78 : Index := Scalar.indexCast v77
  let c0_94 : Index := 0#32
  ![v78.toNat, 0]
def k0_off7 (k0_t4 : Fin k0_t4_loop.trips) : Fin 2 → Nat :=
  let c2_i32_142 : BitVec 32 := 2#32
  let c0_i32_20 : BitVec 32 := 0#32
  let c1_i32_22 : BitVec 32 := 1#32
  let arg7 : BitVec 32 := Scf.iv c0_i32_20 c1_i32_22 k0_t4
  let v409 : BitVec 32 := Scalar.muli c2_i32_142 arg7
  let c1_i32_143 : BitVec 32 := 1#32
  let v410 : BitVec 32 := Scalar.addi v409 c1_i32_143
  let c0_i32_145 : BitVec 32 := 0#32
  let v412 : BitVec 1 := Scalar.cmpi .sgt v410 c0_i32_145
  let v413 : BitVec 32 := Scalar.extui v412
  let c0_i32_146 : BitVec 32 := 0#32
  let v414 : BitVec 1 := Scalar.cmpi .slt v410 c0_i32_146
  let v415 : BitVec 32 := Scalar.extui v414
  let v416 : BitVec 32 := Scalar.subi v413 v415
  let c1_i32_144 : BitVec 32 := 1#32
  let c0_i32_147 : BitVec 32 := 0#32
  let v417 : BitVec 1 := Scalar.cmpi .sgt c1_i32_144 c0_i32_147
  let v418 : BitVec 32 := Scalar.extui v417
  let c0_i32_148 : BitVec 32 := 0#32
  let v419 : BitVec 1 := Scalar.cmpi .slt c1_i32_144 c0_i32_148
  let v420 : BitVec 32 := Scalar.extui v419
  let v421 : BitVec 32 := Scalar.subi v418 v420
  let v422 : BitVec 1 := Scalar.cmpi .ne v416 v421
  let v423 : BitVec 32 := Scalar.remsi v410 c1_i32_144
  let c0_i32_149 : BitVec 32 := 0#32
  let v424 : BitVec 1 := Scalar.cmpi .ne v423 c0_i32_149
  let v425 : BitVec 1 := Scalar.andi v422 v424
  let v411 : BitVec 32 := Scalar.divsi v410 c1_i32_144
  let c1_i32_150 : BitVec 32 := 1#32
  let v426 : BitVec 32 := Scalar.subi v411 c1_i32_150
  let v427 : BitVec 32 := Scalar.select v425 v426 v411
  let c2_i32_151 : BitVec 32 := 2#32
  let v428 : BitVec 32 := Scalar.muli v427 c2_i32_151
  let c1_i32_152 : BitVec 32 := 1#32
  let v429 : BitVec 32 := Scalar.muli v428 c1_i32_152
  let c0_i32_154 : BitVec 32 := 0#32
  let v431 : BitVec 1 := Scalar.cmpi .sgt v410 c0_i32_154
  let v432 : BitVec 32 := Scalar.extui v431
  let c0_i32_155 : BitVec 32 := 0#32
  let v433 : BitVec 1 := Scalar.cmpi .slt v410 c0_i32_155
  let v434 : BitVec 32 := Scalar.extui v433
  let v435 : BitVec 32 := Scalar.subi v432 v434
  let c1_i32_153 : BitVec 32 := 1#32
  let c0_i32_156 : BitVec 32 := 0#32
  let v436 : BitVec 1 := Scalar.cmpi .sgt c1_i32_153 c0_i32_156
  let v437 : BitVec 32 := Scalar.extui v436
  let c0_i32_157 : BitVec 32 := 0#32
  let v438 : BitVec 1 := Scalar.cmpi .slt c1_i32_153 c0_i32_157
  let v439 : BitVec 32 := Scalar.extui v438
  let v440 : BitVec 32 := Scalar.subi v437 v439
  let v441 : BitVec 1 := Scalar.cmpi .ne v435 v440
  let v442 : BitVec 32 := Scalar.remsi v410 c1_i32_153
  let c0_i32_158 : BitVec 32 := 0#32
  let v443 : BitVec 1 := Scalar.cmpi .ne v442 c0_i32_158
  let v444 : BitVec 1 := Scalar.andi v441 v443
  let v430 : BitVec 32 := Scalar.divsi v410 c1_i32_153
  let c1_i32_159 : BitVec 32 := 1#32
  let v445 : BitVec 32 := Scalar.subi v430 c1_i32_159
  let v446 : BitVec 32 := Scalar.select v444 v445 v430
  let c1_i32_160 : BitVec 32 := 1#32
  let v447 : BitVec 32 := Scalar.muli v446 c1_i32_160
  let v448 : BitVec 32 := Scalar.subi v410 v447
  let v449 : BitVec 32 := Scalar.addi v429 v448
  let c1_i32_161 : BitVec 32 := 1#32
  let v450 : BitVec 32 := Scalar.addi v449 c1_i32_161
  let c512_i32_162 : BitVec 32 := 512#32
  let v451 : BitVec 32 := Scalar.muli v450 c512_i32_162
  let v452 : Index := Scalar.indexCast v451
  let c0_163 : Index := 0#32
  ![v452.toNat, 0]
@[reducible] def k0_t5_loop : Scf.Loop 32 :=
  let c0_i32_24 : BitVec 32 := 0#32
  let c8_i32_25 : BitVec 32 := 8#32
  let v23 : BitVec 32 := Scalar.addi c0_i32_24 c8_i32_25
  let c1_i32_26 : BitVec 32 := 1#32
  ⟨c0_i32_24, v23, c1_i32_26⟩
def k0_off8 (k0_t5 : Fin k0_t5_loop.trips) : Fin 2 → Nat :=
  let c2_i32 : BitVec 32 := 2#32
  let c0_i32_24 : BitVec 32 := 0#32
  let c1_i32_26 : BitVec 32 := 1#32
  let arg7 : BitVec 32 := Scf.iv c0_i32_24 c1_i32_26 k0_t5
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c1024_i32 : BitVec 32 := 1024#32
  let v56 : BitVec 32 := Scalar.muli v53 c1024_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let v59 : Index := Scalar.indexCast v58
  let c0_84 : Index := 0#32
  ![v59.toNat, 0]
def k0_off9 (k0_t5 : Fin k0_t5_loop.trips) : Fin 2 → Nat :=
  let c2_i32 : BitVec 32 := 2#32
  let c0_i32_24 : BitVec 32 := 0#32
  let c1_i32_26 : BitVec 32 := 1#32
  let arg7 : BitVec 32 := Scf.iv c0_i32_24 c1_i32_26 k0_t5
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c1024_i32 : BitVec 32 := 1024#32
  let v56 : BitVec 32 := Scalar.muli v53 c1024_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let c512_i32 : BitVec 32 := 512#32
  let v61 : BitVec 32 := Scalar.addi v58 c512_i32
  let v62 : Index := Scalar.indexCast v61
  let c0_85 : Index := 0#32
  ![v62.toNat, 0]
def k0_cond1 (k0_t5 : Fin k0_t5_loop.trips) : BitVec 1 :=
  let c2_i32 : BitVec 32 := 2#32
  let c0_i32_24 : BitVec 32 := 0#32
  let c1_i32_26 : BitVec 32 := 1#32
  let arg7 : BitVec 32 := Scf.iv c0_i32_24 c1_i32_26 k0_t5
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c1024_i32 : BitVec 32 := 1024#32
  let v56 : BitVec 32 := Scalar.muli v53 c1024_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let c1024_i32_86 : BitVec 32 := 1024#32
  let v66 : BitVec 32 := Scalar.andi v58 c1024_i32_86
  let c0_i32_87 : BitVec 32 := 0#32
  let v67 : BitVec 1 := Scalar.cmpi .eq v66 c0_i32_87
  let v68 : BitVec 32 := Scalar.extui v67
  let c0_i32_88 : BitVec 32 := 0#32
  let v69 : BitVec 1 := Scalar.cmpi .ne v68 c0_i32_88
  v69

def k0_off10 (k0_t5 : Fin k0_t5_loop.trips) : Fin 2 → Nat :=
  let c2_i32 : BitVec 32 := 2#32
  let c0_i32_24 : BitVec 32 := 0#32
  let c1_i32_26 : BitVec 32 := 1#32
  let arg7 : BitVec 32 := Scf.iv c0_i32_24 c1_i32_26 k0_t5
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c1024_i32 : BitVec 32 := 1024#32
  let v56 : BitVec 32 := Scalar.muli v53 c1024_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let v111 : Index := Scalar.indexCast v58
  let c0_110 : Index := 0#32
  ![v111.toNat, 0]
def k0_off11 (k0_t5 : Fin k0_t5_loop.trips) : Fin 2 → Nat :=
  let c2_i32 : BitVec 32 := 2#32
  let c0_i32_24 : BitVec 32 := 0#32
  let c1_i32_26 : BitVec 32 := 1#32
  let arg7 : BitVec 32 := Scf.iv c0_i32_24 c1_i32_26 k0_t5
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c1024_i32 : BitVec 32 := 1024#32
  let v56 : BitVec 32 := Scalar.muli v53 c1024_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let c512_i32_111 : BitVec 32 := 512#32
  let v115 : BitVec 32 := Scalar.addi v58 c512_i32_111
  let v116 : Index := Scalar.indexCast v115
  let c0_112 : Index := 0#32
  ![v116.toNat, 0]
def k0_cond2 (k0_t5 : Fin k0_t5_loop.trips) : BitVec 1 :=
  let c2_i32 : BitVec 32 := 2#32
  let c0_i32_24 : BitVec 32 := 0#32
  let c1_i32_26 : BitVec 32 := 1#32
  let arg7 : BitVec 32 := Scf.iv c0_i32_24 c1_i32_26 k0_t5
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c1024_i32 : BitVec 32 := 1024#32
  let v56 : BitVec 32 := Scalar.muli v53 c1024_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let c1024_i32_86 : BitVec 32 := 1024#32
  let v66 : BitVec 32 := Scalar.andi v58 c1024_i32_86
  let c0_i32_87 : BitVec 32 := 0#32
  let v67 : BitVec 1 := Scalar.cmpi .eq v66 c0_i32_87
  let v_true : BitVec 1 := 1#1
  let v70 : BitVec 1 := Scalar.xori v67 v_true
  let v71 : BitVec 32 := Scalar.extui v70
  let c0_i32_89 : BitVec 32 := 0#32
  let v72 : BitVec 1 := Scalar.cmpi .ne v71 c0_i32_89
  v72

def k0_off12 (k0_t5 : Fin k0_t5_loop.trips) : Fin 2 → Nat :=
  let c2_i32 : BitVec 32 := 2#32
  let c0_i32_24 : BitVec 32 := 0#32
  let c1_i32_26 : BitVec 32 := 1#32
  let arg7 : BitVec 32 := Scf.iv c0_i32_24 c1_i32_26 k0_t5
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c1024_i32 : BitVec 32 := 1024#32
  let v56 : BitVec 32 := Scalar.muli v53 c1024_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let v111 : Index := Scalar.indexCast v58
  let c0_110 : Index := 0#32
  ![v111.toNat, 0]
def k0_off13 (k0_t5 : Fin k0_t5_loop.trips) : Fin 2 → Nat :=
  let c2_i32 : BitVec 32 := 2#32
  let c0_i32_24 : BitVec 32 := 0#32
  let c1_i32_26 : BitVec 32 := 1#32
  let arg7 : BitVec 32 := Scf.iv c0_i32_24 c1_i32_26 k0_t5
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c1024_i32 : BitVec 32 := 1024#32
  let v56 : BitVec 32 := Scalar.muli v53 c1024_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let c512_i32_111 : BitVec 32 := 512#32
  let v115 : BitVec 32 := Scalar.addi v58 c512_i32_111
  let v116 : Index := Scalar.indexCast v115
  let c0_112 : Index := 0#32
  ![v116.toNat, 0]
def k0_off14 (k0_t5 : Fin k0_t5_loop.trips) : Fin 2 → Nat :=
  let c2_i32_90 : BitVec 32 := 2#32
  let c0_i32_24 : BitVec 32 := 0#32
  let c1_i32_26 : BitVec 32 := 1#32
  let arg7 : BitVec 32 := Scf.iv c0_i32_24 c1_i32_26 k0_t5
  let v73 : BitVec 32 := Scalar.muli c2_i32_90 arg7
  let c1_i32_91 : BitVec 32 := 1#32
  let v74 : BitVec 32 := Scalar.addi v73 c1_i32_91
  let c0_i32_93 : BitVec 32 := 0#32
  let v76 : BitVec 1 := Scalar.cmpi .sgt v74 c0_i32_93
  let v77 : BitVec 32 := Scalar.extui v76
  let c0_i32_94 : BitVec 32 := 0#32
  let v78 : BitVec 1 := Scalar.cmpi .slt v74 c0_i32_94
  let v79 : BitVec 32 := Scalar.extui v78
  let v80 : BitVec 32 := Scalar.subi v77 v79
  let c2_i32_92 : BitVec 32 := 2#32
  let c0_i32_95 : BitVec 32 := 0#32
  let v81 : BitVec 1 := Scalar.cmpi .sgt c2_i32_92 c0_i32_95
  let v82 : BitVec 32 := Scalar.extui v81
  let c0_i32_96 : BitVec 32 := 0#32
  let v83 : BitVec 1 := Scalar.cmpi .slt c2_i32_92 c0_i32_96
  let v84 : BitVec 32 := Scalar.extui v83
  let v85 : BitVec 32 := Scalar.subi v82 v84
  let v86 : BitVec 1 := Scalar.cmpi .ne v80 v85
  let v87 : BitVec 32 := Scalar.remsi v74 c2_i32_92
  let c0_i32_97 : BitVec 32 := 0#32
  let v88 : BitVec 1 := Scalar.cmpi .ne v87 c0_i32_97
  let v89 : BitVec 1 := Scalar.andi v86 v88
  let v75 : BitVec 32 := Scalar.divsi v74 c2_i32_92
  let c1_i32_98 : BitVec 32 := 1#32
  let v90 : BitVec 32 := Scalar.subi v75 c1_i32_98
  let v91 : BitVec 32 := Scalar.select v89 v90 v75
  let c1024_i32_100 : BitVec 32 := 1024#32
  let v94 : BitVec 32 := Scalar.muli v91 c1024_i32_100
  let c2_i32_99 : BitVec 32 := 2#32
  let v92 : BitVec 32 := Scalar.muli v91 c2_i32_99
  let v93 : BitVec 32 := Scalar.subi v74 v92
  let c256_i32_101 : BitVec 32 := 256#32
  let v95 : BitVec 32 := Scalar.muli v93 c256_i32_101
  let v96 : BitVec 32 := Scalar.addi v94 v95
  let v97 : Index := Scalar.indexCast v96
  let c0_102 : Index := 0#32
  ![v97.toNat, 0]
def k0_off15 (k0_t5 : Fin k0_t5_loop.trips) : Fin 2 → Nat :=
  let c2_i32_90 : BitVec 32 := 2#32
  let c0_i32_24 : BitVec 32 := 0#32
  let c1_i32_26 : BitVec 32 := 1#32
  let arg7 : BitVec 32 := Scf.iv c0_i32_24 c1_i32_26 k0_t5
  let v73 : BitVec 32 := Scalar.muli c2_i32_90 arg7
  let c1_i32_91 : BitVec 32 := 1#32
  let v74 : BitVec 32 := Scalar.addi v73 c1_i32_91
  let c0_i32_93 : BitVec 32 := 0#32
  let v76 : BitVec 1 := Scalar.cmpi .sgt v74 c0_i32_93
  let v77 : BitVec 32 := Scalar.extui v76
  let c0_i32_94 : BitVec 32 := 0#32
  let v78 : BitVec 1 := Scalar.cmpi .slt v74 c0_i32_94
  let v79 : BitVec 32 := Scalar.extui v78
  let v80 : BitVec 32 := Scalar.subi v77 v79
  let c2_i32_92 : BitVec 32 := 2#32
  let c0_i32_95 : BitVec 32 := 0#32
  let v81 : BitVec 1 := Scalar.cmpi .sgt c2_i32_92 c0_i32_95
  let v82 : BitVec 32 := Scalar.extui v81
  let c0_i32_96 : BitVec 32 := 0#32
  let v83 : BitVec 1 := Scalar.cmpi .slt c2_i32_92 c0_i32_96
  let v84 : BitVec 32 := Scalar.extui v83
  let v85 : BitVec 32 := Scalar.subi v82 v84
  let v86 : BitVec 1 := Scalar.cmpi .ne v80 v85
  let v87 : BitVec 32 := Scalar.remsi v74 c2_i32_92
  let c0_i32_97 : BitVec 32 := 0#32
  let v88 : BitVec 1 := Scalar.cmpi .ne v87 c0_i32_97
  let v89 : BitVec 1 := Scalar.andi v86 v88
  let v75 : BitVec 32 := Scalar.divsi v74 c2_i32_92
  let c1_i32_98 : BitVec 32 := 1#32
  let v90 : BitVec 32 := Scalar.subi v75 c1_i32_98
  let v91 : BitVec 32 := Scalar.select v89 v90 v75
  let c1024_i32_100 : BitVec 32 := 1024#32
  let v94 : BitVec 32 := Scalar.muli v91 c1024_i32_100
  let c2_i32_99 : BitVec 32 := 2#32
  let v92 : BitVec 32 := Scalar.muli v91 c2_i32_99
  let v93 : BitVec 32 := Scalar.subi v74 v92
  let c256_i32_101 : BitVec 32 := 256#32
  let v95 : BitVec 32 := Scalar.muli v93 c256_i32_101
  let v96 : BitVec 32 := Scalar.addi v94 v95
  let c512_i32_103 : BitVec 32 := 512#32
  let v99 : BitVec 32 := Scalar.addi v96 c512_i32_103
  let v100 : Index := Scalar.indexCast v99
  let c0_104 : Index := 0#32
  ![v100.toNat, 0]
def k0_cond3 (k0_t5 : Fin k0_t5_loop.trips) : BitVec 1 :=
  let c2_i32_90 : BitVec 32 := 2#32
  let c0_i32_24 : BitVec 32 := 0#32
  let c1_i32_26 : BitVec 32 := 1#32
  let arg7 : BitVec 32 := Scf.iv c0_i32_24 c1_i32_26 k0_t5
  let v73 : BitVec 32 := Scalar.muli c2_i32_90 arg7
  let c1_i32_91 : BitVec 32 := 1#32
  let v74 : BitVec 32 := Scalar.addi v73 c1_i32_91
  let c0_i32_93 : BitVec 32 := 0#32
  let v76 : BitVec 1 := Scalar.cmpi .sgt v74 c0_i32_93
  let v77 : BitVec 32 := Scalar.extui v76
  let c0_i32_94 : BitVec 32 := 0#32
  let v78 : BitVec 1 := Scalar.cmpi .slt v74 c0_i32_94
  let v79 : BitVec 32 := Scalar.extui v78
  let v80 : BitVec 32 := Scalar.subi v77 v79
  let c2_i32_92 : BitVec 32 := 2#32
  let c0_i32_95 : BitVec 32 := 0#32
  let v81 : BitVec 1 := Scalar.cmpi .sgt c2_i32_92 c0_i32_95
  let v82 : BitVec 32 := Scalar.extui v81
  let c0_i32_96 : BitVec 32 := 0#32
  let v83 : BitVec 1 := Scalar.cmpi .slt c2_i32_92 c0_i32_96
  let v84 : BitVec 32 := Scalar.extui v83
  let v85 : BitVec 32 := Scalar.subi v82 v84
  let v86 : BitVec 1 := Scalar.cmpi .ne v80 v85
  let v87 : BitVec 32 := Scalar.remsi v74 c2_i32_92
  let c0_i32_97 : BitVec 32 := 0#32
  let v88 : BitVec 1 := Scalar.cmpi .ne v87 c0_i32_97
  let v89 : BitVec 1 := Scalar.andi v86 v88
  let v75 : BitVec 32 := Scalar.divsi v74 c2_i32_92
  let c1_i32_98 : BitVec 32 := 1#32
  let v90 : BitVec 32 := Scalar.subi v75 c1_i32_98
  let v91 : BitVec 32 := Scalar.select v89 v90 v75
  let c1024_i32_100 : BitVec 32 := 1024#32
  let v94 : BitVec 32 := Scalar.muli v91 c1024_i32_100
  let c2_i32_99 : BitVec 32 := 2#32
  let v92 : BitVec 32 := Scalar.muli v91 c2_i32_99
  let v93 : BitVec 32 := Scalar.subi v74 v92
  let c256_i32_101 : BitVec 32 := 256#32
  let v95 : BitVec 32 := Scalar.muli v93 c256_i32_101
  let v96 : BitVec 32 := Scalar.addi v94 v95
  let c1024_i32_105 : BitVec 32 := 1024#32
  let v104 : BitVec 32 := Scalar.andi v96 c1024_i32_105
  let c0_i32_106 : BitVec 32 := 0#32
  let v105 : BitVec 1 := Scalar.cmpi .eq v104 c0_i32_106
  let v106 : BitVec 32 := Scalar.extui v105
  let c0_i32_107 : BitVec 32 := 0#32
  let v107 : BitVec 1 := Scalar.cmpi .ne v106 c0_i32_107
  v107

def k0_off16 (k0_t5 : Fin k0_t5_loop.trips) : Fin 2 → Nat :=
  let c2_i32_90 : BitVec 32 := 2#32
  let c0_i32_24 : BitVec 32 := 0#32
  let c1_i32_26 : BitVec 32 := 1#32
  let arg7 : BitVec 32 := Scf.iv c0_i32_24 c1_i32_26 k0_t5
  let v73 : BitVec 32 := Scalar.muli c2_i32_90 arg7
  let c1_i32_91 : BitVec 32 := 1#32
  let v74 : BitVec 32 := Scalar.addi v73 c1_i32_91
  let c0_i32_93 : BitVec 32 := 0#32
  let v76 : BitVec 1 := Scalar.cmpi .sgt v74 c0_i32_93
  let v77 : BitVec 32 := Scalar.extui v76
  let c0_i32_94 : BitVec 32 := 0#32
  let v78 : BitVec 1 := Scalar.cmpi .slt v74 c0_i32_94
  let v79 : BitVec 32 := Scalar.extui v78
  let v80 : BitVec 32 := Scalar.subi v77 v79
  let c2_i32_92 : BitVec 32 := 2#32
  let c0_i32_95 : BitVec 32 := 0#32
  let v81 : BitVec 1 := Scalar.cmpi .sgt c2_i32_92 c0_i32_95
  let v82 : BitVec 32 := Scalar.extui v81
  let c0_i32_96 : BitVec 32 := 0#32
  let v83 : BitVec 1 := Scalar.cmpi .slt c2_i32_92 c0_i32_96
  let v84 : BitVec 32 := Scalar.extui v83
  let v85 : BitVec 32 := Scalar.subi v82 v84
  let v86 : BitVec 1 := Scalar.cmpi .ne v80 v85
  let v87 : BitVec 32 := Scalar.remsi v74 c2_i32_92
  let c0_i32_97 : BitVec 32 := 0#32
  let v88 : BitVec 1 := Scalar.cmpi .ne v87 c0_i32_97
  let v89 : BitVec 1 := Scalar.andi v86 v88
  let v75 : BitVec 32 := Scalar.divsi v74 c2_i32_92
  let c1_i32_98 : BitVec 32 := 1#32
  let v90 : BitVec 32 := Scalar.subi v75 c1_i32_98
  let v91 : BitVec 32 := Scalar.select v89 v90 v75
  let c1024_i32_100 : BitVec 32 := 1024#32
  let v94 : BitVec 32 := Scalar.muli v91 c1024_i32_100
  let c2_i32_99 : BitVec 32 := 2#32
  let v92 : BitVec 32 := Scalar.muli v91 c2_i32_99
  let v93 : BitVec 32 := Scalar.subi v74 v92
  let c256_i32_101 : BitVec 32 := 256#32
  let v95 : BitVec 32 := Scalar.muli v93 c256_i32_101
  let v96 : BitVec 32 := Scalar.addi v94 v95
  let v111 : Index := Scalar.indexCast v96
  let c0_110 : Index := 0#32
  ![v111.toNat, 0]
def k0_off17 (k0_t5 : Fin k0_t5_loop.trips) : Fin 2 → Nat :=
  let c2_i32_90 : BitVec 32 := 2#32
  let c0_i32_24 : BitVec 32 := 0#32
  let c1_i32_26 : BitVec 32 := 1#32
  let arg7 : BitVec 32 := Scf.iv c0_i32_24 c1_i32_26 k0_t5
  let v73 : BitVec 32 := Scalar.muli c2_i32_90 arg7
  let c1_i32_91 : BitVec 32 := 1#32
  let v74 : BitVec 32 := Scalar.addi v73 c1_i32_91
  let c0_i32_93 : BitVec 32 := 0#32
  let v76 : BitVec 1 := Scalar.cmpi .sgt v74 c0_i32_93
  let v77 : BitVec 32 := Scalar.extui v76
  let c0_i32_94 : BitVec 32 := 0#32
  let v78 : BitVec 1 := Scalar.cmpi .slt v74 c0_i32_94
  let v79 : BitVec 32 := Scalar.extui v78
  let v80 : BitVec 32 := Scalar.subi v77 v79
  let c2_i32_92 : BitVec 32 := 2#32
  let c0_i32_95 : BitVec 32 := 0#32
  let v81 : BitVec 1 := Scalar.cmpi .sgt c2_i32_92 c0_i32_95
  let v82 : BitVec 32 := Scalar.extui v81
  let c0_i32_96 : BitVec 32 := 0#32
  let v83 : BitVec 1 := Scalar.cmpi .slt c2_i32_92 c0_i32_96
  let v84 : BitVec 32 := Scalar.extui v83
  let v85 : BitVec 32 := Scalar.subi v82 v84
  let v86 : BitVec 1 := Scalar.cmpi .ne v80 v85
  let v87 : BitVec 32 := Scalar.remsi v74 c2_i32_92
  let c0_i32_97 : BitVec 32 := 0#32
  let v88 : BitVec 1 := Scalar.cmpi .ne v87 c0_i32_97
  let v89 : BitVec 1 := Scalar.andi v86 v88
  let v75 : BitVec 32 := Scalar.divsi v74 c2_i32_92
  let c1_i32_98 : BitVec 32 := 1#32
  let v90 : BitVec 32 := Scalar.subi v75 c1_i32_98
  let v91 : BitVec 32 := Scalar.select v89 v90 v75
  let c1024_i32_100 : BitVec 32 := 1024#32
  let v94 : BitVec 32 := Scalar.muli v91 c1024_i32_100
  let c2_i32_99 : BitVec 32 := 2#32
  let v92 : BitVec 32 := Scalar.muli v91 c2_i32_99
  let v93 : BitVec 32 := Scalar.subi v74 v92
  let c256_i32_101 : BitVec 32 := 256#32
  let v95 : BitVec 32 := Scalar.muli v93 c256_i32_101
  let v96 : BitVec 32 := Scalar.addi v94 v95
  let c512_i32_111 : BitVec 32 := 512#32
  let v115 : BitVec 32 := Scalar.addi v96 c512_i32_111
  let v116 : Index := Scalar.indexCast v115
  let c0_112 : Index := 0#32
  ![v116.toNat, 0]
def k0_cond4 (k0_t5 : Fin k0_t5_loop.trips) : BitVec 1 :=
  let c2_i32_90 : BitVec 32 := 2#32
  let c0_i32_24 : BitVec 32 := 0#32
  let c1_i32_26 : BitVec 32 := 1#32
  let arg7 : BitVec 32 := Scf.iv c0_i32_24 c1_i32_26 k0_t5
  let v73 : BitVec 32 := Scalar.muli c2_i32_90 arg7
  let c1_i32_91 : BitVec 32 := 1#32
  let v74 : BitVec 32 := Scalar.addi v73 c1_i32_91
  let c0_i32_93 : BitVec 32 := 0#32
  let v76 : BitVec 1 := Scalar.cmpi .sgt v74 c0_i32_93
  let v77 : BitVec 32 := Scalar.extui v76
  let c0_i32_94 : BitVec 32 := 0#32
  let v78 : BitVec 1 := Scalar.cmpi .slt v74 c0_i32_94
  let v79 : BitVec 32 := Scalar.extui v78
  let v80 : BitVec 32 := Scalar.subi v77 v79
  let c2_i32_92 : BitVec 32 := 2#32
  let c0_i32_95 : BitVec 32 := 0#32
  let v81 : BitVec 1 := Scalar.cmpi .sgt c2_i32_92 c0_i32_95
  let v82 : BitVec 32 := Scalar.extui v81
  let c0_i32_96 : BitVec 32 := 0#32
  let v83 : BitVec 1 := Scalar.cmpi .slt c2_i32_92 c0_i32_96
  let v84 : BitVec 32 := Scalar.extui v83
  let v85 : BitVec 32 := Scalar.subi v82 v84
  let v86 : BitVec 1 := Scalar.cmpi .ne v80 v85
  let v87 : BitVec 32 := Scalar.remsi v74 c2_i32_92
  let c0_i32_97 : BitVec 32 := 0#32
  let v88 : BitVec 1 := Scalar.cmpi .ne v87 c0_i32_97
  let v89 : BitVec 1 := Scalar.andi v86 v88
  let v75 : BitVec 32 := Scalar.divsi v74 c2_i32_92
  let c1_i32_98 : BitVec 32 := 1#32
  let v90 : BitVec 32 := Scalar.subi v75 c1_i32_98
  let v91 : BitVec 32 := Scalar.select v89 v90 v75
  let c1024_i32_100 : BitVec 32 := 1024#32
  let v94 : BitVec 32 := Scalar.muli v91 c1024_i32_100
  let c2_i32_99 : BitVec 32 := 2#32
  let v92 : BitVec 32 := Scalar.muli v91 c2_i32_99
  let v93 : BitVec 32 := Scalar.subi v74 v92
  let c256_i32_101 : BitVec 32 := 256#32
  let v95 : BitVec 32 := Scalar.muli v93 c256_i32_101
  let v96 : BitVec 32 := Scalar.addi v94 v95
  let c1024_i32_105 : BitVec 32 := 1024#32
  let v104 : BitVec 32 := Scalar.andi v96 c1024_i32_105
  let c0_i32_106 : BitVec 32 := 0#32
  let v105 : BitVec 1 := Scalar.cmpi .eq v104 c0_i32_106
  let true_108 : BitVec 1 := 1#1
  let v108 : BitVec 1 := Scalar.xori v105 true_108
  let v109 : BitVec 32 := Scalar.extui v108
  let c0_i32_109 : BitVec 32 := 0#32
  let v110 : BitVec 1 := Scalar.cmpi .ne v109 c0_i32_109
  v110

def k0_off18 (k0_t5 : Fin k0_t5_loop.trips) : Fin 2 → Nat :=
  let c2_i32_90 : BitVec 32 := 2#32
  let c0_i32_24 : BitVec 32 := 0#32
  let c1_i32_26 : BitVec 32 := 1#32
  let arg7 : BitVec 32 := Scf.iv c0_i32_24 c1_i32_26 k0_t5
  let v73 : BitVec 32 := Scalar.muli c2_i32_90 arg7
  let c1_i32_91 : BitVec 32 := 1#32
  let v74 : BitVec 32 := Scalar.addi v73 c1_i32_91
  let c0_i32_93 : BitVec 32 := 0#32
  let v76 : BitVec 1 := Scalar.cmpi .sgt v74 c0_i32_93
  let v77 : BitVec 32 := Scalar.extui v76
  let c0_i32_94 : BitVec 32 := 0#32
  let v78 : BitVec 1 := Scalar.cmpi .slt v74 c0_i32_94
  let v79 : BitVec 32 := Scalar.extui v78
  let v80 : BitVec 32 := Scalar.subi v77 v79
  let c2_i32_92 : BitVec 32 := 2#32
  let c0_i32_95 : BitVec 32 := 0#32
  let v81 : BitVec 1 := Scalar.cmpi .sgt c2_i32_92 c0_i32_95
  let v82 : BitVec 32 := Scalar.extui v81
  let c0_i32_96 : BitVec 32 := 0#32
  let v83 : BitVec 1 := Scalar.cmpi .slt c2_i32_92 c0_i32_96
  let v84 : BitVec 32 := Scalar.extui v83
  let v85 : BitVec 32 := Scalar.subi v82 v84
  let v86 : BitVec 1 := Scalar.cmpi .ne v80 v85
  let v87 : BitVec 32 := Scalar.remsi v74 c2_i32_92
  let c0_i32_97 : BitVec 32 := 0#32
  let v88 : BitVec 1 := Scalar.cmpi .ne v87 c0_i32_97
  let v89 : BitVec 1 := Scalar.andi v86 v88
  let v75 : BitVec 32 := Scalar.divsi v74 c2_i32_92
  let c1_i32_98 : BitVec 32 := 1#32
  let v90 : BitVec 32 := Scalar.subi v75 c1_i32_98
  let v91 : BitVec 32 := Scalar.select v89 v90 v75
  let c1024_i32_100 : BitVec 32 := 1024#32
  let v94 : BitVec 32 := Scalar.muli v91 c1024_i32_100
  let c2_i32_99 : BitVec 32 := 2#32
  let v92 : BitVec 32 := Scalar.muli v91 c2_i32_99
  let v93 : BitVec 32 := Scalar.subi v74 v92
  let c256_i32_101 : BitVec 32 := 256#32
  let v95 : BitVec 32 := Scalar.muli v93 c256_i32_101
  let v96 : BitVec 32 := Scalar.addi v94 v95
  let v111 : Index := Scalar.indexCast v96
  let c0_110 : Index := 0#32
  ![v111.toNat, 0]
def k0_off19 (k0_t5 : Fin k0_t5_loop.trips) : Fin 2 → Nat :=
  let c2_i32_90 : BitVec 32 := 2#32
  let c0_i32_24 : BitVec 32 := 0#32
  let c1_i32_26 : BitVec 32 := 1#32
  let arg7 : BitVec 32 := Scf.iv c0_i32_24 c1_i32_26 k0_t5
  let v73 : BitVec 32 := Scalar.muli c2_i32_90 arg7
  let c1_i32_91 : BitVec 32 := 1#32
  let v74 : BitVec 32 := Scalar.addi v73 c1_i32_91
  let c0_i32_93 : BitVec 32 := 0#32
  let v76 : BitVec 1 := Scalar.cmpi .sgt v74 c0_i32_93
  let v77 : BitVec 32 := Scalar.extui v76
  let c0_i32_94 : BitVec 32 := 0#32
  let v78 : BitVec 1 := Scalar.cmpi .slt v74 c0_i32_94
  let v79 : BitVec 32 := Scalar.extui v78
  let v80 : BitVec 32 := Scalar.subi v77 v79
  let c2_i32_92 : BitVec 32 := 2#32
  let c0_i32_95 : BitVec 32 := 0#32
  let v81 : BitVec 1 := Scalar.cmpi .sgt c2_i32_92 c0_i32_95
  let v82 : BitVec 32 := Scalar.extui v81
  let c0_i32_96 : BitVec 32 := 0#32
  let v83 : BitVec 1 := Scalar.cmpi .slt c2_i32_92 c0_i32_96
  let v84 : BitVec 32 := Scalar.extui v83
  let v85 : BitVec 32 := Scalar.subi v82 v84
  let v86 : BitVec 1 := Scalar.cmpi .ne v80 v85
  let v87 : BitVec 32 := Scalar.remsi v74 c2_i32_92
  let c0_i32_97 : BitVec 32 := 0#32
  let v88 : BitVec 1 := Scalar.cmpi .ne v87 c0_i32_97
  let v89 : BitVec 1 := Scalar.andi v86 v88
  let v75 : BitVec 32 := Scalar.divsi v74 c2_i32_92
  let c1_i32_98 : BitVec 32 := 1#32
  let v90 : BitVec 32 := Scalar.subi v75 c1_i32_98
  let v91 : BitVec 32 := Scalar.select v89 v90 v75
  let c1024_i32_100 : BitVec 32 := 1024#32
  let v94 : BitVec 32 := Scalar.muli v91 c1024_i32_100
  let c2_i32_99 : BitVec 32 := 2#32
  let v92 : BitVec 32 := Scalar.muli v91 c2_i32_99
  let v93 : BitVec 32 := Scalar.subi v74 v92
  let c256_i32_101 : BitVec 32 := 256#32
  let v95 : BitVec 32 := Scalar.muli v93 c256_i32_101
  let v96 : BitVec 32 := Scalar.addi v94 v95
  let c512_i32_111 : BitVec 32 := 512#32
  let v115 : BitVec 32 := Scalar.addi v96 c512_i32_111
  let v116 : Index := Scalar.indexCast v115
  let c0_112 : Index := 0#32
  ![v116.toNat, 0]
@[reducible] def k0_t6_loop : Scf.Loop 32 :=
  let c0_i32_28 : BitVec 32 := 0#32
  let c4_i32_29 : BitVec 32 := 4#32
  let v24 : BitVec 32 := Scalar.addi c0_i32_28 c4_i32_29
  let c1_i32_30 : BitVec 32 := 1#32
  ⟨c0_i32_28, v24, c1_i32_30⟩
def k0_off20 (k0_t6 : Fin k0_t6_loop.trips) : Fin 2 → Nat :=
  let c2_i32 : BitVec 32 := 2#32
  let c0_i32_28 : BitVec 32 := 0#32
  let c1_i32_30 : BitVec 32 := 1#32
  let arg7 : BitVec 32 := Scf.iv c0_i32_28 c1_i32_30 k0_t6
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2_i32_83 : BitVec 32 := 2#32
  let v54 : BitVec 32 := Scalar.muli v53 c2_i32_83
  let c2_i32_84 : BitVec 32 := 2#32
  let v55 : BitVec 32 := Scalar.muli v54 c2_i32_84
  let c0_i32_86 : BitVec 32 := 0#32
  let v57 : BitVec 1 := Scalar.cmpi .sgt v36 c0_i32_86
  let v58 : BitVec 32 := Scalar.extui v57
  let c0_i32_87 : BitVec 32 := 0#32
  let v59 : BitVec 1 := Scalar.cmpi .slt v36 c0_i32_87
  let v60 : BitVec 32 := Scalar.extui v59
  let v61 : BitVec 32 := Scalar.subi v58 v60
  let c2_i32_85 : BitVec 32 := 2#32
  let c0_i32_88 : BitVec 32 := 0#32
  let v62 : BitVec 1 := Scalar.cmpi .sgt c2_i32_85 c0_i32_88
  let v63 : BitVec 32 := Scalar.extui v62
  let c0_i32_89 : BitVec 32 := 0#32
  let v64 : BitVec 1 := Scalar.cmpi .slt c2_i32_85 c0_i32_89
  let v65 : BitVec 32 := Scalar.extui v64
  let v66 : BitVec 32 := Scalar.subi v63 v65
  let v67 : BitVec 1 := Scalar.cmpi .ne v61 v66
  let v68 : BitVec 32 := Scalar.remsi v36 c2_i32_85
  let c0_i32_90 : BitVec 32 := 0#32
  let v69 : BitVec 1 := Scalar.cmpi .ne v68 c0_i32_90
  let v70 : BitVec 1 := Scalar.andi v67 v69
  let v56 : BitVec 32 := Scalar.divsi v36 c2_i32_85
  let c1_i32_91 : BitVec 32 := 1#32
  let v71 : BitVec 32 := Scalar.subi v56 c1_i32_91
  let v72 : BitVec 32 := Scalar.select v70 v71 v56
  let c2_i32_92 : BitVec 32 := 2#32
  let v73 : BitVec 32 := Scalar.muli v72 c2_i32_92
  let v74 : BitVec 32 := Scalar.subi v36 v73
  let v75 : BitVec 32 := Scalar.addi v55 v74
  let c512_i32 : BitVec 32 := 512#32
  let v76 : BitVec 32 := Scalar.muli v75 c512_i32
  let v77 : Index := Scalar.indexCast v76
  let c0_93 : Index := 0#32
  ![v77.toNat, 0]
def k0_off21 (k0_t6 : Fin k0_t6_loop.trips) : Fin 2 → Nat :=
  let c2_i32_137 : BitVec 32 := 2#32
  let c0_i32_28 : BitVec 32 := 0#32
  let c1_i32_30 : BitVec 32 := 1#32
  let arg7 : BitVec 32 := Scf.iv c0_i32_28 c1_i32_30 k0_t6
  let v404 : BitVec 32 := Scalar.muli c2_i32_137 arg7
  let c1_i32_138 : BitVec 32 := 1#32
  let v405 : BitVec 32 := Scalar.addi v404 c1_i32_138
  let c0_i32_140 : BitVec 32 := 0#32
  let v407 : BitVec 1 := Scalar.cmpi .sgt v405 c0_i32_140
  let v408 : BitVec 32 := Scalar.extui v407
  let c0_i32_141 : BitVec 32 := 0#32
  let v409 : BitVec 1 := Scalar.cmpi .slt v405 c0_i32_141
  let v410 : BitVec 32 := Scalar.extui v409
  let v411 : BitVec 32 := Scalar.subi v408 v410
  let c2_i32_139 : BitVec 32 := 2#32
  let c0_i32_142 : BitVec 32 := 0#32
  let v412 : BitVec 1 := Scalar.cmpi .sgt c2_i32_139 c0_i32_142
  let v413 : BitVec 32 := Scalar.extui v412
  let c0_i32_143 : BitVec 32 := 0#32
  let v414 : BitVec 1 := Scalar.cmpi .slt c2_i32_139 c0_i32_143
  let v415 : BitVec 32 := Scalar.extui v414
  let v416 : BitVec 32 := Scalar.subi v413 v415
  let v417 : BitVec 1 := Scalar.cmpi .ne v411 v416
  let v418 : BitVec 32 := Scalar.remsi v405 c2_i32_139
  let c0_i32_144 : BitVec 32 := 0#32
  let v419 : BitVec 1 := Scalar.cmpi .ne v418 c0_i32_144
  let v420 : BitVec 1 := Scalar.andi v417 v419
  let v406 : BitVec 32 := Scalar.divsi v405 c2_i32_139
  let c1_i32_145 : BitVec 32 := 1#32
  let v421 : BitVec 32 := Scalar.subi v406 c1_i32_145
  let v422 : BitVec 32 := Scalar.select v420 v421 v406
  let c2_i32_146 : BitVec 32 := 2#32
  let v423 : BitVec 32 := Scalar.muli v422 c2_i32_146
  let c2_i32_147 : BitVec 32 := 2#32
  let v424 : BitVec 32 := Scalar.muli v423 c2_i32_147
  let c0_i32_149 : BitVec 32 := 0#32
  let v426 : BitVec 1 := Scalar.cmpi .sgt v405 c0_i32_149
  let v427 : BitVec 32 := Scalar.extui v426
  let c0_i32_150 : BitVec 32 := 0#32
  let v428 : BitVec 1 := Scalar.cmpi .slt v405 c0_i32_150
  let v429 : BitVec 32 := Scalar.extui v428
  let v430 : BitVec 32 := Scalar.subi v427 v429
  let c2_i32_148 : BitVec 32 := 2#32
  let c0_i32_151 : BitVec 32 := 0#32
  let v431 : BitVec 1 := Scalar.cmpi .sgt c2_i32_148 c0_i32_151
  let v432 : BitVec 32 := Scalar.extui v431
  let c0_i32_152 : BitVec 32 := 0#32
  let v433 : BitVec 1 := Scalar.cmpi .slt c2_i32_148 c0_i32_152
  let v434 : BitVec 32 := Scalar.extui v433
  let v435 : BitVec 32 := Scalar.subi v432 v434
  let v436 : BitVec 1 := Scalar.cmpi .ne v430 v435
  let v437 : BitVec 32 := Scalar.remsi v405 c2_i32_148
  let c0_i32_153 : BitVec 32 := 0#32
  let v438 : BitVec 1 := Scalar.cmpi .ne v437 c0_i32_153
  let v439 : BitVec 1 := Scalar.andi v436 v438
  let v425 : BitVec 32 := Scalar.divsi v405 c2_i32_148
  let c1_i32_154 : BitVec 32 := 1#32
  let v440 : BitVec 32 := Scalar.subi v425 c1_i32_154
  let v441 : BitVec 32 := Scalar.select v439 v440 v425
  let c2_i32_155 : BitVec 32 := 2#32
  let v442 : BitVec 32 := Scalar.muli v441 c2_i32_155
  let v443 : BitVec 32 := Scalar.subi v405 v442
  let v444 : BitVec 32 := Scalar.addi v424 v443
  let c512_i32_156 : BitVec 32 := 512#32
  let v445 : BitVec 32 := Scalar.muli v444 c512_i32_156
  let v446 : Index := Scalar.indexCast v445
  let c0_157 : Index := 0#32
  ![v446.toNat, 0]
@[reducible] def k0_t7_loop : Scf.Loop 32 :=
  let c0_i32_32 : BitVec 32 := 0#32
  let c4_i32_33 : BitVec 32 := 4#32
  let v25 : BitVec 32 := Scalar.addi c0_i32_32 c4_i32_33
  let c1_i32_34 : BitVec 32 := 1#32
  ⟨c0_i32_32, v25, c1_i32_34⟩
def k0_off22 (k0_t7 : Fin k0_t7_loop.trips) : Fin 2 → Nat :=
  let c2_i32 : BitVec 32 := 2#32
  let c0_i32_32 : BitVec 32 := 0#32
  let c1_i32_34 : BitVec 32 := 1#32
  let arg7 : BitVec 32 := Scf.iv c0_i32_32 c1_i32_34 k0_t7
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2_i32_83 : BitVec 32 := 2#32
  let v54 : BitVec 32 := Scalar.muli v53 c2_i32_83
  let c2_i32_84 : BitVec 32 := 2#32
  let v55 : BitVec 32 := Scalar.muli v54 c2_i32_84
  let c0_i32_86 : BitVec 32 := 0#32
  let v57 : BitVec 1 := Scalar.cmpi .sgt v36 c0_i32_86
  let v58 : BitVec 32 := Scalar.extui v57
  let c0_i32_87 : BitVec 32 := 0#32
  let v59 : BitVec 1 := Scalar.cmpi .slt v36 c0_i32_87
  let v60 : BitVec 32 := Scalar.extui v59
  let v61 : BitVec 32 := Scalar.subi v58 v60
  let c2_i32_85 : BitVec 32 := 2#32
  let c0_i32_88 : BitVec 32 := 0#32
  let v62 : BitVec 1 := Scalar.cmpi .sgt c2_i32_85 c0_i32_88
  let v63 : BitVec 32 := Scalar.extui v62
  let c0_i32_89 : BitVec 32 := 0#32
  let v64 : BitVec 1 := Scalar.cmpi .slt c2_i32_85 c0_i32_89
  let v65 : BitVec 32 := Scalar.extui v64
  let v66 : BitVec 32 := Scalar.subi v63 v65
  let v67 : BitVec 1 := Scalar.cmpi .ne v61 v66
  let v68 : BitVec 32 := Scalar.remsi v36 c2_i32_85
  let c0_i32_90 : BitVec 32 := 0#32
  let v69 : BitVec 1 := Scalar.cmpi .ne v68 c0_i32_90
  let v70 : BitVec 1 := Scalar.andi v67 v69
  let v56 : BitVec 32 := Scalar.divsi v36 c2_i32_85
  let c1_i32_91 : BitVec 32 := 1#32
  let v71 : BitVec 32 := Scalar.subi v56 c1_i32_91
  let v72 : BitVec 32 := Scalar.select v70 v71 v56
  let c2_i32_92 : BitVec 32 := 2#32
  let v73 : BitVec 32 := Scalar.muli v72 c2_i32_92
  let v74 : BitVec 32 := Scalar.subi v36 v73
  let v75 : BitVec 32 := Scalar.addi v55 v74
  let c2_i32_93 : BitVec 32 := 2#32
  let v76 : BitVec 32 := Scalar.addi v75 c2_i32_93
  let c512_i32 : BitVec 32 := 512#32
  let v77 : BitVec 32 := Scalar.muli v76 c512_i32
  let v78 : Index := Scalar.indexCast v77
  let c0_94 : Index := 0#32
  ![v78.toNat, 0]
def k0_off23 (k0_t7 : Fin k0_t7_loop.trips) : Fin 2 → Nat :=
  let c2_i32_142 : BitVec 32 := 2#32
  let c0_i32_32 : BitVec 32 := 0#32
  let c1_i32_34 : BitVec 32 := 1#32
  let arg7 : BitVec 32 := Scf.iv c0_i32_32 c1_i32_34 k0_t7
  let v409 : BitVec 32 := Scalar.muli c2_i32_142 arg7
  let c1_i32_143 : BitVec 32 := 1#32
  let v410 : BitVec 32 := Scalar.addi v409 c1_i32_143
  let c0_i32_145 : BitVec 32 := 0#32
  let v412 : BitVec 1 := Scalar.cmpi .sgt v410 c0_i32_145
  let v413 : BitVec 32 := Scalar.extui v412
  let c0_i32_146 : BitVec 32 := 0#32
  let v414 : BitVec 1 := Scalar.cmpi .slt v410 c0_i32_146
  let v415 : BitVec 32 := Scalar.extui v414
  let v416 : BitVec 32 := Scalar.subi v413 v415
  let c2_i32_144 : BitVec 32 := 2#32
  let c0_i32_147 : BitVec 32 := 0#32
  let v417 : BitVec 1 := Scalar.cmpi .sgt c2_i32_144 c0_i32_147
  let v418 : BitVec 32 := Scalar.extui v417
  let c0_i32_148 : BitVec 32 := 0#32
  let v419 : BitVec 1 := Scalar.cmpi .slt c2_i32_144 c0_i32_148
  let v420 : BitVec 32 := Scalar.extui v419
  let v421 : BitVec 32 := Scalar.subi v418 v420
  let v422 : BitVec 1 := Scalar.cmpi .ne v416 v421
  let v423 : BitVec 32 := Scalar.remsi v410 c2_i32_144
  let c0_i32_149 : BitVec 32 := 0#32
  let v424 : BitVec 1 := Scalar.cmpi .ne v423 c0_i32_149
  let v425 : BitVec 1 := Scalar.andi v422 v424
  let v411 : BitVec 32 := Scalar.divsi v410 c2_i32_144
  let c1_i32_150 : BitVec 32 := 1#32
  let v426 : BitVec 32 := Scalar.subi v411 c1_i32_150
  let v427 : BitVec 32 := Scalar.select v425 v426 v411
  let c2_i32_151 : BitVec 32 := 2#32
  let v428 : BitVec 32 := Scalar.muli v427 c2_i32_151
  let c2_i32_152 : BitVec 32 := 2#32
  let v429 : BitVec 32 := Scalar.muli v428 c2_i32_152
  let c0_i32_154 : BitVec 32 := 0#32
  let v431 : BitVec 1 := Scalar.cmpi .sgt v410 c0_i32_154
  let v432 : BitVec 32 := Scalar.extui v431
  let c0_i32_155 : BitVec 32 := 0#32
  let v433 : BitVec 1 := Scalar.cmpi .slt v410 c0_i32_155
  let v434 : BitVec 32 := Scalar.extui v433
  let v435 : BitVec 32 := Scalar.subi v432 v434
  let c2_i32_153 : BitVec 32 := 2#32
  let c0_i32_156 : BitVec 32 := 0#32
  let v436 : BitVec 1 := Scalar.cmpi .sgt c2_i32_153 c0_i32_156
  let v437 : BitVec 32 := Scalar.extui v436
  let c0_i32_157 : BitVec 32 := 0#32
  let v438 : BitVec 1 := Scalar.cmpi .slt c2_i32_153 c0_i32_157
  let v439 : BitVec 32 := Scalar.extui v438
  let v440 : BitVec 32 := Scalar.subi v437 v439
  let v441 : BitVec 1 := Scalar.cmpi .ne v435 v440
  let v442 : BitVec 32 := Scalar.remsi v410 c2_i32_153
  let c0_i32_158 : BitVec 32 := 0#32
  let v443 : BitVec 1 := Scalar.cmpi .ne v442 c0_i32_158
  let v444 : BitVec 1 := Scalar.andi v441 v443
  let v430 : BitVec 32 := Scalar.divsi v410 c2_i32_153
  let c1_i32_159 : BitVec 32 := 1#32
  let v445 : BitVec 32 := Scalar.subi v430 c1_i32_159
  let v446 : BitVec 32 := Scalar.select v444 v445 v430
  let c2_i32_160 : BitVec 32 := 2#32
  let v447 : BitVec 32 := Scalar.muli v446 c2_i32_160
  let v448 : BitVec 32 := Scalar.subi v410 v447
  let v449 : BitVec 32 := Scalar.addi v429 v448
  let c2_i32_161 : BitVec 32 := 2#32
  let v450 : BitVec 32 := Scalar.addi v449 c2_i32_161
  let c512_i32_162 : BitVec 32 := 512#32
  let v451 : BitVec 32 := Scalar.muli v450 c512_i32_162
  let v452 : Index := Scalar.indexCast v451
  let c0_163 : Index := 0#32
  ![v452.toNat, 0]
@[reducible] def k0_t8_loop : Scf.Loop 32 :=
  let c0_i32_36 : BitVec 32 := 0#32
  let c4_i32_37 : BitVec 32 := 4#32
  let v26 : BitVec 32 := Scalar.addi c0_i32_36 c4_i32_37
  let c1_i32_38 : BitVec 32 := 1#32
  ⟨c0_i32_36, v26, c1_i32_38⟩
def k0_off24 (k0_t8 : Fin k0_t8_loop.trips) : Fin 2 → Nat :=
  let c2_i32 : BitVec 32 := 2#32
  let c0_i32_36 : BitVec 32 := 0#32
  let c1_i32_38 : BitVec 32 := 1#32
  let arg7 : BitVec 32 := Scf.iv c0_i32_36 c1_i32_38 k0_t8
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let v59 : Index := Scalar.indexCast v58
  let c0_84 : Index := 0#32
  ![v59.toNat, 0]
def k0_off25 (k0_t8 : Fin k0_t8_loop.trips) (c512_i32 : BitVec 32) : Fin 2 → Nat :=
  let c2_i32 : BitVec 32 := 2#32
  let c0_i32_36 : BitVec 32 := 0#32
  let c1_i32_38 : BitVec 32 := 1#32
  let arg7 : BitVec 32 := Scf.iv c0_i32_36 c1_i32_38 k0_t8
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let v61 : BitVec 32 := Scalar.addi v58 c512_i32
  let v62 : Index := Scalar.indexCast v61
  let c0_85 : Index := 0#32
  ![v62.toNat, 0]
def k0_off26 (k0_t8 : Fin k0_t8_loop.trips) : Fin 2 → Nat :=
  let c2_i32 : BitVec 32 := 2#32
  let c0_i32_36 : BitVec 32 := 0#32
  let c1_i32_38 : BitVec 32 := 1#32
  let arg7 : BitVec 32 := Scf.iv c0_i32_36 c1_i32_38 k0_t8
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let c1024_i32_87 : BitVec 32 := 1024#32
  let v67 : BitVec 32 := Scalar.addi v58 c1024_i32_87
  let c512_i32_88 : BitVec 32 := 512#32
  let v68 : BitVec 32 := Scalar.addi v67 c512_i32_88
  let v69 : Index := Scalar.indexCast v68
  let c0_89 : Index := 0#32
  ![v69.toNat, 0]
def k0_cond5 (k0_t8 : Fin k0_t8_loop.trips) : BitVec 1 :=
  let c2_i32 : BitVec 32 := 2#32
  let c0_i32_36 : BitVec 32 := 0#32
  let c1_i32_38 : BitVec 32 := 1#32
  let arg7 : BitVec 32 := Scf.iv c0_i32_36 c1_i32_38 k0_t8
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let c2048_i32_90 : BitVec 32 := 2048#32
  let v79 : BitVec 32 := Scalar.andi v58 c2048_i32_90
  let c0_i32_91 : BitVec 32 := 0#32
  let v80 : BitVec 1 := Scalar.cmpi .eq v79 c0_i32_91
  let v81 : BitVec 32 := Scalar.extui v80
  let c0_i32_92 : BitVec 32 := 0#32
  let v82 : BitVec 1 := Scalar.cmpi .ne v81 c0_i32_92
  v82

def k0_off27 (k0_t8 : Fin k0_t8_loop.trips) : Fin 2 → Nat :=
  let c2_i32 : BitVec 32 := 2#32
  let c0_i32_36 : BitVec 32 := 0#32
  let c1_i32_38 : BitVec 32 := 1#32
  let arg7 : BitVec 32 := Scf.iv c0_i32_36 c1_i32_38 k0_t8
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let v137 : Index := Scalar.indexCast v58
  let c0_119 : Index := 0#32
  ![v137.toNat, 0]
def k0_off28 (k0_t8 : Fin k0_t8_loop.trips) (c512_i32_120 : BitVec 32) : Fin 2 → Nat :=
  let c2_i32 : BitVec 32 := 2#32
  let c0_i32_36 : BitVec 32 := 0#32
  let c1_i32_38 : BitVec 32 := 1#32
  let arg7 : BitVec 32 := Scf.iv c0_i32_36 c1_i32_38 k0_t8
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let v141 : BitVec 32 := Scalar.addi v58 c512_i32_120
  let v142 : Index := Scalar.indexCast v141
  let c0_121 : Index := 0#32
  ![v142.toNat, 0]
def k0_off29 (k0_t8 : Fin k0_t8_loop.trips) : Fin 2 → Nat :=
  let c2_i32 : BitVec 32 := 2#32
  let c0_i32_36 : BitVec 32 := 0#32
  let c1_i32_38 : BitVec 32 := 1#32
  let arg7 : BitVec 32 := Scf.iv c0_i32_36 c1_i32_38 k0_t8
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let c1024_i32_124 : BitVec 32 := 1024#32
  let v151 : BitVec 32 := Scalar.addi v58 c1024_i32_124
  let c512_i32_125 : BitVec 32 := 512#32
  let v152 : BitVec 32 := Scalar.addi v151 c512_i32_125
  let v153 : Index := Scalar.indexCast v152
  let c0_126 : Index := 0#32
  ![v153.toNat, 0]
def k0_cond6 (k0_t8 : Fin k0_t8_loop.trips) : BitVec 1 :=
  let c2_i32 : BitVec 32 := 2#32
  let c0_i32_36 : BitVec 32 := 0#32
  let c1_i32_38 : BitVec 32 := 1#32
  let arg7 : BitVec 32 := Scf.iv c0_i32_36 c1_i32_38 k0_t8
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let c2048_i32_90 : BitVec 32 := 2048#32
  let v79 : BitVec 32 := Scalar.andi v58 c2048_i32_90
  let c0_i32_91 : BitVec 32 := 0#32
  let v80 : BitVec 1 := Scalar.cmpi .eq v79 c0_i32_91
  let v_true : BitVec 1 := 1#1
  let v83 : BitVec 1 := Scalar.xori v80 v_true
  let v84 : BitVec 32 := Scalar.extui v83
  let c0_i32_93 : BitVec 32 := 0#32
  let v85 : BitVec 1 := Scalar.cmpi .ne v84 c0_i32_93
  v85

def k0_off30 (k0_t8 : Fin k0_t8_loop.trips) : Fin 2 → Nat :=
  let c2_i32 : BitVec 32 := 2#32
  let c0_i32_36 : BitVec 32 := 0#32
  let c1_i32_38 : BitVec 32 := 1#32
  let arg7 : BitVec 32 := Scf.iv c0_i32_36 c1_i32_38 k0_t8
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let v137 : Index := Scalar.indexCast v58
  let c0_119 : Index := 0#32
  ![v137.toNat, 0]
def k0_off31 (k0_t8 : Fin k0_t8_loop.trips) (c512_i32_120 : BitVec 32) : Fin 2 → Nat :=
  let c2_i32 : BitVec 32 := 2#32
  let c0_i32_36 : BitVec 32 := 0#32
  let c1_i32_38 : BitVec 32 := 1#32
  let arg7 : BitVec 32 := Scf.iv c0_i32_36 c1_i32_38 k0_t8
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let v141 : BitVec 32 := Scalar.addi v58 c512_i32_120
  let v142 : Index := Scalar.indexCast v141
  let c0_121 : Index := 0#32
  ![v142.toNat, 0]
def k0_off32 (k0_t8 : Fin k0_t8_loop.trips) : Fin 2 → Nat :=
  let c2_i32 : BitVec 32 := 2#32
  let c0_i32_36 : BitVec 32 := 0#32
  let c1_i32_38 : BitVec 32 := 1#32
  let arg7 : BitVec 32 := Scf.iv c0_i32_36 c1_i32_38 k0_t8
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let c1024_i32_124 : BitVec 32 := 1024#32
  let v151 : BitVec 32 := Scalar.addi v58 c1024_i32_124
  let c512_i32_125 : BitVec 32 := 512#32
  let v152 : BitVec 32 := Scalar.addi v151 c512_i32_125
  let v153 : Index := Scalar.indexCast v152
  let c0_126 : Index := 0#32
  ![v153.toNat, 0]
def k0_off33 (k0_t8 : Fin k0_t8_loop.trips) : Fin 2 → Nat :=
  let c2_i32_94 : BitVec 32 := 2#32
  let c0_i32_36 : BitVec 32 := 0#32
  let c1_i32_38 : BitVec 32 := 1#32
  let arg7 : BitVec 32 := Scf.iv c0_i32_36 c1_i32_38 k0_t8
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c2_i32_96 : BitVec 32 := 2#32
  let c0_i32_99 : BitVec 32 := 0#32
  let v94 : BitVec 1 := Scalar.cmpi .sgt c2_i32_96 c0_i32_99
  let v95 : BitVec 32 := Scalar.extui v94
  let c0_i32_100 : BitVec 32 := 0#32
  let v96 : BitVec 1 := Scalar.cmpi .slt c2_i32_96 c0_i32_100
  let v97 : BitVec 32 := Scalar.extui v96
  let v98 : BitVec 32 := Scalar.subi v95 v97
  let v99 : BitVec 1 := Scalar.cmpi .ne v93 v98
  let v100 : BitVec 32 := Scalar.remsi v87 c2_i32_96
  let c0_i32_101 : BitVec 32 := 0#32
  let v101 : BitVec 1 := Scalar.cmpi .ne v100 c0_i32_101
  let v102 : BitVec 1 := Scalar.andi v99 v101
  let v88 : BitVec 32 := Scalar.divsi v87 c2_i32_96
  let c1_i32_102 : BitVec 32 := 1#32
  let v103 : BitVec 32 := Scalar.subi v88 c1_i32_102
  let v104 : BitVec 32 := Scalar.select v102 v103 v88
  let c2048_i32_104 : BitVec 32 := 2048#32
  let v107 : BitVec 32 := Scalar.muli v104 c2048_i32_104
  let c2_i32_103 : BitVec 32 := 2#32
  let v105 : BitVec 32 := Scalar.muli v104 c2_i32_103
  let v106 : BitVec 32 := Scalar.subi v87 v105
  let c256_i32_105 : BitVec 32 := 256#32
  let v108 : BitVec 32 := Scalar.muli v106 c256_i32_105
  let v109 : BitVec 32 := Scalar.addi v107 v108
  let v110 : Index := Scalar.indexCast v109
  let c0_106 : Index := 0#32
  ![v110.toNat, 0]
def k0_off34 (k0_t8 : Fin k0_t8_loop.trips) (c512_i32_107 : BitVec 32) : Fin 2 → Nat :=
  let c2_i32_94 : BitVec 32 := 2#32
  let c0_i32_36 : BitVec 32 := 0#32
  let c1_i32_38 : BitVec 32 := 1#32
  let arg7 : BitVec 32 := Scf.iv c0_i32_36 c1_i32_38 k0_t8
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c2_i32_96 : BitVec 32 := 2#32
  let c0_i32_99 : BitVec 32 := 0#32
  let v94 : BitVec 1 := Scalar.cmpi .sgt c2_i32_96 c0_i32_99
  let v95 : BitVec 32 := Scalar.extui v94
  let c0_i32_100 : BitVec 32 := 0#32
  let v96 : BitVec 1 := Scalar.cmpi .slt c2_i32_96 c0_i32_100
  let v97 : BitVec 32 := Scalar.extui v96
  let v98 : BitVec 32 := Scalar.subi v95 v97
  let v99 : BitVec 1 := Scalar.cmpi .ne v93 v98
  let v100 : BitVec 32 := Scalar.remsi v87 c2_i32_96
  let c0_i32_101 : BitVec 32 := 0#32
  let v101 : BitVec 1 := Scalar.cmpi .ne v100 c0_i32_101
  let v102 : BitVec 1 := Scalar.andi v99 v101
  let v88 : BitVec 32 := Scalar.divsi v87 c2_i32_96
  let c1_i32_102 : BitVec 32 := 1#32
  let v103 : BitVec 32 := Scalar.subi v88 c1_i32_102
  let v104 : BitVec 32 := Scalar.select v102 v103 v88
  let c2048_i32_104 : BitVec 32 := 2048#32
  let v107 : BitVec 32 := Scalar.muli v104 c2048_i32_104
  let c2_i32_103 : BitVec 32 := 2#32
  let v105 : BitVec 32 := Scalar.muli v104 c2_i32_103
  let v106 : BitVec 32 := Scalar.subi v87 v105
  let c256_i32_105 : BitVec 32 := 256#32
  let v108 : BitVec 32 := Scalar.muli v106 c256_i32_105
  let v109 : BitVec 32 := Scalar.addi v107 v108
  let v112 : BitVec 32 := Scalar.addi v109 c512_i32_107
  let v113 : Index := Scalar.indexCast v112
  let c0_108 : Index := 0#32
  ![v113.toNat, 0]
def k0_off35 (k0_t8 : Fin k0_t8_loop.trips) : Fin 2 → Nat :=
  let c2_i32_94 : BitVec 32 := 2#32
  let c0_i32_36 : BitVec 32 := 0#32
  let c1_i32_38 : BitVec 32 := 1#32
  let arg7 : BitVec 32 := Scf.iv c0_i32_36 c1_i32_38 k0_t8
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c2_i32_96 : BitVec 32 := 2#32
  let c0_i32_99 : BitVec 32 := 0#32
  let v94 : BitVec 1 := Scalar.cmpi .sgt c2_i32_96 c0_i32_99
  let v95 : BitVec 32 := Scalar.extui v94
  let c0_i32_100 : BitVec 32 := 0#32
  let v96 : BitVec 1 := Scalar.cmpi .slt c2_i32_96 c0_i32_100
  let v97 : BitVec 32 := Scalar.extui v96
  let v98 : BitVec 32 := Scalar.subi v95 v97
  let v99 : BitVec 1 := Scalar.cmpi .ne v93 v98
  let v100 : BitVec 32 := Scalar.remsi v87 c2_i32_96
  let c0_i32_101 : BitVec 32 := 0#32
  let v101 : BitVec 1 := Scalar.cmpi .ne v100 c0_i32_101
  let v102 : BitVec 1 := Scalar.andi v99 v101
  let v88 : BitVec 32 := Scalar.divsi v87 c2_i32_96
  let c1_i32_102 : BitVec 32 := 1#32
  let v103 : BitVec 32 := Scalar.subi v88 c1_i32_102
  let v104 : BitVec 32 := Scalar.select v102 v103 v88
  let c2048_i32_104 : BitVec 32 := 2048#32
  let v107 : BitVec 32 := Scalar.muli v104 c2048_i32_104
  let c2_i32_103 : BitVec 32 := 2#32
  let v105 : BitVec 32 := Scalar.muli v104 c2_i32_103
  let v106 : BitVec 32 := Scalar.subi v87 v105
  let c256_i32_105 : BitVec 32 := 256#32
  let v108 : BitVec 32 := Scalar.muli v106 c256_i32_105
  let v109 : BitVec 32 := Scalar.addi v107 v108
  let c1024_i32_111 : BitVec 32 := 1024#32
  let v118 : BitVec 32 := Scalar.addi v109 c1024_i32_111
  let c512_i32_112 : BitVec 32 := 512#32
  let v119 : BitVec 32 := Scalar.addi v118 c512_i32_112
  let v120 : Index := Scalar.indexCast v119
  let c0_113 : Index := 0#32
  ![v120.toNat, 0]
def k0_cond7 (k0_t8 : Fin k0_t8_loop.trips) : BitVec 1 :=
  let c2_i32_94 : BitVec 32 := 2#32
  let c0_i32_36 : BitVec 32 := 0#32
  let c1_i32_38 : BitVec 32 := 1#32
  let arg7 : BitVec 32 := Scf.iv c0_i32_36 c1_i32_38 k0_t8
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c2_i32_96 : BitVec 32 := 2#32
  let c0_i32_99 : BitVec 32 := 0#32
  let v94 : BitVec 1 := Scalar.cmpi .sgt c2_i32_96 c0_i32_99
  let v95 : BitVec 32 := Scalar.extui v94
  let c0_i32_100 : BitVec 32 := 0#32
  let v96 : BitVec 1 := Scalar.cmpi .slt c2_i32_96 c0_i32_100
  let v97 : BitVec 32 := Scalar.extui v96
  let v98 : BitVec 32 := Scalar.subi v95 v97
  let v99 : BitVec 1 := Scalar.cmpi .ne v93 v98
  let v100 : BitVec 32 := Scalar.remsi v87 c2_i32_96
  let c0_i32_101 : BitVec 32 := 0#32
  let v101 : BitVec 1 := Scalar.cmpi .ne v100 c0_i32_101
  let v102 : BitVec 1 := Scalar.andi v99 v101
  let v88 : BitVec 32 := Scalar.divsi v87 c2_i32_96
  let c1_i32_102 : BitVec 32 := 1#32
  let v103 : BitVec 32 := Scalar.subi v88 c1_i32_102
  let v104 : BitVec 32 := Scalar.select v102 v103 v88
  let c2048_i32_104 : BitVec 32 := 2048#32
  let v107 : BitVec 32 := Scalar.muli v104 c2048_i32_104
  let c2_i32_103 : BitVec 32 := 2#32
  let v105 : BitVec 32 := Scalar.muli v104 c2_i32_103
  let v106 : BitVec 32 := Scalar.subi v87 v105
  let c256_i32_105 : BitVec 32 := 256#32
  let v108 : BitVec 32 := Scalar.muli v106 c256_i32_105
  let v109 : BitVec 32 := Scalar.addi v107 v108
  let c2048_i32_114 : BitVec 32 := 2048#32
  let v130 : BitVec 32 := Scalar.andi v109 c2048_i32_114
  let c0_i32_115 : BitVec 32 := 0#32
  let v131 : BitVec 1 := Scalar.cmpi .eq v130 c0_i32_115
  let v132 : BitVec 32 := Scalar.extui v131
  let c0_i32_116 : BitVec 32 := 0#32
  let v133 : BitVec 1 := Scalar.cmpi .ne v132 c0_i32_116
  v133

def k0_off36 (k0_t8 : Fin k0_t8_loop.trips) : Fin 2 → Nat :=
  let c2_i32_94 : BitVec 32 := 2#32
  let c0_i32_36 : BitVec 32 := 0#32
  let c1_i32_38 : BitVec 32 := 1#32
  let arg7 : BitVec 32 := Scf.iv c0_i32_36 c1_i32_38 k0_t8
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c2_i32_96 : BitVec 32 := 2#32
  let c0_i32_99 : BitVec 32 := 0#32
  let v94 : BitVec 1 := Scalar.cmpi .sgt c2_i32_96 c0_i32_99
  let v95 : BitVec 32 := Scalar.extui v94
  let c0_i32_100 : BitVec 32 := 0#32
  let v96 : BitVec 1 := Scalar.cmpi .slt c2_i32_96 c0_i32_100
  let v97 : BitVec 32 := Scalar.extui v96
  let v98 : BitVec 32 := Scalar.subi v95 v97
  let v99 : BitVec 1 := Scalar.cmpi .ne v93 v98
  let v100 : BitVec 32 := Scalar.remsi v87 c2_i32_96
  let c0_i32_101 : BitVec 32 := 0#32
  let v101 : BitVec 1 := Scalar.cmpi .ne v100 c0_i32_101
  let v102 : BitVec 1 := Scalar.andi v99 v101
  let v88 : BitVec 32 := Scalar.divsi v87 c2_i32_96
  let c1_i32_102 : BitVec 32 := 1#32
  let v103 : BitVec 32 := Scalar.subi v88 c1_i32_102
  let v104 : BitVec 32 := Scalar.select v102 v103 v88
  let c2048_i32_104 : BitVec 32 := 2048#32
  let v107 : BitVec 32 := Scalar.muli v104 c2048_i32_104
  let c2_i32_103 : BitVec 32 := 2#32
  let v105 : BitVec 32 := Scalar.muli v104 c2_i32_103
  let v106 : BitVec 32 := Scalar.subi v87 v105
  let c256_i32_105 : BitVec 32 := 256#32
  let v108 : BitVec 32 := Scalar.muli v106 c256_i32_105
  let v109 : BitVec 32 := Scalar.addi v107 v108
  let v137 : Index := Scalar.indexCast v109
  let c0_119 : Index := 0#32
  ![v137.toNat, 0]
def k0_off37 (k0_t8 : Fin k0_t8_loop.trips) (c512_i32_120 : BitVec 32) : Fin 2 → Nat :=
  let c2_i32_94 : BitVec 32 := 2#32
  let c0_i32_36 : BitVec 32 := 0#32
  let c1_i32_38 : BitVec 32 := 1#32
  let arg7 : BitVec 32 := Scf.iv c0_i32_36 c1_i32_38 k0_t8
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c2_i32_96 : BitVec 32 := 2#32
  let c0_i32_99 : BitVec 32 := 0#32
  let v94 : BitVec 1 := Scalar.cmpi .sgt c2_i32_96 c0_i32_99
  let v95 : BitVec 32 := Scalar.extui v94
  let c0_i32_100 : BitVec 32 := 0#32
  let v96 : BitVec 1 := Scalar.cmpi .slt c2_i32_96 c0_i32_100
  let v97 : BitVec 32 := Scalar.extui v96
  let v98 : BitVec 32 := Scalar.subi v95 v97
  let v99 : BitVec 1 := Scalar.cmpi .ne v93 v98
  let v100 : BitVec 32 := Scalar.remsi v87 c2_i32_96
  let c0_i32_101 : BitVec 32 := 0#32
  let v101 : BitVec 1 := Scalar.cmpi .ne v100 c0_i32_101
  let v102 : BitVec 1 := Scalar.andi v99 v101
  let v88 : BitVec 32 := Scalar.divsi v87 c2_i32_96
  let c1_i32_102 : BitVec 32 := 1#32
  let v103 : BitVec 32 := Scalar.subi v88 c1_i32_102
  let v104 : BitVec 32 := Scalar.select v102 v103 v88
  let c2048_i32_104 : BitVec 32 := 2048#32
  let v107 : BitVec 32 := Scalar.muli v104 c2048_i32_104
  let c2_i32_103 : BitVec 32 := 2#32
  let v105 : BitVec 32 := Scalar.muli v104 c2_i32_103
  let v106 : BitVec 32 := Scalar.subi v87 v105
  let c256_i32_105 : BitVec 32 := 256#32
  let v108 : BitVec 32 := Scalar.muli v106 c256_i32_105
  let v109 : BitVec 32 := Scalar.addi v107 v108
  let v141 : BitVec 32 := Scalar.addi v109 c512_i32_120
  let v142 : Index := Scalar.indexCast v141
  let c0_121 : Index := 0#32
  ![v142.toNat, 0]
def k0_off38 (k0_t8 : Fin k0_t8_loop.trips) : Fin 2 → Nat :=
  let c2_i32_94 : BitVec 32 := 2#32
  let c0_i32_36 : BitVec 32 := 0#32
  let c1_i32_38 : BitVec 32 := 1#32
  let arg7 : BitVec 32 := Scf.iv c0_i32_36 c1_i32_38 k0_t8
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c2_i32_96 : BitVec 32 := 2#32
  let c0_i32_99 : BitVec 32 := 0#32
  let v94 : BitVec 1 := Scalar.cmpi .sgt c2_i32_96 c0_i32_99
  let v95 : BitVec 32 := Scalar.extui v94
  let c0_i32_100 : BitVec 32 := 0#32
  let v96 : BitVec 1 := Scalar.cmpi .slt c2_i32_96 c0_i32_100
  let v97 : BitVec 32 := Scalar.extui v96
  let v98 : BitVec 32 := Scalar.subi v95 v97
  let v99 : BitVec 1 := Scalar.cmpi .ne v93 v98
  let v100 : BitVec 32 := Scalar.remsi v87 c2_i32_96
  let c0_i32_101 : BitVec 32 := 0#32
  let v101 : BitVec 1 := Scalar.cmpi .ne v100 c0_i32_101
  let v102 : BitVec 1 := Scalar.andi v99 v101
  let v88 : BitVec 32 := Scalar.divsi v87 c2_i32_96
  let c1_i32_102 : BitVec 32 := 1#32
  let v103 : BitVec 32 := Scalar.subi v88 c1_i32_102
  let v104 : BitVec 32 := Scalar.select v102 v103 v88
  let c2048_i32_104 : BitVec 32 := 2048#32
  let v107 : BitVec 32 := Scalar.muli v104 c2048_i32_104
  let c2_i32_103 : BitVec 32 := 2#32
  let v105 : BitVec 32 := Scalar.muli v104 c2_i32_103
  let v106 : BitVec 32 := Scalar.subi v87 v105
  let c256_i32_105 : BitVec 32 := 256#32
  let v108 : BitVec 32 := Scalar.muli v106 c256_i32_105
  let v109 : BitVec 32 := Scalar.addi v107 v108
  let c1024_i32_124 : BitVec 32 := 1024#32
  let v151 : BitVec 32 := Scalar.addi v109 c1024_i32_124
  let c512_i32_125 : BitVec 32 := 512#32
  let v152 : BitVec 32 := Scalar.addi v151 c512_i32_125
  let v153 : Index := Scalar.indexCast v152
  let c0_126 : Index := 0#32
  ![v153.toNat, 0]
def k0_cond8 (k0_t8 : Fin k0_t8_loop.trips) : BitVec 1 :=
  let c2_i32_94 : BitVec 32 := 2#32
  let c0_i32_36 : BitVec 32 := 0#32
  let c1_i32_38 : BitVec 32 := 1#32
  let arg7 : BitVec 32 := Scf.iv c0_i32_36 c1_i32_38 k0_t8
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c2_i32_96 : BitVec 32 := 2#32
  let c0_i32_99 : BitVec 32 := 0#32
  let v94 : BitVec 1 := Scalar.cmpi .sgt c2_i32_96 c0_i32_99
  let v95 : BitVec 32 := Scalar.extui v94
  let c0_i32_100 : BitVec 32 := 0#32
  let v96 : BitVec 1 := Scalar.cmpi .slt c2_i32_96 c0_i32_100
  let v97 : BitVec 32 := Scalar.extui v96
  let v98 : BitVec 32 := Scalar.subi v95 v97
  let v99 : BitVec 1 := Scalar.cmpi .ne v93 v98
  let v100 : BitVec 32 := Scalar.remsi v87 c2_i32_96
  let c0_i32_101 : BitVec 32 := 0#32
  let v101 : BitVec 1 := Scalar.cmpi .ne v100 c0_i32_101
  let v102 : BitVec 1 := Scalar.andi v99 v101
  let v88 : BitVec 32 := Scalar.divsi v87 c2_i32_96
  let c1_i32_102 : BitVec 32 := 1#32
  let v103 : BitVec 32 := Scalar.subi v88 c1_i32_102
  let v104 : BitVec 32 := Scalar.select v102 v103 v88
  let c2048_i32_104 : BitVec 32 := 2048#32
  let v107 : BitVec 32 := Scalar.muli v104 c2048_i32_104
  let c2_i32_103 : BitVec 32 := 2#32
  let v105 : BitVec 32 := Scalar.muli v104 c2_i32_103
  let v106 : BitVec 32 := Scalar.subi v87 v105
  let c256_i32_105 : BitVec 32 := 256#32
  let v108 : BitVec 32 := Scalar.muli v106 c256_i32_105
  let v109 : BitVec 32 := Scalar.addi v107 v108
  let c2048_i32_114 : BitVec 32 := 2048#32
  let v130 : BitVec 32 := Scalar.andi v109 c2048_i32_114
  let c0_i32_115 : BitVec 32 := 0#32
  let v131 : BitVec 1 := Scalar.cmpi .eq v130 c0_i32_115
  let true_117 : BitVec 1 := 1#1
  let v134 : BitVec 1 := Scalar.xori v131 true_117
  let v135 : BitVec 32 := Scalar.extui v134
  let c0_i32_118 : BitVec 32 := 0#32
  let v136 : BitVec 1 := Scalar.cmpi .ne v135 c0_i32_118
  v136

def k0_off39 (k0_t8 : Fin k0_t8_loop.trips) : Fin 2 → Nat :=
  let c2_i32_94 : BitVec 32 := 2#32
  let c0_i32_36 : BitVec 32 := 0#32
  let c1_i32_38 : BitVec 32 := 1#32
  let arg7 : BitVec 32 := Scf.iv c0_i32_36 c1_i32_38 k0_t8
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c2_i32_96 : BitVec 32 := 2#32
  let c0_i32_99 : BitVec 32 := 0#32
  let v94 : BitVec 1 := Scalar.cmpi .sgt c2_i32_96 c0_i32_99
  let v95 : BitVec 32 := Scalar.extui v94
  let c0_i32_100 : BitVec 32 := 0#32
  let v96 : BitVec 1 := Scalar.cmpi .slt c2_i32_96 c0_i32_100
  let v97 : BitVec 32 := Scalar.extui v96
  let v98 : BitVec 32 := Scalar.subi v95 v97
  let v99 : BitVec 1 := Scalar.cmpi .ne v93 v98
  let v100 : BitVec 32 := Scalar.remsi v87 c2_i32_96
  let c0_i32_101 : BitVec 32 := 0#32
  let v101 : BitVec 1 := Scalar.cmpi .ne v100 c0_i32_101
  let v102 : BitVec 1 := Scalar.andi v99 v101
  let v88 : BitVec 32 := Scalar.divsi v87 c2_i32_96
  let c1_i32_102 : BitVec 32 := 1#32
  let v103 : BitVec 32 := Scalar.subi v88 c1_i32_102
  let v104 : BitVec 32 := Scalar.select v102 v103 v88
  let c2048_i32_104 : BitVec 32 := 2048#32
  let v107 : BitVec 32 := Scalar.muli v104 c2048_i32_104
  let c2_i32_103 : BitVec 32 := 2#32
  let v105 : BitVec 32 := Scalar.muli v104 c2_i32_103
  let v106 : BitVec 32 := Scalar.subi v87 v105
  let c256_i32_105 : BitVec 32 := 256#32
  let v108 : BitVec 32 := Scalar.muli v106 c256_i32_105
  let v109 : BitVec 32 := Scalar.addi v107 v108
  let v137 : Index := Scalar.indexCast v109
  let c0_119 : Index := 0#32
  ![v137.toNat, 0]
def k0_off40 (k0_t8 : Fin k0_t8_loop.trips) (c512_i32_120 : BitVec 32) : Fin 2 → Nat :=
  let c2_i32_94 : BitVec 32 := 2#32
  let c0_i32_36 : BitVec 32 := 0#32
  let c1_i32_38 : BitVec 32 := 1#32
  let arg7 : BitVec 32 := Scf.iv c0_i32_36 c1_i32_38 k0_t8
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c2_i32_96 : BitVec 32 := 2#32
  let c0_i32_99 : BitVec 32 := 0#32
  let v94 : BitVec 1 := Scalar.cmpi .sgt c2_i32_96 c0_i32_99
  let v95 : BitVec 32 := Scalar.extui v94
  let c0_i32_100 : BitVec 32 := 0#32
  let v96 : BitVec 1 := Scalar.cmpi .slt c2_i32_96 c0_i32_100
  let v97 : BitVec 32 := Scalar.extui v96
  let v98 : BitVec 32 := Scalar.subi v95 v97
  let v99 : BitVec 1 := Scalar.cmpi .ne v93 v98
  let v100 : BitVec 32 := Scalar.remsi v87 c2_i32_96
  let c0_i32_101 : BitVec 32 := 0#32
  let v101 : BitVec 1 := Scalar.cmpi .ne v100 c0_i32_101
  let v102 : BitVec 1 := Scalar.andi v99 v101
  let v88 : BitVec 32 := Scalar.divsi v87 c2_i32_96
  let c1_i32_102 : BitVec 32 := 1#32
  let v103 : BitVec 32 := Scalar.subi v88 c1_i32_102
  let v104 : BitVec 32 := Scalar.select v102 v103 v88
  let c2048_i32_104 : BitVec 32 := 2048#32
  let v107 : BitVec 32 := Scalar.muli v104 c2048_i32_104
  let c2_i32_103 : BitVec 32 := 2#32
  let v105 : BitVec 32 := Scalar.muli v104 c2_i32_103
  let v106 : BitVec 32 := Scalar.subi v87 v105
  let c256_i32_105 : BitVec 32 := 256#32
  let v108 : BitVec 32 := Scalar.muli v106 c256_i32_105
  let v109 : BitVec 32 := Scalar.addi v107 v108
  let v141 : BitVec 32 := Scalar.addi v109 c512_i32_120
  let v142 : Index := Scalar.indexCast v141
  let c0_121 : Index := 0#32
  ![v142.toNat, 0]
def k0_off41 (k0_t8 : Fin k0_t8_loop.trips) : Fin 2 → Nat :=
  let c2_i32_94 : BitVec 32 := 2#32
  let c0_i32_36 : BitVec 32 := 0#32
  let c1_i32_38 : BitVec 32 := 1#32
  let arg7 : BitVec 32 := Scf.iv c0_i32_36 c1_i32_38 k0_t8
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c2_i32_96 : BitVec 32 := 2#32
  let c0_i32_99 : BitVec 32 := 0#32
  let v94 : BitVec 1 := Scalar.cmpi .sgt c2_i32_96 c0_i32_99
  let v95 : BitVec 32 := Scalar.extui v94
  let c0_i32_100 : BitVec 32 := 0#32
  let v96 : BitVec 1 := Scalar.cmpi .slt c2_i32_96 c0_i32_100
  let v97 : BitVec 32 := Scalar.extui v96
  let v98 : BitVec 32 := Scalar.subi v95 v97
  let v99 : BitVec 1 := Scalar.cmpi .ne v93 v98
  let v100 : BitVec 32 := Scalar.remsi v87 c2_i32_96
  let c0_i32_101 : BitVec 32 := 0#32
  let v101 : BitVec 1 := Scalar.cmpi .ne v100 c0_i32_101
  let v102 : BitVec 1 := Scalar.andi v99 v101
  let v88 : BitVec 32 := Scalar.divsi v87 c2_i32_96
  let c1_i32_102 : BitVec 32 := 1#32
  let v103 : BitVec 32 := Scalar.subi v88 c1_i32_102
  let v104 : BitVec 32 := Scalar.select v102 v103 v88
  let c2048_i32_104 : BitVec 32 := 2048#32
  let v107 : BitVec 32 := Scalar.muli v104 c2048_i32_104
  let c2_i32_103 : BitVec 32 := 2#32
  let v105 : BitVec 32 := Scalar.muli v104 c2_i32_103
  let v106 : BitVec 32 := Scalar.subi v87 v105
  let c256_i32_105 : BitVec 32 := 256#32
  let v108 : BitVec 32 := Scalar.muli v106 c256_i32_105
  let v109 : BitVec 32 := Scalar.addi v107 v108
  let c1024_i32_124 : BitVec 32 := 1024#32
  let v151 : BitVec 32 := Scalar.addi v109 c1024_i32_124
  let c512_i32_125 : BitVec 32 := 512#32
  let v152 : BitVec 32 := Scalar.addi v151 c512_i32_125
  let v153 : Index := Scalar.indexCast v152
  let c0_126 : Index := 0#32
  ![v153.toNat, 0]
@[reducible] def k0_t9_loop : Scf.Loop 32 :=
  let c0_i32_40 : BitVec 32 := 0#32
  let c4_i32_41 : BitVec 32 := 4#32
  let v27 : BitVec 32 := Scalar.addi c0_i32_40 c4_i32_41
  let c1_i32_42 : BitVec 32 := 1#32
  ⟨c0_i32_40, v27, c1_i32_42⟩
def k0_off42 (k0_t9 : Fin k0_t9_loop.trips) : Fin 2 → Nat :=
  let c2_i32 : BitVec 32 := 2#32
  let c0_i32_40 : BitVec 32 := 0#32
  let c1_i32_42 : BitVec 32 := 1#32
  let arg7 : BitVec 32 := Scf.iv c0_i32_40 c1_i32_42 k0_t9
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c4_i32_76 : BitVec 32 := 4#32
  let c0_i32_79 : BitVec 32 := 0#32
  let v43 : BitVec 1 := Scalar.cmpi .sgt c4_i32_76 c0_i32_79
  let v44 : BitVec 32 := Scalar.extui v43
  let c0_i32_80 : BitVec 32 := 0#32
  let v45 : BitVec 1 := Scalar.cmpi .slt c4_i32_76 c0_i32_80
  let v46 : BitVec 32 := Scalar.extui v45
  let v47 : BitVec 32 := Scalar.subi v44 v46
  let v48 : BitVec 1 := Scalar.cmpi .ne v42 v47
  let v49 : BitVec 32 := Scalar.remsi v36 c4_i32_76
  let c0_i32_81 : BitVec 32 := 0#32
  let v50 : BitVec 1 := Scalar.cmpi .ne v49 c0_i32_81
  let v51 : BitVec 1 := Scalar.andi v48 v50
  let v37 : BitVec 32 := Scalar.divsi v36 c4_i32_76
  let c1_i32_82 : BitVec 32 := 1#32
  let v52 : BitVec 32 := Scalar.subi v37 c1_i32_82
  let v53 : BitVec 32 := Scalar.select v51 v52 v37
  let c2_i32_83 : BitVec 32 := 2#32
  let v54 : BitVec 32 := Scalar.muli v53 c2_i32_83
  let c4_i32_84 : BitVec 32 := 4#32
  let v55 : BitVec 32 := Scalar.muli v54 c4_i32_84
  let c0_i32_86 : BitVec 32 := 0#32
  let v57 : BitVec 1 := Scalar.cmpi .sgt v36 c0_i32_86
  let v58 : BitVec 32 := Scalar.extui v57
  let c0_i32_87 : BitVec 32 := 0#32
  let v59 : BitVec 1 := Scalar.cmpi .slt v36 c0_i32_87
  let v60 : BitVec 32 := Scalar.extui v59
  let v61 : BitVec 32 := Scalar.subi v58 v60
  let c4_i32_85 : BitVec 32 := 4#32
  let c0_i32_88 : BitVec 32 := 0#32
  let v62 : BitVec 1 := Scalar.cmpi .sgt c4_i32_85 c0_i32_88
  let v63 : BitVec 32 := Scalar.extui v62
  let c0_i32_89 : BitVec 32 := 0#32
  let v64 : BitVec 1 := Scalar.cmpi .slt c4_i32_85 c0_i32_89
  let v65 : BitVec 32 := Scalar.extui v64
  let v66 : BitVec 32 := Scalar.subi v63 v65
  let v67 : BitVec 1 := Scalar.cmpi .ne v61 v66
  let v68 : BitVec 32 := Scalar.remsi v36 c4_i32_85
  let c0_i32_90 : BitVec 32 := 0#32
  let v69 : BitVec 1 := Scalar.cmpi .ne v68 c0_i32_90
  let v70 : BitVec 1 := Scalar.andi v67 v69
  let v56 : BitVec 32 := Scalar.divsi v36 c4_i32_85
  let c1_i32_91 : BitVec 32 := 1#32
  let v71 : BitVec 32 := Scalar.subi v56 c1_i32_91
  let v72 : BitVec 32 := Scalar.select v70 v71 v56
  let c4_i32_92 : BitVec 32 := 4#32
  let v73 : BitVec 32 := Scalar.muli v72 c4_i32_92
  let v74 : BitVec 32 := Scalar.subi v36 v73
  let v75 : BitVec 32 := Scalar.addi v55 v74
  let c512_i32 : BitVec 32 := 512#32
  let v76 : BitVec 32 := Scalar.muli v75 c512_i32
  let v77 : Index := Scalar.indexCast v76
  let c0_93 : Index := 0#32
  ![v77.toNat, 0]
def k0_off43 (k0_t9 : Fin k0_t9_loop.trips) : Fin 2 → Nat :=
  let c2_i32_137 : BitVec 32 := 2#32
  let c0_i32_40 : BitVec 32 := 0#32
  let c1_i32_42 : BitVec 32 := 1#32
  let arg7 : BitVec 32 := Scf.iv c0_i32_40 c1_i32_42 k0_t9
  let v404 : BitVec 32 := Scalar.muli c2_i32_137 arg7
  let c1_i32_138 : BitVec 32 := 1#32
  let v405 : BitVec 32 := Scalar.addi v404 c1_i32_138
  let c0_i32_140 : BitVec 32 := 0#32
  let v407 : BitVec 1 := Scalar.cmpi .sgt v405 c0_i32_140
  let v408 : BitVec 32 := Scalar.extui v407
  let c0_i32_141 : BitVec 32 := 0#32
  let v409 : BitVec 1 := Scalar.cmpi .slt v405 c0_i32_141
  let v410 : BitVec 32 := Scalar.extui v409
  let v411 : BitVec 32 := Scalar.subi v408 v410
  let c4_i32_139 : BitVec 32 := 4#32
  let c0_i32_142 : BitVec 32 := 0#32
  let v412 : BitVec 1 := Scalar.cmpi .sgt c4_i32_139 c0_i32_142
  let v413 : BitVec 32 := Scalar.extui v412
  let c0_i32_143 : BitVec 32 := 0#32
  let v414 : BitVec 1 := Scalar.cmpi .slt c4_i32_139 c0_i32_143
  let v415 : BitVec 32 := Scalar.extui v414
  let v416 : BitVec 32 := Scalar.subi v413 v415
  let v417 : BitVec 1 := Scalar.cmpi .ne v411 v416
  let v418 : BitVec 32 := Scalar.remsi v405 c4_i32_139
  let c0_i32_144 : BitVec 32 := 0#32
  let v419 : BitVec 1 := Scalar.cmpi .ne v418 c0_i32_144
  let v420 : BitVec 1 := Scalar.andi v417 v419
  let v406 : BitVec 32 := Scalar.divsi v405 c4_i32_139
  let c1_i32_145 : BitVec 32 := 1#32
  let v421 : BitVec 32 := Scalar.subi v406 c1_i32_145
  let v422 : BitVec 32 := Scalar.select v420 v421 v406
  let c2_i32_146 : BitVec 32 := 2#32
  let v423 : BitVec 32 := Scalar.muli v422 c2_i32_146
  let c4_i32_147 : BitVec 32 := 4#32
  let v424 : BitVec 32 := Scalar.muli v423 c4_i32_147
  let c0_i32_149 : BitVec 32 := 0#32
  let v426 : BitVec 1 := Scalar.cmpi .sgt v405 c0_i32_149
  let v427 : BitVec 32 := Scalar.extui v426
  let c0_i32_150 : BitVec 32 := 0#32
  let v428 : BitVec 1 := Scalar.cmpi .slt v405 c0_i32_150
  let v429 : BitVec 32 := Scalar.extui v428
  let v430 : BitVec 32 := Scalar.subi v427 v429
  let c4_i32_148 : BitVec 32 := 4#32
  let c0_i32_151 : BitVec 32 := 0#32
  let v431 : BitVec 1 := Scalar.cmpi .sgt c4_i32_148 c0_i32_151
  let v432 : BitVec 32 := Scalar.extui v431
  let c0_i32_152 : BitVec 32 := 0#32
  let v433 : BitVec 1 := Scalar.cmpi .slt c4_i32_148 c0_i32_152
  let v434 : BitVec 32 := Scalar.extui v433
  let v435 : BitVec 32 := Scalar.subi v432 v434
  let v436 : BitVec 1 := Scalar.cmpi .ne v430 v435
  let v437 : BitVec 32 := Scalar.remsi v405 c4_i32_148
  let c0_i32_153 : BitVec 32 := 0#32
  let v438 : BitVec 1 := Scalar.cmpi .ne v437 c0_i32_153
  let v439 : BitVec 1 := Scalar.andi v436 v438
  let v425 : BitVec 32 := Scalar.divsi v405 c4_i32_148
  let c1_i32_154 : BitVec 32 := 1#32
  let v440 : BitVec 32 := Scalar.subi v425 c1_i32_154
  let v441 : BitVec 32 := Scalar.select v439 v440 v425
  let c4_i32_155 : BitVec 32 := 4#32
  let v442 : BitVec 32 := Scalar.muli v441 c4_i32_155
  let v443 : BitVec 32 := Scalar.subi v405 v442
  let v444 : BitVec 32 := Scalar.addi v424 v443
  let c512_i32_156 : BitVec 32 := 512#32
  let v445 : BitVec 32 := Scalar.muli v444 c512_i32_156
  let v446 : Index := Scalar.indexCast v445
  let c0_157 : Index := 0#32
  ![v446.toNat, 0]
@[reducible] def k0_t10_loop : Scf.Loop 32 :=
  let c0_i32_44 : BitVec 32 := 0#32
  let c4_i32_45 : BitVec 32 := 4#32
  let v28 : BitVec 32 := Scalar.addi c0_i32_44 c4_i32_45
  let c1_i32_46 : BitVec 32 := 1#32
  ⟨c0_i32_44, v28, c1_i32_46⟩
def k0_off44 (k0_t10 : Fin k0_t10_loop.trips) : Fin 2 → Nat :=
  let c2_i32 : BitVec 32 := 2#32
  let c0_i32_44 : BitVec 32 := 0#32
  let c1_i32_46 : BitVec 32 := 1#32
  let arg7 : BitVec 32 := Scf.iv c0_i32_44 c1_i32_46 k0_t10
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c4_i32_76 : BitVec 32 := 4#32
  let c0_i32_79 : BitVec 32 := 0#32
  let v43 : BitVec 1 := Scalar.cmpi .sgt c4_i32_76 c0_i32_79
  let v44 : BitVec 32 := Scalar.extui v43
  let c0_i32_80 : BitVec 32 := 0#32
  let v45 : BitVec 1 := Scalar.cmpi .slt c4_i32_76 c0_i32_80
  let v46 : BitVec 32 := Scalar.extui v45
  let v47 : BitVec 32 := Scalar.subi v44 v46
  let v48 : BitVec 1 := Scalar.cmpi .ne v42 v47
  let v49 : BitVec 32 := Scalar.remsi v36 c4_i32_76
  let c0_i32_81 : BitVec 32 := 0#32
  let v50 : BitVec 1 := Scalar.cmpi .ne v49 c0_i32_81
  let v51 : BitVec 1 := Scalar.andi v48 v50
  let v37 : BitVec 32 := Scalar.divsi v36 c4_i32_76
  let c1_i32_82 : BitVec 32 := 1#32
  let v52 : BitVec 32 := Scalar.subi v37 c1_i32_82
  let v53 : BitVec 32 := Scalar.select v51 v52 v37
  let c2_i32_83 : BitVec 32 := 2#32
  let v54 : BitVec 32 := Scalar.muli v53 c2_i32_83
  let c4_i32_84 : BitVec 32 := 4#32
  let v55 : BitVec 32 := Scalar.muli v54 c4_i32_84
  let c0_i32_86 : BitVec 32 := 0#32
  let v57 : BitVec 1 := Scalar.cmpi .sgt v36 c0_i32_86
  let v58 : BitVec 32 := Scalar.extui v57
  let c0_i32_87 : BitVec 32 := 0#32
  let v59 : BitVec 1 := Scalar.cmpi .slt v36 c0_i32_87
  let v60 : BitVec 32 := Scalar.extui v59
  let v61 : BitVec 32 := Scalar.subi v58 v60
  let c4_i32_85 : BitVec 32 := 4#32
  let c0_i32_88 : BitVec 32 := 0#32
  let v62 : BitVec 1 := Scalar.cmpi .sgt c4_i32_85 c0_i32_88
  let v63 : BitVec 32 := Scalar.extui v62
  let c0_i32_89 : BitVec 32 := 0#32
  let v64 : BitVec 1 := Scalar.cmpi .slt c4_i32_85 c0_i32_89
  let v65 : BitVec 32 := Scalar.extui v64
  let v66 : BitVec 32 := Scalar.subi v63 v65
  let v67 : BitVec 1 := Scalar.cmpi .ne v61 v66
  let v68 : BitVec 32 := Scalar.remsi v36 c4_i32_85
  let c0_i32_90 : BitVec 32 := 0#32
  let v69 : BitVec 1 := Scalar.cmpi .ne v68 c0_i32_90
  let v70 : BitVec 1 := Scalar.andi v67 v69
  let v56 : BitVec 32 := Scalar.divsi v36 c4_i32_85
  let c1_i32_91 : BitVec 32 := 1#32
  let v71 : BitVec 32 := Scalar.subi v56 c1_i32_91
  let v72 : BitVec 32 := Scalar.select v70 v71 v56
  let c4_i32_92 : BitVec 32 := 4#32
  let v73 : BitVec 32 := Scalar.muli v72 c4_i32_92
  let v74 : BitVec 32 := Scalar.subi v36 v73
  let v75 : BitVec 32 := Scalar.addi v55 v74
  let c4_i32_93 : BitVec 32 := 4#32
  let v76 : BitVec 32 := Scalar.addi v75 c4_i32_93
  let c512_i32 : BitVec 32 := 512#32
  let v77 : BitVec 32 := Scalar.muli v76 c512_i32
  let v78 : Index := Scalar.indexCast v77
  let c0_94 : Index := 0#32
  ![v78.toNat, 0]
def k0_off45 (k0_t10 : Fin k0_t10_loop.trips) : Fin 2 → Nat :=
  let c2_i32_142 : BitVec 32 := 2#32
  let c0_i32_44 : BitVec 32 := 0#32
  let c1_i32_46 : BitVec 32 := 1#32
  let arg7 : BitVec 32 := Scf.iv c0_i32_44 c1_i32_46 k0_t10
  let v409 : BitVec 32 := Scalar.muli c2_i32_142 arg7
  let c1_i32_143 : BitVec 32 := 1#32
  let v410 : BitVec 32 := Scalar.addi v409 c1_i32_143
  let c0_i32_145 : BitVec 32 := 0#32
  let v412 : BitVec 1 := Scalar.cmpi .sgt v410 c0_i32_145
  let v413 : BitVec 32 := Scalar.extui v412
  let c0_i32_146 : BitVec 32 := 0#32
  let v414 : BitVec 1 := Scalar.cmpi .slt v410 c0_i32_146
  let v415 : BitVec 32 := Scalar.extui v414
  let v416 : BitVec 32 := Scalar.subi v413 v415
  let c4_i32_144 : BitVec 32 := 4#32
  let c0_i32_147 : BitVec 32 := 0#32
  let v417 : BitVec 1 := Scalar.cmpi .sgt c4_i32_144 c0_i32_147
  let v418 : BitVec 32 := Scalar.extui v417
  let c0_i32_148 : BitVec 32 := 0#32
  let v419 : BitVec 1 := Scalar.cmpi .slt c4_i32_144 c0_i32_148
  let v420 : BitVec 32 := Scalar.extui v419
  let v421 : BitVec 32 := Scalar.subi v418 v420
  let v422 : BitVec 1 := Scalar.cmpi .ne v416 v421
  let v423 : BitVec 32 := Scalar.remsi v410 c4_i32_144
  let c0_i32_149 : BitVec 32 := 0#32
  let v424 : BitVec 1 := Scalar.cmpi .ne v423 c0_i32_149
  let v425 : BitVec 1 := Scalar.andi v422 v424
  let v411 : BitVec 32 := Scalar.divsi v410 c4_i32_144
  let c1_i32_150 : BitVec 32 := 1#32
  let v426 : BitVec 32 := Scalar.subi v411 c1_i32_150
  let v427 : BitVec 32 := Scalar.select v425 v426 v411
  let c2_i32_151 : BitVec 32 := 2#32
  let v428 : BitVec 32 := Scalar.muli v427 c2_i32_151
  let c4_i32_152 : BitVec 32 := 4#32
  let v429 : BitVec 32 := Scalar.muli v428 c4_i32_152
  let c0_i32_154 : BitVec 32 := 0#32
  let v431 : BitVec 1 := Scalar.cmpi .sgt v410 c0_i32_154
  let v432 : BitVec 32 := Scalar.extui v431
  let c0_i32_155 : BitVec 32 := 0#32
  let v433 : BitVec 1 := Scalar.cmpi .slt v410 c0_i32_155
  let v434 : BitVec 32 := Scalar.extui v433
  let v435 : BitVec 32 := Scalar.subi v432 v434
  let c4_i32_153 : BitVec 32 := 4#32
  let c0_i32_156 : BitVec 32 := 0#32
  let v436 : BitVec 1 := Scalar.cmpi .sgt c4_i32_153 c0_i32_156
  let v437 : BitVec 32 := Scalar.extui v436
  let c0_i32_157 : BitVec 32 := 0#32
  let v438 : BitVec 1 := Scalar.cmpi .slt c4_i32_153 c0_i32_157
  let v439 : BitVec 32 := Scalar.extui v438
  let v440 : BitVec 32 := Scalar.subi v437 v439
  let v441 : BitVec 1 := Scalar.cmpi .ne v435 v440
  let v442 : BitVec 32 := Scalar.remsi v410 c4_i32_153
  let c0_i32_158 : BitVec 32 := 0#32
  let v443 : BitVec 1 := Scalar.cmpi .ne v442 c0_i32_158
  let v444 : BitVec 1 := Scalar.andi v441 v443
  let v430 : BitVec 32 := Scalar.divsi v410 c4_i32_153
  let c1_i32_159 : BitVec 32 := 1#32
  let v445 : BitVec 32 := Scalar.subi v430 c1_i32_159
  let v446 : BitVec 32 := Scalar.select v444 v445 v430
  let c4_i32_160 : BitVec 32 := 4#32
  let v447 : BitVec 32 := Scalar.muli v446 c4_i32_160
  let v448 : BitVec 32 := Scalar.subi v410 v447
  let v449 : BitVec 32 := Scalar.addi v429 v448
  let c4_i32_161 : BitVec 32 := 4#32
  let v450 : BitVec 32 := Scalar.addi v449 c4_i32_161
  let c512_i32_162 : BitVec 32 := 512#32
  let v451 : BitVec 32 := Scalar.muli v450 c512_i32_162
  let v452 : Index := Scalar.indexCast v451
  let c0_163 : Index := 0#32
  ![v452.toNat, 0]
@[reducible] def k0_t11_loop : Scf.Loop 32 :=
  let c0_i32_48 : BitVec 32 := 0#32
  let c4_i32_49 : BitVec 32 := 4#32
  let v29 : BitVec 32 := Scalar.addi c0_i32_48 c4_i32_49
  let c1_i32_50 : BitVec 32 := 1#32
  ⟨c0_i32_48, v29, c1_i32_50⟩
def k0_off46 (k0_t11 : Fin k0_t11_loop.trips) : Fin 2 → Nat :=
  let c2_i32 : BitVec 32 := 2#32
  let c0_i32_48 : BitVec 32 := 0#32
  let c1_i32_50 : BitVec 32 := 1#32
  let arg7 : BitVec 32 := Scf.iv c0_i32_48 c1_i32_50 k0_t11
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c4_i32_76 : BitVec 32 := 4#32
  let c0_i32_79 : BitVec 32 := 0#32
  let v43 : BitVec 1 := Scalar.cmpi .sgt c4_i32_76 c0_i32_79
  let v44 : BitVec 32 := Scalar.extui v43
  let c0_i32_80 : BitVec 32 := 0#32
  let v45 : BitVec 1 := Scalar.cmpi .slt c4_i32_76 c0_i32_80
  let v46 : BitVec 32 := Scalar.extui v45
  let v47 : BitVec 32 := Scalar.subi v44 v46
  let v48 : BitVec 1 := Scalar.cmpi .ne v42 v47
  let v49 : BitVec 32 := Scalar.remsi v36 c4_i32_76
  let c0_i32_81 : BitVec 32 := 0#32
  let v50 : BitVec 1 := Scalar.cmpi .ne v49 c0_i32_81
  let v51 : BitVec 1 := Scalar.andi v48 v50
  let v37 : BitVec 32 := Scalar.divsi v36 c4_i32_76
  let c1_i32_82 : BitVec 32 := 1#32
  let v52 : BitVec 32 := Scalar.subi v37 c1_i32_82
  let v53 : BitVec 32 := Scalar.select v51 v52 v37
  let c4096_i32 : BitVec 32 := 4096#32
  let v56 : BitVec 32 := Scalar.muli v53 c4096_i32
  let c4_i32_83 : BitVec 32 := 4#32
  let v54 : BitVec 32 := Scalar.muli v53 c4_i32_83
  let v55 : BitVec 32 := Scalar.subi v36 v54
  let c256_i32 : BitVec 32 := 256#32
  let v57 : BitVec 32 := Scalar.muli v55 c256_i32
  let v58 : BitVec 32 := Scalar.addi v56 v57
  let v59 : Index := Scalar.indexCast v58
  let c0_84 : Index := 0#32
  ![v59.toNat, 0]
def k0_off47 (k0_t11 : Fin k0_t11_loop.trips) (c1024_i32 : BitVec 32) : Fin 2 → Nat :=
  let c2_i32 : BitVec 32 := 2#32
  let c0_i32_48 : BitVec 32 := 0#32
  let c1_i32_50 : BitVec 32 := 1#32
  let arg7 : BitVec 32 := Scf.iv c0_i32_48 c1_i32_50 k0_t11
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c4_i32_76 : BitVec 32 := 4#32
  let c0_i32_79 : BitVec 32 := 0#32
  let v43 : BitVec 1 := Scalar.cmpi .sgt c4_i32_76 c0_i32_79
  let v44 : BitVec 32 := Scalar.extui v43
  let c0_i32_80 : BitVec 32 := 0#32
  let v45 : BitVec 1 := Scalar.cmpi .slt c4_i32_76 c0_i32_80
  let v46 : BitVec 32 := Scalar.extui v45
  let v47 : BitVec 32 := Scalar.subi v44 v46
  let v48 : BitVec 1 := Scalar.cmpi .ne v42 v47
  let v49 : BitVec 32 := Scalar.remsi v36 c4_i32_76
  let c0_i32_81 : BitVec 32 := 0#32
  let v50 : BitVec 1 := Scalar.cmpi .ne v49 c0_i32_81
  let v51 : BitVec 1 := Scalar.andi v48 v50
  let v37 : BitVec 32 := Scalar.divsi v36 c4_i32_76
  let c1_i32_82 : BitVec 32 := 1#32
  let v52 : BitVec 32 := Scalar.subi v37 c1_i32_82
  let v53 : BitVec 32 := Scalar.select v51 v52 v37
  let c4096_i32 : BitVec 32 := 4096#32
  let v56 : BitVec 32 := Scalar.muli v53 c4096_i32
  let c4_i32_83 : BitVec 32 := 4#32
  let v54 : BitVec 32 := Scalar.muli v53 c4_i32_83
  let v55 : BitVec 32 := Scalar.subi v36 v54
  let c256_i32 : BitVec 32 := 256#32
  let v57 : BitVec 32 := Scalar.muli v55 c256_i32
  let v58 : BitVec 32 := Scalar.addi v56 v57
  let v61 : BitVec 32 := Scalar.addi v58 c1024_i32
  let v62 : Index := Scalar.indexCast v61
  let c0_85 : Index := 0#32
  ![v62.toNat, 0]
def k0_off48 (k0_t11 : Fin k0_t11_loop.trips) : Fin 2 → Nat :=
  let c2_i32 : BitVec 32 := 2#32
  let c0_i32_48 : BitVec 32 := 0#32
  let c1_i32_50 : BitVec 32 := 1#32
  let arg7 : BitVec 32 := Scf.iv c0_i32_48 c1_i32_50 k0_t11
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c4_i32_76 : BitVec 32 := 4#32
  let c0_i32_79 : BitVec 32 := 0#32
  let v43 : BitVec 1 := Scalar.cmpi .sgt c4_i32_76 c0_i32_79
  let v44 : BitVec 32 := Scalar.extui v43
  let c0_i32_80 : BitVec 32 := 0#32
  let v45 : BitVec 1 := Scalar.cmpi .slt c4_i32_76 c0_i32_80
  let v46 : BitVec 32 := Scalar.extui v45
  let v47 : BitVec 32 := Scalar.subi v44 v46
  let v48 : BitVec 1 := Scalar.cmpi .ne v42 v47
  let v49 : BitVec 32 := Scalar.remsi v36 c4_i32_76
  let c0_i32_81 : BitVec 32 := 0#32
  let v50 : BitVec 1 := Scalar.cmpi .ne v49 c0_i32_81
  let v51 : BitVec 1 := Scalar.andi v48 v50
  let v37 : BitVec 32 := Scalar.divsi v36 c4_i32_76
  let c1_i32_82 : BitVec 32 := 1#32
  let v52 : BitVec 32 := Scalar.subi v37 c1_i32_82
  let v53 : BitVec 32 := Scalar.select v51 v52 v37
  let c4096_i32 : BitVec 32 := 4096#32
  let v56 : BitVec 32 := Scalar.muli v53 c4096_i32
  let c4_i32_83 : BitVec 32 := 4#32
  let v54 : BitVec 32 := Scalar.muli v53 c4_i32_83
  let v55 : BitVec 32 := Scalar.subi v36 v54
  let c256_i32 : BitVec 32 := 256#32
  let v57 : BitVec 32 := Scalar.muli v55 c256_i32
  let v58 : BitVec 32 := Scalar.addi v56 v57
  let c2048_i32_87 : BitVec 32 := 2048#32
  let v67 : BitVec 32 := Scalar.addi v58 c2048_i32_87
  let c1024_i32_88 : BitVec 32 := 1024#32
  let v68 : BitVec 32 := Scalar.addi v67 c1024_i32_88
  let v69 : Index := Scalar.indexCast v68
  let c0_89 : Index := 0#32
  ![v69.toNat, 0]
def k0_cond9 (k0_t11 : Fin k0_t11_loop.trips) : BitVec 1 :=
  let c2_i32 : BitVec 32 := 2#32
  let c0_i32_48 : BitVec 32 := 0#32
  let c1_i32_50 : BitVec 32 := 1#32
  let arg7 : BitVec 32 := Scf.iv c0_i32_48 c1_i32_50 k0_t11
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c4_i32_76 : BitVec 32 := 4#32
  let c0_i32_79 : BitVec 32 := 0#32
  let v43 : BitVec 1 := Scalar.cmpi .sgt c4_i32_76 c0_i32_79
  let v44 : BitVec 32 := Scalar.extui v43
  let c0_i32_80 : BitVec 32 := 0#32
  let v45 : BitVec 1 := Scalar.cmpi .slt c4_i32_76 c0_i32_80
  let v46 : BitVec 32 := Scalar.extui v45
  let v47 : BitVec 32 := Scalar.subi v44 v46
  let v48 : BitVec 1 := Scalar.cmpi .ne v42 v47
  let v49 : BitVec 32 := Scalar.remsi v36 c4_i32_76
  let c0_i32_81 : BitVec 32 := 0#32
  let v50 : BitVec 1 := Scalar.cmpi .ne v49 c0_i32_81
  let v51 : BitVec 1 := Scalar.andi v48 v50
  let v37 : BitVec 32 := Scalar.divsi v36 c4_i32_76
  let c1_i32_82 : BitVec 32 := 1#32
  let v52 : BitVec 32 := Scalar.subi v37 c1_i32_82
  let v53 : BitVec 32 := Scalar.select v51 v52 v37
  let c4096_i32 : BitVec 32 := 4096#32
  let v56 : BitVec 32 := Scalar.muli v53 c4096_i32
  let c4_i32_83 : BitVec 32 := 4#32
  let v54 : BitVec 32 := Scalar.muli v53 c4_i32_83
  let v55 : BitVec 32 := Scalar.subi v36 v54
  let c256_i32 : BitVec 32 := 256#32
  let v57 : BitVec 32 := Scalar.muli v55 c256_i32
  let v58 : BitVec 32 := Scalar.addi v56 v57
  let c4096_i32_90 : BitVec 32 := 4096#32
  let v79 : BitVec 32 := Scalar.andi v58 c4096_i32_90
  let c0_i32_91 : BitVec 32 := 0#32
  let v80 : BitVec 1 := Scalar.cmpi .eq v79 c0_i32_91
  let v81 : BitVec 32 := Scalar.extui v80
  let c0_i32_92 : BitVec 32 := 0#32
  let v82 : BitVec 1 := Scalar.cmpi .ne v81 c0_i32_92
  v82

def k0_off49 (k0_t11 : Fin k0_t11_loop.trips) : Fin 2 → Nat :=
  let c2_i32 : BitVec 32 := 2#32
  let c0_i32_48 : BitVec 32 := 0#32
  let c1_i32_50 : BitVec 32 := 1#32
  let arg7 : BitVec 32 := Scf.iv c0_i32_48 c1_i32_50 k0_t11
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c4_i32_76 : BitVec 32 := 4#32
  let c0_i32_79 : BitVec 32 := 0#32
  let v43 : BitVec 1 := Scalar.cmpi .sgt c4_i32_76 c0_i32_79
  let v44 : BitVec 32 := Scalar.extui v43
  let c0_i32_80 : BitVec 32 := 0#32
  let v45 : BitVec 1 := Scalar.cmpi .slt c4_i32_76 c0_i32_80
  let v46 : BitVec 32 := Scalar.extui v45
  let v47 : BitVec 32 := Scalar.subi v44 v46
  let v48 : BitVec 1 := Scalar.cmpi .ne v42 v47
  let v49 : BitVec 32 := Scalar.remsi v36 c4_i32_76
  let c0_i32_81 : BitVec 32 := 0#32
  let v50 : BitVec 1 := Scalar.cmpi .ne v49 c0_i32_81
  let v51 : BitVec 1 := Scalar.andi v48 v50
  let v37 : BitVec 32 := Scalar.divsi v36 c4_i32_76
  let c1_i32_82 : BitVec 32 := 1#32
  let v52 : BitVec 32 := Scalar.subi v37 c1_i32_82
  let v53 : BitVec 32 := Scalar.select v51 v52 v37
  let c4096_i32 : BitVec 32 := 4096#32
  let v56 : BitVec 32 := Scalar.muli v53 c4096_i32
  let c4_i32_83 : BitVec 32 := 4#32
  let v54 : BitVec 32 := Scalar.muli v53 c4_i32_83
  let v55 : BitVec 32 := Scalar.subi v36 v54
  let c256_i32 : BitVec 32 := 256#32
  let v57 : BitVec 32 := Scalar.muli v55 c256_i32
  let v58 : BitVec 32 := Scalar.addi v56 v57
  let v137 : Index := Scalar.indexCast v58
  let c0_119 : Index := 0#32
  ![v137.toNat, 0]
def k0_off50 (k0_t11 : Fin k0_t11_loop.trips) (c1024_i32_120 : BitVec 32) : Fin 2 → Nat :=
  let c2_i32 : BitVec 32 := 2#32
  let c0_i32_48 : BitVec 32 := 0#32
  let c1_i32_50 : BitVec 32 := 1#32
  let arg7 : BitVec 32 := Scf.iv c0_i32_48 c1_i32_50 k0_t11
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c4_i32_76 : BitVec 32 := 4#32
  let c0_i32_79 : BitVec 32 := 0#32
  let v43 : BitVec 1 := Scalar.cmpi .sgt c4_i32_76 c0_i32_79
  let v44 : BitVec 32 := Scalar.extui v43
  let c0_i32_80 : BitVec 32 := 0#32
  let v45 : BitVec 1 := Scalar.cmpi .slt c4_i32_76 c0_i32_80
  let v46 : BitVec 32 := Scalar.extui v45
  let v47 : BitVec 32 := Scalar.subi v44 v46
  let v48 : BitVec 1 := Scalar.cmpi .ne v42 v47
  let v49 : BitVec 32 := Scalar.remsi v36 c4_i32_76
  let c0_i32_81 : BitVec 32 := 0#32
  let v50 : BitVec 1 := Scalar.cmpi .ne v49 c0_i32_81
  let v51 : BitVec 1 := Scalar.andi v48 v50
  let v37 : BitVec 32 := Scalar.divsi v36 c4_i32_76
  let c1_i32_82 : BitVec 32 := 1#32
  let v52 : BitVec 32 := Scalar.subi v37 c1_i32_82
  let v53 : BitVec 32 := Scalar.select v51 v52 v37
  let c4096_i32 : BitVec 32 := 4096#32
  let v56 : BitVec 32 := Scalar.muli v53 c4096_i32
  let c4_i32_83 : BitVec 32 := 4#32
  let v54 : BitVec 32 := Scalar.muli v53 c4_i32_83
  let v55 : BitVec 32 := Scalar.subi v36 v54
  let c256_i32 : BitVec 32 := 256#32
  let v57 : BitVec 32 := Scalar.muli v55 c256_i32
  let v58 : BitVec 32 := Scalar.addi v56 v57
  let v141 : BitVec 32 := Scalar.addi v58 c1024_i32_120
  let v142 : Index := Scalar.indexCast v141
  let c0_121 : Index := 0#32
  ![v142.toNat, 0]
def k0_off51 (k0_t11 : Fin k0_t11_loop.trips) : Fin 2 → Nat :=
  let c2_i32 : BitVec 32 := 2#32
  let c0_i32_48 : BitVec 32 := 0#32
  let c1_i32_50 : BitVec 32 := 1#32
  let arg7 : BitVec 32 := Scf.iv c0_i32_48 c1_i32_50 k0_t11
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c4_i32_76 : BitVec 32 := 4#32
  let c0_i32_79 : BitVec 32 := 0#32
  let v43 : BitVec 1 := Scalar.cmpi .sgt c4_i32_76 c0_i32_79
  let v44 : BitVec 32 := Scalar.extui v43
  let c0_i32_80 : BitVec 32 := 0#32
  let v45 : BitVec 1 := Scalar.cmpi .slt c4_i32_76 c0_i32_80
  let v46 : BitVec 32 := Scalar.extui v45
  let v47 : BitVec 32 := Scalar.subi v44 v46
  let v48 : BitVec 1 := Scalar.cmpi .ne v42 v47
  let v49 : BitVec 32 := Scalar.remsi v36 c4_i32_76
  let c0_i32_81 : BitVec 32 := 0#32
  let v50 : BitVec 1 := Scalar.cmpi .ne v49 c0_i32_81
  let v51 : BitVec 1 := Scalar.andi v48 v50
  let v37 : BitVec 32 := Scalar.divsi v36 c4_i32_76
  let c1_i32_82 : BitVec 32 := 1#32
  let v52 : BitVec 32 := Scalar.subi v37 c1_i32_82
  let v53 : BitVec 32 := Scalar.select v51 v52 v37
  let c4096_i32 : BitVec 32 := 4096#32
  let v56 : BitVec 32 := Scalar.muli v53 c4096_i32
  let c4_i32_83 : BitVec 32 := 4#32
  let v54 : BitVec 32 := Scalar.muli v53 c4_i32_83
  let v55 : BitVec 32 := Scalar.subi v36 v54
  let c256_i32 : BitVec 32 := 256#32
  let v57 : BitVec 32 := Scalar.muli v55 c256_i32
  let v58 : BitVec 32 := Scalar.addi v56 v57
  let c2048_i32_124 : BitVec 32 := 2048#32
  let v151 : BitVec 32 := Scalar.addi v58 c2048_i32_124
  let c1024_i32_125 : BitVec 32 := 1024#32
  let v152 : BitVec 32 := Scalar.addi v151 c1024_i32_125
  let v153 : Index := Scalar.indexCast v152
  let c0_126 : Index := 0#32
  ![v153.toNat, 0]
def k0_cond10 (k0_t11 : Fin k0_t11_loop.trips) : BitVec 1 :=
  let c2_i32 : BitVec 32 := 2#32
  let c0_i32_48 : BitVec 32 := 0#32
  let c1_i32_50 : BitVec 32 := 1#32
  let arg7 : BitVec 32 := Scf.iv c0_i32_48 c1_i32_50 k0_t11
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c4_i32_76 : BitVec 32 := 4#32
  let c0_i32_79 : BitVec 32 := 0#32
  let v43 : BitVec 1 := Scalar.cmpi .sgt c4_i32_76 c0_i32_79
  let v44 : BitVec 32 := Scalar.extui v43
  let c0_i32_80 : BitVec 32 := 0#32
  let v45 : BitVec 1 := Scalar.cmpi .slt c4_i32_76 c0_i32_80
  let v46 : BitVec 32 := Scalar.extui v45
  let v47 : BitVec 32 := Scalar.subi v44 v46
  let v48 : BitVec 1 := Scalar.cmpi .ne v42 v47
  let v49 : BitVec 32 := Scalar.remsi v36 c4_i32_76
  let c0_i32_81 : BitVec 32 := 0#32
  let v50 : BitVec 1 := Scalar.cmpi .ne v49 c0_i32_81
  let v51 : BitVec 1 := Scalar.andi v48 v50
  let v37 : BitVec 32 := Scalar.divsi v36 c4_i32_76
  let c1_i32_82 : BitVec 32 := 1#32
  let v52 : BitVec 32 := Scalar.subi v37 c1_i32_82
  let v53 : BitVec 32 := Scalar.select v51 v52 v37
  let c4096_i32 : BitVec 32 := 4096#32
  let v56 : BitVec 32 := Scalar.muli v53 c4096_i32
  let c4_i32_83 : BitVec 32 := 4#32
  let v54 : BitVec 32 := Scalar.muli v53 c4_i32_83
  let v55 : BitVec 32 := Scalar.subi v36 v54
  let c256_i32 : BitVec 32 := 256#32
  let v57 : BitVec 32 := Scalar.muli v55 c256_i32
  let v58 : BitVec 32 := Scalar.addi v56 v57
  let c4096_i32_90 : BitVec 32 := 4096#32
  let v79 : BitVec 32 := Scalar.andi v58 c4096_i32_90
  let c0_i32_91 : BitVec 32 := 0#32
  let v80 : BitVec 1 := Scalar.cmpi .eq v79 c0_i32_91
  let v_true : BitVec 1 := 1#1
  let v83 : BitVec 1 := Scalar.xori v80 v_true
  let v84 : BitVec 32 := Scalar.extui v83
  let c0_i32_93 : BitVec 32 := 0#32
  let v85 : BitVec 1 := Scalar.cmpi .ne v84 c0_i32_93
  v85

def k0_off52 (k0_t11 : Fin k0_t11_loop.trips) : Fin 2 → Nat :=
  let c2_i32 : BitVec 32 := 2#32
  let c0_i32_48 : BitVec 32 := 0#32
  let c1_i32_50 : BitVec 32 := 1#32
  let arg7 : BitVec 32 := Scf.iv c0_i32_48 c1_i32_50 k0_t11
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c4_i32_76 : BitVec 32 := 4#32
  let c0_i32_79 : BitVec 32 := 0#32
  let v43 : BitVec 1 := Scalar.cmpi .sgt c4_i32_76 c0_i32_79
  let v44 : BitVec 32 := Scalar.extui v43
  let c0_i32_80 : BitVec 32 := 0#32
  let v45 : BitVec 1 := Scalar.cmpi .slt c4_i32_76 c0_i32_80
  let v46 : BitVec 32 := Scalar.extui v45
  let v47 : BitVec 32 := Scalar.subi v44 v46
  let v48 : BitVec 1 := Scalar.cmpi .ne v42 v47
  let v49 : BitVec 32 := Scalar.remsi v36 c4_i32_76
  let c0_i32_81 : BitVec 32 := 0#32
  let v50 : BitVec 1 := Scalar.cmpi .ne v49 c0_i32_81
  let v51 : BitVec 1 := Scalar.andi v48 v50
  let v37 : BitVec 32 := Scalar.divsi v36 c4_i32_76
  let c1_i32_82 : BitVec 32 := 1#32
  let v52 : BitVec 32 := Scalar.subi v37 c1_i32_82
  let v53 : BitVec 32 := Scalar.select v51 v52 v37
  let c4096_i32 : BitVec 32 := 4096#32
  let v56 : BitVec 32 := Scalar.muli v53 c4096_i32
  let c4_i32_83 : BitVec 32 := 4#32
  let v54 : BitVec 32 := Scalar.muli v53 c4_i32_83
  let v55 : BitVec 32 := Scalar.subi v36 v54
  let c256_i32 : BitVec 32 := 256#32
  let v57 : BitVec 32 := Scalar.muli v55 c256_i32
  let v58 : BitVec 32 := Scalar.addi v56 v57
  let v137 : Index := Scalar.indexCast v58
  let c0_119 : Index := 0#32
  ![v137.toNat, 0]
def k0_off53 (k0_t11 : Fin k0_t11_loop.trips) (c1024_i32_120 : BitVec 32) : Fin 2 → Nat :=
  let c2_i32 : BitVec 32 := 2#32
  let c0_i32_48 : BitVec 32 := 0#32
  let c1_i32_50 : BitVec 32 := 1#32
  let arg7 : BitVec 32 := Scf.iv c0_i32_48 c1_i32_50 k0_t11
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c4_i32_76 : BitVec 32 := 4#32
  let c0_i32_79 : BitVec 32 := 0#32
  let v43 : BitVec 1 := Scalar.cmpi .sgt c4_i32_76 c0_i32_79
  let v44 : BitVec 32 := Scalar.extui v43
  let c0_i32_80 : BitVec 32 := 0#32
  let v45 : BitVec 1 := Scalar.cmpi .slt c4_i32_76 c0_i32_80
  let v46 : BitVec 32 := Scalar.extui v45
  let v47 : BitVec 32 := Scalar.subi v44 v46
  let v48 : BitVec 1 := Scalar.cmpi .ne v42 v47
  let v49 : BitVec 32 := Scalar.remsi v36 c4_i32_76
  let c0_i32_81 : BitVec 32 := 0#32
  let v50 : BitVec 1 := Scalar.cmpi .ne v49 c0_i32_81
  let v51 : BitVec 1 := Scalar.andi v48 v50
  let v37 : BitVec 32 := Scalar.divsi v36 c4_i32_76
  let c1_i32_82 : BitVec 32 := 1#32
  let v52 : BitVec 32 := Scalar.subi v37 c1_i32_82
  let v53 : BitVec 32 := Scalar.select v51 v52 v37
  let c4096_i32 : BitVec 32 := 4096#32
  let v56 : BitVec 32 := Scalar.muli v53 c4096_i32
  let c4_i32_83 : BitVec 32 := 4#32
  let v54 : BitVec 32 := Scalar.muli v53 c4_i32_83
  let v55 : BitVec 32 := Scalar.subi v36 v54
  let c256_i32 : BitVec 32 := 256#32
  let v57 : BitVec 32 := Scalar.muli v55 c256_i32
  let v58 : BitVec 32 := Scalar.addi v56 v57
  let v141 : BitVec 32 := Scalar.addi v58 c1024_i32_120
  let v142 : Index := Scalar.indexCast v141
  let c0_121 : Index := 0#32
  ![v142.toNat, 0]
def k0_off54 (k0_t11 : Fin k0_t11_loop.trips) : Fin 2 → Nat :=
  let c2_i32 : BitVec 32 := 2#32
  let c0_i32_48 : BitVec 32 := 0#32
  let c1_i32_50 : BitVec 32 := 1#32
  let arg7 : BitVec 32 := Scf.iv c0_i32_48 c1_i32_50 k0_t11
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c4_i32_76 : BitVec 32 := 4#32
  let c0_i32_79 : BitVec 32 := 0#32
  let v43 : BitVec 1 := Scalar.cmpi .sgt c4_i32_76 c0_i32_79
  let v44 : BitVec 32 := Scalar.extui v43
  let c0_i32_80 : BitVec 32 := 0#32
  let v45 : BitVec 1 := Scalar.cmpi .slt c4_i32_76 c0_i32_80
  let v46 : BitVec 32 := Scalar.extui v45
  let v47 : BitVec 32 := Scalar.subi v44 v46
  let v48 : BitVec 1 := Scalar.cmpi .ne v42 v47
  let v49 : BitVec 32 := Scalar.remsi v36 c4_i32_76
  let c0_i32_81 : BitVec 32 := 0#32
  let v50 : BitVec 1 := Scalar.cmpi .ne v49 c0_i32_81
  let v51 : BitVec 1 := Scalar.andi v48 v50
  let v37 : BitVec 32 := Scalar.divsi v36 c4_i32_76
  let c1_i32_82 : BitVec 32 := 1#32
  let v52 : BitVec 32 := Scalar.subi v37 c1_i32_82
  let v53 : BitVec 32 := Scalar.select v51 v52 v37
  let c4096_i32 : BitVec 32 := 4096#32
  let v56 : BitVec 32 := Scalar.muli v53 c4096_i32
  let c4_i32_83 : BitVec 32 := 4#32
  let v54 : BitVec 32 := Scalar.muli v53 c4_i32_83
  let v55 : BitVec 32 := Scalar.subi v36 v54
  let c256_i32 : BitVec 32 := 256#32
  let v57 : BitVec 32 := Scalar.muli v55 c256_i32
  let v58 : BitVec 32 := Scalar.addi v56 v57
  let c2048_i32_124 : BitVec 32 := 2048#32
  let v151 : BitVec 32 := Scalar.addi v58 c2048_i32_124
  let c1024_i32_125 : BitVec 32 := 1024#32
  let v152 : BitVec 32 := Scalar.addi v151 c1024_i32_125
  let v153 : Index := Scalar.indexCast v152
  let c0_126 : Index := 0#32
  ![v153.toNat, 0]
def k0_off55 (k0_t11 : Fin k0_t11_loop.trips) : Fin 2 → Nat :=
  let c2_i32_94 : BitVec 32 := 2#32
  let c0_i32_48 : BitVec 32 := 0#32
  let c1_i32_50 : BitVec 32 := 1#32
  let arg7 : BitVec 32 := Scf.iv c0_i32_48 c1_i32_50 k0_t11
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c4_i32_96 : BitVec 32 := 4#32
  let c0_i32_99 : BitVec 32 := 0#32
  let v94 : BitVec 1 := Scalar.cmpi .sgt c4_i32_96 c0_i32_99
  let v95 : BitVec 32 := Scalar.extui v94
  let c0_i32_100 : BitVec 32 := 0#32
  let v96 : BitVec 1 := Scalar.cmpi .slt c4_i32_96 c0_i32_100
  let v97 : BitVec 32 := Scalar.extui v96
  let v98 : BitVec 32 := Scalar.subi v95 v97
  let v99 : BitVec 1 := Scalar.cmpi .ne v93 v98
  let v100 : BitVec 32 := Scalar.remsi v87 c4_i32_96
  let c0_i32_101 : BitVec 32 := 0#32
  let v101 : BitVec 1 := Scalar.cmpi .ne v100 c0_i32_101
  let v102 : BitVec 1 := Scalar.andi v99 v101
  let v88 : BitVec 32 := Scalar.divsi v87 c4_i32_96
  let c1_i32_102 : BitVec 32 := 1#32
  let v103 : BitVec 32 := Scalar.subi v88 c1_i32_102
  let v104 : BitVec 32 := Scalar.select v102 v103 v88
  let c4096_i32_104 : BitVec 32 := 4096#32
  let v107 : BitVec 32 := Scalar.muli v104 c4096_i32_104
  let c4_i32_103 : BitVec 32 := 4#32
  let v105 : BitVec 32 := Scalar.muli v104 c4_i32_103
  let v106 : BitVec 32 := Scalar.subi v87 v105
  let c256_i32_105 : BitVec 32 := 256#32
  let v108 : BitVec 32 := Scalar.muli v106 c256_i32_105
  let v109 : BitVec 32 := Scalar.addi v107 v108
  let v110 : Index := Scalar.indexCast v109
  let c0_106 : Index := 0#32
  ![v110.toNat, 0]
def k0_off56 (k0_t11 : Fin k0_t11_loop.trips) (c1024_i32_107 : BitVec 32) : Fin 2 → Nat :=
  let c2_i32_94 : BitVec 32 := 2#32
  let c0_i32_48 : BitVec 32 := 0#32
  let c1_i32_50 : BitVec 32 := 1#32
  let arg7 : BitVec 32 := Scf.iv c0_i32_48 c1_i32_50 k0_t11
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c4_i32_96 : BitVec 32 := 4#32
  let c0_i32_99 : BitVec 32 := 0#32
  let v94 : BitVec 1 := Scalar.cmpi .sgt c4_i32_96 c0_i32_99
  let v95 : BitVec 32 := Scalar.extui v94
  let c0_i32_100 : BitVec 32 := 0#32
  let v96 : BitVec 1 := Scalar.cmpi .slt c4_i32_96 c0_i32_100
  let v97 : BitVec 32 := Scalar.extui v96
  let v98 : BitVec 32 := Scalar.subi v95 v97
  let v99 : BitVec 1 := Scalar.cmpi .ne v93 v98
  let v100 : BitVec 32 := Scalar.remsi v87 c4_i32_96
  let c0_i32_101 : BitVec 32 := 0#32
  let v101 : BitVec 1 := Scalar.cmpi .ne v100 c0_i32_101
  let v102 : BitVec 1 := Scalar.andi v99 v101
  let v88 : BitVec 32 := Scalar.divsi v87 c4_i32_96
  let c1_i32_102 : BitVec 32 := 1#32
  let v103 : BitVec 32 := Scalar.subi v88 c1_i32_102
  let v104 : BitVec 32 := Scalar.select v102 v103 v88
  let c4096_i32_104 : BitVec 32 := 4096#32
  let v107 : BitVec 32 := Scalar.muli v104 c4096_i32_104
  let c4_i32_103 : BitVec 32 := 4#32
  let v105 : BitVec 32 := Scalar.muli v104 c4_i32_103
  let v106 : BitVec 32 := Scalar.subi v87 v105
  let c256_i32_105 : BitVec 32 := 256#32
  let v108 : BitVec 32 := Scalar.muli v106 c256_i32_105
  let v109 : BitVec 32 := Scalar.addi v107 v108
  let v112 : BitVec 32 := Scalar.addi v109 c1024_i32_107
  let v113 : Index := Scalar.indexCast v112
  let c0_108 : Index := 0#32
  ![v113.toNat, 0]
def k0_off57 (k0_t11 : Fin k0_t11_loop.trips) : Fin 2 → Nat :=
  let c2_i32_94 : BitVec 32 := 2#32
  let c0_i32_48 : BitVec 32 := 0#32
  let c1_i32_50 : BitVec 32 := 1#32
  let arg7 : BitVec 32 := Scf.iv c0_i32_48 c1_i32_50 k0_t11
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c4_i32_96 : BitVec 32 := 4#32
  let c0_i32_99 : BitVec 32 := 0#32
  let v94 : BitVec 1 := Scalar.cmpi .sgt c4_i32_96 c0_i32_99
  let v95 : BitVec 32 := Scalar.extui v94
  let c0_i32_100 : BitVec 32 := 0#32
  let v96 : BitVec 1 := Scalar.cmpi .slt c4_i32_96 c0_i32_100
  let v97 : BitVec 32 := Scalar.extui v96
  let v98 : BitVec 32 := Scalar.subi v95 v97
  let v99 : BitVec 1 := Scalar.cmpi .ne v93 v98
  let v100 : BitVec 32 := Scalar.remsi v87 c4_i32_96
  let c0_i32_101 : BitVec 32 := 0#32
  let v101 : BitVec 1 := Scalar.cmpi .ne v100 c0_i32_101
  let v102 : BitVec 1 := Scalar.andi v99 v101
  let v88 : BitVec 32 := Scalar.divsi v87 c4_i32_96
  let c1_i32_102 : BitVec 32 := 1#32
  let v103 : BitVec 32 := Scalar.subi v88 c1_i32_102
  let v104 : BitVec 32 := Scalar.select v102 v103 v88
  let c4096_i32_104 : BitVec 32 := 4096#32
  let v107 : BitVec 32 := Scalar.muli v104 c4096_i32_104
  let c4_i32_103 : BitVec 32 := 4#32
  let v105 : BitVec 32 := Scalar.muli v104 c4_i32_103
  let v106 : BitVec 32 := Scalar.subi v87 v105
  let c256_i32_105 : BitVec 32 := 256#32
  let v108 : BitVec 32 := Scalar.muli v106 c256_i32_105
  let v109 : BitVec 32 := Scalar.addi v107 v108
  let c2048_i32_111 : BitVec 32 := 2048#32
  let v118 : BitVec 32 := Scalar.addi v109 c2048_i32_111
  let c1024_i32_112 : BitVec 32 := 1024#32
  let v119 : BitVec 32 := Scalar.addi v118 c1024_i32_112
  let v120 : Index := Scalar.indexCast v119
  let c0_113 : Index := 0#32
  ![v120.toNat, 0]
def k0_cond11 (k0_t11 : Fin k0_t11_loop.trips) : BitVec 1 :=
  let c2_i32_94 : BitVec 32 := 2#32
  let c0_i32_48 : BitVec 32 := 0#32
  let c1_i32_50 : BitVec 32 := 1#32
  let arg7 : BitVec 32 := Scf.iv c0_i32_48 c1_i32_50 k0_t11
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c4_i32_96 : BitVec 32 := 4#32
  let c0_i32_99 : BitVec 32 := 0#32
  let v94 : BitVec 1 := Scalar.cmpi .sgt c4_i32_96 c0_i32_99
  let v95 : BitVec 32 := Scalar.extui v94
  let c0_i32_100 : BitVec 32 := 0#32
  let v96 : BitVec 1 := Scalar.cmpi .slt c4_i32_96 c0_i32_100
  let v97 : BitVec 32 := Scalar.extui v96
  let v98 : BitVec 32 := Scalar.subi v95 v97
  let v99 : BitVec 1 := Scalar.cmpi .ne v93 v98
  let v100 : BitVec 32 := Scalar.remsi v87 c4_i32_96
  let c0_i32_101 : BitVec 32 := 0#32
  let v101 : BitVec 1 := Scalar.cmpi .ne v100 c0_i32_101
  let v102 : BitVec 1 := Scalar.andi v99 v101
  let v88 : BitVec 32 := Scalar.divsi v87 c4_i32_96
  let c1_i32_102 : BitVec 32 := 1#32
  let v103 : BitVec 32 := Scalar.subi v88 c1_i32_102
  let v104 : BitVec 32 := Scalar.select v102 v103 v88
  let c4096_i32_104 : BitVec 32 := 4096#32
  let v107 : BitVec 32 := Scalar.muli v104 c4096_i32_104
  let c4_i32_103 : BitVec 32 := 4#32
  let v105 : BitVec 32 := Scalar.muli v104 c4_i32_103
  let v106 : BitVec 32 := Scalar.subi v87 v105
  let c256_i32_105 : BitVec 32 := 256#32
  let v108 : BitVec 32 := Scalar.muli v106 c256_i32_105
  let v109 : BitVec 32 := Scalar.addi v107 v108
  let c4096_i32_114 : BitVec 32 := 4096#32
  let v130 : BitVec 32 := Scalar.andi v109 c4096_i32_114
  let c0_i32_115 : BitVec 32 := 0#32
  let v131 : BitVec 1 := Scalar.cmpi .eq v130 c0_i32_115
  let v132 : BitVec 32 := Scalar.extui v131
  let c0_i32_116 : BitVec 32 := 0#32
  let v133 : BitVec 1 := Scalar.cmpi .ne v132 c0_i32_116
  v133

def k0_off58 (k0_t11 : Fin k0_t11_loop.trips) : Fin 2 → Nat :=
  let c2_i32_94 : BitVec 32 := 2#32
  let c0_i32_48 : BitVec 32 := 0#32
  let c1_i32_50 : BitVec 32 := 1#32
  let arg7 : BitVec 32 := Scf.iv c0_i32_48 c1_i32_50 k0_t11
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c4_i32_96 : BitVec 32 := 4#32
  let c0_i32_99 : BitVec 32 := 0#32
  let v94 : BitVec 1 := Scalar.cmpi .sgt c4_i32_96 c0_i32_99
  let v95 : BitVec 32 := Scalar.extui v94
  let c0_i32_100 : BitVec 32 := 0#32
  let v96 : BitVec 1 := Scalar.cmpi .slt c4_i32_96 c0_i32_100
  let v97 : BitVec 32 := Scalar.extui v96
  let v98 : BitVec 32 := Scalar.subi v95 v97
  let v99 : BitVec 1 := Scalar.cmpi .ne v93 v98
  let v100 : BitVec 32 := Scalar.remsi v87 c4_i32_96
  let c0_i32_101 : BitVec 32 := 0#32
  let v101 : BitVec 1 := Scalar.cmpi .ne v100 c0_i32_101
  let v102 : BitVec 1 := Scalar.andi v99 v101
  let v88 : BitVec 32 := Scalar.divsi v87 c4_i32_96
  let c1_i32_102 : BitVec 32 := 1#32
  let v103 : BitVec 32 := Scalar.subi v88 c1_i32_102
  let v104 : BitVec 32 := Scalar.select v102 v103 v88
  let c4096_i32_104 : BitVec 32 := 4096#32
  let v107 : BitVec 32 := Scalar.muli v104 c4096_i32_104
  let c4_i32_103 : BitVec 32 := 4#32
  let v105 : BitVec 32 := Scalar.muli v104 c4_i32_103
  let v106 : BitVec 32 := Scalar.subi v87 v105
  let c256_i32_105 : BitVec 32 := 256#32
  let v108 : BitVec 32 := Scalar.muli v106 c256_i32_105
  let v109 : BitVec 32 := Scalar.addi v107 v108
  let v137 : Index := Scalar.indexCast v109
  let c0_119 : Index := 0#32
  ![v137.toNat, 0]
def k0_off59 (k0_t11 : Fin k0_t11_loop.trips) (c1024_i32_120 : BitVec 32) : Fin 2 → Nat :=
  let c2_i32_94 : BitVec 32 := 2#32
  let c0_i32_48 : BitVec 32 := 0#32
  let c1_i32_50 : BitVec 32 := 1#32
  let arg7 : BitVec 32 := Scf.iv c0_i32_48 c1_i32_50 k0_t11
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c4_i32_96 : BitVec 32 := 4#32
  let c0_i32_99 : BitVec 32 := 0#32
  let v94 : BitVec 1 := Scalar.cmpi .sgt c4_i32_96 c0_i32_99
  let v95 : BitVec 32 := Scalar.extui v94
  let c0_i32_100 : BitVec 32 := 0#32
  let v96 : BitVec 1 := Scalar.cmpi .slt c4_i32_96 c0_i32_100
  let v97 : BitVec 32 := Scalar.extui v96
  let v98 : BitVec 32 := Scalar.subi v95 v97
  let v99 : BitVec 1 := Scalar.cmpi .ne v93 v98
  let v100 : BitVec 32 := Scalar.remsi v87 c4_i32_96
  let c0_i32_101 : BitVec 32 := 0#32
  let v101 : BitVec 1 := Scalar.cmpi .ne v100 c0_i32_101
  let v102 : BitVec 1 := Scalar.andi v99 v101
  let v88 : BitVec 32 := Scalar.divsi v87 c4_i32_96
  let c1_i32_102 : BitVec 32 := 1#32
  let v103 : BitVec 32 := Scalar.subi v88 c1_i32_102
  let v104 : BitVec 32 := Scalar.select v102 v103 v88
  let c4096_i32_104 : BitVec 32 := 4096#32
  let v107 : BitVec 32 := Scalar.muli v104 c4096_i32_104
  let c4_i32_103 : BitVec 32 := 4#32
  let v105 : BitVec 32 := Scalar.muli v104 c4_i32_103
  let v106 : BitVec 32 := Scalar.subi v87 v105
  let c256_i32_105 : BitVec 32 := 256#32
  let v108 : BitVec 32 := Scalar.muli v106 c256_i32_105
  let v109 : BitVec 32 := Scalar.addi v107 v108
  let v141 : BitVec 32 := Scalar.addi v109 c1024_i32_120
  let v142 : Index := Scalar.indexCast v141
  let c0_121 : Index := 0#32
  ![v142.toNat, 0]
def k0_off60 (k0_t11 : Fin k0_t11_loop.trips) : Fin 2 → Nat :=
  let c2_i32_94 : BitVec 32 := 2#32
  let c0_i32_48 : BitVec 32 := 0#32
  let c1_i32_50 : BitVec 32 := 1#32
  let arg7 : BitVec 32 := Scf.iv c0_i32_48 c1_i32_50 k0_t11
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c4_i32_96 : BitVec 32 := 4#32
  let c0_i32_99 : BitVec 32 := 0#32
  let v94 : BitVec 1 := Scalar.cmpi .sgt c4_i32_96 c0_i32_99
  let v95 : BitVec 32 := Scalar.extui v94
  let c0_i32_100 : BitVec 32 := 0#32
  let v96 : BitVec 1 := Scalar.cmpi .slt c4_i32_96 c0_i32_100
  let v97 : BitVec 32 := Scalar.extui v96
  let v98 : BitVec 32 := Scalar.subi v95 v97
  let v99 : BitVec 1 := Scalar.cmpi .ne v93 v98
  let v100 : BitVec 32 := Scalar.remsi v87 c4_i32_96
  let c0_i32_101 : BitVec 32 := 0#32
  let v101 : BitVec 1 := Scalar.cmpi .ne v100 c0_i32_101
  let v102 : BitVec 1 := Scalar.andi v99 v101
  let v88 : BitVec 32 := Scalar.divsi v87 c4_i32_96
  let c1_i32_102 : BitVec 32 := 1#32
  let v103 : BitVec 32 := Scalar.subi v88 c1_i32_102
  let v104 : BitVec 32 := Scalar.select v102 v103 v88
  let c4096_i32_104 : BitVec 32 := 4096#32
  let v107 : BitVec 32 := Scalar.muli v104 c4096_i32_104
  let c4_i32_103 : BitVec 32 := 4#32
  let v105 : BitVec 32 := Scalar.muli v104 c4_i32_103
  let v106 : BitVec 32 := Scalar.subi v87 v105
  let c256_i32_105 : BitVec 32 := 256#32
  let v108 : BitVec 32 := Scalar.muli v106 c256_i32_105
  let v109 : BitVec 32 := Scalar.addi v107 v108
  let c2048_i32_124 : BitVec 32 := 2048#32
  let v151 : BitVec 32 := Scalar.addi v109 c2048_i32_124
  let c1024_i32_125 : BitVec 32 := 1024#32
  let v152 : BitVec 32 := Scalar.addi v151 c1024_i32_125
  let v153 : Index := Scalar.indexCast v152
  let c0_126 : Index := 0#32
  ![v153.toNat, 0]
def k0_cond12 (k0_t11 : Fin k0_t11_loop.trips) : BitVec 1 :=
  let c2_i32_94 : BitVec 32 := 2#32
  let c0_i32_48 : BitVec 32 := 0#32
  let c1_i32_50 : BitVec 32 := 1#32
  let arg7 : BitVec 32 := Scf.iv c0_i32_48 c1_i32_50 k0_t11
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c4_i32_96 : BitVec 32 := 4#32
  let c0_i32_99 : BitVec 32 := 0#32
  let v94 : BitVec 1 := Scalar.cmpi .sgt c4_i32_96 c0_i32_99
  let v95 : BitVec 32 := Scalar.extui v94
  let c0_i32_100 : BitVec 32 := 0#32
  let v96 : BitVec 1 := Scalar.cmpi .slt c4_i32_96 c0_i32_100
  let v97 : BitVec 32 := Scalar.extui v96
  let v98 : BitVec 32 := Scalar.subi v95 v97
  let v99 : BitVec 1 := Scalar.cmpi .ne v93 v98
  let v100 : BitVec 32 := Scalar.remsi v87 c4_i32_96
  let c0_i32_101 : BitVec 32 := 0#32
  let v101 : BitVec 1 := Scalar.cmpi .ne v100 c0_i32_101
  let v102 : BitVec 1 := Scalar.andi v99 v101
  let v88 : BitVec 32 := Scalar.divsi v87 c4_i32_96
  let c1_i32_102 : BitVec 32 := 1#32
  let v103 : BitVec 32 := Scalar.subi v88 c1_i32_102
  let v104 : BitVec 32 := Scalar.select v102 v103 v88
  let c4096_i32_104 : BitVec 32 := 4096#32
  let v107 : BitVec 32 := Scalar.muli v104 c4096_i32_104
  let c4_i32_103 : BitVec 32 := 4#32
  let v105 : BitVec 32 := Scalar.muli v104 c4_i32_103
  let v106 : BitVec 32 := Scalar.subi v87 v105
  let c256_i32_105 : BitVec 32 := 256#32
  let v108 : BitVec 32 := Scalar.muli v106 c256_i32_105
  let v109 : BitVec 32 := Scalar.addi v107 v108
  let c4096_i32_114 : BitVec 32 := 4096#32
  let v130 : BitVec 32 := Scalar.andi v109 c4096_i32_114
  let c0_i32_115 : BitVec 32 := 0#32
  let v131 : BitVec 1 := Scalar.cmpi .eq v130 c0_i32_115
  let true_117 : BitVec 1 := 1#1
  let v134 : BitVec 1 := Scalar.xori v131 true_117
  let v135 : BitVec 32 := Scalar.extui v134
  let c0_i32_118 : BitVec 32 := 0#32
  let v136 : BitVec 1 := Scalar.cmpi .ne v135 c0_i32_118
  v136

def k0_off61 (k0_t11 : Fin k0_t11_loop.trips) : Fin 2 → Nat :=
  let c2_i32_94 : BitVec 32 := 2#32
  let c0_i32_48 : BitVec 32 := 0#32
  let c1_i32_50 : BitVec 32 := 1#32
  let arg7 : BitVec 32 := Scf.iv c0_i32_48 c1_i32_50 k0_t11
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c4_i32_96 : BitVec 32 := 4#32
  let c0_i32_99 : BitVec 32 := 0#32
  let v94 : BitVec 1 := Scalar.cmpi .sgt c4_i32_96 c0_i32_99
  let v95 : BitVec 32 := Scalar.extui v94
  let c0_i32_100 : BitVec 32 := 0#32
  let v96 : BitVec 1 := Scalar.cmpi .slt c4_i32_96 c0_i32_100
  let v97 : BitVec 32 := Scalar.extui v96
  let v98 : BitVec 32 := Scalar.subi v95 v97
  let v99 : BitVec 1 := Scalar.cmpi .ne v93 v98
  let v100 : BitVec 32 := Scalar.remsi v87 c4_i32_96
  let c0_i32_101 : BitVec 32 := 0#32
  let v101 : BitVec 1 := Scalar.cmpi .ne v100 c0_i32_101
  let v102 : BitVec 1 := Scalar.andi v99 v101
  let v88 : BitVec 32 := Scalar.divsi v87 c4_i32_96
  let c1_i32_102 : BitVec 32 := 1#32
  let v103 : BitVec 32 := Scalar.subi v88 c1_i32_102
  let v104 : BitVec 32 := Scalar.select v102 v103 v88
  let c4096_i32_104 : BitVec 32 := 4096#32
  let v107 : BitVec 32 := Scalar.muli v104 c4096_i32_104
  let c4_i32_103 : BitVec 32 := 4#32
  let v105 : BitVec 32 := Scalar.muli v104 c4_i32_103
  let v106 : BitVec 32 := Scalar.subi v87 v105
  let c256_i32_105 : BitVec 32 := 256#32
  let v108 : BitVec 32 := Scalar.muli v106 c256_i32_105
  let v109 : BitVec 32 := Scalar.addi v107 v108
  let v137 : Index := Scalar.indexCast v109
  let c0_119 : Index := 0#32
  ![v137.toNat, 0]
def k0_off62 (k0_t11 : Fin k0_t11_loop.trips) (c1024_i32_120 : BitVec 32) : Fin 2 → Nat :=
  let c2_i32_94 : BitVec 32 := 2#32
  let c0_i32_48 : BitVec 32 := 0#32
  let c1_i32_50 : BitVec 32 := 1#32
  let arg7 : BitVec 32 := Scf.iv c0_i32_48 c1_i32_50 k0_t11
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c4_i32_96 : BitVec 32 := 4#32
  let c0_i32_99 : BitVec 32 := 0#32
  let v94 : BitVec 1 := Scalar.cmpi .sgt c4_i32_96 c0_i32_99
  let v95 : BitVec 32 := Scalar.extui v94
  let c0_i32_100 : BitVec 32 := 0#32
  let v96 : BitVec 1 := Scalar.cmpi .slt c4_i32_96 c0_i32_100
  let v97 : BitVec 32 := Scalar.extui v96
  let v98 : BitVec 32 := Scalar.subi v95 v97
  let v99 : BitVec 1 := Scalar.cmpi .ne v93 v98
  let v100 : BitVec 32 := Scalar.remsi v87 c4_i32_96
  let c0_i32_101 : BitVec 32 := 0#32
  let v101 : BitVec 1 := Scalar.cmpi .ne v100 c0_i32_101
  let v102 : BitVec 1 := Scalar.andi v99 v101
  let v88 : BitVec 32 := Scalar.divsi v87 c4_i32_96
  let c1_i32_102 : BitVec 32 := 1#32
  let v103 : BitVec 32 := Scalar.subi v88 c1_i32_102
  let v104 : BitVec 32 := Scalar.select v102 v103 v88
  let c4096_i32_104 : BitVec 32 := 4096#32
  let v107 : BitVec 32 := Scalar.muli v104 c4096_i32_104
  let c4_i32_103 : BitVec 32 := 4#32
  let v105 : BitVec 32 := Scalar.muli v104 c4_i32_103
  let v106 : BitVec 32 := Scalar.subi v87 v105
  let c256_i32_105 : BitVec 32 := 256#32
  let v108 : BitVec 32 := Scalar.muli v106 c256_i32_105
  let v109 : BitVec 32 := Scalar.addi v107 v108
  let v141 : BitVec 32 := Scalar.addi v109 c1024_i32_120
  let v142 : Index := Scalar.indexCast v141
  let c0_121 : Index := 0#32
  ![v142.toNat, 0]
def k0_off63 (k0_t11 : Fin k0_t11_loop.trips) : Fin 2 → Nat :=
  let c2_i32_94 : BitVec 32 := 2#32
  let c0_i32_48 : BitVec 32 := 0#32
  let c1_i32_50 : BitVec 32 := 1#32
  let arg7 : BitVec 32 := Scf.iv c0_i32_48 c1_i32_50 k0_t11
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c4_i32_96 : BitVec 32 := 4#32
  let c0_i32_99 : BitVec 32 := 0#32
  let v94 : BitVec 1 := Scalar.cmpi .sgt c4_i32_96 c0_i32_99
  let v95 : BitVec 32 := Scalar.extui v94
  let c0_i32_100 : BitVec 32 := 0#32
  let v96 : BitVec 1 := Scalar.cmpi .slt c4_i32_96 c0_i32_100
  let v97 : BitVec 32 := Scalar.extui v96
  let v98 : BitVec 32 := Scalar.subi v95 v97
  let v99 : BitVec 1 := Scalar.cmpi .ne v93 v98
  let v100 : BitVec 32 := Scalar.remsi v87 c4_i32_96
  let c0_i32_101 : BitVec 32 := 0#32
  let v101 : BitVec 1 := Scalar.cmpi .ne v100 c0_i32_101
  let v102 : BitVec 1 := Scalar.andi v99 v101
  let v88 : BitVec 32 := Scalar.divsi v87 c4_i32_96
  let c1_i32_102 : BitVec 32 := 1#32
  let v103 : BitVec 32 := Scalar.subi v88 c1_i32_102
  let v104 : BitVec 32 := Scalar.select v102 v103 v88
  let c4096_i32_104 : BitVec 32 := 4096#32
  let v107 : BitVec 32 := Scalar.muli v104 c4096_i32_104
  let c4_i32_103 : BitVec 32 := 4#32
  let v105 : BitVec 32 := Scalar.muli v104 c4_i32_103
  let v106 : BitVec 32 := Scalar.subi v87 v105
  let c256_i32_105 : BitVec 32 := 256#32
  let v108 : BitVec 32 := Scalar.muli v106 c256_i32_105
  let v109 : BitVec 32 := Scalar.addi v107 v108
  let c2048_i32_124 : BitVec 32 := 2048#32
  let v151 : BitVec 32 := Scalar.addi v109 c2048_i32_124
  let c1024_i32_125 : BitVec 32 := 1024#32
  let v152 : BitVec 32 := Scalar.addi v151 c1024_i32_125
  let v153 : Index := Scalar.indexCast v152
  let c0_126 : Index := 0#32
  ![v153.toNat, 0]
@[reducible] def k0_t12_loop : Scf.Loop 32 :=
  let c0_i32_52 : BitVec 32 := 0#32
  let c8_i32_53 : BitVec 32 := 8#32
  let v30 : BitVec 32 := Scalar.addi c0_i32_52 c8_i32_53
  let c1_i32_54 : BitVec 32 := 1#32
  ⟨c0_i32_52, v30, c1_i32_54⟩
def k0_off64 (k0_t12 : Fin k0_t12_loop.trips) : Fin 2 → Nat :=
  let c2_i32 : BitVec 32 := 2#32
  let c0_i32_52 : BitVec 32 := 0#32
  let c1_i32_54 : BitVec 32 := 1#32
  let arg7 : BitVec 32 := Scf.iv c0_i32_52 c1_i32_54 k0_t12
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c1024_i32 : BitVec 32 := 1024#32
  let v56 : BitVec 32 := Scalar.muli v53 c1024_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let v59 : Index := Scalar.indexCast v58
  let c0_84 : Index := 0#32
  ![v59.toNat, 0]
def k0_off65 (k0_t12 : Fin k0_t12_loop.trips) : Fin 2 → Nat :=
  let c2_i32 : BitVec 32 := 2#32
  let c0_i32_52 : BitVec 32 := 0#32
  let c1_i32_54 : BitVec 32 := 1#32
  let arg7 : BitVec 32 := Scf.iv c0_i32_52 c1_i32_54 k0_t12
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c1024_i32 : BitVec 32 := 1024#32
  let v56 : BitVec 32 := Scalar.muli v53 c1024_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let c512_i32 : BitVec 32 := 512#32
  let v61 : BitVec 32 := Scalar.addi v58 c512_i32
  let v62 : Index := Scalar.indexCast v61
  let c0_85 : Index := 0#32
  ![v62.toNat, 0]
def k0_cond13 (k0_t12 : Fin k0_t12_loop.trips) : BitVec 1 :=
  let c2_i32 : BitVec 32 := 2#32
  let c0_i32_52 : BitVec 32 := 0#32
  let c1_i32_54 : BitVec 32 := 1#32
  let arg7 : BitVec 32 := Scf.iv c0_i32_52 c1_i32_54 k0_t12
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c1024_i32 : BitVec 32 := 1024#32
  let v56 : BitVec 32 := Scalar.muli v53 c1024_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let c4096_i32 : BitVec 32 := 4096#32
  let v66 : BitVec 32 := Scalar.andi v58 c4096_i32
  let c0_i32_86 : BitVec 32 := 0#32
  let v67 : BitVec 1 := Scalar.cmpi .eq v66 c0_i32_86
  let v68 : BitVec 32 := Scalar.extui v67
  let c0_i32_87 : BitVec 32 := 0#32
  let v69 : BitVec 1 := Scalar.cmpi .ne v68 c0_i32_87
  v69

def k0_off66 (k0_t12 : Fin k0_t12_loop.trips) : Fin 2 → Nat :=
  let c2_i32 : BitVec 32 := 2#32
  let c0_i32_52 : BitVec 32 := 0#32
  let c1_i32_54 : BitVec 32 := 1#32
  let arg7 : BitVec 32 := Scf.iv c0_i32_52 c1_i32_54 k0_t12
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c1024_i32 : BitVec 32 := 1024#32
  let v56 : BitVec 32 := Scalar.muli v53 c1024_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let v111 : Index := Scalar.indexCast v58
  let c0_109 : Index := 0#32
  ![v111.toNat, 0]
def k0_off67 (k0_t12 : Fin k0_t12_loop.trips) : Fin 2 → Nat :=
  let c2_i32 : BitVec 32 := 2#32
  let c0_i32_52 : BitVec 32 := 0#32
  let c1_i32_54 : BitVec 32 := 1#32
  let arg7 : BitVec 32 := Scf.iv c0_i32_52 c1_i32_54 k0_t12
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c1024_i32 : BitVec 32 := 1024#32
  let v56 : BitVec 32 := Scalar.muli v53 c1024_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let c512_i32_110 : BitVec 32 := 512#32
  let v115 : BitVec 32 := Scalar.addi v58 c512_i32_110
  let v116 : Index := Scalar.indexCast v115
  let c0_111 : Index := 0#32
  ![v116.toNat, 0]
def k0_cond14 (k0_t12 : Fin k0_t12_loop.trips) : BitVec 1 :=
  let c2_i32 : BitVec 32 := 2#32
  let c0_i32_52 : BitVec 32 := 0#32
  let c1_i32_54 : BitVec 32 := 1#32
  let arg7 : BitVec 32 := Scf.iv c0_i32_52 c1_i32_54 k0_t12
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c1024_i32 : BitVec 32 := 1024#32
  let v56 : BitVec 32 := Scalar.muli v53 c1024_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let c4096_i32 : BitVec 32 := 4096#32
  let v66 : BitVec 32 := Scalar.andi v58 c4096_i32
  let c0_i32_86 : BitVec 32 := 0#32
  let v67 : BitVec 1 := Scalar.cmpi .eq v66 c0_i32_86
  let v_true : BitVec 1 := 1#1
  let v70 : BitVec 1 := Scalar.xori v67 v_true
  let v71 : BitVec 32 := Scalar.extui v70
  let c0_i32_88 : BitVec 32 := 0#32
  let v72 : BitVec 1 := Scalar.cmpi .ne v71 c0_i32_88
  v72

def k0_off68 (k0_t12 : Fin k0_t12_loop.trips) : Fin 2 → Nat :=
  let c2_i32 : BitVec 32 := 2#32
  let c0_i32_52 : BitVec 32 := 0#32
  let c1_i32_54 : BitVec 32 := 1#32
  let arg7 : BitVec 32 := Scf.iv c0_i32_52 c1_i32_54 k0_t12
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c1024_i32 : BitVec 32 := 1024#32
  let v56 : BitVec 32 := Scalar.muli v53 c1024_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let v111 : Index := Scalar.indexCast v58
  let c0_109 : Index := 0#32
  ![v111.toNat, 0]
def k0_off69 (k0_t12 : Fin k0_t12_loop.trips) : Fin 2 → Nat :=
  let c2_i32 : BitVec 32 := 2#32
  let c0_i32_52 : BitVec 32 := 0#32
  let c1_i32_54 : BitVec 32 := 1#32
  let arg7 : BitVec 32 := Scf.iv c0_i32_52 c1_i32_54 k0_t12
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c1024_i32 : BitVec 32 := 1024#32
  let v56 : BitVec 32 := Scalar.muli v53 c1024_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let c512_i32_110 : BitVec 32 := 512#32
  let v115 : BitVec 32 := Scalar.addi v58 c512_i32_110
  let v116 : Index := Scalar.indexCast v115
  let c0_111 : Index := 0#32
  ![v116.toNat, 0]
def k0_off70 (k0_t12 : Fin k0_t12_loop.trips) : Fin 2 → Nat :=
  let c2_i32_89 : BitVec 32 := 2#32
  let c0_i32_52 : BitVec 32 := 0#32
  let c1_i32_54 : BitVec 32 := 1#32
  let arg7 : BitVec 32 := Scf.iv c0_i32_52 c1_i32_54 k0_t12
  let v73 : BitVec 32 := Scalar.muli c2_i32_89 arg7
  let c1_i32_90 : BitVec 32 := 1#32
  let v74 : BitVec 32 := Scalar.addi v73 c1_i32_90
  let c0_i32_92 : BitVec 32 := 0#32
  let v76 : BitVec 1 := Scalar.cmpi .sgt v74 c0_i32_92
  let v77 : BitVec 32 := Scalar.extui v76
  let c0_i32_93 : BitVec 32 := 0#32
  let v78 : BitVec 1 := Scalar.cmpi .slt v74 c0_i32_93
  let v79 : BitVec 32 := Scalar.extui v78
  let v80 : BitVec 32 := Scalar.subi v77 v79
  let c2_i32_91 : BitVec 32 := 2#32
  let c0_i32_94 : BitVec 32 := 0#32
  let v81 : BitVec 1 := Scalar.cmpi .sgt c2_i32_91 c0_i32_94
  let v82 : BitVec 32 := Scalar.extui v81
  let c0_i32_95 : BitVec 32 := 0#32
  let v83 : BitVec 1 := Scalar.cmpi .slt c2_i32_91 c0_i32_95
  let v84 : BitVec 32 := Scalar.extui v83
  let v85 : BitVec 32 := Scalar.subi v82 v84
  let v86 : BitVec 1 := Scalar.cmpi .ne v80 v85
  let v87 : BitVec 32 := Scalar.remsi v74 c2_i32_91
  let c0_i32_96 : BitVec 32 := 0#32
  let v88 : BitVec 1 := Scalar.cmpi .ne v87 c0_i32_96
  let v89 : BitVec 1 := Scalar.andi v86 v88
  let v75 : BitVec 32 := Scalar.divsi v74 c2_i32_91
  let c1_i32_97 : BitVec 32 := 1#32
  let v90 : BitVec 32 := Scalar.subi v75 c1_i32_97
  let v91 : BitVec 32 := Scalar.select v89 v90 v75
  let c1024_i32_99 : BitVec 32 := 1024#32
  let v94 : BitVec 32 := Scalar.muli v91 c1024_i32_99
  let c2_i32_98 : BitVec 32 := 2#32
  let v92 : BitVec 32 := Scalar.muli v91 c2_i32_98
  let v93 : BitVec 32 := Scalar.subi v74 v92
  let c256_i32_100 : BitVec 32 := 256#32
  let v95 : BitVec 32 := Scalar.muli v93 c256_i32_100
  let v96 : BitVec 32 := Scalar.addi v94 v95
  let v97 : Index := Scalar.indexCast v96
  let c0_101 : Index := 0#32
  ![v97.toNat, 0]
def k0_off71 (k0_t12 : Fin k0_t12_loop.trips) : Fin 2 → Nat :=
  let c2_i32_89 : BitVec 32 := 2#32
  let c0_i32_52 : BitVec 32 := 0#32
  let c1_i32_54 : BitVec 32 := 1#32
  let arg7 : BitVec 32 := Scf.iv c0_i32_52 c1_i32_54 k0_t12
  let v73 : BitVec 32 := Scalar.muli c2_i32_89 arg7
  let c1_i32_90 : BitVec 32 := 1#32
  let v74 : BitVec 32 := Scalar.addi v73 c1_i32_90
  let c0_i32_92 : BitVec 32 := 0#32
  let v76 : BitVec 1 := Scalar.cmpi .sgt v74 c0_i32_92
  let v77 : BitVec 32 := Scalar.extui v76
  let c0_i32_93 : BitVec 32 := 0#32
  let v78 : BitVec 1 := Scalar.cmpi .slt v74 c0_i32_93
  let v79 : BitVec 32 := Scalar.extui v78
  let v80 : BitVec 32 := Scalar.subi v77 v79
  let c2_i32_91 : BitVec 32 := 2#32
  let c0_i32_94 : BitVec 32 := 0#32
  let v81 : BitVec 1 := Scalar.cmpi .sgt c2_i32_91 c0_i32_94
  let v82 : BitVec 32 := Scalar.extui v81
  let c0_i32_95 : BitVec 32 := 0#32
  let v83 : BitVec 1 := Scalar.cmpi .slt c2_i32_91 c0_i32_95
  let v84 : BitVec 32 := Scalar.extui v83
  let v85 : BitVec 32 := Scalar.subi v82 v84
  let v86 : BitVec 1 := Scalar.cmpi .ne v80 v85
  let v87 : BitVec 32 := Scalar.remsi v74 c2_i32_91
  let c0_i32_96 : BitVec 32 := 0#32
  let v88 : BitVec 1 := Scalar.cmpi .ne v87 c0_i32_96
  let v89 : BitVec 1 := Scalar.andi v86 v88
  let v75 : BitVec 32 := Scalar.divsi v74 c2_i32_91
  let c1_i32_97 : BitVec 32 := 1#32
  let v90 : BitVec 32 := Scalar.subi v75 c1_i32_97
  let v91 : BitVec 32 := Scalar.select v89 v90 v75
  let c1024_i32_99 : BitVec 32 := 1024#32
  let v94 : BitVec 32 := Scalar.muli v91 c1024_i32_99
  let c2_i32_98 : BitVec 32 := 2#32
  let v92 : BitVec 32 := Scalar.muli v91 c2_i32_98
  let v93 : BitVec 32 := Scalar.subi v74 v92
  let c256_i32_100 : BitVec 32 := 256#32
  let v95 : BitVec 32 := Scalar.muli v93 c256_i32_100
  let v96 : BitVec 32 := Scalar.addi v94 v95
  let c512_i32_102 : BitVec 32 := 512#32
  let v99 : BitVec 32 := Scalar.addi v96 c512_i32_102
  let v100 : Index := Scalar.indexCast v99
  let c0_103 : Index := 0#32
  ![v100.toNat, 0]
def k0_cond15 (k0_t12 : Fin k0_t12_loop.trips) : BitVec 1 :=
  let c2_i32_89 : BitVec 32 := 2#32
  let c0_i32_52 : BitVec 32 := 0#32
  let c1_i32_54 : BitVec 32 := 1#32
  let arg7 : BitVec 32 := Scf.iv c0_i32_52 c1_i32_54 k0_t12
  let v73 : BitVec 32 := Scalar.muli c2_i32_89 arg7
  let c1_i32_90 : BitVec 32 := 1#32
  let v74 : BitVec 32 := Scalar.addi v73 c1_i32_90
  let c0_i32_92 : BitVec 32 := 0#32
  let v76 : BitVec 1 := Scalar.cmpi .sgt v74 c0_i32_92
  let v77 : BitVec 32 := Scalar.extui v76
  let c0_i32_93 : BitVec 32 := 0#32
  let v78 : BitVec 1 := Scalar.cmpi .slt v74 c0_i32_93
  let v79 : BitVec 32 := Scalar.extui v78
  let v80 : BitVec 32 := Scalar.subi v77 v79
  let c2_i32_91 : BitVec 32 := 2#32
  let c0_i32_94 : BitVec 32 := 0#32
  let v81 : BitVec 1 := Scalar.cmpi .sgt c2_i32_91 c0_i32_94
  let v82 : BitVec 32 := Scalar.extui v81
  let c0_i32_95 : BitVec 32 := 0#32
  let v83 : BitVec 1 := Scalar.cmpi .slt c2_i32_91 c0_i32_95
  let v84 : BitVec 32 := Scalar.extui v83
  let v85 : BitVec 32 := Scalar.subi v82 v84
  let v86 : BitVec 1 := Scalar.cmpi .ne v80 v85
  let v87 : BitVec 32 := Scalar.remsi v74 c2_i32_91
  let c0_i32_96 : BitVec 32 := 0#32
  let v88 : BitVec 1 := Scalar.cmpi .ne v87 c0_i32_96
  let v89 : BitVec 1 := Scalar.andi v86 v88
  let v75 : BitVec 32 := Scalar.divsi v74 c2_i32_91
  let c1_i32_97 : BitVec 32 := 1#32
  let v90 : BitVec 32 := Scalar.subi v75 c1_i32_97
  let v91 : BitVec 32 := Scalar.select v89 v90 v75
  let c1024_i32_99 : BitVec 32 := 1024#32
  let v94 : BitVec 32 := Scalar.muli v91 c1024_i32_99
  let c2_i32_98 : BitVec 32 := 2#32
  let v92 : BitVec 32 := Scalar.muli v91 c2_i32_98
  let v93 : BitVec 32 := Scalar.subi v74 v92
  let c256_i32_100 : BitVec 32 := 256#32
  let v95 : BitVec 32 := Scalar.muli v93 c256_i32_100
  let v96 : BitVec 32 := Scalar.addi v94 v95
  let c4096_i32_104 : BitVec 32 := 4096#32
  let v104 : BitVec 32 := Scalar.andi v96 c4096_i32_104
  let c0_i32_105 : BitVec 32 := 0#32
  let v105 : BitVec 1 := Scalar.cmpi .eq v104 c0_i32_105
  let v106 : BitVec 32 := Scalar.extui v105
  let c0_i32_106 : BitVec 32 := 0#32
  let v107 : BitVec 1 := Scalar.cmpi .ne v106 c0_i32_106
  v107

def k0_off72 (k0_t12 : Fin k0_t12_loop.trips) : Fin 2 → Nat :=
  let c2_i32_89 : BitVec 32 := 2#32
  let c0_i32_52 : BitVec 32 := 0#32
  let c1_i32_54 : BitVec 32 := 1#32
  let arg7 : BitVec 32 := Scf.iv c0_i32_52 c1_i32_54 k0_t12
  let v73 : BitVec 32 := Scalar.muli c2_i32_89 arg7
  let c1_i32_90 : BitVec 32 := 1#32
  let v74 : BitVec 32 := Scalar.addi v73 c1_i32_90
  let c0_i32_92 : BitVec 32 := 0#32
  let v76 : BitVec 1 := Scalar.cmpi .sgt v74 c0_i32_92
  let v77 : BitVec 32 := Scalar.extui v76
  let c0_i32_93 : BitVec 32 := 0#32
  let v78 : BitVec 1 := Scalar.cmpi .slt v74 c0_i32_93
  let v79 : BitVec 32 := Scalar.extui v78
  let v80 : BitVec 32 := Scalar.subi v77 v79
  let c2_i32_91 : BitVec 32 := 2#32
  let c0_i32_94 : BitVec 32 := 0#32
  let v81 : BitVec 1 := Scalar.cmpi .sgt c2_i32_91 c0_i32_94
  let v82 : BitVec 32 := Scalar.extui v81
  let c0_i32_95 : BitVec 32 := 0#32
  let v83 : BitVec 1 := Scalar.cmpi .slt c2_i32_91 c0_i32_95
  let v84 : BitVec 32 := Scalar.extui v83
  let v85 : BitVec 32 := Scalar.subi v82 v84
  let v86 : BitVec 1 := Scalar.cmpi .ne v80 v85
  let v87 : BitVec 32 := Scalar.remsi v74 c2_i32_91
  let c0_i32_96 : BitVec 32 := 0#32
  let v88 : BitVec 1 := Scalar.cmpi .ne v87 c0_i32_96
  let v89 : BitVec 1 := Scalar.andi v86 v88
  let v75 : BitVec 32 := Scalar.divsi v74 c2_i32_91
  let c1_i32_97 : BitVec 32 := 1#32
  let v90 : BitVec 32 := Scalar.subi v75 c1_i32_97
  let v91 : BitVec 32 := Scalar.select v89 v90 v75
  let c1024_i32_99 : BitVec 32 := 1024#32
  let v94 : BitVec 32 := Scalar.muli v91 c1024_i32_99
  let c2_i32_98 : BitVec 32 := 2#32
  let v92 : BitVec 32 := Scalar.muli v91 c2_i32_98
  let v93 : BitVec 32 := Scalar.subi v74 v92
  let c256_i32_100 : BitVec 32 := 256#32
  let v95 : BitVec 32 := Scalar.muli v93 c256_i32_100
  let v96 : BitVec 32 := Scalar.addi v94 v95
  let v111 : Index := Scalar.indexCast v96
  let c0_109 : Index := 0#32
  ![v111.toNat, 0]
def k0_off73 (k0_t12 : Fin k0_t12_loop.trips) : Fin 2 → Nat :=
  let c2_i32_89 : BitVec 32 := 2#32
  let c0_i32_52 : BitVec 32 := 0#32
  let c1_i32_54 : BitVec 32 := 1#32
  let arg7 : BitVec 32 := Scf.iv c0_i32_52 c1_i32_54 k0_t12
  let v73 : BitVec 32 := Scalar.muli c2_i32_89 arg7
  let c1_i32_90 : BitVec 32 := 1#32
  let v74 : BitVec 32 := Scalar.addi v73 c1_i32_90
  let c0_i32_92 : BitVec 32 := 0#32
  let v76 : BitVec 1 := Scalar.cmpi .sgt v74 c0_i32_92
  let v77 : BitVec 32 := Scalar.extui v76
  let c0_i32_93 : BitVec 32 := 0#32
  let v78 : BitVec 1 := Scalar.cmpi .slt v74 c0_i32_93
  let v79 : BitVec 32 := Scalar.extui v78
  let v80 : BitVec 32 := Scalar.subi v77 v79
  let c2_i32_91 : BitVec 32 := 2#32
  let c0_i32_94 : BitVec 32 := 0#32
  let v81 : BitVec 1 := Scalar.cmpi .sgt c2_i32_91 c0_i32_94
  let v82 : BitVec 32 := Scalar.extui v81
  let c0_i32_95 : BitVec 32 := 0#32
  let v83 : BitVec 1 := Scalar.cmpi .slt c2_i32_91 c0_i32_95
  let v84 : BitVec 32 := Scalar.extui v83
  let v85 : BitVec 32 := Scalar.subi v82 v84
  let v86 : BitVec 1 := Scalar.cmpi .ne v80 v85
  let v87 : BitVec 32 := Scalar.remsi v74 c2_i32_91
  let c0_i32_96 : BitVec 32 := 0#32
  let v88 : BitVec 1 := Scalar.cmpi .ne v87 c0_i32_96
  let v89 : BitVec 1 := Scalar.andi v86 v88
  let v75 : BitVec 32 := Scalar.divsi v74 c2_i32_91
  let c1_i32_97 : BitVec 32 := 1#32
  let v90 : BitVec 32 := Scalar.subi v75 c1_i32_97
  let v91 : BitVec 32 := Scalar.select v89 v90 v75
  let c1024_i32_99 : BitVec 32 := 1024#32
  let v94 : BitVec 32 := Scalar.muli v91 c1024_i32_99
  let c2_i32_98 : BitVec 32 := 2#32
  let v92 : BitVec 32 := Scalar.muli v91 c2_i32_98
  let v93 : BitVec 32 := Scalar.subi v74 v92
  let c256_i32_100 : BitVec 32 := 256#32
  let v95 : BitVec 32 := Scalar.muli v93 c256_i32_100
  let v96 : BitVec 32 := Scalar.addi v94 v95
  let c512_i32_110 : BitVec 32 := 512#32
  let v115 : BitVec 32 := Scalar.addi v96 c512_i32_110
  let v116 : Index := Scalar.indexCast v115
  let c0_111 : Index := 0#32
  ![v116.toNat, 0]
def k0_cond16 (k0_t12 : Fin k0_t12_loop.trips) : BitVec 1 :=
  let c2_i32_89 : BitVec 32 := 2#32
  let c0_i32_52 : BitVec 32 := 0#32
  let c1_i32_54 : BitVec 32 := 1#32
  let arg7 : BitVec 32 := Scf.iv c0_i32_52 c1_i32_54 k0_t12
  let v73 : BitVec 32 := Scalar.muli c2_i32_89 arg7
  let c1_i32_90 : BitVec 32 := 1#32
  let v74 : BitVec 32 := Scalar.addi v73 c1_i32_90
  let c0_i32_92 : BitVec 32 := 0#32
  let v76 : BitVec 1 := Scalar.cmpi .sgt v74 c0_i32_92
  let v77 : BitVec 32 := Scalar.extui v76
  let c0_i32_93 : BitVec 32 := 0#32
  let v78 : BitVec 1 := Scalar.cmpi .slt v74 c0_i32_93
  let v79 : BitVec 32 := Scalar.extui v78
  let v80 : BitVec 32 := Scalar.subi v77 v79
  let c2_i32_91 : BitVec 32 := 2#32
  let c0_i32_94 : BitVec 32 := 0#32
  let v81 : BitVec 1 := Scalar.cmpi .sgt c2_i32_91 c0_i32_94
  let v82 : BitVec 32 := Scalar.extui v81
  let c0_i32_95 : BitVec 32 := 0#32
  let v83 : BitVec 1 := Scalar.cmpi .slt c2_i32_91 c0_i32_95
  let v84 : BitVec 32 := Scalar.extui v83
  let v85 : BitVec 32 := Scalar.subi v82 v84
  let v86 : BitVec 1 := Scalar.cmpi .ne v80 v85
  let v87 : BitVec 32 := Scalar.remsi v74 c2_i32_91
  let c0_i32_96 : BitVec 32 := 0#32
  let v88 : BitVec 1 := Scalar.cmpi .ne v87 c0_i32_96
  let v89 : BitVec 1 := Scalar.andi v86 v88
  let v75 : BitVec 32 := Scalar.divsi v74 c2_i32_91
  let c1_i32_97 : BitVec 32 := 1#32
  let v90 : BitVec 32 := Scalar.subi v75 c1_i32_97
  let v91 : BitVec 32 := Scalar.select v89 v90 v75
  let c1024_i32_99 : BitVec 32 := 1024#32
  let v94 : BitVec 32 := Scalar.muli v91 c1024_i32_99
  let c2_i32_98 : BitVec 32 := 2#32
  let v92 : BitVec 32 := Scalar.muli v91 c2_i32_98
  let v93 : BitVec 32 := Scalar.subi v74 v92
  let c256_i32_100 : BitVec 32 := 256#32
  let v95 : BitVec 32 := Scalar.muli v93 c256_i32_100
  let v96 : BitVec 32 := Scalar.addi v94 v95
  let c4096_i32_104 : BitVec 32 := 4096#32
  let v104 : BitVec 32 := Scalar.andi v96 c4096_i32_104
  let c0_i32_105 : BitVec 32 := 0#32
  let v105 : BitVec 1 := Scalar.cmpi .eq v104 c0_i32_105
  let true_107 : BitVec 1 := 1#1
  let v108 : BitVec 1 := Scalar.xori v105 true_107
  let v109 : BitVec 32 := Scalar.extui v108
  let c0_i32_108 : BitVec 32 := 0#32
  let v110 : BitVec 1 := Scalar.cmpi .ne v109 c0_i32_108
  v110

def k0_off74 (k0_t12 : Fin k0_t12_loop.trips) : Fin 2 → Nat :=
  let c2_i32_89 : BitVec 32 := 2#32
  let c0_i32_52 : BitVec 32 := 0#32
  let c1_i32_54 : BitVec 32 := 1#32
  let arg7 : BitVec 32 := Scf.iv c0_i32_52 c1_i32_54 k0_t12
  let v73 : BitVec 32 := Scalar.muli c2_i32_89 arg7
  let c1_i32_90 : BitVec 32 := 1#32
  let v74 : BitVec 32 := Scalar.addi v73 c1_i32_90
  let c0_i32_92 : BitVec 32 := 0#32
  let v76 : BitVec 1 := Scalar.cmpi .sgt v74 c0_i32_92
  let v77 : BitVec 32 := Scalar.extui v76
  let c0_i32_93 : BitVec 32 := 0#32
  let v78 : BitVec 1 := Scalar.cmpi .slt v74 c0_i32_93
  let v79 : BitVec 32 := Scalar.extui v78
  let v80 : BitVec 32 := Scalar.subi v77 v79
  let c2_i32_91 : BitVec 32 := 2#32
  let c0_i32_94 : BitVec 32 := 0#32
  let v81 : BitVec 1 := Scalar.cmpi .sgt c2_i32_91 c0_i32_94
  let v82 : BitVec 32 := Scalar.extui v81
  let c0_i32_95 : BitVec 32 := 0#32
  let v83 : BitVec 1 := Scalar.cmpi .slt c2_i32_91 c0_i32_95
  let v84 : BitVec 32 := Scalar.extui v83
  let v85 : BitVec 32 := Scalar.subi v82 v84
  let v86 : BitVec 1 := Scalar.cmpi .ne v80 v85
  let v87 : BitVec 32 := Scalar.remsi v74 c2_i32_91
  let c0_i32_96 : BitVec 32 := 0#32
  let v88 : BitVec 1 := Scalar.cmpi .ne v87 c0_i32_96
  let v89 : BitVec 1 := Scalar.andi v86 v88
  let v75 : BitVec 32 := Scalar.divsi v74 c2_i32_91
  let c1_i32_97 : BitVec 32 := 1#32
  let v90 : BitVec 32 := Scalar.subi v75 c1_i32_97
  let v91 : BitVec 32 := Scalar.select v89 v90 v75
  let c1024_i32_99 : BitVec 32 := 1024#32
  let v94 : BitVec 32 := Scalar.muli v91 c1024_i32_99
  let c2_i32_98 : BitVec 32 := 2#32
  let v92 : BitVec 32 := Scalar.muli v91 c2_i32_98
  let v93 : BitVec 32 := Scalar.subi v74 v92
  let c256_i32_100 : BitVec 32 := 256#32
  let v95 : BitVec 32 := Scalar.muli v93 c256_i32_100
  let v96 : BitVec 32 := Scalar.addi v94 v95
  let v111 : Index := Scalar.indexCast v96
  let c0_109 : Index := 0#32
  ![v111.toNat, 0]
def k0_off75 (k0_t12 : Fin k0_t12_loop.trips) : Fin 2 → Nat :=
  let c2_i32_89 : BitVec 32 := 2#32
  let c0_i32_52 : BitVec 32 := 0#32
  let c1_i32_54 : BitVec 32 := 1#32
  let arg7 : BitVec 32 := Scf.iv c0_i32_52 c1_i32_54 k0_t12
  let v73 : BitVec 32 := Scalar.muli c2_i32_89 arg7
  let c1_i32_90 : BitVec 32 := 1#32
  let v74 : BitVec 32 := Scalar.addi v73 c1_i32_90
  let c0_i32_92 : BitVec 32 := 0#32
  let v76 : BitVec 1 := Scalar.cmpi .sgt v74 c0_i32_92
  let v77 : BitVec 32 := Scalar.extui v76
  let c0_i32_93 : BitVec 32 := 0#32
  let v78 : BitVec 1 := Scalar.cmpi .slt v74 c0_i32_93
  let v79 : BitVec 32 := Scalar.extui v78
  let v80 : BitVec 32 := Scalar.subi v77 v79
  let c2_i32_91 : BitVec 32 := 2#32
  let c0_i32_94 : BitVec 32 := 0#32
  let v81 : BitVec 1 := Scalar.cmpi .sgt c2_i32_91 c0_i32_94
  let v82 : BitVec 32 := Scalar.extui v81
  let c0_i32_95 : BitVec 32 := 0#32
  let v83 : BitVec 1 := Scalar.cmpi .slt c2_i32_91 c0_i32_95
  let v84 : BitVec 32 := Scalar.extui v83
  let v85 : BitVec 32 := Scalar.subi v82 v84
  let v86 : BitVec 1 := Scalar.cmpi .ne v80 v85
  let v87 : BitVec 32 := Scalar.remsi v74 c2_i32_91
  let c0_i32_96 : BitVec 32 := 0#32
  let v88 : BitVec 1 := Scalar.cmpi .ne v87 c0_i32_96
  let v89 : BitVec 1 := Scalar.andi v86 v88
  let v75 : BitVec 32 := Scalar.divsi v74 c2_i32_91
  let c1_i32_97 : BitVec 32 := 1#32
  let v90 : BitVec 32 := Scalar.subi v75 c1_i32_97
  let v91 : BitVec 32 := Scalar.select v89 v90 v75
  let c1024_i32_99 : BitVec 32 := 1024#32
  let v94 : BitVec 32 := Scalar.muli v91 c1024_i32_99
  let c2_i32_98 : BitVec 32 := 2#32
  let v92 : BitVec 32 := Scalar.muli v91 c2_i32_98
  let v93 : BitVec 32 := Scalar.subi v74 v92
  let c256_i32_100 : BitVec 32 := 256#32
  let v95 : BitVec 32 := Scalar.muli v93 c256_i32_100
  let v96 : BitVec 32 := Scalar.addi v94 v95
  let c512_i32_110 : BitVec 32 := 512#32
  let v115 : BitVec 32 := Scalar.addi v96 c512_i32_110
  let v116 : Index := Scalar.indexCast v115
  let c0_111 : Index := 0#32
  ![v116.toNat, 0]
@[reducible] def k0_t13_loop : Scf.Loop 32 :=
  let c0_i32_56 : BitVec 32 := 0#32
  let c4_i32_57 : BitVec 32 := 4#32
  let v31 : BitVec 32 := Scalar.addi c0_i32_56 c4_i32_57
  let c1_i32_58 : BitVec 32 := 1#32
  ⟨c0_i32_56, v31, c1_i32_58⟩
def k0_off76 (k0_t13 : Fin k0_t13_loop.trips) : Fin 2 → Nat :=
  let c2_i32 : BitVec 32 := 2#32
  let c0_i32_56 : BitVec 32 := 0#32
  let c1_i32_58 : BitVec 32 := 1#32
  let arg7 : BitVec 32 := Scf.iv c0_i32_56 c1_i32_58 k0_t13
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c8_i32_76 : BitVec 32 := 8#32
  let c0_i32_79 : BitVec 32 := 0#32
  let v43 : BitVec 1 := Scalar.cmpi .sgt c8_i32_76 c0_i32_79
  let v44 : BitVec 32 := Scalar.extui v43
  let c0_i32_80 : BitVec 32 := 0#32
  let v45 : BitVec 1 := Scalar.cmpi .slt c8_i32_76 c0_i32_80
  let v46 : BitVec 32 := Scalar.extui v45
  let v47 : BitVec 32 := Scalar.subi v44 v46
  let v48 : BitVec 1 := Scalar.cmpi .ne v42 v47
  let v49 : BitVec 32 := Scalar.remsi v36 c8_i32_76
  let c0_i32_81 : BitVec 32 := 0#32
  let v50 : BitVec 1 := Scalar.cmpi .ne v49 c0_i32_81
  let v51 : BitVec 1 := Scalar.andi v48 v50
  let v37 : BitVec 32 := Scalar.divsi v36 c8_i32_76
  let c1_i32_82 : BitVec 32 := 1#32
  let v52 : BitVec 32 := Scalar.subi v37 c1_i32_82
  let v53 : BitVec 32 := Scalar.select v51 v52 v37
  let c2_i32_83 : BitVec 32 := 2#32
  let v54 : BitVec 32 := Scalar.muli v53 c2_i32_83
  let c8_i32_84 : BitVec 32 := 8#32
  let v55 : BitVec 32 := Scalar.muli v54 c8_i32_84
  let c0_i32_86 : BitVec 32 := 0#32
  let v57 : BitVec 1 := Scalar.cmpi .sgt v36 c0_i32_86
  let v58 : BitVec 32 := Scalar.extui v57
  let c0_i32_87 : BitVec 32 := 0#32
  let v59 : BitVec 1 := Scalar.cmpi .slt v36 c0_i32_87
  let v60 : BitVec 32 := Scalar.extui v59
  let v61 : BitVec 32 := Scalar.subi v58 v60
  let c8_i32_85 : BitVec 32 := 8#32
  let c0_i32_88 : BitVec 32 := 0#32
  let v62 : BitVec 1 := Scalar.cmpi .sgt c8_i32_85 c0_i32_88
  let v63 : BitVec 32 := Scalar.extui v62
  let c0_i32_89 : BitVec 32 := 0#32
  let v64 : BitVec 1 := Scalar.cmpi .slt c8_i32_85 c0_i32_89
  let v65 : BitVec 32 := Scalar.extui v64
  let v66 : BitVec 32 := Scalar.subi v63 v65
  let v67 : BitVec 1 := Scalar.cmpi .ne v61 v66
  let v68 : BitVec 32 := Scalar.remsi v36 c8_i32_85
  let c0_i32_90 : BitVec 32 := 0#32
  let v69 : BitVec 1 := Scalar.cmpi .ne v68 c0_i32_90
  let v70 : BitVec 1 := Scalar.andi v67 v69
  let v56 : BitVec 32 := Scalar.divsi v36 c8_i32_85
  let c1_i32_91 : BitVec 32 := 1#32
  let v71 : BitVec 32 := Scalar.subi v56 c1_i32_91
  let v72 : BitVec 32 := Scalar.select v70 v71 v56
  let c8_i32_92 : BitVec 32 := 8#32
  let v73 : BitVec 32 := Scalar.muli v72 c8_i32_92
  let v74 : BitVec 32 := Scalar.subi v36 v73
  let v75 : BitVec 32 := Scalar.addi v55 v74
  let c512_i32 : BitVec 32 := 512#32
  let v76 : BitVec 32 := Scalar.muli v75 c512_i32
  let v77 : Index := Scalar.indexCast v76
  let c0_93 : Index := 0#32
  ![v77.toNat, 0]
def k0_off77 (k0_t13 : Fin k0_t13_loop.trips) : Fin 2 → Nat :=
  let c2_i32_137 : BitVec 32 := 2#32
  let c0_i32_56 : BitVec 32 := 0#32
  let c1_i32_58 : BitVec 32 := 1#32
  let arg7 : BitVec 32 := Scf.iv c0_i32_56 c1_i32_58 k0_t13
  let v404 : BitVec 32 := Scalar.muli c2_i32_137 arg7
  let c1_i32_138 : BitVec 32 := 1#32
  let v405 : BitVec 32 := Scalar.addi v404 c1_i32_138
  let c0_i32_140 : BitVec 32 := 0#32
  let v407 : BitVec 1 := Scalar.cmpi .sgt v405 c0_i32_140
  let v408 : BitVec 32 := Scalar.extui v407
  let c0_i32_141 : BitVec 32 := 0#32
  let v409 : BitVec 1 := Scalar.cmpi .slt v405 c0_i32_141
  let v410 : BitVec 32 := Scalar.extui v409
  let v411 : BitVec 32 := Scalar.subi v408 v410
  let c8_i32_139 : BitVec 32 := 8#32
  let c0_i32_142 : BitVec 32 := 0#32
  let v412 : BitVec 1 := Scalar.cmpi .sgt c8_i32_139 c0_i32_142
  let v413 : BitVec 32 := Scalar.extui v412
  let c0_i32_143 : BitVec 32 := 0#32
  let v414 : BitVec 1 := Scalar.cmpi .slt c8_i32_139 c0_i32_143
  let v415 : BitVec 32 := Scalar.extui v414
  let v416 : BitVec 32 := Scalar.subi v413 v415
  let v417 : BitVec 1 := Scalar.cmpi .ne v411 v416
  let v418 : BitVec 32 := Scalar.remsi v405 c8_i32_139
  let c0_i32_144 : BitVec 32 := 0#32
  let v419 : BitVec 1 := Scalar.cmpi .ne v418 c0_i32_144
  let v420 : BitVec 1 := Scalar.andi v417 v419
  let v406 : BitVec 32 := Scalar.divsi v405 c8_i32_139
  let c1_i32_145 : BitVec 32 := 1#32
  let v421 : BitVec 32 := Scalar.subi v406 c1_i32_145
  let v422 : BitVec 32 := Scalar.select v420 v421 v406
  let c2_i32_146 : BitVec 32 := 2#32
  let v423 : BitVec 32 := Scalar.muli v422 c2_i32_146
  let c8_i32_147 : BitVec 32 := 8#32
  let v424 : BitVec 32 := Scalar.muli v423 c8_i32_147
  let c0_i32_149 : BitVec 32 := 0#32
  let v426 : BitVec 1 := Scalar.cmpi .sgt v405 c0_i32_149
  let v427 : BitVec 32 := Scalar.extui v426
  let c0_i32_150 : BitVec 32 := 0#32
  let v428 : BitVec 1 := Scalar.cmpi .slt v405 c0_i32_150
  let v429 : BitVec 32 := Scalar.extui v428
  let v430 : BitVec 32 := Scalar.subi v427 v429
  let c8_i32_148 : BitVec 32 := 8#32
  let c0_i32_151 : BitVec 32 := 0#32
  let v431 : BitVec 1 := Scalar.cmpi .sgt c8_i32_148 c0_i32_151
  let v432 : BitVec 32 := Scalar.extui v431
  let c0_i32_152 : BitVec 32 := 0#32
  let v433 : BitVec 1 := Scalar.cmpi .slt c8_i32_148 c0_i32_152
  let v434 : BitVec 32 := Scalar.extui v433
  let v435 : BitVec 32 := Scalar.subi v432 v434
  let v436 : BitVec 1 := Scalar.cmpi .ne v430 v435
  let v437 : BitVec 32 := Scalar.remsi v405 c8_i32_148
  let c0_i32_153 : BitVec 32 := 0#32
  let v438 : BitVec 1 := Scalar.cmpi .ne v437 c0_i32_153
  let v439 : BitVec 1 := Scalar.andi v436 v438
  let v425 : BitVec 32 := Scalar.divsi v405 c8_i32_148
  let c1_i32_154 : BitVec 32 := 1#32
  let v440 : BitVec 32 := Scalar.subi v425 c1_i32_154
  let v441 : BitVec 32 := Scalar.select v439 v440 v425
  let c8_i32_155 : BitVec 32 := 8#32
  let v442 : BitVec 32 := Scalar.muli v441 c8_i32_155
  let v443 : BitVec 32 := Scalar.subi v405 v442
  let v444 : BitVec 32 := Scalar.addi v424 v443
  let c512_i32_156 : BitVec 32 := 512#32
  let v445 : BitVec 32 := Scalar.muli v444 c512_i32_156
  let v446 : Index := Scalar.indexCast v445
  let c0_157 : Index := 0#32
  ![v446.toNat, 0]
@[reducible] def k0_t14_loop : Scf.Loop 32 :=
  let c0_i32_60 : BitVec 32 := 0#32
  let c4_i32_61 : BitVec 32 := 4#32
  let v32 : BitVec 32 := Scalar.addi c0_i32_60 c4_i32_61
  let c1_i32_62 : BitVec 32 := 1#32
  ⟨c0_i32_60, v32, c1_i32_62⟩
def k0_off78 (k0_t14 : Fin k0_t14_loop.trips) : Fin 2 → Nat :=
  let c2_i32 : BitVec 32 := 2#32
  let c0_i32_60 : BitVec 32 := 0#32
  let c1_i32_62 : BitVec 32 := 1#32
  let arg7 : BitVec 32 := Scf.iv c0_i32_60 c1_i32_62 k0_t14
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c8_i32_76 : BitVec 32 := 8#32
  let c0_i32_79 : BitVec 32 := 0#32
  let v43 : BitVec 1 := Scalar.cmpi .sgt c8_i32_76 c0_i32_79
  let v44 : BitVec 32 := Scalar.extui v43
  let c0_i32_80 : BitVec 32 := 0#32
  let v45 : BitVec 1 := Scalar.cmpi .slt c8_i32_76 c0_i32_80
  let v46 : BitVec 32 := Scalar.extui v45
  let v47 : BitVec 32 := Scalar.subi v44 v46
  let v48 : BitVec 1 := Scalar.cmpi .ne v42 v47
  let v49 : BitVec 32 := Scalar.remsi v36 c8_i32_76
  let c0_i32_81 : BitVec 32 := 0#32
  let v50 : BitVec 1 := Scalar.cmpi .ne v49 c0_i32_81
  let v51 : BitVec 1 := Scalar.andi v48 v50
  let v37 : BitVec 32 := Scalar.divsi v36 c8_i32_76
  let c1_i32_82 : BitVec 32 := 1#32
  let v52 : BitVec 32 := Scalar.subi v37 c1_i32_82
  let v53 : BitVec 32 := Scalar.select v51 v52 v37
  let c2_i32_83 : BitVec 32 := 2#32
  let v54 : BitVec 32 := Scalar.muli v53 c2_i32_83
  let c8_i32_84 : BitVec 32 := 8#32
  let v55 : BitVec 32 := Scalar.muli v54 c8_i32_84
  let c0_i32_86 : BitVec 32 := 0#32
  let v57 : BitVec 1 := Scalar.cmpi .sgt v36 c0_i32_86
  let v58 : BitVec 32 := Scalar.extui v57
  let c0_i32_87 : BitVec 32 := 0#32
  let v59 : BitVec 1 := Scalar.cmpi .slt v36 c0_i32_87
  let v60 : BitVec 32 := Scalar.extui v59
  let v61 : BitVec 32 := Scalar.subi v58 v60
  let c8_i32_85 : BitVec 32 := 8#32
  let c0_i32_88 : BitVec 32 := 0#32
  let v62 : BitVec 1 := Scalar.cmpi .sgt c8_i32_85 c0_i32_88
  let v63 : BitVec 32 := Scalar.extui v62
  let c0_i32_89 : BitVec 32 := 0#32
  let v64 : BitVec 1 := Scalar.cmpi .slt c8_i32_85 c0_i32_89
  let v65 : BitVec 32 := Scalar.extui v64
  let v66 : BitVec 32 := Scalar.subi v63 v65
  let v67 : BitVec 1 := Scalar.cmpi .ne v61 v66
  let v68 : BitVec 32 := Scalar.remsi v36 c8_i32_85
  let c0_i32_90 : BitVec 32 := 0#32
  let v69 : BitVec 1 := Scalar.cmpi .ne v68 c0_i32_90
  let v70 : BitVec 1 := Scalar.andi v67 v69
  let v56 : BitVec 32 := Scalar.divsi v36 c8_i32_85
  let c1_i32_91 : BitVec 32 := 1#32
  let v71 : BitVec 32 := Scalar.subi v56 c1_i32_91
  let v72 : BitVec 32 := Scalar.select v70 v71 v56
  let c8_i32_92 : BitVec 32 := 8#32
  let v73 : BitVec 32 := Scalar.muli v72 c8_i32_92
  let v74 : BitVec 32 := Scalar.subi v36 v73
  let v75 : BitVec 32 := Scalar.addi v55 v74
  let c8_i32_93 : BitVec 32 := 8#32
  let v76 : BitVec 32 := Scalar.addi v75 c8_i32_93
  let c512_i32 : BitVec 32 := 512#32
  let v77 : BitVec 32 := Scalar.muli v76 c512_i32
  let v78 : Index := Scalar.indexCast v77
  let c0_94 : Index := 0#32
  ![v78.toNat, 0]
def k0_off79 (k0_t14 : Fin k0_t14_loop.trips) : Fin 2 → Nat :=
  let c2_i32_142 : BitVec 32 := 2#32
  let c0_i32_60 : BitVec 32 := 0#32
  let c1_i32_62 : BitVec 32 := 1#32
  let arg7 : BitVec 32 := Scf.iv c0_i32_60 c1_i32_62 k0_t14
  let v409 : BitVec 32 := Scalar.muli c2_i32_142 arg7
  let c1_i32_143 : BitVec 32 := 1#32
  let v410 : BitVec 32 := Scalar.addi v409 c1_i32_143
  let c0_i32_145 : BitVec 32 := 0#32
  let v412 : BitVec 1 := Scalar.cmpi .sgt v410 c0_i32_145
  let v413 : BitVec 32 := Scalar.extui v412
  let c0_i32_146 : BitVec 32 := 0#32
  let v414 : BitVec 1 := Scalar.cmpi .slt v410 c0_i32_146
  let v415 : BitVec 32 := Scalar.extui v414
  let v416 : BitVec 32 := Scalar.subi v413 v415
  let c8_i32_144 : BitVec 32 := 8#32
  let c0_i32_147 : BitVec 32 := 0#32
  let v417 : BitVec 1 := Scalar.cmpi .sgt c8_i32_144 c0_i32_147
  let v418 : BitVec 32 := Scalar.extui v417
  let c0_i32_148 : BitVec 32 := 0#32
  let v419 : BitVec 1 := Scalar.cmpi .slt c8_i32_144 c0_i32_148
  let v420 : BitVec 32 := Scalar.extui v419
  let v421 : BitVec 32 := Scalar.subi v418 v420
  let v422 : BitVec 1 := Scalar.cmpi .ne v416 v421
  let v423 : BitVec 32 := Scalar.remsi v410 c8_i32_144
  let c0_i32_149 : BitVec 32 := 0#32
  let v424 : BitVec 1 := Scalar.cmpi .ne v423 c0_i32_149
  let v425 : BitVec 1 := Scalar.andi v422 v424
  let v411 : BitVec 32 := Scalar.divsi v410 c8_i32_144
  let c1_i32_150 : BitVec 32 := 1#32
  let v426 : BitVec 32 := Scalar.subi v411 c1_i32_150
  let v427 : BitVec 32 := Scalar.select v425 v426 v411
  let c2_i32_151 : BitVec 32 := 2#32
  let v428 : BitVec 32 := Scalar.muli v427 c2_i32_151
  let c8_i32_152 : BitVec 32 := 8#32
  let v429 : BitVec 32 := Scalar.muli v428 c8_i32_152
  let c0_i32_154 : BitVec 32 := 0#32
  let v431 : BitVec 1 := Scalar.cmpi .sgt v410 c0_i32_154
  let v432 : BitVec 32 := Scalar.extui v431
  let c0_i32_155 : BitVec 32 := 0#32
  let v433 : BitVec 1 := Scalar.cmpi .slt v410 c0_i32_155
  let v434 : BitVec 32 := Scalar.extui v433
  let v435 : BitVec 32 := Scalar.subi v432 v434
  let c8_i32_153 : BitVec 32 := 8#32
  let c0_i32_156 : BitVec 32 := 0#32
  let v436 : BitVec 1 := Scalar.cmpi .sgt c8_i32_153 c0_i32_156
  let v437 : BitVec 32 := Scalar.extui v436
  let c0_i32_157 : BitVec 32 := 0#32
  let v438 : BitVec 1 := Scalar.cmpi .slt c8_i32_153 c0_i32_157
  let v439 : BitVec 32 := Scalar.extui v438
  let v440 : BitVec 32 := Scalar.subi v437 v439
  let v441 : BitVec 1 := Scalar.cmpi .ne v435 v440
  let v442 : BitVec 32 := Scalar.remsi v410 c8_i32_153
  let c0_i32_158 : BitVec 32 := 0#32
  let v443 : BitVec 1 := Scalar.cmpi .ne v442 c0_i32_158
  let v444 : BitVec 1 := Scalar.andi v441 v443
  let v430 : BitVec 32 := Scalar.divsi v410 c8_i32_153
  let c1_i32_159 : BitVec 32 := 1#32
  let v445 : BitVec 32 := Scalar.subi v430 c1_i32_159
  let v446 : BitVec 32 := Scalar.select v444 v445 v430
  let c8_i32_160 : BitVec 32 := 8#32
  let v447 : BitVec 32 := Scalar.muli v446 c8_i32_160
  let v448 : BitVec 32 := Scalar.subi v410 v447
  let v449 : BitVec 32 := Scalar.addi v429 v448
  let c8_i32_161 : BitVec 32 := 8#32
  let v450 : BitVec 32 := Scalar.addi v449 c8_i32_161
  let c512_i32_162 : BitVec 32 := 512#32
  let v451 : BitVec 32 := Scalar.muli v450 c512_i32_162
  let v452 : Index := Scalar.indexCast v451
  let c0_163 : Index := 0#32
  ![v452.toNat, 0]
@[reducible] def k0_t15_loop : Scf.Loop 32 :=
  let c0_i32_64 : BitVec 32 := 0#32
  let c4_i32_65 : BitVec 32 := 4#32
  let v33 : BitVec 32 := Scalar.addi c0_i32_64 c4_i32_65
  let c1_i32_66 : BitVec 32 := 1#32
  ⟨c0_i32_64, v33, c1_i32_66⟩
def k0_off80 (k0_t15 : Fin k0_t15_loop.trips) : Fin 2 → Nat :=
  let c2_i32 : BitVec 32 := 2#32
  let c0_i32_64 : BitVec 32 := 0#32
  let c1_i32_66 : BitVec 32 := 1#32
  let arg7 : BitVec 32 := Scf.iv c0_i32_64 c1_i32_66 k0_t15
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c8_i32_76 : BitVec 32 := 8#32
  let c0_i32_79 : BitVec 32 := 0#32
  let v43 : BitVec 1 := Scalar.cmpi .sgt c8_i32_76 c0_i32_79
  let v44 : BitVec 32 := Scalar.extui v43
  let c0_i32_80 : BitVec 32 := 0#32
  let v45 : BitVec 1 := Scalar.cmpi .slt c8_i32_76 c0_i32_80
  let v46 : BitVec 32 := Scalar.extui v45
  let v47 : BitVec 32 := Scalar.subi v44 v46
  let v48 : BitVec 1 := Scalar.cmpi .ne v42 v47
  let v49 : BitVec 32 := Scalar.remsi v36 c8_i32_76
  let c0_i32_81 : BitVec 32 := 0#32
  let v50 : BitVec 1 := Scalar.cmpi .ne v49 c0_i32_81
  let v51 : BitVec 1 := Scalar.andi v48 v50
  let v37 : BitVec 32 := Scalar.divsi v36 c8_i32_76
  let c1_i32_82 : BitVec 32 := 1#32
  let v52 : BitVec 32 := Scalar.subi v37 c1_i32_82
  let v53 : BitVec 32 := Scalar.select v51 v52 v37
  let c8192_i32 : BitVec 32 := 8192#32
  let v56 : BitVec 32 := Scalar.muli v53 c8192_i32
  let c8_i32_83 : BitVec 32 := 8#32
  let v54 : BitVec 32 := Scalar.muli v53 c8_i32_83
  let v55 : BitVec 32 := Scalar.subi v36 v54
  let c256_i32 : BitVec 32 := 256#32
  let v57 : BitVec 32 := Scalar.muli v55 c256_i32
  let v58 : BitVec 32 := Scalar.addi v56 v57
  let v59 : Index := Scalar.indexCast v58
  let c0_84 : Index := 0#32
  ![v59.toNat, 0]
def k0_off81 (k0_t15 : Fin k0_t15_loop.trips) (c2048_i32 : BitVec 32) : Fin 2 → Nat :=
  let c2_i32 : BitVec 32 := 2#32
  let c0_i32_64 : BitVec 32 := 0#32
  let c1_i32_66 : BitVec 32 := 1#32
  let arg7 : BitVec 32 := Scf.iv c0_i32_64 c1_i32_66 k0_t15
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c8_i32_76 : BitVec 32 := 8#32
  let c0_i32_79 : BitVec 32 := 0#32
  let v43 : BitVec 1 := Scalar.cmpi .sgt c8_i32_76 c0_i32_79
  let v44 : BitVec 32 := Scalar.extui v43
  let c0_i32_80 : BitVec 32 := 0#32
  let v45 : BitVec 1 := Scalar.cmpi .slt c8_i32_76 c0_i32_80
  let v46 : BitVec 32 := Scalar.extui v45
  let v47 : BitVec 32 := Scalar.subi v44 v46
  let v48 : BitVec 1 := Scalar.cmpi .ne v42 v47
  let v49 : BitVec 32 := Scalar.remsi v36 c8_i32_76
  let c0_i32_81 : BitVec 32 := 0#32
  let v50 : BitVec 1 := Scalar.cmpi .ne v49 c0_i32_81
  let v51 : BitVec 1 := Scalar.andi v48 v50
  let v37 : BitVec 32 := Scalar.divsi v36 c8_i32_76
  let c1_i32_82 : BitVec 32 := 1#32
  let v52 : BitVec 32 := Scalar.subi v37 c1_i32_82
  let v53 : BitVec 32 := Scalar.select v51 v52 v37
  let c8192_i32 : BitVec 32 := 8192#32
  let v56 : BitVec 32 := Scalar.muli v53 c8192_i32
  let c8_i32_83 : BitVec 32 := 8#32
  let v54 : BitVec 32 := Scalar.muli v53 c8_i32_83
  let v55 : BitVec 32 := Scalar.subi v36 v54
  let c256_i32 : BitVec 32 := 256#32
  let v57 : BitVec 32 := Scalar.muli v55 c256_i32
  let v58 : BitVec 32 := Scalar.addi v56 v57
  let v61 : BitVec 32 := Scalar.addi v58 c2048_i32
  let v62 : Index := Scalar.indexCast v61
  let c0_85 : Index := 0#32
  ![v62.toNat, 0]
def k0_off82 (k0_t15 : Fin k0_t15_loop.trips) : Fin 2 → Nat :=
  let c2_i32 : BitVec 32 := 2#32
  let c0_i32_64 : BitVec 32 := 0#32
  let c1_i32_66 : BitVec 32 := 1#32
  let arg7 : BitVec 32 := Scf.iv c0_i32_64 c1_i32_66 k0_t15
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c8_i32_76 : BitVec 32 := 8#32
  let c0_i32_79 : BitVec 32 := 0#32
  let v43 : BitVec 1 := Scalar.cmpi .sgt c8_i32_76 c0_i32_79
  let v44 : BitVec 32 := Scalar.extui v43
  let c0_i32_80 : BitVec 32 := 0#32
  let v45 : BitVec 1 := Scalar.cmpi .slt c8_i32_76 c0_i32_80
  let v46 : BitVec 32 := Scalar.extui v45
  let v47 : BitVec 32 := Scalar.subi v44 v46
  let v48 : BitVec 1 := Scalar.cmpi .ne v42 v47
  let v49 : BitVec 32 := Scalar.remsi v36 c8_i32_76
  let c0_i32_81 : BitVec 32 := 0#32
  let v50 : BitVec 1 := Scalar.cmpi .ne v49 c0_i32_81
  let v51 : BitVec 1 := Scalar.andi v48 v50
  let v37 : BitVec 32 := Scalar.divsi v36 c8_i32_76
  let c1_i32_82 : BitVec 32 := 1#32
  let v52 : BitVec 32 := Scalar.subi v37 c1_i32_82
  let v53 : BitVec 32 := Scalar.select v51 v52 v37
  let c8192_i32 : BitVec 32 := 8192#32
  let v56 : BitVec 32 := Scalar.muli v53 c8192_i32
  let c8_i32_83 : BitVec 32 := 8#32
  let v54 : BitVec 32 := Scalar.muli v53 c8_i32_83
  let v55 : BitVec 32 := Scalar.subi v36 v54
  let c256_i32 : BitVec 32 := 256#32
  let v57 : BitVec 32 := Scalar.muli v55 c256_i32
  let v58 : BitVec 32 := Scalar.addi v56 v57
  let c4096_i32_87 : BitVec 32 := 4096#32
  let v67 : BitVec 32 := Scalar.addi v58 c4096_i32_87
  let c2048_i32_88 : BitVec 32 := 2048#32
  let v68 : BitVec 32 := Scalar.addi v67 c2048_i32_88
  let v69 : Index := Scalar.indexCast v68
  let c0_89 : Index := 0#32
  ![v69.toNat, 0]
def k0_cond17 (k0_t15 : Fin k0_t15_loop.trips) : BitVec 1 :=
  let c2_i32 : BitVec 32 := 2#32
  let c0_i32_64 : BitVec 32 := 0#32
  let c1_i32_66 : BitVec 32 := 1#32
  let arg7 : BitVec 32 := Scf.iv c0_i32_64 c1_i32_66 k0_t15
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c8_i32_76 : BitVec 32 := 8#32
  let c0_i32_79 : BitVec 32 := 0#32
  let v43 : BitVec 1 := Scalar.cmpi .sgt c8_i32_76 c0_i32_79
  let v44 : BitVec 32 := Scalar.extui v43
  let c0_i32_80 : BitVec 32 := 0#32
  let v45 : BitVec 1 := Scalar.cmpi .slt c8_i32_76 c0_i32_80
  let v46 : BitVec 32 := Scalar.extui v45
  let v47 : BitVec 32 := Scalar.subi v44 v46
  let v48 : BitVec 1 := Scalar.cmpi .ne v42 v47
  let v49 : BitVec 32 := Scalar.remsi v36 c8_i32_76
  let c0_i32_81 : BitVec 32 := 0#32
  let v50 : BitVec 1 := Scalar.cmpi .ne v49 c0_i32_81
  let v51 : BitVec 1 := Scalar.andi v48 v50
  let v37 : BitVec 32 := Scalar.divsi v36 c8_i32_76
  let c1_i32_82 : BitVec 32 := 1#32
  let v52 : BitVec 32 := Scalar.subi v37 c1_i32_82
  let v53 : BitVec 32 := Scalar.select v51 v52 v37
  let c8192_i32 : BitVec 32 := 8192#32
  let v56 : BitVec 32 := Scalar.muli v53 c8192_i32
  let c8_i32_83 : BitVec 32 := 8#32
  let v54 : BitVec 32 := Scalar.muli v53 c8_i32_83
  let v55 : BitVec 32 := Scalar.subi v36 v54
  let c256_i32 : BitVec 32 := 256#32
  let v57 : BitVec 32 := Scalar.muli v55 c256_i32
  let v58 : BitVec 32 := Scalar.addi v56 v57
  let c8192_i32_90 : BitVec 32 := 8192#32
  let v79 : BitVec 32 := Scalar.andi v58 c8192_i32_90
  let c0_i32_91 : BitVec 32 := 0#32
  let v80 : BitVec 1 := Scalar.cmpi .eq v79 c0_i32_91
  let v81 : BitVec 32 := Scalar.extui v80
  let c0_i32_92 : BitVec 32 := 0#32
  let v82 : BitVec 1 := Scalar.cmpi .ne v81 c0_i32_92
  v82

def k0_off83 (k0_t15 : Fin k0_t15_loop.trips) : Fin 2 → Nat :=
  let c2_i32 : BitVec 32 := 2#32
  let c0_i32_64 : BitVec 32 := 0#32
  let c1_i32_66 : BitVec 32 := 1#32
  let arg7 : BitVec 32 := Scf.iv c0_i32_64 c1_i32_66 k0_t15
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c8_i32_76 : BitVec 32 := 8#32
  let c0_i32_79 : BitVec 32 := 0#32
  let v43 : BitVec 1 := Scalar.cmpi .sgt c8_i32_76 c0_i32_79
  let v44 : BitVec 32 := Scalar.extui v43
  let c0_i32_80 : BitVec 32 := 0#32
  let v45 : BitVec 1 := Scalar.cmpi .slt c8_i32_76 c0_i32_80
  let v46 : BitVec 32 := Scalar.extui v45
  let v47 : BitVec 32 := Scalar.subi v44 v46
  let v48 : BitVec 1 := Scalar.cmpi .ne v42 v47
  let v49 : BitVec 32 := Scalar.remsi v36 c8_i32_76
  let c0_i32_81 : BitVec 32 := 0#32
  let v50 : BitVec 1 := Scalar.cmpi .ne v49 c0_i32_81
  let v51 : BitVec 1 := Scalar.andi v48 v50
  let v37 : BitVec 32 := Scalar.divsi v36 c8_i32_76
  let c1_i32_82 : BitVec 32 := 1#32
  let v52 : BitVec 32 := Scalar.subi v37 c1_i32_82
  let v53 : BitVec 32 := Scalar.select v51 v52 v37
  let c8192_i32 : BitVec 32 := 8192#32
  let v56 : BitVec 32 := Scalar.muli v53 c8192_i32
  let c8_i32_83 : BitVec 32 := 8#32
  let v54 : BitVec 32 := Scalar.muli v53 c8_i32_83
  let v55 : BitVec 32 := Scalar.subi v36 v54
  let c256_i32 : BitVec 32 := 256#32
  let v57 : BitVec 32 := Scalar.muli v55 c256_i32
  let v58 : BitVec 32 := Scalar.addi v56 v57
  let v137 : Index := Scalar.indexCast v58
  let c0_119 : Index := 0#32
  ![v137.toNat, 0]
def k0_off84 (k0_t15 : Fin k0_t15_loop.trips) (c2048_i32_120 : BitVec 32) : Fin 2 → Nat :=
  let c2_i32 : BitVec 32 := 2#32
  let c0_i32_64 : BitVec 32 := 0#32
  let c1_i32_66 : BitVec 32 := 1#32
  let arg7 : BitVec 32 := Scf.iv c0_i32_64 c1_i32_66 k0_t15
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c8_i32_76 : BitVec 32 := 8#32
  let c0_i32_79 : BitVec 32 := 0#32
  let v43 : BitVec 1 := Scalar.cmpi .sgt c8_i32_76 c0_i32_79
  let v44 : BitVec 32 := Scalar.extui v43
  let c0_i32_80 : BitVec 32 := 0#32
  let v45 : BitVec 1 := Scalar.cmpi .slt c8_i32_76 c0_i32_80
  let v46 : BitVec 32 := Scalar.extui v45
  let v47 : BitVec 32 := Scalar.subi v44 v46
  let v48 : BitVec 1 := Scalar.cmpi .ne v42 v47
  let v49 : BitVec 32 := Scalar.remsi v36 c8_i32_76
  let c0_i32_81 : BitVec 32 := 0#32
  let v50 : BitVec 1 := Scalar.cmpi .ne v49 c0_i32_81
  let v51 : BitVec 1 := Scalar.andi v48 v50
  let v37 : BitVec 32 := Scalar.divsi v36 c8_i32_76
  let c1_i32_82 : BitVec 32 := 1#32
  let v52 : BitVec 32 := Scalar.subi v37 c1_i32_82
  let v53 : BitVec 32 := Scalar.select v51 v52 v37
  let c8192_i32 : BitVec 32 := 8192#32
  let v56 : BitVec 32 := Scalar.muli v53 c8192_i32
  let c8_i32_83 : BitVec 32 := 8#32
  let v54 : BitVec 32 := Scalar.muli v53 c8_i32_83
  let v55 : BitVec 32 := Scalar.subi v36 v54
  let c256_i32 : BitVec 32 := 256#32
  let v57 : BitVec 32 := Scalar.muli v55 c256_i32
  let v58 : BitVec 32 := Scalar.addi v56 v57
  let v141 : BitVec 32 := Scalar.addi v58 c2048_i32_120
  let v142 : Index := Scalar.indexCast v141
  let c0_121 : Index := 0#32
  ![v142.toNat, 0]
def k0_off85 (k0_t15 : Fin k0_t15_loop.trips) : Fin 2 → Nat :=
  let c2_i32 : BitVec 32 := 2#32
  let c0_i32_64 : BitVec 32 := 0#32
  let c1_i32_66 : BitVec 32 := 1#32
  let arg7 : BitVec 32 := Scf.iv c0_i32_64 c1_i32_66 k0_t15
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c8_i32_76 : BitVec 32 := 8#32
  let c0_i32_79 : BitVec 32 := 0#32
  let v43 : BitVec 1 := Scalar.cmpi .sgt c8_i32_76 c0_i32_79
  let v44 : BitVec 32 := Scalar.extui v43
  let c0_i32_80 : BitVec 32 := 0#32
  let v45 : BitVec 1 := Scalar.cmpi .slt c8_i32_76 c0_i32_80
  let v46 : BitVec 32 := Scalar.extui v45
  let v47 : BitVec 32 := Scalar.subi v44 v46
  let v48 : BitVec 1 := Scalar.cmpi .ne v42 v47
  let v49 : BitVec 32 := Scalar.remsi v36 c8_i32_76
  let c0_i32_81 : BitVec 32 := 0#32
  let v50 : BitVec 1 := Scalar.cmpi .ne v49 c0_i32_81
  let v51 : BitVec 1 := Scalar.andi v48 v50
  let v37 : BitVec 32 := Scalar.divsi v36 c8_i32_76
  let c1_i32_82 : BitVec 32 := 1#32
  let v52 : BitVec 32 := Scalar.subi v37 c1_i32_82
  let v53 : BitVec 32 := Scalar.select v51 v52 v37
  let c8192_i32 : BitVec 32 := 8192#32
  let v56 : BitVec 32 := Scalar.muli v53 c8192_i32
  let c8_i32_83 : BitVec 32 := 8#32
  let v54 : BitVec 32 := Scalar.muli v53 c8_i32_83
  let v55 : BitVec 32 := Scalar.subi v36 v54
  let c256_i32 : BitVec 32 := 256#32
  let v57 : BitVec 32 := Scalar.muli v55 c256_i32
  let v58 : BitVec 32 := Scalar.addi v56 v57
  let c4096_i32_124 : BitVec 32 := 4096#32
  let v151 : BitVec 32 := Scalar.addi v58 c4096_i32_124
  let c2048_i32_125 : BitVec 32 := 2048#32
  let v152 : BitVec 32 := Scalar.addi v151 c2048_i32_125
  let v153 : Index := Scalar.indexCast v152
  let c0_126 : Index := 0#32
  ![v153.toNat, 0]
def k0_cond18 (k0_t15 : Fin k0_t15_loop.trips) : BitVec 1 :=
  let c2_i32 : BitVec 32 := 2#32
  let c0_i32_64 : BitVec 32 := 0#32
  let c1_i32_66 : BitVec 32 := 1#32
  let arg7 : BitVec 32 := Scf.iv c0_i32_64 c1_i32_66 k0_t15
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c8_i32_76 : BitVec 32 := 8#32
  let c0_i32_79 : BitVec 32 := 0#32
  let v43 : BitVec 1 := Scalar.cmpi .sgt c8_i32_76 c0_i32_79
  let v44 : BitVec 32 := Scalar.extui v43
  let c0_i32_80 : BitVec 32 := 0#32
  let v45 : BitVec 1 := Scalar.cmpi .slt c8_i32_76 c0_i32_80
  let v46 : BitVec 32 := Scalar.extui v45
  let v47 : BitVec 32 := Scalar.subi v44 v46
  let v48 : BitVec 1 := Scalar.cmpi .ne v42 v47
  let v49 : BitVec 32 := Scalar.remsi v36 c8_i32_76
  let c0_i32_81 : BitVec 32 := 0#32
  let v50 : BitVec 1 := Scalar.cmpi .ne v49 c0_i32_81
  let v51 : BitVec 1 := Scalar.andi v48 v50
  let v37 : BitVec 32 := Scalar.divsi v36 c8_i32_76
  let c1_i32_82 : BitVec 32 := 1#32
  let v52 : BitVec 32 := Scalar.subi v37 c1_i32_82
  let v53 : BitVec 32 := Scalar.select v51 v52 v37
  let c8192_i32 : BitVec 32 := 8192#32
  let v56 : BitVec 32 := Scalar.muli v53 c8192_i32
  let c8_i32_83 : BitVec 32 := 8#32
  let v54 : BitVec 32 := Scalar.muli v53 c8_i32_83
  let v55 : BitVec 32 := Scalar.subi v36 v54
  let c256_i32 : BitVec 32 := 256#32
  let v57 : BitVec 32 := Scalar.muli v55 c256_i32
  let v58 : BitVec 32 := Scalar.addi v56 v57
  let c8192_i32_90 : BitVec 32 := 8192#32
  let v79 : BitVec 32 := Scalar.andi v58 c8192_i32_90
  let c0_i32_91 : BitVec 32 := 0#32
  let v80 : BitVec 1 := Scalar.cmpi .eq v79 c0_i32_91
  let v_true : BitVec 1 := 1#1
  let v83 : BitVec 1 := Scalar.xori v80 v_true
  let v84 : BitVec 32 := Scalar.extui v83
  let c0_i32_93 : BitVec 32 := 0#32
  let v85 : BitVec 1 := Scalar.cmpi .ne v84 c0_i32_93
  v85

def k0_off86 (k0_t15 : Fin k0_t15_loop.trips) : Fin 2 → Nat :=
  let c2_i32 : BitVec 32 := 2#32
  let c0_i32_64 : BitVec 32 := 0#32
  let c1_i32_66 : BitVec 32 := 1#32
  let arg7 : BitVec 32 := Scf.iv c0_i32_64 c1_i32_66 k0_t15
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c8_i32_76 : BitVec 32 := 8#32
  let c0_i32_79 : BitVec 32 := 0#32
  let v43 : BitVec 1 := Scalar.cmpi .sgt c8_i32_76 c0_i32_79
  let v44 : BitVec 32 := Scalar.extui v43
  let c0_i32_80 : BitVec 32 := 0#32
  let v45 : BitVec 1 := Scalar.cmpi .slt c8_i32_76 c0_i32_80
  let v46 : BitVec 32 := Scalar.extui v45
  let v47 : BitVec 32 := Scalar.subi v44 v46
  let v48 : BitVec 1 := Scalar.cmpi .ne v42 v47
  let v49 : BitVec 32 := Scalar.remsi v36 c8_i32_76
  let c0_i32_81 : BitVec 32 := 0#32
  let v50 : BitVec 1 := Scalar.cmpi .ne v49 c0_i32_81
  let v51 : BitVec 1 := Scalar.andi v48 v50
  let v37 : BitVec 32 := Scalar.divsi v36 c8_i32_76
  let c1_i32_82 : BitVec 32 := 1#32
  let v52 : BitVec 32 := Scalar.subi v37 c1_i32_82
  let v53 : BitVec 32 := Scalar.select v51 v52 v37
  let c8192_i32 : BitVec 32 := 8192#32
  let v56 : BitVec 32 := Scalar.muli v53 c8192_i32
  let c8_i32_83 : BitVec 32 := 8#32
  let v54 : BitVec 32 := Scalar.muli v53 c8_i32_83
  let v55 : BitVec 32 := Scalar.subi v36 v54
  let c256_i32 : BitVec 32 := 256#32
  let v57 : BitVec 32 := Scalar.muli v55 c256_i32
  let v58 : BitVec 32 := Scalar.addi v56 v57
  let v137 : Index := Scalar.indexCast v58
  let c0_119 : Index := 0#32
  ![v137.toNat, 0]
def k0_off87 (k0_t15 : Fin k0_t15_loop.trips) (c2048_i32_120 : BitVec 32) : Fin 2 → Nat :=
  let c2_i32 : BitVec 32 := 2#32
  let c0_i32_64 : BitVec 32 := 0#32
  let c1_i32_66 : BitVec 32 := 1#32
  let arg7 : BitVec 32 := Scf.iv c0_i32_64 c1_i32_66 k0_t15
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c8_i32_76 : BitVec 32 := 8#32
  let c0_i32_79 : BitVec 32 := 0#32
  let v43 : BitVec 1 := Scalar.cmpi .sgt c8_i32_76 c0_i32_79
  let v44 : BitVec 32 := Scalar.extui v43
  let c0_i32_80 : BitVec 32 := 0#32
  let v45 : BitVec 1 := Scalar.cmpi .slt c8_i32_76 c0_i32_80
  let v46 : BitVec 32 := Scalar.extui v45
  let v47 : BitVec 32 := Scalar.subi v44 v46
  let v48 : BitVec 1 := Scalar.cmpi .ne v42 v47
  let v49 : BitVec 32 := Scalar.remsi v36 c8_i32_76
  let c0_i32_81 : BitVec 32 := 0#32
  let v50 : BitVec 1 := Scalar.cmpi .ne v49 c0_i32_81
  let v51 : BitVec 1 := Scalar.andi v48 v50
  let v37 : BitVec 32 := Scalar.divsi v36 c8_i32_76
  let c1_i32_82 : BitVec 32 := 1#32
  let v52 : BitVec 32 := Scalar.subi v37 c1_i32_82
  let v53 : BitVec 32 := Scalar.select v51 v52 v37
  let c8192_i32 : BitVec 32 := 8192#32
  let v56 : BitVec 32 := Scalar.muli v53 c8192_i32
  let c8_i32_83 : BitVec 32 := 8#32
  let v54 : BitVec 32 := Scalar.muli v53 c8_i32_83
  let v55 : BitVec 32 := Scalar.subi v36 v54
  let c256_i32 : BitVec 32 := 256#32
  let v57 : BitVec 32 := Scalar.muli v55 c256_i32
  let v58 : BitVec 32 := Scalar.addi v56 v57
  let v141 : BitVec 32 := Scalar.addi v58 c2048_i32_120
  let v142 : Index := Scalar.indexCast v141
  let c0_121 : Index := 0#32
  ![v142.toNat, 0]
def k0_off88 (k0_t15 : Fin k0_t15_loop.trips) : Fin 2 → Nat :=
  let c2_i32 : BitVec 32 := 2#32
  let c0_i32_64 : BitVec 32 := 0#32
  let c1_i32_66 : BitVec 32 := 1#32
  let arg7 : BitVec 32 := Scf.iv c0_i32_64 c1_i32_66 k0_t15
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c8_i32_76 : BitVec 32 := 8#32
  let c0_i32_79 : BitVec 32 := 0#32
  let v43 : BitVec 1 := Scalar.cmpi .sgt c8_i32_76 c0_i32_79
  let v44 : BitVec 32 := Scalar.extui v43
  let c0_i32_80 : BitVec 32 := 0#32
  let v45 : BitVec 1 := Scalar.cmpi .slt c8_i32_76 c0_i32_80
  let v46 : BitVec 32 := Scalar.extui v45
  let v47 : BitVec 32 := Scalar.subi v44 v46
  let v48 : BitVec 1 := Scalar.cmpi .ne v42 v47
  let v49 : BitVec 32 := Scalar.remsi v36 c8_i32_76
  let c0_i32_81 : BitVec 32 := 0#32
  let v50 : BitVec 1 := Scalar.cmpi .ne v49 c0_i32_81
  let v51 : BitVec 1 := Scalar.andi v48 v50
  let v37 : BitVec 32 := Scalar.divsi v36 c8_i32_76
  let c1_i32_82 : BitVec 32 := 1#32
  let v52 : BitVec 32 := Scalar.subi v37 c1_i32_82
  let v53 : BitVec 32 := Scalar.select v51 v52 v37
  let c8192_i32 : BitVec 32 := 8192#32
  let v56 : BitVec 32 := Scalar.muli v53 c8192_i32
  let c8_i32_83 : BitVec 32 := 8#32
  let v54 : BitVec 32 := Scalar.muli v53 c8_i32_83
  let v55 : BitVec 32 := Scalar.subi v36 v54
  let c256_i32 : BitVec 32 := 256#32
  let v57 : BitVec 32 := Scalar.muli v55 c256_i32
  let v58 : BitVec 32 := Scalar.addi v56 v57
  let c4096_i32_124 : BitVec 32 := 4096#32
  let v151 : BitVec 32 := Scalar.addi v58 c4096_i32_124
  let c2048_i32_125 : BitVec 32 := 2048#32
  let v152 : BitVec 32 := Scalar.addi v151 c2048_i32_125
  let v153 : Index := Scalar.indexCast v152
  let c0_126 : Index := 0#32
  ![v153.toNat, 0]
def k0_off89 (k0_t15 : Fin k0_t15_loop.trips) : Fin 2 → Nat :=
  let c2_i32_94 : BitVec 32 := 2#32
  let c0_i32_64 : BitVec 32 := 0#32
  let c1_i32_66 : BitVec 32 := 1#32
  let arg7 : BitVec 32 := Scf.iv c0_i32_64 c1_i32_66 k0_t15
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c8_i32_96 : BitVec 32 := 8#32
  let c0_i32_99 : BitVec 32 := 0#32
  let v94 : BitVec 1 := Scalar.cmpi .sgt c8_i32_96 c0_i32_99
  let v95 : BitVec 32 := Scalar.extui v94
  let c0_i32_100 : BitVec 32 := 0#32
  let v96 : BitVec 1 := Scalar.cmpi .slt c8_i32_96 c0_i32_100
  let v97 : BitVec 32 := Scalar.extui v96
  let v98 : BitVec 32 := Scalar.subi v95 v97
  let v99 : BitVec 1 := Scalar.cmpi .ne v93 v98
  let v100 : BitVec 32 := Scalar.remsi v87 c8_i32_96
  let c0_i32_101 : BitVec 32 := 0#32
  let v101 : BitVec 1 := Scalar.cmpi .ne v100 c0_i32_101
  let v102 : BitVec 1 := Scalar.andi v99 v101
  let v88 : BitVec 32 := Scalar.divsi v87 c8_i32_96
  let c1_i32_102 : BitVec 32 := 1#32
  let v103 : BitVec 32 := Scalar.subi v88 c1_i32_102
  let v104 : BitVec 32 := Scalar.select v102 v103 v88
  let c8192_i32_104 : BitVec 32 := 8192#32
  let v107 : BitVec 32 := Scalar.muli v104 c8192_i32_104
  let c8_i32_103 : BitVec 32 := 8#32
  let v105 : BitVec 32 := Scalar.muli v104 c8_i32_103
  let v106 : BitVec 32 := Scalar.subi v87 v105
  let c256_i32_105 : BitVec 32 := 256#32
  let v108 : BitVec 32 := Scalar.muli v106 c256_i32_105
  let v109 : BitVec 32 := Scalar.addi v107 v108
  let v110 : Index := Scalar.indexCast v109
  let c0_106 : Index := 0#32
  ![v110.toNat, 0]
def k0_off90 (k0_t15 : Fin k0_t15_loop.trips) (c2048_i32_107 : BitVec 32) : Fin 2 → Nat :=
  let c2_i32_94 : BitVec 32 := 2#32
  let c0_i32_64 : BitVec 32 := 0#32
  let c1_i32_66 : BitVec 32 := 1#32
  let arg7 : BitVec 32 := Scf.iv c0_i32_64 c1_i32_66 k0_t15
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c8_i32_96 : BitVec 32 := 8#32
  let c0_i32_99 : BitVec 32 := 0#32
  let v94 : BitVec 1 := Scalar.cmpi .sgt c8_i32_96 c0_i32_99
  let v95 : BitVec 32 := Scalar.extui v94
  let c0_i32_100 : BitVec 32 := 0#32
  let v96 : BitVec 1 := Scalar.cmpi .slt c8_i32_96 c0_i32_100
  let v97 : BitVec 32 := Scalar.extui v96
  let v98 : BitVec 32 := Scalar.subi v95 v97
  let v99 : BitVec 1 := Scalar.cmpi .ne v93 v98
  let v100 : BitVec 32 := Scalar.remsi v87 c8_i32_96
  let c0_i32_101 : BitVec 32 := 0#32
  let v101 : BitVec 1 := Scalar.cmpi .ne v100 c0_i32_101
  let v102 : BitVec 1 := Scalar.andi v99 v101
  let v88 : BitVec 32 := Scalar.divsi v87 c8_i32_96
  let c1_i32_102 : BitVec 32 := 1#32
  let v103 : BitVec 32 := Scalar.subi v88 c1_i32_102
  let v104 : BitVec 32 := Scalar.select v102 v103 v88
  let c8192_i32_104 : BitVec 32 := 8192#32
  let v107 : BitVec 32 := Scalar.muli v104 c8192_i32_104
  let c8_i32_103 : BitVec 32 := 8#32
  let v105 : BitVec 32 := Scalar.muli v104 c8_i32_103
  let v106 : BitVec 32 := Scalar.subi v87 v105
  let c256_i32_105 : BitVec 32 := 256#32
  let v108 : BitVec 32 := Scalar.muli v106 c256_i32_105
  let v109 : BitVec 32 := Scalar.addi v107 v108
  let v112 : BitVec 32 := Scalar.addi v109 c2048_i32_107
  let v113 : Index := Scalar.indexCast v112
  let c0_108 : Index := 0#32
  ![v113.toNat, 0]
def k0_off91 (k0_t15 : Fin k0_t15_loop.trips) : Fin 2 → Nat :=
  let c2_i32_94 : BitVec 32 := 2#32
  let c0_i32_64 : BitVec 32 := 0#32
  let c1_i32_66 : BitVec 32 := 1#32
  let arg7 : BitVec 32 := Scf.iv c0_i32_64 c1_i32_66 k0_t15
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c8_i32_96 : BitVec 32 := 8#32
  let c0_i32_99 : BitVec 32 := 0#32
  let v94 : BitVec 1 := Scalar.cmpi .sgt c8_i32_96 c0_i32_99
  let v95 : BitVec 32 := Scalar.extui v94
  let c0_i32_100 : BitVec 32 := 0#32
  let v96 : BitVec 1 := Scalar.cmpi .slt c8_i32_96 c0_i32_100
  let v97 : BitVec 32 := Scalar.extui v96
  let v98 : BitVec 32 := Scalar.subi v95 v97
  let v99 : BitVec 1 := Scalar.cmpi .ne v93 v98
  let v100 : BitVec 32 := Scalar.remsi v87 c8_i32_96
  let c0_i32_101 : BitVec 32 := 0#32
  let v101 : BitVec 1 := Scalar.cmpi .ne v100 c0_i32_101
  let v102 : BitVec 1 := Scalar.andi v99 v101
  let v88 : BitVec 32 := Scalar.divsi v87 c8_i32_96
  let c1_i32_102 : BitVec 32 := 1#32
  let v103 : BitVec 32 := Scalar.subi v88 c1_i32_102
  let v104 : BitVec 32 := Scalar.select v102 v103 v88
  let c8192_i32_104 : BitVec 32 := 8192#32
  let v107 : BitVec 32 := Scalar.muli v104 c8192_i32_104
  let c8_i32_103 : BitVec 32 := 8#32
  let v105 : BitVec 32 := Scalar.muli v104 c8_i32_103
  let v106 : BitVec 32 := Scalar.subi v87 v105
  let c256_i32_105 : BitVec 32 := 256#32
  let v108 : BitVec 32 := Scalar.muli v106 c256_i32_105
  let v109 : BitVec 32 := Scalar.addi v107 v108
  let c4096_i32_111 : BitVec 32 := 4096#32
  let v118 : BitVec 32 := Scalar.addi v109 c4096_i32_111
  let c2048_i32_112 : BitVec 32 := 2048#32
  let v119 : BitVec 32 := Scalar.addi v118 c2048_i32_112
  let v120 : Index := Scalar.indexCast v119
  let c0_113 : Index := 0#32
  ![v120.toNat, 0]
def k0_cond19 (k0_t15 : Fin k0_t15_loop.trips) : BitVec 1 :=
  let c2_i32_94 : BitVec 32 := 2#32
  let c0_i32_64 : BitVec 32 := 0#32
  let c1_i32_66 : BitVec 32 := 1#32
  let arg7 : BitVec 32 := Scf.iv c0_i32_64 c1_i32_66 k0_t15
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c8_i32_96 : BitVec 32 := 8#32
  let c0_i32_99 : BitVec 32 := 0#32
  let v94 : BitVec 1 := Scalar.cmpi .sgt c8_i32_96 c0_i32_99
  let v95 : BitVec 32 := Scalar.extui v94
  let c0_i32_100 : BitVec 32 := 0#32
  let v96 : BitVec 1 := Scalar.cmpi .slt c8_i32_96 c0_i32_100
  let v97 : BitVec 32 := Scalar.extui v96
  let v98 : BitVec 32 := Scalar.subi v95 v97
  let v99 : BitVec 1 := Scalar.cmpi .ne v93 v98
  let v100 : BitVec 32 := Scalar.remsi v87 c8_i32_96
  let c0_i32_101 : BitVec 32 := 0#32
  let v101 : BitVec 1 := Scalar.cmpi .ne v100 c0_i32_101
  let v102 : BitVec 1 := Scalar.andi v99 v101
  let v88 : BitVec 32 := Scalar.divsi v87 c8_i32_96
  let c1_i32_102 : BitVec 32 := 1#32
  let v103 : BitVec 32 := Scalar.subi v88 c1_i32_102
  let v104 : BitVec 32 := Scalar.select v102 v103 v88
  let c8192_i32_104 : BitVec 32 := 8192#32
  let v107 : BitVec 32 := Scalar.muli v104 c8192_i32_104
  let c8_i32_103 : BitVec 32 := 8#32
  let v105 : BitVec 32 := Scalar.muli v104 c8_i32_103
  let v106 : BitVec 32 := Scalar.subi v87 v105
  let c256_i32_105 : BitVec 32 := 256#32
  let v108 : BitVec 32 := Scalar.muli v106 c256_i32_105
  let v109 : BitVec 32 := Scalar.addi v107 v108
  let c8192_i32_114 : BitVec 32 := 8192#32
  let v130 : BitVec 32 := Scalar.andi v109 c8192_i32_114
  let c0_i32_115 : BitVec 32 := 0#32
  let v131 : BitVec 1 := Scalar.cmpi .eq v130 c0_i32_115
  let v132 : BitVec 32 := Scalar.extui v131
  let c0_i32_116 : BitVec 32 := 0#32
  let v133 : BitVec 1 := Scalar.cmpi .ne v132 c0_i32_116
  v133

def k0_off92 (k0_t15 : Fin k0_t15_loop.trips) : Fin 2 → Nat :=
  let c2_i32_94 : BitVec 32 := 2#32
  let c0_i32_64 : BitVec 32 := 0#32
  let c1_i32_66 : BitVec 32 := 1#32
  let arg7 : BitVec 32 := Scf.iv c0_i32_64 c1_i32_66 k0_t15
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c8_i32_96 : BitVec 32 := 8#32
  let c0_i32_99 : BitVec 32 := 0#32
  let v94 : BitVec 1 := Scalar.cmpi .sgt c8_i32_96 c0_i32_99
  let v95 : BitVec 32 := Scalar.extui v94
  let c0_i32_100 : BitVec 32 := 0#32
  let v96 : BitVec 1 := Scalar.cmpi .slt c8_i32_96 c0_i32_100
  let v97 : BitVec 32 := Scalar.extui v96
  let v98 : BitVec 32 := Scalar.subi v95 v97
  let v99 : BitVec 1 := Scalar.cmpi .ne v93 v98
  let v100 : BitVec 32 := Scalar.remsi v87 c8_i32_96
  let c0_i32_101 : BitVec 32 := 0#32
  let v101 : BitVec 1 := Scalar.cmpi .ne v100 c0_i32_101
  let v102 : BitVec 1 := Scalar.andi v99 v101
  let v88 : BitVec 32 := Scalar.divsi v87 c8_i32_96
  let c1_i32_102 : BitVec 32 := 1#32
  let v103 : BitVec 32 := Scalar.subi v88 c1_i32_102
  let v104 : BitVec 32 := Scalar.select v102 v103 v88
  let c8192_i32_104 : BitVec 32 := 8192#32
  let v107 : BitVec 32 := Scalar.muli v104 c8192_i32_104
  let c8_i32_103 : BitVec 32 := 8#32
  let v105 : BitVec 32 := Scalar.muli v104 c8_i32_103
  let v106 : BitVec 32 := Scalar.subi v87 v105
  let c256_i32_105 : BitVec 32 := 256#32
  let v108 : BitVec 32 := Scalar.muli v106 c256_i32_105
  let v109 : BitVec 32 := Scalar.addi v107 v108
  let v137 : Index := Scalar.indexCast v109
  let c0_119 : Index := 0#32
  ![v137.toNat, 0]
def k0_off93 (k0_t15 : Fin k0_t15_loop.trips) (c2048_i32_120 : BitVec 32) : Fin 2 → Nat :=
  let c2_i32_94 : BitVec 32 := 2#32
  let c0_i32_64 : BitVec 32 := 0#32
  let c1_i32_66 : BitVec 32 := 1#32
  let arg7 : BitVec 32 := Scf.iv c0_i32_64 c1_i32_66 k0_t15
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c8_i32_96 : BitVec 32 := 8#32
  let c0_i32_99 : BitVec 32 := 0#32
  let v94 : BitVec 1 := Scalar.cmpi .sgt c8_i32_96 c0_i32_99
  let v95 : BitVec 32 := Scalar.extui v94
  let c0_i32_100 : BitVec 32 := 0#32
  let v96 : BitVec 1 := Scalar.cmpi .slt c8_i32_96 c0_i32_100
  let v97 : BitVec 32 := Scalar.extui v96
  let v98 : BitVec 32 := Scalar.subi v95 v97
  let v99 : BitVec 1 := Scalar.cmpi .ne v93 v98
  let v100 : BitVec 32 := Scalar.remsi v87 c8_i32_96
  let c0_i32_101 : BitVec 32 := 0#32
  let v101 : BitVec 1 := Scalar.cmpi .ne v100 c0_i32_101
  let v102 : BitVec 1 := Scalar.andi v99 v101
  let v88 : BitVec 32 := Scalar.divsi v87 c8_i32_96
  let c1_i32_102 : BitVec 32 := 1#32
  let v103 : BitVec 32 := Scalar.subi v88 c1_i32_102
  let v104 : BitVec 32 := Scalar.select v102 v103 v88
  let c8192_i32_104 : BitVec 32 := 8192#32
  let v107 : BitVec 32 := Scalar.muli v104 c8192_i32_104
  let c8_i32_103 : BitVec 32 := 8#32
  let v105 : BitVec 32 := Scalar.muli v104 c8_i32_103
  let v106 : BitVec 32 := Scalar.subi v87 v105
  let c256_i32_105 : BitVec 32 := 256#32
  let v108 : BitVec 32 := Scalar.muli v106 c256_i32_105
  let v109 : BitVec 32 := Scalar.addi v107 v108
  let v141 : BitVec 32 := Scalar.addi v109 c2048_i32_120
  let v142 : Index := Scalar.indexCast v141
  let c0_121 : Index := 0#32
  ![v142.toNat, 0]
def k0_off94 (k0_t15 : Fin k0_t15_loop.trips) : Fin 2 → Nat :=
  let c2_i32_94 : BitVec 32 := 2#32
  let c0_i32_64 : BitVec 32 := 0#32
  let c1_i32_66 : BitVec 32 := 1#32
  let arg7 : BitVec 32 := Scf.iv c0_i32_64 c1_i32_66 k0_t15
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c8_i32_96 : BitVec 32 := 8#32
  let c0_i32_99 : BitVec 32 := 0#32
  let v94 : BitVec 1 := Scalar.cmpi .sgt c8_i32_96 c0_i32_99
  let v95 : BitVec 32 := Scalar.extui v94
  let c0_i32_100 : BitVec 32 := 0#32
  let v96 : BitVec 1 := Scalar.cmpi .slt c8_i32_96 c0_i32_100
  let v97 : BitVec 32 := Scalar.extui v96
  let v98 : BitVec 32 := Scalar.subi v95 v97
  let v99 : BitVec 1 := Scalar.cmpi .ne v93 v98
  let v100 : BitVec 32 := Scalar.remsi v87 c8_i32_96
  let c0_i32_101 : BitVec 32 := 0#32
  let v101 : BitVec 1 := Scalar.cmpi .ne v100 c0_i32_101
  let v102 : BitVec 1 := Scalar.andi v99 v101
  let v88 : BitVec 32 := Scalar.divsi v87 c8_i32_96
  let c1_i32_102 : BitVec 32 := 1#32
  let v103 : BitVec 32 := Scalar.subi v88 c1_i32_102
  let v104 : BitVec 32 := Scalar.select v102 v103 v88
  let c8192_i32_104 : BitVec 32 := 8192#32
  let v107 : BitVec 32 := Scalar.muli v104 c8192_i32_104
  let c8_i32_103 : BitVec 32 := 8#32
  let v105 : BitVec 32 := Scalar.muli v104 c8_i32_103
  let v106 : BitVec 32 := Scalar.subi v87 v105
  let c256_i32_105 : BitVec 32 := 256#32
  let v108 : BitVec 32 := Scalar.muli v106 c256_i32_105
  let v109 : BitVec 32 := Scalar.addi v107 v108
  let c4096_i32_124 : BitVec 32 := 4096#32
  let v151 : BitVec 32 := Scalar.addi v109 c4096_i32_124
  let c2048_i32_125 : BitVec 32 := 2048#32
  let v152 : BitVec 32 := Scalar.addi v151 c2048_i32_125
  let v153 : Index := Scalar.indexCast v152
  let c0_126 : Index := 0#32
  ![v153.toNat, 0]
def k0_cond20 (k0_t15 : Fin k0_t15_loop.trips) : BitVec 1 :=
  let c2_i32_94 : BitVec 32 := 2#32
  let c0_i32_64 : BitVec 32 := 0#32
  let c1_i32_66 : BitVec 32 := 1#32
  let arg7 : BitVec 32 := Scf.iv c0_i32_64 c1_i32_66 k0_t15
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c8_i32_96 : BitVec 32 := 8#32
  let c0_i32_99 : BitVec 32 := 0#32
  let v94 : BitVec 1 := Scalar.cmpi .sgt c8_i32_96 c0_i32_99
  let v95 : BitVec 32 := Scalar.extui v94
  let c0_i32_100 : BitVec 32 := 0#32
  let v96 : BitVec 1 := Scalar.cmpi .slt c8_i32_96 c0_i32_100
  let v97 : BitVec 32 := Scalar.extui v96
  let v98 : BitVec 32 := Scalar.subi v95 v97
  let v99 : BitVec 1 := Scalar.cmpi .ne v93 v98
  let v100 : BitVec 32 := Scalar.remsi v87 c8_i32_96
  let c0_i32_101 : BitVec 32 := 0#32
  let v101 : BitVec 1 := Scalar.cmpi .ne v100 c0_i32_101
  let v102 : BitVec 1 := Scalar.andi v99 v101
  let v88 : BitVec 32 := Scalar.divsi v87 c8_i32_96
  let c1_i32_102 : BitVec 32 := 1#32
  let v103 : BitVec 32 := Scalar.subi v88 c1_i32_102
  let v104 : BitVec 32 := Scalar.select v102 v103 v88
  let c8192_i32_104 : BitVec 32 := 8192#32
  let v107 : BitVec 32 := Scalar.muli v104 c8192_i32_104
  let c8_i32_103 : BitVec 32 := 8#32
  let v105 : BitVec 32 := Scalar.muli v104 c8_i32_103
  let v106 : BitVec 32 := Scalar.subi v87 v105
  let c256_i32_105 : BitVec 32 := 256#32
  let v108 : BitVec 32 := Scalar.muli v106 c256_i32_105
  let v109 : BitVec 32 := Scalar.addi v107 v108
  let c8192_i32_114 : BitVec 32 := 8192#32
  let v130 : BitVec 32 := Scalar.andi v109 c8192_i32_114
  let c0_i32_115 : BitVec 32 := 0#32
  let v131 : BitVec 1 := Scalar.cmpi .eq v130 c0_i32_115
  let true_117 : BitVec 1 := 1#1
  let v134 : BitVec 1 := Scalar.xori v131 true_117
  let v135 : BitVec 32 := Scalar.extui v134
  let c0_i32_118 : BitVec 32 := 0#32
  let v136 : BitVec 1 := Scalar.cmpi .ne v135 c0_i32_118
  v136

def k0_off95 (k0_t15 : Fin k0_t15_loop.trips) : Fin 2 → Nat :=
  let c2_i32_94 : BitVec 32 := 2#32
  let c0_i32_64 : BitVec 32 := 0#32
  let c1_i32_66 : BitVec 32 := 1#32
  let arg7 : BitVec 32 := Scf.iv c0_i32_64 c1_i32_66 k0_t15
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c8_i32_96 : BitVec 32 := 8#32
  let c0_i32_99 : BitVec 32 := 0#32
  let v94 : BitVec 1 := Scalar.cmpi .sgt c8_i32_96 c0_i32_99
  let v95 : BitVec 32 := Scalar.extui v94
  let c0_i32_100 : BitVec 32 := 0#32
  let v96 : BitVec 1 := Scalar.cmpi .slt c8_i32_96 c0_i32_100
  let v97 : BitVec 32 := Scalar.extui v96
  let v98 : BitVec 32 := Scalar.subi v95 v97
  let v99 : BitVec 1 := Scalar.cmpi .ne v93 v98
  let v100 : BitVec 32 := Scalar.remsi v87 c8_i32_96
  let c0_i32_101 : BitVec 32 := 0#32
  let v101 : BitVec 1 := Scalar.cmpi .ne v100 c0_i32_101
  let v102 : BitVec 1 := Scalar.andi v99 v101
  let v88 : BitVec 32 := Scalar.divsi v87 c8_i32_96
  let c1_i32_102 : BitVec 32 := 1#32
  let v103 : BitVec 32 := Scalar.subi v88 c1_i32_102
  let v104 : BitVec 32 := Scalar.select v102 v103 v88
  let c8192_i32_104 : BitVec 32 := 8192#32
  let v107 : BitVec 32 := Scalar.muli v104 c8192_i32_104
  let c8_i32_103 : BitVec 32 := 8#32
  let v105 : BitVec 32 := Scalar.muli v104 c8_i32_103
  let v106 : BitVec 32 := Scalar.subi v87 v105
  let c256_i32_105 : BitVec 32 := 256#32
  let v108 : BitVec 32 := Scalar.muli v106 c256_i32_105
  let v109 : BitVec 32 := Scalar.addi v107 v108
  let v137 : Index := Scalar.indexCast v109
  let c0_119 : Index := 0#32
  ![v137.toNat, 0]
def k0_off96 (k0_t15 : Fin k0_t15_loop.trips) (c2048_i32_120 : BitVec 32) : Fin 2 → Nat :=
  let c2_i32_94 : BitVec 32 := 2#32
  let c0_i32_64 : BitVec 32 := 0#32
  let c1_i32_66 : BitVec 32 := 1#32
  let arg7 : BitVec 32 := Scf.iv c0_i32_64 c1_i32_66 k0_t15
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c8_i32_96 : BitVec 32 := 8#32
  let c0_i32_99 : BitVec 32 := 0#32
  let v94 : BitVec 1 := Scalar.cmpi .sgt c8_i32_96 c0_i32_99
  let v95 : BitVec 32 := Scalar.extui v94
  let c0_i32_100 : BitVec 32 := 0#32
  let v96 : BitVec 1 := Scalar.cmpi .slt c8_i32_96 c0_i32_100
  let v97 : BitVec 32 := Scalar.extui v96
  let v98 : BitVec 32 := Scalar.subi v95 v97
  let v99 : BitVec 1 := Scalar.cmpi .ne v93 v98
  let v100 : BitVec 32 := Scalar.remsi v87 c8_i32_96
  let c0_i32_101 : BitVec 32 := 0#32
  let v101 : BitVec 1 := Scalar.cmpi .ne v100 c0_i32_101
  let v102 : BitVec 1 := Scalar.andi v99 v101
  let v88 : BitVec 32 := Scalar.divsi v87 c8_i32_96
  let c1_i32_102 : BitVec 32 := 1#32
  let v103 : BitVec 32 := Scalar.subi v88 c1_i32_102
  let v104 : BitVec 32 := Scalar.select v102 v103 v88
  let c8192_i32_104 : BitVec 32 := 8192#32
  let v107 : BitVec 32 := Scalar.muli v104 c8192_i32_104
  let c8_i32_103 : BitVec 32 := 8#32
  let v105 : BitVec 32 := Scalar.muli v104 c8_i32_103
  let v106 : BitVec 32 := Scalar.subi v87 v105
  let c256_i32_105 : BitVec 32 := 256#32
  let v108 : BitVec 32 := Scalar.muli v106 c256_i32_105
  let v109 : BitVec 32 := Scalar.addi v107 v108
  let v141 : BitVec 32 := Scalar.addi v109 c2048_i32_120
  let v142 : Index := Scalar.indexCast v141
  let c0_121 : Index := 0#32
  ![v142.toNat, 0]
def k0_off97 (k0_t15 : Fin k0_t15_loop.trips) : Fin 2 → Nat :=
  let c2_i32_94 : BitVec 32 := 2#32
  let c0_i32_64 : BitVec 32 := 0#32
  let c1_i32_66 : BitVec 32 := 1#32
  let arg7 : BitVec 32 := Scf.iv c0_i32_64 c1_i32_66 k0_t15
  let v86 : BitVec 32 := Scalar.muli c2_i32_94 arg7
  let c1_i32_95 : BitVec 32 := 1#32
  let v87 : BitVec 32 := Scalar.addi v86 c1_i32_95
  let c0_i32_97 : BitVec 32 := 0#32
  let v89 : BitVec 1 := Scalar.cmpi .sgt v87 c0_i32_97
  let v90 : BitVec 32 := Scalar.extui v89
  let c0_i32_98 : BitVec 32 := 0#32
  let v91 : BitVec 1 := Scalar.cmpi .slt v87 c0_i32_98
  let v92 : BitVec 32 := Scalar.extui v91
  let v93 : BitVec 32 := Scalar.subi v90 v92
  let c8_i32_96 : BitVec 32 := 8#32
  let c0_i32_99 : BitVec 32 := 0#32
  let v94 : BitVec 1 := Scalar.cmpi .sgt c8_i32_96 c0_i32_99
  let v95 : BitVec 32 := Scalar.extui v94
  let c0_i32_100 : BitVec 32 := 0#32
  let v96 : BitVec 1 := Scalar.cmpi .slt c8_i32_96 c0_i32_100
  let v97 : BitVec 32 := Scalar.extui v96
  let v98 : BitVec 32 := Scalar.subi v95 v97
  let v99 : BitVec 1 := Scalar.cmpi .ne v93 v98
  let v100 : BitVec 32 := Scalar.remsi v87 c8_i32_96
  let c0_i32_101 : BitVec 32 := 0#32
  let v101 : BitVec 1 := Scalar.cmpi .ne v100 c0_i32_101
  let v102 : BitVec 1 := Scalar.andi v99 v101
  let v88 : BitVec 32 := Scalar.divsi v87 c8_i32_96
  let c1_i32_102 : BitVec 32 := 1#32
  let v103 : BitVec 32 := Scalar.subi v88 c1_i32_102
  let v104 : BitVec 32 := Scalar.select v102 v103 v88
  let c8192_i32_104 : BitVec 32 := 8192#32
  let v107 : BitVec 32 := Scalar.muli v104 c8192_i32_104
  let c8_i32_103 : BitVec 32 := 8#32
  let v105 : BitVec 32 := Scalar.muli v104 c8_i32_103
  let v106 : BitVec 32 := Scalar.subi v87 v105
  let c256_i32_105 : BitVec 32 := 256#32
  let v108 : BitVec 32 := Scalar.muli v106 c256_i32_105
  let v109 : BitVec 32 := Scalar.addi v107 v108
  let c4096_i32_124 : BitVec 32 := 4096#32
  let v151 : BitVec 32 := Scalar.addi v109 c4096_i32_124
  let c2048_i32_125 : BitVec 32 := 2048#32
  let v152 : BitVec 32 := Scalar.addi v151 c2048_i32_125
  let v153 : Index := Scalar.indexCast v152
  let c0_126 : Index := 0#32
  ![v153.toNat, 0]
@[reducible] def k0_t16_loop : Scf.Loop 32 :=
  let c0_i32_68 : BitVec 32 := 0#32
  let c4_i32_69 : BitVec 32 := 4#32
  let v34 : BitVec 32 := Scalar.addi c0_i32_68 c4_i32_69
  let c1_i32_70 : BitVec 32 := 1#32
  ⟨c0_i32_68, v34, c1_i32_70⟩
def k0_off98 (k0_t16 : Fin k0_t16_loop.trips) : Fin 2 → Nat :=
  let c2_i32 : BitVec 32 := 2#32
  let c0_i32_68 : BitVec 32 := 0#32
  let c1_i32_70 : BitVec 32 := 1#32
  let arg7 : BitVec 32 := Scf.iv c0_i32_68 c1_i32_70 k0_t16
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let v59 : Index := Scalar.indexCast v58
  let c0_84 : Index := 0#32
  ![v59.toNat, 0]
def k0_off99 (k0_t16 : Fin k0_t16_loop.trips) (c512_i32 : BitVec 32) : Fin 2 → Nat :=
  let c2_i32 : BitVec 32 := 2#32
  let c0_i32_68 : BitVec 32 := 0#32
  let c1_i32_70 : BitVec 32 := 1#32
  let arg7 : BitVec 32 := Scf.iv c0_i32_68 c1_i32_70 k0_t16
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let v61 : BitVec 32 := Scalar.addi v58 c512_i32
  let v62 : Index := Scalar.indexCast v61
  let c0_85 : Index := 0#32
  ![v62.toNat, 0]
def k0_off100 (k0_t16 : Fin k0_t16_loop.trips) : Fin 2 → Nat :=
  let c2_i32 : BitVec 32 := 2#32
  let c0_i32_68 : BitVec 32 := 0#32
  let c1_i32_70 : BitVec 32 := 1#32
  let arg7 : BitVec 32 := Scf.iv c0_i32_68 c1_i32_70 k0_t16
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let c1024_i32_87 : BitVec 32 := 1024#32
  let v67 : BitVec 32 := Scalar.addi v58 c1024_i32_87
  let c512_i32_88 : BitVec 32 := 512#32
  let v68 : BitVec 32 := Scalar.addi v67 c512_i32_88
  let v69 : Index := Scalar.indexCast v68
  let c0_89 : Index := 0#32
  ![v69.toNat, 0]
def k0_cond21 (k0_t16 : Fin k0_t16_loop.trips) : BitVec 1 :=
  let c2_i32 : BitVec 32 := 2#32
  let c0_i32_68 : BitVec 32 := 0#32
  let c1_i32_70 : BitVec 32 := 1#32
  let arg7 : BitVec 32 := Scf.iv c0_i32_68 c1_i32_70 k0_t16
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let c8192_i32 : BitVec 32 := 8192#32
  let v79 : BitVec 32 := Scalar.andi v58 c8192_i32
  let c0_i32_90 : BitVec 32 := 0#32
  let v80 : BitVec 1 := Scalar.cmpi .eq v79 c0_i32_90
  let v81 : BitVec 32 := Scalar.extui v80
  let c0_i32_91 : BitVec 32 := 0#32
  let v82 : BitVec 1 := Scalar.cmpi .ne v81 c0_i32_91
  v82

def k0_off101 (k0_t16 : Fin k0_t16_loop.trips) : Fin 2 → Nat :=
  let c2_i32 : BitVec 32 := 2#32
  let c0_i32_68 : BitVec 32 := 0#32
  let c1_i32_70 : BitVec 32 := 1#32
  let arg7 : BitVec 32 := Scf.iv c0_i32_68 c1_i32_70 k0_t16
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let v137 : Index := Scalar.indexCast v58
  let c0_118 : Index := 0#32
  ![v137.toNat, 0]
def k0_off102 (k0_t16 : Fin k0_t16_loop.trips) (c512_i32_119 : BitVec 32) : Fin 2 → Nat :=
  let c2_i32 : BitVec 32 := 2#32
  let c0_i32_68 : BitVec 32 := 0#32
  let c1_i32_70 : BitVec 32 := 1#32
  let arg7 : BitVec 32 := Scf.iv c0_i32_68 c1_i32_70 k0_t16
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let v141 : BitVec 32 := Scalar.addi v58 c512_i32_119
  let v142 : Index := Scalar.indexCast v141
  let c0_120 : Index := 0#32
  ![v142.toNat, 0]
def k0_off103 (k0_t16 : Fin k0_t16_loop.trips) : Fin 2 → Nat :=
  let c2_i32 : BitVec 32 := 2#32
  let c0_i32_68 : BitVec 32 := 0#32
  let c1_i32_70 : BitVec 32 := 1#32
  let arg7 : BitVec 32 := Scf.iv c0_i32_68 c1_i32_70 k0_t16
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let c1024_i32_123 : BitVec 32 := 1024#32
  let v151 : BitVec 32 := Scalar.addi v58 c1024_i32_123
  let c512_i32_124 : BitVec 32 := 512#32
  let v152 : BitVec 32 := Scalar.addi v151 c512_i32_124
  let v153 : Index := Scalar.indexCast v152
  let c0_125 : Index := 0#32
  ![v153.toNat, 0]
def k0_cond22 (k0_t16 : Fin k0_t16_loop.trips) : BitVec 1 :=
  let c2_i32 : BitVec 32 := 2#32
  let c0_i32_68 : BitVec 32 := 0#32
  let c1_i32_70 : BitVec 32 := 1#32
  let arg7 : BitVec 32 := Scf.iv c0_i32_68 c1_i32_70 k0_t16
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let c8192_i32 : BitVec 32 := 8192#32
  let v79 : BitVec 32 := Scalar.andi v58 c8192_i32
  let c0_i32_90 : BitVec 32 := 0#32
  let v80 : BitVec 1 := Scalar.cmpi .eq v79 c0_i32_90
  let v_true : BitVec 1 := 1#1
  let v83 : BitVec 1 := Scalar.xori v80 v_true
  let v84 : BitVec 32 := Scalar.extui v83
  let c0_i32_92 : BitVec 32 := 0#32
  let v85 : BitVec 1 := Scalar.cmpi .ne v84 c0_i32_92
  v85

def k0_off104 (k0_t16 : Fin k0_t16_loop.trips) : Fin 2 → Nat :=
  let c2_i32 : BitVec 32 := 2#32
  let c0_i32_68 : BitVec 32 := 0#32
  let c1_i32_70 : BitVec 32 := 1#32
  let arg7 : BitVec 32 := Scf.iv c0_i32_68 c1_i32_70 k0_t16
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let v137 : Index := Scalar.indexCast v58
  let c0_118 : Index := 0#32
  ![v137.toNat, 0]
def k0_off105 (k0_t16 : Fin k0_t16_loop.trips) (c512_i32_119 : BitVec 32) : Fin 2 → Nat :=
  let c2_i32 : BitVec 32 := 2#32
  let c0_i32_68 : BitVec 32 := 0#32
  let c1_i32_70 : BitVec 32 := 1#32
  let arg7 : BitVec 32 := Scf.iv c0_i32_68 c1_i32_70 k0_t16
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let v141 : BitVec 32 := Scalar.addi v58 c512_i32_119
  let v142 : Index := Scalar.indexCast v141
  let c0_120 : Index := 0#32
  ![v142.toNat, 0]
def k0_off106 (k0_t16 : Fin k0_t16_loop.trips) : Fin 2 → Nat :=
  let c2_i32 : BitVec 32 := 2#32
  let c0_i32_68 : BitVec 32 := 0#32
  let c1_i32_70 : BitVec 32 := 1#32
  let arg7 : BitVec 32 := Scf.iv c0_i32_68 c1_i32_70 k0_t16
  let v36 : BitVec 32 := Scalar.muli c2_i32 arg7
  let c0_i32_77 : BitVec 32 := 0#32
  let v38 : BitVec 1 := Scalar.cmpi .sgt v36 c0_i32_77
  let v39 : BitVec 32 := Scalar.extui v38
  let c0_i32_78 : BitVec 32 := 0#32
  let v40 : BitVec 1 := Scalar.cmpi .slt v36 c0_i32_78
  let v41 : BitVec 32 := Scalar.extui v40
  let v42 : BitVec 32 := Scalar.subi v39 v41
  let c2_i32_76 : BitVec 32 := 2#32
  let c0_i32_79 : BitVec 32 := 0#32
  let v43 : BitVec 1 := Scalar.cmpi .sgt c2_i32_76 c0_i32_79
  let v44 : BitVec 32 := Scalar.extui v43
  let c0_i32_80 : BitVec 32 := 0#32
  let v45 : BitVec 1 := Scalar.cmpi .slt c2_i32_76 c0_i32_80
  let v46 : BitVec 32 := Scalar.extui v45
  let v47 : BitVec 32 := Scalar.subi v44 v46
  let v48 : BitVec 1 := Scalar.cmpi .ne v42 v47
  let v49 : BitVec 32 := Scalar.remsi v36 c2_i32_76
  let c0_i32_81 : BitVec 32 := 0#32
  let v50 : BitVec 1 := Scalar.cmpi .ne v49 c0_i32_81
  let v51 : BitVec 1 := Scalar.andi v48 v50
  let v37 : BitVec 32 := Scalar.divsi v36 c2_i32_76
  let c1_i32_82 : BitVec 32 := 1#32
  let v52 : BitVec 32 := Scalar.subi v37 c1_i32_82
  let v53 : BitVec 32 := Scalar.select v51 v52 v37
  let c2048_i32 : BitVec 32 := 2048#32
  let v56 : BitVec 32 := Scalar.muli v53 c2048_i32
  let c2_i32_83 : BitVec 32 := 2#32
  let v54 : BitVec 32 := Scalar.muli v53 c2_i32_83
  let v55 : BitVec 32 := Scalar.subi v36 v54
  let c256_i32 : BitVec 32 := 256#32
  let v57 : BitVec 32 := Scalar.muli v55 c256_i32
  let v58 : BitVec 32 := Scalar.addi v56 v57
  let c1024_i32_123 : BitVec 32 := 1024#32
  let v151 : BitVec 32 := Scalar.addi v58 c1024_i32_123
  let c512_i32_124 : BitVec 32 := 512#32
  let v152 : BitVec 32 := Scalar.addi v151 c512_i32_124
  let v153 : Index := Scalar.indexCast v152
  let c0_125 : Index := 0#32
  ![v153.toNat, 0]
def k0_off107 (k0_t16 : Fin k0_t16_loop.trips) : Fin 2 → Nat :=
  let c2_i32_93 : BitVec 32 := 2#32
  let c0_i32_68 : BitVec 32 := 0#32
  let c1_i32_70 : BitVec 32 := 1#32
  let arg7 : BitVec 32 := Scf.iv c0_i32_68 c1_i32_70 k0_t16
  let v86 : BitVec 32 := Scalar.muli c2_i32_93 arg7
  let c1_i32_94 : BitVec 32 := 1#32
  let v87 : BitVec 32 := Scalar.addi v86 c1_i32_94
  let c0_i32_96 : BitVec 32 := 0#32
  let v89 : BitVec 1 := Scalar.cmpi .sgt v87 c0_i32_96
  let v90 : BitVec 32 := Scalar.extui v89
  let c0_i32_97 : BitVec 32 := 0#32
  let v91 : BitVec 1 := Scalar.cmpi .slt v87 c0_i32_97
  let v92 : BitVec 32 := Scalar.extui v91
  let v93 : BitVec 32 := Scalar.subi v90 v92
  let c2_i32_95 : BitVec 32 := 2#32
  let c0_i32_98 : BitVec 32 := 0#32
  let v94 : BitVec 1 := Scalar.cmpi .sgt c2_i32_95 c0_i32_98
  let v95 : BitVec 32 := Scalar.extui v94
  let c0_i32_99 : BitVec 32 := 0#32
  let v96 : BitVec 1 := Scalar.cmpi .slt c2_i32_95 c0_i32_99
  let v97 : BitVec 32 := Scalar.extui v96
  let v98 : BitVec 32 := Scalar.subi v95 v97
  let v99 : BitVec 1 := Scalar.cmpi .ne v93 v98
  let v100 : BitVec 32 := Scalar.remsi v87 c2_i32_95
  let c0_i32_100 : BitVec 32 := 0#32
  let v101 : BitVec 1 := Scalar.cmpi .ne v100 c0_i32_100
  let v102 : BitVec 1 := Scalar.andi v99 v101
  let v88 : BitVec 32 := Scalar.divsi v87 c2_i32_95
  let c1_i32_101 : BitVec 32 := 1#32
  let v103 : BitVec 32 := Scalar.subi v88 c1_i32_101
  let v104 : BitVec 32 := Scalar.select v102 v103 v88
  let c2048_i32_103 : BitVec 32 := 2048#32
  let v107 : BitVec 32 := Scalar.muli v104 c2048_i32_103
  let c2_i32_102 : BitVec 32 := 2#32
  let v105 : BitVec 32 := Scalar.muli v104 c2_i32_102
  let v106 : BitVec 32 := Scalar.subi v87 v105
  let c256_i32_104 : BitVec 32 := 256#32
  let v108 : BitVec 32 := Scalar.muli v106 c256_i32_104
  let v109 : BitVec 32 := Scalar.addi v107 v108
  let v110 : Index := Scalar.indexCast v109
  let c0_105 : Index := 0#32
  ![v110.toNat, 0]
def k0_off108 (k0_t16 : Fin k0_t16_loop.trips) (c512_i32_106 : BitVec 32) : Fin 2 → Nat :=
  let c2_i32_93 : BitVec 32 := 2#32
  let c0_i32_68 : BitVec 32 := 0#32
  let c1_i32_70 : BitVec 32 := 1#32
  let arg7 : BitVec 32 := Scf.iv c0_i32_68 c1_i32_70 k0_t16
  let v86 : BitVec 32 := Scalar.muli c2_i32_93 arg7
  let c1_i32_94 : BitVec 32 := 1#32
  let v87 : BitVec 32 := Scalar.addi v86 c1_i32_94
  let c0_i32_96 : BitVec 32 := 0#32
  let v89 : BitVec 1 := Scalar.cmpi .sgt v87 c0_i32_96
  let v90 : BitVec 32 := Scalar.extui v89
  let c0_i32_97 : BitVec 32 := 0#32
  let v91 : BitVec 1 := Scalar.cmpi .slt v87 c0_i32_97
  let v92 : BitVec 32 := Scalar.extui v91
  let v93 : BitVec 32 := Scalar.subi v90 v92
  let c2_i32_95 : BitVec 32 := 2#32
  let c0_i32_98 : BitVec 32 := 0#32
  let v94 : BitVec 1 := Scalar.cmpi .sgt c2_i32_95 c0_i32_98
  let v95 : BitVec 32 := Scalar.extui v94
  let c0_i32_99 : BitVec 32 := 0#32
  let v96 : BitVec 1 := Scalar.cmpi .slt c2_i32_95 c0_i32_99
  let v97 : BitVec 32 := Scalar.extui v96
  let v98 : BitVec 32 := Scalar.subi v95 v97
  let v99 : BitVec 1 := Scalar.cmpi .ne v93 v98
  let v100 : BitVec 32 := Scalar.remsi v87 c2_i32_95
  let c0_i32_100 : BitVec 32 := 0#32
  let v101 : BitVec 1 := Scalar.cmpi .ne v100 c0_i32_100
  let v102 : BitVec 1 := Scalar.andi v99 v101
  let v88 : BitVec 32 := Scalar.divsi v87 c2_i32_95
  let c1_i32_101 : BitVec 32 := 1#32
  let v103 : BitVec 32 := Scalar.subi v88 c1_i32_101
  let v104 : BitVec 32 := Scalar.select v102 v103 v88
  let c2048_i32_103 : BitVec 32 := 2048#32
  let v107 : BitVec 32 := Scalar.muli v104 c2048_i32_103
  let c2_i32_102 : BitVec 32 := 2#32
  let v105 : BitVec 32 := Scalar.muli v104 c2_i32_102
  let v106 : BitVec 32 := Scalar.subi v87 v105
  let c256_i32_104 : BitVec 32 := 256#32
  let v108 : BitVec 32 := Scalar.muli v106 c256_i32_104
  let v109 : BitVec 32 := Scalar.addi v107 v108
  let v112 : BitVec 32 := Scalar.addi v109 c512_i32_106
  let v113 : Index := Scalar.indexCast v112
  let c0_107 : Index := 0#32
  ![v113.toNat, 0]
def k0_off109 (k0_t16 : Fin k0_t16_loop.trips) : Fin 2 → Nat :=
  let c2_i32_93 : BitVec 32 := 2#32
  let c0_i32_68 : BitVec 32 := 0#32
  let c1_i32_70 : BitVec 32 := 1#32
  let arg7 : BitVec 32 := Scf.iv c0_i32_68 c1_i32_70 k0_t16
  let v86 : BitVec 32 := Scalar.muli c2_i32_93 arg7
  let c1_i32_94 : BitVec 32 := 1#32
  let v87 : BitVec 32 := Scalar.addi v86 c1_i32_94
  let c0_i32_96 : BitVec 32 := 0#32
  let v89 : BitVec 1 := Scalar.cmpi .sgt v87 c0_i32_96
  let v90 : BitVec 32 := Scalar.extui v89
  let c0_i32_97 : BitVec 32 := 0#32
  let v91 : BitVec 1 := Scalar.cmpi .slt v87 c0_i32_97
  let v92 : BitVec 32 := Scalar.extui v91
  let v93 : BitVec 32 := Scalar.subi v90 v92
  let c2_i32_95 : BitVec 32 := 2#32
  let c0_i32_98 : BitVec 32 := 0#32
  let v94 : BitVec 1 := Scalar.cmpi .sgt c2_i32_95 c0_i32_98
  let v95 : BitVec 32 := Scalar.extui v94
  let c0_i32_99 : BitVec 32 := 0#32
  let v96 : BitVec 1 := Scalar.cmpi .slt c2_i32_95 c0_i32_99
  let v97 : BitVec 32 := Scalar.extui v96
  let v98 : BitVec 32 := Scalar.subi v95 v97
  let v99 : BitVec 1 := Scalar.cmpi .ne v93 v98
  let v100 : BitVec 32 := Scalar.remsi v87 c2_i32_95
  let c0_i32_100 : BitVec 32 := 0#32
  let v101 : BitVec 1 := Scalar.cmpi .ne v100 c0_i32_100
  let v102 : BitVec 1 := Scalar.andi v99 v101
  let v88 : BitVec 32 := Scalar.divsi v87 c2_i32_95
  let c1_i32_101 : BitVec 32 := 1#32
  let v103 : BitVec 32 := Scalar.subi v88 c1_i32_101
  let v104 : BitVec 32 := Scalar.select v102 v103 v88
  let c2048_i32_103 : BitVec 32 := 2048#32
  let v107 : BitVec 32 := Scalar.muli v104 c2048_i32_103
  let c2_i32_102 : BitVec 32 := 2#32
  let v105 : BitVec 32 := Scalar.muli v104 c2_i32_102
  let v106 : BitVec 32 := Scalar.subi v87 v105
  let c256_i32_104 : BitVec 32 := 256#32
  let v108 : BitVec 32 := Scalar.muli v106 c256_i32_104
  let v109 : BitVec 32 := Scalar.addi v107 v108
  let c1024_i32_110 : BitVec 32 := 1024#32
  let v118 : BitVec 32 := Scalar.addi v109 c1024_i32_110
  let c512_i32_111 : BitVec 32 := 512#32
  let v119 : BitVec 32 := Scalar.addi v118 c512_i32_111
  let v120 : Index := Scalar.indexCast v119
  let c0_112 : Index := 0#32
  ![v120.toNat, 0]
def k0_cond23 (k0_t16 : Fin k0_t16_loop.trips) : BitVec 1 :=
  let c2_i32_93 : BitVec 32 := 2#32
  let c0_i32_68 : BitVec 32 := 0#32
  let c1_i32_70 : BitVec 32 := 1#32
  let arg7 : BitVec 32 := Scf.iv c0_i32_68 c1_i32_70 k0_t16
  let v86 : BitVec 32 := Scalar.muli c2_i32_93 arg7
  let c1_i32_94 : BitVec 32 := 1#32
  let v87 : BitVec 32 := Scalar.addi v86 c1_i32_94
  let c0_i32_96 : BitVec 32 := 0#32
  let v89 : BitVec 1 := Scalar.cmpi .sgt v87 c0_i32_96
  let v90 : BitVec 32 := Scalar.extui v89
  let c0_i32_97 : BitVec 32 := 0#32
  let v91 : BitVec 1 := Scalar.cmpi .slt v87 c0_i32_97
  let v92 : BitVec 32 := Scalar.extui v91
  let v93 : BitVec 32 := Scalar.subi v90 v92
  let c2_i32_95 : BitVec 32 := 2#32
  let c0_i32_98 : BitVec 32 := 0#32
  let v94 : BitVec 1 := Scalar.cmpi .sgt c2_i32_95 c0_i32_98
  let v95 : BitVec 32 := Scalar.extui v94
  let c0_i32_99 : BitVec 32 := 0#32
  let v96 : BitVec 1 := Scalar.cmpi .slt c2_i32_95 c0_i32_99
  let v97 : BitVec 32 := Scalar.extui v96
  let v98 : BitVec 32 := Scalar.subi v95 v97
  let v99 : BitVec 1 := Scalar.cmpi .ne v93 v98
  let v100 : BitVec 32 := Scalar.remsi v87 c2_i32_95
  let c0_i32_100 : BitVec 32 := 0#32
  let v101 : BitVec 1 := Scalar.cmpi .ne v100 c0_i32_100
  let v102 : BitVec 1 := Scalar.andi v99 v101
  let v88 : BitVec 32 := Scalar.divsi v87 c2_i32_95
  let c1_i32_101 : BitVec 32 := 1#32
  let v103 : BitVec 32 := Scalar.subi v88 c1_i32_101
  let v104 : BitVec 32 := Scalar.select v102 v103 v88
  let c2048_i32_103 : BitVec 32 := 2048#32
  let v107 : BitVec 32 := Scalar.muli v104 c2048_i32_103
  let c2_i32_102 : BitVec 32 := 2#32
  let v105 : BitVec 32 := Scalar.muli v104 c2_i32_102
  let v106 : BitVec 32 := Scalar.subi v87 v105
  let c256_i32_104 : BitVec 32 := 256#32
  let v108 : BitVec 32 := Scalar.muli v106 c256_i32_104
  let v109 : BitVec 32 := Scalar.addi v107 v108
  let c8192_i32_113 : BitVec 32 := 8192#32
  let v130 : BitVec 32 := Scalar.andi v109 c8192_i32_113
  let c0_i32_114 : BitVec 32 := 0#32
  let v131 : BitVec 1 := Scalar.cmpi .eq v130 c0_i32_114
  let v132 : BitVec 32 := Scalar.extui v131
  let c0_i32_115 : BitVec 32 := 0#32
  let v133 : BitVec 1 := Scalar.cmpi .ne v132 c0_i32_115
  v133

def k0_off110 (k0_t16 : Fin k0_t16_loop.trips) : Fin 2 → Nat :=
  let c2_i32_93 : BitVec 32 := 2#32
  let c0_i32_68 : BitVec 32 := 0#32
  let c1_i32_70 : BitVec 32 := 1#32
  let arg7 : BitVec 32 := Scf.iv c0_i32_68 c1_i32_70 k0_t16
  let v86 : BitVec 32 := Scalar.muli c2_i32_93 arg7
  let c1_i32_94 : BitVec 32 := 1#32
  let v87 : BitVec 32 := Scalar.addi v86 c1_i32_94
  let c0_i32_96 : BitVec 32 := 0#32
  let v89 : BitVec 1 := Scalar.cmpi .sgt v87 c0_i32_96
  let v90 : BitVec 32 := Scalar.extui v89
  let c0_i32_97 : BitVec 32 := 0#32
  let v91 : BitVec 1 := Scalar.cmpi .slt v87 c0_i32_97
  let v92 : BitVec 32 := Scalar.extui v91
  let v93 : BitVec 32 := Scalar.subi v90 v92
  let c2_i32_95 : BitVec 32 := 2#32
  let c0_i32_98 : BitVec 32 := 0#32
  let v94 : BitVec 1 := Scalar.cmpi .sgt c2_i32_95 c0_i32_98
  let v95 : BitVec 32 := Scalar.extui v94
  let c0_i32_99 : BitVec 32 := 0#32
  let v96 : BitVec 1 := Scalar.cmpi .slt c2_i32_95 c0_i32_99
  let v97 : BitVec 32 := Scalar.extui v96
  let v98 : BitVec 32 := Scalar.subi v95 v97
  let v99 : BitVec 1 := Scalar.cmpi .ne v93 v98
  let v100 : BitVec 32 := Scalar.remsi v87 c2_i32_95
  let c0_i32_100 : BitVec 32 := 0#32
  let v101 : BitVec 1 := Scalar.cmpi .ne v100 c0_i32_100
  let v102 : BitVec 1 := Scalar.andi v99 v101
  let v88 : BitVec 32 := Scalar.divsi v87 c2_i32_95
  let c1_i32_101 : BitVec 32 := 1#32
  let v103 : BitVec 32 := Scalar.subi v88 c1_i32_101
  let v104 : BitVec 32 := Scalar.select v102 v103 v88
  let c2048_i32_103 : BitVec 32 := 2048#32
  let v107 : BitVec 32 := Scalar.muli v104 c2048_i32_103
  let c2_i32_102 : BitVec 32 := 2#32
  let v105 : BitVec 32 := Scalar.muli v104 c2_i32_102
  let v106 : BitVec 32 := Scalar.subi v87 v105
  let c256_i32_104 : BitVec 32 := 256#32
  let v108 : BitVec 32 := Scalar.muli v106 c256_i32_104
  let v109 : BitVec 32 := Scalar.addi v107 v108
  let v137 : Index := Scalar.indexCast v109
  let c0_118 : Index := 0#32
  ![v137.toNat, 0]
def k0_off111 (k0_t16 : Fin k0_t16_loop.trips) (c512_i32_119 : BitVec 32) : Fin 2 → Nat :=
  let c2_i32_93 : BitVec 32 := 2#32
  let c0_i32_68 : BitVec 32 := 0#32
  let c1_i32_70 : BitVec 32 := 1#32
  let arg7 : BitVec 32 := Scf.iv c0_i32_68 c1_i32_70 k0_t16
  let v86 : BitVec 32 := Scalar.muli c2_i32_93 arg7
  let c1_i32_94 : BitVec 32 := 1#32
  let v87 : BitVec 32 := Scalar.addi v86 c1_i32_94
  let c0_i32_96 : BitVec 32 := 0#32
  let v89 : BitVec 1 := Scalar.cmpi .sgt v87 c0_i32_96
  let v90 : BitVec 32 := Scalar.extui v89
  let c0_i32_97 : BitVec 32 := 0#32
  let v91 : BitVec 1 := Scalar.cmpi .slt v87 c0_i32_97
  let v92 : BitVec 32 := Scalar.extui v91
  let v93 : BitVec 32 := Scalar.subi v90 v92
  let c2_i32_95 : BitVec 32 := 2#32
  let c0_i32_98 : BitVec 32 := 0#32
  let v94 : BitVec 1 := Scalar.cmpi .sgt c2_i32_95 c0_i32_98
  let v95 : BitVec 32 := Scalar.extui v94
  let c0_i32_99 : BitVec 32 := 0#32
  let v96 : BitVec 1 := Scalar.cmpi .slt c2_i32_95 c0_i32_99
  let v97 : BitVec 32 := Scalar.extui v96
  let v98 : BitVec 32 := Scalar.subi v95 v97
  let v99 : BitVec 1 := Scalar.cmpi .ne v93 v98
  let v100 : BitVec 32 := Scalar.remsi v87 c2_i32_95
  let c0_i32_100 : BitVec 32 := 0#32
  let v101 : BitVec 1 := Scalar.cmpi .ne v100 c0_i32_100
  let v102 : BitVec 1 := Scalar.andi v99 v101
  let v88 : BitVec 32 := Scalar.divsi v87 c2_i32_95
  let c1_i32_101 : BitVec 32 := 1#32
  let v103 : BitVec 32 := Scalar.subi v88 c1_i32_101
  let v104 : BitVec 32 := Scalar.select v102 v103 v88
  let c2048_i32_103 : BitVec 32 := 2048#32
  let v107 : BitVec 32 := Scalar.muli v104 c2048_i32_103
  let c2_i32_102 : BitVec 32 := 2#32
  let v105 : BitVec 32 := Scalar.muli v104 c2_i32_102
  let v106 : BitVec 32 := Scalar.subi v87 v105
  let c256_i32_104 : BitVec 32 := 256#32
  let v108 : BitVec 32 := Scalar.muli v106 c256_i32_104
  let v109 : BitVec 32 := Scalar.addi v107 v108
  let v141 : BitVec 32 := Scalar.addi v109 c512_i32_119
  let v142 : Index := Scalar.indexCast v141
  let c0_120 : Index := 0#32
  ![v142.toNat, 0]
def k0_off112 (k0_t16 : Fin k0_t16_loop.trips) : Fin 2 → Nat :=
  let c2_i32_93 : BitVec 32 := 2#32
  let c0_i32_68 : BitVec 32 := 0#32
  let c1_i32_70 : BitVec 32 := 1#32
  let arg7 : BitVec 32 := Scf.iv c0_i32_68 c1_i32_70 k0_t16
  let v86 : BitVec 32 := Scalar.muli c2_i32_93 arg7
  let c1_i32_94 : BitVec 32 := 1#32
  let v87 : BitVec 32 := Scalar.addi v86 c1_i32_94
  let c0_i32_96 : BitVec 32 := 0#32
  let v89 : BitVec 1 := Scalar.cmpi .sgt v87 c0_i32_96
  let v90 : BitVec 32 := Scalar.extui v89
  let c0_i32_97 : BitVec 32 := 0#32
  let v91 : BitVec 1 := Scalar.cmpi .slt v87 c0_i32_97
  let v92 : BitVec 32 := Scalar.extui v91
  let v93 : BitVec 32 := Scalar.subi v90 v92
  let c2_i32_95 : BitVec 32 := 2#32
  let c0_i32_98 : BitVec 32 := 0#32
  let v94 : BitVec 1 := Scalar.cmpi .sgt c2_i32_95 c0_i32_98
  let v95 : BitVec 32 := Scalar.extui v94
  let c0_i32_99 : BitVec 32 := 0#32
  let v96 : BitVec 1 := Scalar.cmpi .slt c2_i32_95 c0_i32_99
  let v97 : BitVec 32 := Scalar.extui v96
  let v98 : BitVec 32 := Scalar.subi v95 v97
  let v99 : BitVec 1 := Scalar.cmpi .ne v93 v98
  let v100 : BitVec 32 := Scalar.remsi v87 c2_i32_95
  let c0_i32_100 : BitVec 32 := 0#32
  let v101 : BitVec 1 := Scalar.cmpi .ne v100 c0_i32_100
  let v102 : BitVec 1 := Scalar.andi v99 v101
  let v88 : BitVec 32 := Scalar.divsi v87 c2_i32_95
  let c1_i32_101 : BitVec 32 := 1#32
  let v103 : BitVec 32 := Scalar.subi v88 c1_i32_101
  let v104 : BitVec 32 := Scalar.select v102 v103 v88
  let c2048_i32_103 : BitVec 32 := 2048#32
  let v107 : BitVec 32 := Scalar.muli v104 c2048_i32_103
  let c2_i32_102 : BitVec 32 := 2#32
  let v105 : BitVec 32 := Scalar.muli v104 c2_i32_102
  let v106 : BitVec 32 := Scalar.subi v87 v105
  let c256_i32_104 : BitVec 32 := 256#32
  let v108 : BitVec 32 := Scalar.muli v106 c256_i32_104
  let v109 : BitVec 32 := Scalar.addi v107 v108
  let c1024_i32_123 : BitVec 32 := 1024#32
  let v151 : BitVec 32 := Scalar.addi v109 c1024_i32_123
  let c512_i32_124 : BitVec 32 := 512#32
  let v152 : BitVec 32 := Scalar.addi v151 c512_i32_124
  let v153 : Index := Scalar.indexCast v152
  let c0_125 : Index := 0#32
  ![v153.toNat, 0]
def k0_cond24 (k0_t16 : Fin k0_t16_loop.trips) : BitVec 1 :=
  let c2_i32_93 : BitVec 32 := 2#32
  let c0_i32_68 : BitVec 32 := 0#32
  let c1_i32_70 : BitVec 32 := 1#32
  let arg7 : BitVec 32 := Scf.iv c0_i32_68 c1_i32_70 k0_t16
  let v86 : BitVec 32 := Scalar.muli c2_i32_93 arg7
  let c1_i32_94 : BitVec 32 := 1#32
  let v87 : BitVec 32 := Scalar.addi v86 c1_i32_94
  let c0_i32_96 : BitVec 32 := 0#32
  let v89 : BitVec 1 := Scalar.cmpi .sgt v87 c0_i32_96
  let v90 : BitVec 32 := Scalar.extui v89
  let c0_i32_97 : BitVec 32 := 0#32
  let v91 : BitVec 1 := Scalar.cmpi .slt v87 c0_i32_97
  let v92 : BitVec 32 := Scalar.extui v91
  let v93 : BitVec 32 := Scalar.subi v90 v92
  let c2_i32_95 : BitVec 32 := 2#32
  let c0_i32_98 : BitVec 32 := 0#32
  let v94 : BitVec 1 := Scalar.cmpi .sgt c2_i32_95 c0_i32_98
  let v95 : BitVec 32 := Scalar.extui v94
  let c0_i32_99 : BitVec 32 := 0#32
  let v96 : BitVec 1 := Scalar.cmpi .slt c2_i32_95 c0_i32_99
  let v97 : BitVec 32 := Scalar.extui v96
  let v98 : BitVec 32 := Scalar.subi v95 v97
  let v99 : BitVec 1 := Scalar.cmpi .ne v93 v98
  let v100 : BitVec 32 := Scalar.remsi v87 c2_i32_95
  let c0_i32_100 : BitVec 32 := 0#32
  let v101 : BitVec 1 := Scalar.cmpi .ne v100 c0_i32_100
  let v102 : BitVec 1 := Scalar.andi v99 v101
  let v88 : BitVec 32 := Scalar.divsi v87 c2_i32_95
  let c1_i32_101 : BitVec 32 := 1#32
  let v103 : BitVec 32 := Scalar.subi v88 c1_i32_101
  let v104 : BitVec 32 := Scalar.select v102 v103 v88
  let c2048_i32_103 : BitVec 32 := 2048#32
  let v107 : BitVec 32 := Scalar.muli v104 c2048_i32_103
  let c2_i32_102 : BitVec 32 := 2#32
  let v105 : BitVec 32 := Scalar.muli v104 c2_i32_102
  let v106 : BitVec 32 := Scalar.subi v87 v105
  let c256_i32_104 : BitVec 32 := 256#32
  let v108 : BitVec 32 := Scalar.muli v106 c256_i32_104
  let v109 : BitVec 32 := Scalar.addi v107 v108
  let c8192_i32_113 : BitVec 32 := 8192#32
  let v130 : BitVec 32 := Scalar.andi v109 c8192_i32_113
  let c0_i32_114 : BitVec 32 := 0#32
  let v131 : BitVec 1 := Scalar.cmpi .eq v130 c0_i32_114
  let true_116 : BitVec 1 := 1#1
  let v134 : BitVec 1 := Scalar.xori v131 true_116
  let v135 : BitVec 32 := Scalar.extui v134
  let c0_i32_117 : BitVec 32 := 0#32
  let v136 : BitVec 1 := Scalar.cmpi .ne v135 c0_i32_117
  v136

def k0_off113 (k0_t16 : Fin k0_t16_loop.trips) : Fin 2 → Nat :=
  let c2_i32_93 : BitVec 32 := 2#32
  let c0_i32_68 : BitVec 32 := 0#32
  let c1_i32_70 : BitVec 32 := 1#32
  let arg7 : BitVec 32 := Scf.iv c0_i32_68 c1_i32_70 k0_t16
  let v86 : BitVec 32 := Scalar.muli c2_i32_93 arg7
  let c1_i32_94 : BitVec 32 := 1#32
  let v87 : BitVec 32 := Scalar.addi v86 c1_i32_94
  let c0_i32_96 : BitVec 32 := 0#32
  let v89 : BitVec 1 := Scalar.cmpi .sgt v87 c0_i32_96
  let v90 : BitVec 32 := Scalar.extui v89
  let c0_i32_97 : BitVec 32 := 0#32
  let v91 : BitVec 1 := Scalar.cmpi .slt v87 c0_i32_97
  let v92 : BitVec 32 := Scalar.extui v91
  let v93 : BitVec 32 := Scalar.subi v90 v92
  let c2_i32_95 : BitVec 32 := 2#32
  let c0_i32_98 : BitVec 32 := 0#32
  let v94 : BitVec 1 := Scalar.cmpi .sgt c2_i32_95 c0_i32_98
  let v95 : BitVec 32 := Scalar.extui v94
  let c0_i32_99 : BitVec 32 := 0#32
  let v96 : BitVec 1 := Scalar.cmpi .slt c2_i32_95 c0_i32_99
  let v97 : BitVec 32 := Scalar.extui v96
  let v98 : BitVec 32 := Scalar.subi v95 v97
  let v99 : BitVec 1 := Scalar.cmpi .ne v93 v98
  let v100 : BitVec 32 := Scalar.remsi v87 c2_i32_95
  let c0_i32_100 : BitVec 32 := 0#32
  let v101 : BitVec 1 := Scalar.cmpi .ne v100 c0_i32_100
  let v102 : BitVec 1 := Scalar.andi v99 v101
  let v88 : BitVec 32 := Scalar.divsi v87 c2_i32_95
  let c1_i32_101 : BitVec 32 := 1#32
  let v103 : BitVec 32 := Scalar.subi v88 c1_i32_101
  let v104 : BitVec 32 := Scalar.select v102 v103 v88
  let c2048_i32_103 : BitVec 32 := 2048#32
  let v107 : BitVec 32 := Scalar.muli v104 c2048_i32_103
  let c2_i32_102 : BitVec 32 := 2#32
  let v105 : BitVec 32 := Scalar.muli v104 c2_i32_102
  let v106 : BitVec 32 := Scalar.subi v87 v105
  let c256_i32_104 : BitVec 32 := 256#32
  let v108 : BitVec 32 := Scalar.muli v106 c256_i32_104
  let v109 : BitVec 32 := Scalar.addi v107 v108
  let v137 : Index := Scalar.indexCast v109
  let c0_118 : Index := 0#32
  ![v137.toNat, 0]
def k0_off114 (k0_t16 : Fin k0_t16_loop.trips) (c512_i32_119 : BitVec 32) : Fin 2 → Nat :=
  let c2_i32_93 : BitVec 32 := 2#32
  let c0_i32_68 : BitVec 32 := 0#32
  let c1_i32_70 : BitVec 32 := 1#32
  let arg7 : BitVec 32 := Scf.iv c0_i32_68 c1_i32_70 k0_t16
  let v86 : BitVec 32 := Scalar.muli c2_i32_93 arg7
  let c1_i32_94 : BitVec 32 := 1#32
  let v87 : BitVec 32 := Scalar.addi v86 c1_i32_94
  let c0_i32_96 : BitVec 32 := 0#32
  let v89 : BitVec 1 := Scalar.cmpi .sgt v87 c0_i32_96
  let v90 : BitVec 32 := Scalar.extui v89
  let c0_i32_97 : BitVec 32 := 0#32
  let v91 : BitVec 1 := Scalar.cmpi .slt v87 c0_i32_97
  let v92 : BitVec 32 := Scalar.extui v91
  let v93 : BitVec 32 := Scalar.subi v90 v92
  let c2_i32_95 : BitVec 32 := 2#32
  let c0_i32_98 : BitVec 32 := 0#32
  let v94 : BitVec 1 := Scalar.cmpi .sgt c2_i32_95 c0_i32_98
  let v95 : BitVec 32 := Scalar.extui v94
  let c0_i32_99 : BitVec 32 := 0#32
  let v96 : BitVec 1 := Scalar.cmpi .slt c2_i32_95 c0_i32_99
  let v97 : BitVec 32 := Scalar.extui v96
  let v98 : BitVec 32 := Scalar.subi v95 v97
  let v99 : BitVec 1 := Scalar.cmpi .ne v93 v98
  let v100 : BitVec 32 := Scalar.remsi v87 c2_i32_95
  let c0_i32_100 : BitVec 32 := 0#32
  let v101 : BitVec 1 := Scalar.cmpi .ne v100 c0_i32_100
  let v102 : BitVec 1 := Scalar.andi v99 v101
  let v88 : BitVec 32 := Scalar.divsi v87 c2_i32_95
  let c1_i32_101 : BitVec 32 := 1#32
  let v103 : BitVec 32 := Scalar.subi v88 c1_i32_101
  let v104 : BitVec 32 := Scalar.select v102 v103 v88
  let c2048_i32_103 : BitVec 32 := 2048#32
  let v107 : BitVec 32 := Scalar.muli v104 c2048_i32_103
  let c2_i32_102 : BitVec 32 := 2#32
  let v105 : BitVec 32 := Scalar.muli v104 c2_i32_102
  let v106 : BitVec 32 := Scalar.subi v87 v105
  let c256_i32_104 : BitVec 32 := 256#32
  let v108 : BitVec 32 := Scalar.muli v106 c256_i32_104
  let v109 : BitVec 32 := Scalar.addi v107 v108
  let v141 : BitVec 32 := Scalar.addi v109 c512_i32_119
  let v142 : Index := Scalar.indexCast v141
  let c0_120 : Index := 0#32
  ![v142.toNat, 0]
def k0_off115 (k0_t16 : Fin k0_t16_loop.trips) : Fin 2 → Nat :=
  let c2_i32_93 : BitVec 32 := 2#32
  let c0_i32_68 : BitVec 32 := 0#32
  let c1_i32_70 : BitVec 32 := 1#32
  let arg7 : BitVec 32 := Scf.iv c0_i32_68 c1_i32_70 k0_t16
  let v86 : BitVec 32 := Scalar.muli c2_i32_93 arg7
  let c1_i32_94 : BitVec 32 := 1#32
  let v87 : BitVec 32 := Scalar.addi v86 c1_i32_94
  let c0_i32_96 : BitVec 32 := 0#32
  let v89 : BitVec 1 := Scalar.cmpi .sgt v87 c0_i32_96
  let v90 : BitVec 32 := Scalar.extui v89
  let c0_i32_97 : BitVec 32 := 0#32
  let v91 : BitVec 1 := Scalar.cmpi .slt v87 c0_i32_97
  let v92 : BitVec 32 := Scalar.extui v91
  let v93 : BitVec 32 := Scalar.subi v90 v92
  let c2_i32_95 : BitVec 32 := 2#32
  let c0_i32_98 : BitVec 32 := 0#32
  let v94 : BitVec 1 := Scalar.cmpi .sgt c2_i32_95 c0_i32_98
  let v95 : BitVec 32 := Scalar.extui v94
  let c0_i32_99 : BitVec 32 := 0#32
  let v96 : BitVec 1 := Scalar.cmpi .slt c2_i32_95 c0_i32_99
  let v97 : BitVec 32 := Scalar.extui v96
  let v98 : BitVec 32 := Scalar.subi v95 v97
  let v99 : BitVec 1 := Scalar.cmpi .ne v93 v98
  let v100 : BitVec 32 := Scalar.remsi v87 c2_i32_95
  let c0_i32_100 : BitVec 32 := 0#32
  let v101 : BitVec 1 := Scalar.cmpi .ne v100 c0_i32_100
  let v102 : BitVec 1 := Scalar.andi v99 v101
  let v88 : BitVec 32 := Scalar.divsi v87 c2_i32_95
  let c1_i32_101 : BitVec 32 := 1#32
  let v103 : BitVec 32 := Scalar.subi v88 c1_i32_101
  let v104 : BitVec 32 := Scalar.select v102 v103 v88
  let c2048_i32_103 : BitVec 32 := 2048#32
  let v107 : BitVec 32 := Scalar.muli v104 c2048_i32_103
  let c2_i32_102 : BitVec 32 := 2#32
  let v105 : BitVec 32 := Scalar.muli v104 c2_i32_102
  let v106 : BitVec 32 := Scalar.subi v87 v105
  let c256_i32_104 : BitVec 32 := 256#32
  let v108 : BitVec 32 := Scalar.muli v106 c256_i32_104
  let v109 : BitVec 32 := Scalar.addi v107 v108
  let c1024_i32_123 : BitVec 32 := 1024#32
  let v151 : BitVec 32 := Scalar.addi v109 c1024_i32_123
  let c512_i32_124 : BitVec 32 := 512#32
  let v152 : BitVec 32 := Scalar.addi v151 c512_i32_124
  let v153 : Index := Scalar.indexCast v152
  let c0_125 : Index := 0#32
  ![v153.toNat, 0]
@[reducible] def k0_t17_loop : Scf.Loop 32 :=
  let c0_i32_72 : BitVec 32 := 0#32
  let c8_i32_73 : BitVec 32 := 8#32
  let v35 : BitVec 32 := Scalar.addi c0_i32_72 c8_i32_73
  let c1_i32_74 : BitVec 32 := 1#32
  ⟨c0_i32_72, v35, c1_i32_74⟩
def k0_off116 (k0_t17 : Fin k0_t17_loop.trips) : Fin 2 → Nat :=
  let c2_i32 : BitVec 32 := 2#32
  let c0_i32_72 : BitVec 32 := 0#32
  let c1_i32_74 : BitVec 32 := 1#32
  let arg7 : BitVec 32 := Scf.iv c0_i32_72 c1_i32_74 k0_t17
  let v36 : BitVec 32 := Scalar.muli c2_i32 arg7
  let c0_i32_76 : BitVec 32 := 0#32
  let v38 : BitVec 1 := Scalar.cmpi .sgt v36 c0_i32_76
  let v39 : BitVec 32 := Scalar.extui v38
  let c0_i32_77 : BitVec 32 := 0#32
  let v40 : BitVec 1 := Scalar.cmpi .slt v36 c0_i32_77
  let v41 : BitVec 32 := Scalar.extui v40
  let v42 : BitVec 32 := Scalar.subi v39 v41
  let c16_i32 : BitVec 32 := 16#32
  let c0_i32_78 : BitVec 32 := 0#32
  let v43 : BitVec 1 := Scalar.cmpi .sgt c16_i32 c0_i32_78
  let v44 : BitVec 32 := Scalar.extui v43
  let c0_i32_79 : BitVec 32 := 0#32
  let v45 : BitVec 1 := Scalar.cmpi .slt c16_i32 c0_i32_79
  let v46 : BitVec 32 := Scalar.extui v45
  let v47 : BitVec 32 := Scalar.subi v44 v46
  let v48 : BitVec 1 := Scalar.cmpi .ne v42 v47
  let v49 : BitVec 32 := Scalar.remsi v36 c16_i32
  let c0_i32_80 : BitVec 32 := 0#32
  let v50 : BitVec 1 := Scalar.cmpi .ne v49 c0_i32_80
  let v51 : BitVec 1 := Scalar.andi v48 v50
  let v37 : BitVec 32 := Scalar.divsi v36 c16_i32
  let c1_i32_81 : BitVec 32 := 1#32
  let v52 : BitVec 32 := Scalar.subi v37 c1_i32_81
  let v53 : BitVec 32 := Scalar.select v51 v52 v37
  let c2_i32_82 : BitVec 32 := 2#32
  let v54 : BitVec 32 := Scalar.muli v53 c2_i32_82
  let c16_i32_83 : BitVec 32 := 16#32
  let v55 : BitVec 32 := Scalar.muli v54 c16_i32_83
  let c0_i32_85 : BitVec 32 := 0#32
  let v57 : BitVec 1 := Scalar.cmpi .sgt v36 c0_i32_85
  let v58 : BitVec 32 := Scalar.extui v57
  let c0_i32_86 : BitVec 32 := 0#32
  let v59 : BitVec 1 := Scalar.cmpi .slt v36 c0_i32_86
  let v60 : BitVec 32 := Scalar.extui v59
  let v61 : BitVec 32 := Scalar.subi v58 v60
  let c16_i32_84 : BitVec 32 := 16#32
  let c0_i32_87 : BitVec 32 := 0#32
  let v62 : BitVec 1 := Scalar.cmpi .sgt c16_i32_84 c0_i32_87
  let v63 : BitVec 32 := Scalar.extui v62
  let c0_i32_88 : BitVec 32 := 0#32
  let v64 : BitVec 1 := Scalar.cmpi .slt c16_i32_84 c0_i32_88
  let v65 : BitVec 32 := Scalar.extui v64
  let v66 : BitVec 32 := Scalar.subi v63 v65
  let v67 : BitVec 1 := Scalar.cmpi .ne v61 v66
  let v68 : BitVec 32 := Scalar.remsi v36 c16_i32_84
  let c0_i32_89 : BitVec 32 := 0#32
  let v69 : BitVec 1 := Scalar.cmpi .ne v68 c0_i32_89
  let v70 : BitVec 1 := Scalar.andi v67 v69
  let v56 : BitVec 32 := Scalar.divsi v36 c16_i32_84
  let c1_i32_90 : BitVec 32 := 1#32
  let v71 : BitVec 32 := Scalar.subi v56 c1_i32_90
  let v72 : BitVec 32 := Scalar.select v70 v71 v56
  let c16_i32_91 : BitVec 32 := 16#32
  let v73 : BitVec 32 := Scalar.muli v72 c16_i32_91
  let v74 : BitVec 32 := Scalar.subi v36 v73
  let v75 : BitVec 32 := Scalar.addi v55 v74
  let c512_i32 : BitVec 32 := 512#32
  let v76 : BitVec 32 := Scalar.muli v75 c512_i32
  let v77 : Index := Scalar.indexCast v76
  let c0_92 : Index := 0#32
  ![v77.toNat, 0]
def k0_off117 (k0_t17 : Fin k0_t17_loop.trips) : Fin 3 → Nat :=
  let c0_135 : Index := 0#32
  let c2_i32 : BitVec 32 := 2#32
  let c0_i32_72 : BitVec 32 := 0#32
  let c1_i32_74 : BitVec 32 := 1#32
  let arg7 : BitVec 32 := Scf.iv c0_i32_72 c1_i32_74 k0_t17
  let v36 : BitVec 32 := Scalar.muli c2_i32 arg7
  let c0_i32_76 : BitVec 32 := 0#32
  let v38 : BitVec 1 := Scalar.cmpi .sgt v36 c0_i32_76
  let v39 : BitVec 32 := Scalar.extui v38
  let c0_i32_77 : BitVec 32 := 0#32
  let v40 : BitVec 1 := Scalar.cmpi .slt v36 c0_i32_77
  let v41 : BitVec 32 := Scalar.extui v40
  let v42 : BitVec 32 := Scalar.subi v39 v41
  let c16_i32 : BitVec 32 := 16#32
  let c0_i32_78 : BitVec 32 := 0#32
  let v43 : BitVec 1 := Scalar.cmpi .sgt c16_i32 c0_i32_78
  let v44 : BitVec 32 := Scalar.extui v43
  let c0_i32_79 : BitVec 32 := 0#32
  let v45 : BitVec 1 := Scalar.cmpi .slt c16_i32 c0_i32_79
  let v46 : BitVec 32 := Scalar.extui v45
  let v47 : BitVec 32 := Scalar.subi v44 v46
  let v48 : BitVec 1 := Scalar.cmpi .ne v42 v47
  let v49 : BitVec 32 := Scalar.remsi v36 c16_i32
  let c0_i32_80 : BitVec 32 := 0#32
  let v50 : BitVec 1 := Scalar.cmpi .ne v49 c0_i32_80
  let v51 : BitVec 1 := Scalar.andi v48 v50
  let v37 : BitVec 32 := Scalar.divsi v36 c16_i32
  let c1_i32_81 : BitVec 32 := 1#32
  let v52 : BitVec 32 := Scalar.subi v37 c1_i32_81
  let v53 : BitVec 32 := Scalar.select v51 v52 v37
  let c2_i32_82 : BitVec 32 := 2#32
  let v54 : BitVec 32 := Scalar.muli v53 c2_i32_82
  let c16_i32_83 : BitVec 32 := 16#32
  let v55 : BitVec 32 := Scalar.muli v54 c16_i32_83
  let c0_i32_85 : BitVec 32 := 0#32
  let v57 : BitVec 1 := Scalar.cmpi .sgt v36 c0_i32_85
  let v58 : BitVec 32 := Scalar.extui v57
  let c0_i32_86 : BitVec 32 := 0#32
  let v59 : BitVec 1 := Scalar.cmpi .slt v36 c0_i32_86
  let v60 : BitVec 32 := Scalar.extui v59
  let v61 : BitVec 32 := Scalar.subi v58 v60
  let c16_i32_84 : BitVec 32 := 16#32
  let c0_i32_87 : BitVec 32 := 0#32
  let v62 : BitVec 1 := Scalar.cmpi .sgt c16_i32_84 c0_i32_87
  let v63 : BitVec 32 := Scalar.extui v62
  let c0_i32_88 : BitVec 32 := 0#32
  let v64 : BitVec 1 := Scalar.cmpi .slt c16_i32_84 c0_i32_88
  let v65 : BitVec 32 := Scalar.extui v64
  let v66 : BitVec 32 := Scalar.subi v63 v65
  let v67 : BitVec 1 := Scalar.cmpi .ne v61 v66
  let v68 : BitVec 32 := Scalar.remsi v36 c16_i32_84
  let c0_i32_89 : BitVec 32 := 0#32
  let v69 : BitVec 1 := Scalar.cmpi .ne v68 c0_i32_89
  let v70 : BitVec 1 := Scalar.andi v67 v69
  let v56 : BitVec 32 := Scalar.divsi v36 c16_i32_84
  let c1_i32_90 : BitVec 32 := 1#32
  let v71 : BitVec 32 := Scalar.subi v56 c1_i32_90
  let v72 : BitVec 32 := Scalar.select v70 v71 v56
  let c16_i32_91 : BitVec 32 := 16#32
  let v73 : BitVec 32 := Scalar.muli v72 c16_i32_91
  let v74 : BitVec 32 := Scalar.subi v36 v73
  let v75 : BitVec 32 := Scalar.addi v55 v74
  let c512_i32 : BitVec 32 := 512#32
  let v76 : BitVec 32 := Scalar.muli v75 c512_i32
  let v401 : Index := Scalar.indexCast v76
  let c0_136 : Index := 0#32
  ![0, v401.toNat, 0]
def k0_off118 (k0_t17 : Fin k0_t17_loop.trips) : Fin 3 → Nat :=
  let c1 : Index := 1#32
  let c2_i32 : BitVec 32 := 2#32
  let c0_i32_72 : BitVec 32 := 0#32
  let c1_i32_74 : BitVec 32 := 1#32
  let arg7 : BitVec 32 := Scf.iv c0_i32_72 c1_i32_74 k0_t17
  let v36 : BitVec 32 := Scalar.muli c2_i32 arg7
  let c0_i32_76 : BitVec 32 := 0#32
  let v38 : BitVec 1 := Scalar.cmpi .sgt v36 c0_i32_76
  let v39 : BitVec 32 := Scalar.extui v38
  let c0_i32_77 : BitVec 32 := 0#32
  let v40 : BitVec 1 := Scalar.cmpi .slt v36 c0_i32_77
  let v41 : BitVec 32 := Scalar.extui v40
  let v42 : BitVec 32 := Scalar.subi v39 v41
  let c16_i32 : BitVec 32 := 16#32
  let c0_i32_78 : BitVec 32 := 0#32
  let v43 : BitVec 1 := Scalar.cmpi .sgt c16_i32 c0_i32_78
  let v44 : BitVec 32 := Scalar.extui v43
  let c0_i32_79 : BitVec 32 := 0#32
  let v45 : BitVec 1 := Scalar.cmpi .slt c16_i32 c0_i32_79
  let v46 : BitVec 32 := Scalar.extui v45
  let v47 : BitVec 32 := Scalar.subi v44 v46
  let v48 : BitVec 1 := Scalar.cmpi .ne v42 v47
  let v49 : BitVec 32 := Scalar.remsi v36 c16_i32
  let c0_i32_80 : BitVec 32 := 0#32
  let v50 : BitVec 1 := Scalar.cmpi .ne v49 c0_i32_80
  let v51 : BitVec 1 := Scalar.andi v48 v50
  let v37 : BitVec 32 := Scalar.divsi v36 c16_i32
  let c1_i32_81 : BitVec 32 := 1#32
  let v52 : BitVec 32 := Scalar.subi v37 c1_i32_81
  let v53 : BitVec 32 := Scalar.select v51 v52 v37
  let c2_i32_82 : BitVec 32 := 2#32
  let v54 : BitVec 32 := Scalar.muli v53 c2_i32_82
  let c16_i32_83 : BitVec 32 := 16#32
  let v55 : BitVec 32 := Scalar.muli v54 c16_i32_83
  let c0_i32_85 : BitVec 32 := 0#32
  let v57 : BitVec 1 := Scalar.cmpi .sgt v36 c0_i32_85
  let v58 : BitVec 32 := Scalar.extui v57
  let c0_i32_86 : BitVec 32 := 0#32
  let v59 : BitVec 1 := Scalar.cmpi .slt v36 c0_i32_86
  let v60 : BitVec 32 := Scalar.extui v59
  let v61 : BitVec 32 := Scalar.subi v58 v60
  let c16_i32_84 : BitVec 32 := 16#32
  let c0_i32_87 : BitVec 32 := 0#32
  let v62 : BitVec 1 := Scalar.cmpi .sgt c16_i32_84 c0_i32_87
  let v63 : BitVec 32 := Scalar.extui v62
  let c0_i32_88 : BitVec 32 := 0#32
  let v64 : BitVec 1 := Scalar.cmpi .slt c16_i32_84 c0_i32_88
  let v65 : BitVec 32 := Scalar.extui v64
  let v66 : BitVec 32 := Scalar.subi v63 v65
  let v67 : BitVec 1 := Scalar.cmpi .ne v61 v66
  let v68 : BitVec 32 := Scalar.remsi v36 c16_i32_84
  let c0_i32_89 : BitVec 32 := 0#32
  let v69 : BitVec 1 := Scalar.cmpi .ne v68 c0_i32_89
  let v70 : BitVec 1 := Scalar.andi v67 v69
  let v56 : BitVec 32 := Scalar.divsi v36 c16_i32_84
  let c1_i32_90 : BitVec 32 := 1#32
  let v71 : BitVec 32 := Scalar.subi v56 c1_i32_90
  let v72 : BitVec 32 := Scalar.select v70 v71 v56
  let c16_i32_91 : BitVec 32 := 16#32
  let v73 : BitVec 32 := Scalar.muli v72 c16_i32_91
  let v74 : BitVec 32 := Scalar.subi v36 v73
  let v75 : BitVec 32 := Scalar.addi v55 v74
  let c512_i32 : BitVec 32 := 512#32
  let v76 : BitVec 32 := Scalar.muli v75 c512_i32
  let v406 : Index := Scalar.indexCast v76
  let c0_137 : Index := 0#32
  ![1, v406.toNat, 0]
def k0_off119 (k0_t17 : Fin k0_t17_loop.trips) : Fin 2 → Nat :=
  let c2_i32_138 : BitVec 32 := 2#32
  let c0_i32_72 : BitVec 32 := 0#32
  let c1_i32_74 : BitVec 32 := 1#32
  let arg7 : BitVec 32 := Scf.iv c0_i32_72 c1_i32_74 k0_t17
  let v410 : BitVec 32 := Scalar.muli c2_i32_138 arg7
  let c1_i32_139 : BitVec 32 := 1#32
  let v411 : BitVec 32 := Scalar.addi v410 c1_i32_139
  let c0_i32_141 : BitVec 32 := 0#32
  let v413 : BitVec 1 := Scalar.cmpi .sgt v411 c0_i32_141
  let v414 : BitVec 32 := Scalar.extui v413
  let c0_i32_142 : BitVec 32 := 0#32
  let v415 : BitVec 1 := Scalar.cmpi .slt v411 c0_i32_142
  let v416 : BitVec 32 := Scalar.extui v415
  let v417 : BitVec 32 := Scalar.subi v414 v416
  let c16_i32_140 : BitVec 32 := 16#32
  let c0_i32_143 : BitVec 32 := 0#32
  let v418 : BitVec 1 := Scalar.cmpi .sgt c16_i32_140 c0_i32_143
  let v419 : BitVec 32 := Scalar.extui v418
  let c0_i32_144 : BitVec 32 := 0#32
  let v420 : BitVec 1 := Scalar.cmpi .slt c16_i32_140 c0_i32_144
  let v421 : BitVec 32 := Scalar.extui v420
  let v422 : BitVec 32 := Scalar.subi v419 v421
  let v423 : BitVec 1 := Scalar.cmpi .ne v417 v422
  let v424 : BitVec 32 := Scalar.remsi v411 c16_i32_140
  let c0_i32_145 : BitVec 32 := 0#32
  let v425 : BitVec 1 := Scalar.cmpi .ne v424 c0_i32_145
  let v426 : BitVec 1 := Scalar.andi v423 v425
  let v412 : BitVec 32 := Scalar.divsi v411 c16_i32_140
  let c1_i32_146 : BitVec 32 := 1#32
  let v427 : BitVec 32 := Scalar.subi v412 c1_i32_146
  let v428 : BitVec 32 := Scalar.select v426 v427 v412
  let c2_i32_147 : BitVec 32 := 2#32
  let v429 : BitVec 32 := Scalar.muli v428 c2_i32_147
  let c16_i32_148 : BitVec 32 := 16#32
  let v430 : BitVec 32 := Scalar.muli v429 c16_i32_148
  let c0_i32_150 : BitVec 32 := 0#32
  let v432 : BitVec 1 := Scalar.cmpi .sgt v411 c0_i32_150
  let v433 : BitVec 32 := Scalar.extui v432
  let c0_i32_151 : BitVec 32 := 0#32
  let v434 : BitVec 1 := Scalar.cmpi .slt v411 c0_i32_151
  let v435 : BitVec 32 := Scalar.extui v434
  let v436 : BitVec 32 := Scalar.subi v433 v435
  let c16_i32_149 : BitVec 32 := 16#32
  let c0_i32_152 : BitVec 32 := 0#32
  let v437 : BitVec 1 := Scalar.cmpi .sgt c16_i32_149 c0_i32_152
  let v438 : BitVec 32 := Scalar.extui v437
  let c0_i32_153 : BitVec 32 := 0#32
  let v439 : BitVec 1 := Scalar.cmpi .slt c16_i32_149 c0_i32_153
  let v440 : BitVec 32 := Scalar.extui v439
  let v441 : BitVec 32 := Scalar.subi v438 v440
  let v442 : BitVec 1 := Scalar.cmpi .ne v436 v441
  let v443 : BitVec 32 := Scalar.remsi v411 c16_i32_149
  let c0_i32_154 : BitVec 32 := 0#32
  let v444 : BitVec 1 := Scalar.cmpi .ne v443 c0_i32_154
  let v445 : BitVec 1 := Scalar.andi v442 v444
  let v431 : BitVec 32 := Scalar.divsi v411 c16_i32_149
  let c1_i32_155 : BitVec 32 := 1#32
  let v446 : BitVec 32 := Scalar.subi v431 c1_i32_155
  let v447 : BitVec 32 := Scalar.select v445 v446 v431
  let c16_i32_156 : BitVec 32 := 16#32
  let v448 : BitVec 32 := Scalar.muli v447 c16_i32_156
  let v449 : BitVec 32 := Scalar.subi v411 v448
  let v450 : BitVec 32 := Scalar.addi v430 v449
  let c512_i32_157 : BitVec 32 := 512#32
  let v451 : BitVec 32 := Scalar.muli v450 c512_i32_157
  let v452 : Index := Scalar.indexCast v451
  let c0_158 : Index := 0#32
  ![v452.toNat, 0]
def k0_off120 (k0_t17 : Fin k0_t17_loop.trips) : Fin 3 → Nat :=
  let c0_203 : Index := 0#32
  let c2_i32_138 : BitVec 32 := 2#32
  let c0_i32_72 : BitVec 32 := 0#32
  let c1_i32_74 : BitVec 32 := 1#32
  let arg7 : BitVec 32 := Scf.iv c0_i32_72 c1_i32_74 k0_t17
  let v410 : BitVec 32 := Scalar.muli c2_i32_138 arg7
  let c1_i32_139 : BitVec 32 := 1#32
  let v411 : BitVec 32 := Scalar.addi v410 c1_i32_139
  let c0_i32_141 : BitVec 32 := 0#32
  let v413 : BitVec 1 := Scalar.cmpi .sgt v411 c0_i32_141
  let v414 : BitVec 32 := Scalar.extui v413
  let c0_i32_142 : BitVec 32 := 0#32
  let v415 : BitVec 1 := Scalar.cmpi .slt v411 c0_i32_142
  let v416 : BitVec 32 := Scalar.extui v415
  let v417 : BitVec 32 := Scalar.subi v414 v416
  let c16_i32_140 : BitVec 32 := 16#32
  let c0_i32_143 : BitVec 32 := 0#32
  let v418 : BitVec 1 := Scalar.cmpi .sgt c16_i32_140 c0_i32_143
  let v419 : BitVec 32 := Scalar.extui v418
  let c0_i32_144 : BitVec 32 := 0#32
  let v420 : BitVec 1 := Scalar.cmpi .slt c16_i32_140 c0_i32_144
  let v421 : BitVec 32 := Scalar.extui v420
  let v422 : BitVec 32 := Scalar.subi v419 v421
  let v423 : BitVec 1 := Scalar.cmpi .ne v417 v422
  let v424 : BitVec 32 := Scalar.remsi v411 c16_i32_140
  let c0_i32_145 : BitVec 32 := 0#32
  let v425 : BitVec 1 := Scalar.cmpi .ne v424 c0_i32_145
  let v426 : BitVec 1 := Scalar.andi v423 v425
  let v412 : BitVec 32 := Scalar.divsi v411 c16_i32_140
  let c1_i32_146 : BitVec 32 := 1#32
  let v427 : BitVec 32 := Scalar.subi v412 c1_i32_146
  let v428 : BitVec 32 := Scalar.select v426 v427 v412
  let c2_i32_147 : BitVec 32 := 2#32
  let v429 : BitVec 32 := Scalar.muli v428 c2_i32_147
  let c16_i32_148 : BitVec 32 := 16#32
  let v430 : BitVec 32 := Scalar.muli v429 c16_i32_148
  let c0_i32_150 : BitVec 32 := 0#32
  let v432 : BitVec 1 := Scalar.cmpi .sgt v411 c0_i32_150
  let v433 : BitVec 32 := Scalar.extui v432
  let c0_i32_151 : BitVec 32 := 0#32
  let v434 : BitVec 1 := Scalar.cmpi .slt v411 c0_i32_151
  let v435 : BitVec 32 := Scalar.extui v434
  let v436 : BitVec 32 := Scalar.subi v433 v435
  let c16_i32_149 : BitVec 32 := 16#32
  let c0_i32_152 : BitVec 32 := 0#32
  let v437 : BitVec 1 := Scalar.cmpi .sgt c16_i32_149 c0_i32_152
  let v438 : BitVec 32 := Scalar.extui v437
  let c0_i32_153 : BitVec 32 := 0#32
  let v439 : BitVec 1 := Scalar.cmpi .slt c16_i32_149 c0_i32_153
  let v440 : BitVec 32 := Scalar.extui v439
  let v441 : BitVec 32 := Scalar.subi v438 v440
  let v442 : BitVec 1 := Scalar.cmpi .ne v436 v441
  let v443 : BitVec 32 := Scalar.remsi v411 c16_i32_149
  let c0_i32_154 : BitVec 32 := 0#32
  let v444 : BitVec 1 := Scalar.cmpi .ne v443 c0_i32_154
  let v445 : BitVec 1 := Scalar.andi v442 v444
  let v431 : BitVec 32 := Scalar.divsi v411 c16_i32_149
  let c1_i32_155 : BitVec 32 := 1#32
  let v446 : BitVec 32 := Scalar.subi v431 c1_i32_155
  let v447 : BitVec 32 := Scalar.select v445 v446 v431
  let c16_i32_156 : BitVec 32 := 16#32
  let v448 : BitVec 32 := Scalar.muli v447 c16_i32_156
  let v449 : BitVec 32 := Scalar.subi v411 v448
  let v450 : BitVec 32 := Scalar.addi v430 v449
  let c512_i32_157 : BitVec 32 := 512#32
  let v451 : BitVec 32 := Scalar.muli v450 c512_i32_157
  let v776 : Index := Scalar.indexCast v451
  let c0_204 : Index := 0#32
  ![0, v776.toNat, 0]
def k0_off121 (k0_t17 : Fin k0_t17_loop.trips) : Fin 3 → Nat :=
  let c1_205 : Index := 1#32
  let c2_i32_138 : BitVec 32 := 2#32
  let c0_i32_72 : BitVec 32 := 0#32
  let c1_i32_74 : BitVec 32 := 1#32
  let arg7 : BitVec 32 := Scf.iv c0_i32_72 c1_i32_74 k0_t17
  let v410 : BitVec 32 := Scalar.muli c2_i32_138 arg7
  let c1_i32_139 : BitVec 32 := 1#32
  let v411 : BitVec 32 := Scalar.addi v410 c1_i32_139
  let c0_i32_141 : BitVec 32 := 0#32
  let v413 : BitVec 1 := Scalar.cmpi .sgt v411 c0_i32_141
  let v414 : BitVec 32 := Scalar.extui v413
  let c0_i32_142 : BitVec 32 := 0#32
  let v415 : BitVec 1 := Scalar.cmpi .slt v411 c0_i32_142
  let v416 : BitVec 32 := Scalar.extui v415
  let v417 : BitVec 32 := Scalar.subi v414 v416
  let c16_i32_140 : BitVec 32 := 16#32
  let c0_i32_143 : BitVec 32 := 0#32
  let v418 : BitVec 1 := Scalar.cmpi .sgt c16_i32_140 c0_i32_143
  let v419 : BitVec 32 := Scalar.extui v418
  let c0_i32_144 : BitVec 32 := 0#32
  let v420 : BitVec 1 := Scalar.cmpi .slt c16_i32_140 c0_i32_144
  let v421 : BitVec 32 := Scalar.extui v420
  let v422 : BitVec 32 := Scalar.subi v419 v421
  let v423 : BitVec 1 := Scalar.cmpi .ne v417 v422
  let v424 : BitVec 32 := Scalar.remsi v411 c16_i32_140
  let c0_i32_145 : BitVec 32 := 0#32
  let v425 : BitVec 1 := Scalar.cmpi .ne v424 c0_i32_145
  let v426 : BitVec 1 := Scalar.andi v423 v425
  let v412 : BitVec 32 := Scalar.divsi v411 c16_i32_140
  let c1_i32_146 : BitVec 32 := 1#32
  let v427 : BitVec 32 := Scalar.subi v412 c1_i32_146
  let v428 : BitVec 32 := Scalar.select v426 v427 v412
  let c2_i32_147 : BitVec 32 := 2#32
  let v429 : BitVec 32 := Scalar.muli v428 c2_i32_147
  let c16_i32_148 : BitVec 32 := 16#32
  let v430 : BitVec 32 := Scalar.muli v429 c16_i32_148
  let c0_i32_150 : BitVec 32 := 0#32
  let v432 : BitVec 1 := Scalar.cmpi .sgt v411 c0_i32_150
  let v433 : BitVec 32 := Scalar.extui v432
  let c0_i32_151 : BitVec 32 := 0#32
  let v434 : BitVec 1 := Scalar.cmpi .slt v411 c0_i32_151
  let v435 : BitVec 32 := Scalar.extui v434
  let v436 : BitVec 32 := Scalar.subi v433 v435
  let c16_i32_149 : BitVec 32 := 16#32
  let c0_i32_152 : BitVec 32 := 0#32
  let v437 : BitVec 1 := Scalar.cmpi .sgt c16_i32_149 c0_i32_152
  let v438 : BitVec 32 := Scalar.extui v437
  let c0_i32_153 : BitVec 32 := 0#32
  let v439 : BitVec 1 := Scalar.cmpi .slt c16_i32_149 c0_i32_153
  let v440 : BitVec 32 := Scalar.extui v439
  let v441 : BitVec 32 := Scalar.subi v438 v440
  let v442 : BitVec 1 := Scalar.cmpi .ne v436 v441
  let v443 : BitVec 32 := Scalar.remsi v411 c16_i32_149
  let c0_i32_154 : BitVec 32 := 0#32
  let v444 : BitVec 1 := Scalar.cmpi .ne v443 c0_i32_154
  let v445 : BitVec 1 := Scalar.andi v442 v444
  let v431 : BitVec 32 := Scalar.divsi v411 c16_i32_149
  let c1_i32_155 : BitVec 32 := 1#32
  let v446 : BitVec 32 := Scalar.subi v431 c1_i32_155
  let v447 : BitVec 32 := Scalar.select v445 v446 v431
  let c16_i32_156 : BitVec 32 := 16#32
  let v448 : BitVec 32 := Scalar.muli v447 c16_i32_156
  let v449 : BitVec 32 := Scalar.subi v411 v448
  let v450 : BitVec 32 := Scalar.addi v430 v449
  let c512_i32_157 : BitVec 32 := 512#32
  let v451 : BitVec 32 := Scalar.muli v450 c512_i32_157
  let v781 : Index := Scalar.indexCast v451
  let c0_206 : Index := 0#32
  ![1, v781.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x8192x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x8192 : Shape := ⟨2, ![32, 8192]⟩
abbrev S64 : Shape := ⟨1, ![64]⟩
abbrev S32x8192x1 : Shape := ⟨3, ![32, 8192, 1]⟩
abbrev S1x1x64 : Shape := ⟨3, ![1, 1, 64]⟩
abbrev S32x8192x64 : Shape := ⟨3, ![32, 8192, 64]⟩

abbrev nBuf : Space → Nat
  | .hbm => 16
  | .vmem => 0
  | .smem => 0
  | _ => 0

abbrev bufTy : (tb : Table) → Fin (tcTables nBuf tb) → BufTy
  | .hbm, ⟨0, _⟩ => ⟨S32x8192, .f32⟩
  | .hbm, ⟨1, _⟩ => ⟨S32x8192, .f32⟩
  | .hbm, ⟨2, _⟩ => ⟨S64, .f32⟩
  | .hbm, ⟨3, _⟩ => ⟨S64, .f32⟩
  | .hbm, ⟨4, _⟩ => ⟨S32x8192x1, .f32⟩
  | .hbm, ⟨5, _⟩ => ⟨S1x1x64, .f32⟩
  | .hbm, ⟨6, _⟩ => ⟨S32x8192x64, .f32⟩
  | .hbm, ⟨7, _⟩ => ⟨S32x8192x64, .f32⟩
  | .hbm, ⟨8, _⟩ => ⟨S32x8192x64, .f32⟩
  | .hbm, ⟨9, _⟩ => ⟨S32x8192x1, .f32⟩
  | .hbm, ⟨10, _⟩ => ⟨S1x1x64, .f32⟩
  | .hbm, ⟨11, _⟩ => ⟨S32x8192x64, .f32⟩
  | .hbm, ⟨12, _⟩ => ⟨S32x8192x64, .f32⟩
  | .hbm, ⟨13, _⟩ => ⟨S32x8192x64, .f32⟩
  | .hbm, ⟨14, _⟩ => ⟨S32x8192x64, .f32⟩
  | .hbm, ⟨15, _⟩ => ⟨S32x8192x64, .f32⟩
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Passes.lean ====
/- One pass of the sorting network over a block of 128 rows of 128 lanes, in the operations the kernel runs it by, and the
   passes put together: the sort of 128 rows, the merge that closes a larger sort, and the payloads of the kernel's stores. -/
module

public import Idealize.ShloMosaic.Lib.Pointwise

@[expose] public section

noncomputable section

namespace Cert.Proof.Net

open Idealize.ShloMosaic

variable {F : FTy → Type} [FloatOps F]

/-- `R` rows of 128 lanes. -/
abbrev Rows (R : ℕ) : Shape := ⟨2, ![R, 128]⟩
/-- `G` groups of `n` rows of 128 lanes. -/
abbrev Groups (G n : ℕ) : Shape := ⟨3, ![G, n, 128]⟩
/-- `G` groups of `h` parts of `n` rows of 128 lanes. -/
abbrev Parts (G h n : ℕ) : Shape := ⟨4, ![G, h, n, 128]⟩
/-- One word per row of a group of eight. -/
abbrev Eight : Shape := ⟨3, ![1, 8, 1]⟩
/-- One word per group. -/
abbrev PerGroup (G : ℕ) : Shape := ⟨3, ![G, 1, 1]⟩

/-- The lesser of two vectors place by place, or with `desc` the greater. -/
def first {s : Shape} (desc : Bool) (a b : FVec F s .f32) : FVec F s .f32 := cond desc (maximumf a b) (minimumf a b)

/-! ## The shapes fit -/

section fits
variable {G j L n R : ℕ}

theorem casts_groups (h : G * n = R) : (Rows R).ShapeCasts (Groups G n) := by
  subst h; simp [Shape.ShapeCasts, Shape.numel, Fin.prod_univ_succ, mul_assoc]

theorem casts_rows (h : G * n = R) : (Groups G n).ShapeCasts (Rows R) := (casts_groups h).symm

theorem casts_parts : (Groups G j).ShapeCasts (Parts G 1 j) := by
  simp [Shape.ShapeCasts, Shape.numel, Fin.prod_univ_succ, mul_assoc]

theorem casts_woven (h : G * (2 * j) = R) : (Parts G 2 j).ShapeCasts (Rows R) := by
  subst h; simp [Shape.ShapeCasts, Shape.numel, Fin.prod_univ_succ, mul_assoc]

theorem slices_low (h : n = 2 * j) : (Groups G n).Slices ![0, 0, 0] (Groups G j) :=
  ⟨rfl, fun a => by fin_cases a <;> simp <;> omega⟩

theorem slices_high (h : n = 2 * j) : (Groups G n).Slices ![0, j, 0] (Groups G j) :=
  ⟨rfl, fun a => by fin_cases a <;> simp <;> omega⟩

theorem halves (hn : n = 2 * j) (h : G * n = R) : G * (2 * j) = R := hn ▸ h

theorem slices_rows {o : ℕ} (h : o + n ≤ R) : (Rows R).Slices ![o, 0] (Rows n) :=
  ⟨rfl, fun a => by fin_cases a <;> simp <;> omega⟩

theorem slices_piece {o : ℕ} (h : o + L ≤ G) : (Groups G n).Slices ![o, 0, 0] (Groups L n) :=
  ⟨rfl, fun a => by fin_cases a <;> simp <;> omega⟩

theorem joins_halves : Shape.Concatenates [Parts G 1 j, Parts G 1 j] (Parts G 2 j) 1 := by
  refine ⟨by simp, fun s hs => ?_, by simp⟩
  simp only [List.mem_cons, List.not_mem_nil, or_false, or_self] at hs
  subst hs
  exact ⟨rfl, fun b hb => by fin_cases b <;> simp_all⟩

theorem joins_rows : Shape.Concatenates [Rows n, Rows n] (Rows (n + n)) 0 := by
  refine ⟨by simp, fun s hs => ?_, by simp⟩
  simp only [List.mem_cons, List.not_mem_nil, or_false, or_self] at hs
  subst hs
  exact ⟨rfl, fun b hb => by fin_cases b <;> simp_all⟩

theorem iotas_perGroup : (PerGroup G).Iotas .tc 32 [0] := ⟨by simp, fun _ => by simp, fun h => absurd rfl h⟩

theorem bcasts_perGroup : (PerGroup G).Broadcasts (Groups G n) :=
  ⟨le_rfl, fun a => by fin_cases a <;> simp⟩

theorem bcasts_eight : Eight.Broadcasts (Groups G 8) :=
  ⟨le_rfl, fun a => by fin_cases a <;> simp⟩

theorem rotates_groups : (Groups G n).Rotates 1 none := ⟨by simp, fun _ h => by simp at h⟩

end fits

/-! ## A pass at a distance of at least eight rows -/

/-- Two halves of every group put side by side again. -/
def weave (G j : ℕ) (h : G * (2 * j) = 128) (p q : FVec F (Groups G j) .f32) : FVec F (Rows 128) .f32 :=
  shapeCast (Rows 128)
    (concatenate (Parts G 2 j) 1
      [⟨Parts G 1 j, shapeCast (Parts G 1 j) p casts_parts⟩, ⟨Parts G 1 j, shapeCast (Parts G 1 j) q casts_parts⟩] joins_halves)
    (casts_woven h)

/-- The mask of the groups `g` with `g &&& m = 0`, over all their rows and lanes. -/
def groupMask (G j : ℕ) (m : BitVec 32) : IVec (Groups G j) 1 :=
  broadcastTo (Groups G j)
    (shapeCast (PerGroup G)
      (cmpi .eq (andi (iota .tc (PerGroup G) 32 [0] iotas_perGroup) (broadcast (PerGroup G) m)) (broadcast (PerGroup G) 0#32)) rfl)
    bcasts_perGroup

/-- The halves of every group of `n = 2 j` rows compared: the lesser first, with `desc` the greater first. -/
def bigPass (G n j : ℕ) (hn : n = 2 * j) (h : G * n = 128) (desc : Bool) (x : FVec F (Rows 128) .f32) : FVec F (Rows 128) .f32 :=
  let x3 := shapeCast (Groups G n) x (casts_groups h)
  let a := extractStridedSlice (Groups G j) ![0, 0, 0] x3 (slices_low hn)
  let b := extractStridedSlice (Groups G j) ![0, j, 0] x3 (slices_high hn)
  weave G j (halves hn h) (first desc a b) (first (!desc) a b)

/-- The same, the direction turned in the groups `g` with `g &&& m ≠ 0`. -/
def turnPass (G n j : ℕ) (m : BitVec 32) (hn : n = 2 * j) (h : G * n = 128) (desc : Bool) (x : FVec F (Rows 128) .f32) : FVec F (Rows 128) .f32 :=
  let x3 := shapeCast (Groups G n) x (casts_groups h)
  let a := extractStridedSlice (Groups G j) ![0, 0, 0] x3 (slices_low hn)
  let b := extractStridedSlice (Groups G j) ![0, j, 0] x3 (slices_high hn)
  weave G j (halves hn h) (select (groupMask G j m) (first desc a b) (first (!desc) a b))
    (select (groupMask G j m) (first (!desc) a b) (first desc a b))

/-! ## A pass at a distance below eight rows -/

/-- The mask of the rows `s` of a group of eight with `s &&& j = 0`. -/
def rowBit (j : ℕ) : IVec Eight 1 :=
  cmpi .eq (andi (iota .tc Eight 32 [1] (by decide)) (broadcast Eight (BitVec.ofNat 32 j))) (broadcast Eight 0#32)

/-- The other rows. -/
def flip (m : IVec Eight 1) : IVec Eight 1 := xori m (constantI Eight 1 1#1)

/-- A mask of the rows of a group of eight, over `L` groups and all lanes. -/
def spread (L : ℕ) (m : IVec Eight 1) : IVec (Groups L 8) 1 := broadcastTo (Groups L 8) (shapeCast Eight m rfl) bcasts_eight

/-- The rows of every group turned by `n`. -/
def turn (L n : ℕ) (x : FVec F (Groups L 8) .f32) : FVec F (Groups L 8) .f32 :=
  dynamicRotate 1 (BitVec.ofNat 32 n) none x rotates_groups

/-- Rows `s` and `s + 4` of every group of eight compared, the lesser to row `s`, with `desc` the greater. -/
def four (L : ℕ) (desc : Bool) (x : FVec F (Groups L 8) .f32) : FVec F (Groups L 8) .f32 :=
  let p := turn L 4 x
  select (spread L (cond desc (flip (rowBit 4)) (rowBit 4))) (minimumf x p) (maximumf x p)

/-- Rows `s` and `s + j` of every group of eight compared (`j` is 1 or 2), the lesser to row `s`, with `desc` the greater. -/
def near (L j : ℕ) (desc : Bool) (x : FVec F (Groups L 8) .f32) : FVec F (Groups L 8) .f32 :=
  let r := turn L (8 - j) x
  select (spread L (rowBit j)) (first desc x r) (turn L j (first (!desc) x r))

/-- Rows at distance `j` of `L` groups of eight compared. -/
def uniform (L j : ℕ) (desc : Bool) (x : FVec F (Groups L 8) .f32) : FVec F (Groups L 8) .f32 :=
  cond (j == 4) (four L desc x) (near L j desc x)

/-- All sixteen groups of eight in one direction. -/
def wholePass (j : ℕ) (desc : Bool) (x : FVec F (Rows 128) .f32) : FVec F (Rows 128) .f32 :=
  shapeCast (Rows 128) (uniform 16 j desc (shapeCast (Groups 16 8) x (casts_groups rfl))) (casts_rows rfl)

/-- Piece `r` of the `n` pieces of `L` groups. -/
def piece (L n j : ℕ) (h : L * n = 16) (desc : Bool) (x : FVec F (Groups 16 8) .f32) (r : Fin n) : FVec F (Groups L 8) .f32 :=
  uniform L j (xor (r.val % 2 == 1) desc) (extractStridedSlice (Groups L 8) ![r.val * L, 0, 0] x
    (slices_piece (by have := r.isLt; rw [← h, ← Nat.succ_mul, Nat.mul_comm]; exact Nat.mul_le_mul_left L this)))

theorem joins_pieces (L n j : ℕ) (h : L * n = 16) (hn : 2 ≤ n) (desc : Bool) (x : FVec F (Groups 16 8) .f32) :
    Shape.Concatenates ((List.ofFn fun r : Fin n => (⟨Groups L 8, piece L n j h desc x r⟩ : (s : Shape) × (s.Idx → F .f32))).map (·.1))
      (Groups 16 8) 0 := by
  have e : ((List.ofFn fun r : Fin n => (⟨Groups L 8, piece L n j h desc x r⟩ : (s : Shape) × (s.Idx → F .f32))).map (·.1))
      = List.replicate n (Groups L 8) := by
    rw [List.map_ofFn]; exact List.ofFn_const n _
  rw [e]
  refine ⟨by simpa using hn, fun s hs => ?_, ?_⟩
  · obtain rfl := List.eq_of_mem_replicate hs
    exact ⟨rfl, fun b hb => by fin_cases b <;> simp_all⟩
  · rw [List.map_replicate, List.sum_replicate]
    simpa [Nat.mul_comm] using h

/-- Pieces of `L` groups of eight, the direction turned in every second piece. -/
def piecePass (L n j : ℕ) (h : L * n = 16) (hn : 2 ≤ n) (desc : Bool) (x : FVec F (Rows 128) .f32) : FVec F (Rows 128) .f32 :=
  let x3 := shapeCast (Groups 16 8) x (casts_groups rfl)
  shapeCast (Rows 128)
    (concatenate (Groups 16 8) 0 (List.ofFn fun r : Fin n => ⟨Groups L 8, piece L n j h desc x3 r⟩) (joins_pieces L n j h hn desc x3))
    (casts_rows rfl)

/-- Rows at distance `j` compared within groups of eight, the direction turned in the rows `s` with `s &&& k ≠ 0`, `k` below eight. -/
def lessPass (j k : ℕ) (desc : Bool) (x : FVec F (Rows 128) .f32) : FVec F (Rows 128) .f32 :=
  let x3 := shapeCast (Groups 16 8) x (casts_groups rfl)
  let p := select (spread 16 (rowBit j)) (turn 16 (8 - j) x3) (turn 16 j x3)
  let take := flip (xori (rowBit j) (rowBit k))
  shapeCast (Rows 128) (select (spread 16 (cond desc (flip take) take)) (minimumf x3 p) (maximumf x3 p)) (casts_rows rfl)

/-! ## The passes put together -/

/-- A bitonic block of 128 rows sorted: the distances 64 to 1, all in one direction. -/
def mergeTail (desc : Bool) (x : FVec F (Rows 128) .f32) : FVec F (Rows 128) .f32 :=
  let x := bigPass 1 128 64 rfl rfl desc x
  let x := bigPass 2 64 32 rfl rfl desc x
  let x := bigPass 4 32 16 rfl rfl desc x
  let x := bigPass 8 16 8 rfl rfl desc x
  let x := wholePass 4 desc x
  let x := wholePass 2 desc x
  wholePass 1 desc x

/-- 128 rows sorted. -/
def sort128 (desc : Bool) (x : FVec F (Rows 128) .f32) : FVec F (Rows 128) .f32 :=
  let x := lessPass 1 2 desc x
  let x := lessPass 2 4 desc x
  let x := lessPass 1 4 desc x
  let x := piecePass 1 16 4 rfl (by decide) desc x
  let x := piecePass 1 16 2 rfl (by decide) desc x
  let x := piecePass 1 16 1 rfl (by decide) desc x
  let x := turnPass 8 16 8 1#32 rfl rfl desc x
  let x := piecePass 2 8 4 rfl (by decide) desc x
  let x := piecePass 2 8 2 rfl (by decide) desc x
  let x := piecePass 2 8 1 rfl (by decide) desc x
  let x := turnPass 4 32 16 1#32 rfl rfl desc x
  let x := turnPass 8 16 8 2#32 rfl rfl desc x
  let x := piecePass 4 4 4 rfl (by decide) desc x
  let x := piecePass 4 4 2 rfl (by decide) desc x
  let x := piecePass 4 4 1 rfl (by decide) desc x
  let x := turnPass 2 64 32 1#32 rfl rfl desc x
  let x := turnPass 4 32 16 2#32 rfl rfl desc x
  let x := turnPass 8 16 8 4#32 rfl rfl desc x
  let x := piecePass 8 2 4 rfl (by decide) desc x
  let x := piecePass 8 2 2 rfl (by decide) desc x
  let x := piecePass 8 2 1 rfl (by decide) desc x
  mergeTail desc x

/-- Rows `o` to `o + n` of a block. -/
def cut {R : ℕ} (o n : ℕ) (h : o + n ≤ R) (x : FVec F (Rows R) .f32) : FVec F (Rows n) .f32 :=
  extractStridedSlice (Rows n) ![o, 0] x (slices_rows h)

/-- One block of rows above another. -/
def stack {n : ℕ} (x y : FVec F (Rows n) .f32) : FVec F (Rows (n + n)) .f32 :=
  concatenate (Rows (n + n)) 0 [⟨Rows n, x⟩, ⟨Rows n, y⟩] joins_rows

/-- 256 rows sorted: the halves sorted one way and the other, compared, and each merged. -/
def sort256 (desc : Bool) (x : FVec F (Rows 256) .f32) : FVec F (Rows 256) .f32 :=
  let lo := sort128 false (cut 0 128 (by decide) x)
  let hi := sort128 true (cut 128 128 (by decide) x)
  stack (mergeTail desc (first desc lo hi)) (mergeTail desc (first (!desc) lo hi))

theorem joins_four : Shape.Concatenates [Rows 128, Rows 128, Rows 128, Rows 128] (Rows 512) 0 := by decide

/-- A bitonic block of 512 rows sorted: the distances 256 and 128, then each 128 rows merged. -/
def merge512 (desc : Bool) (x : FVec F (Rows 512) .f32) : FVec F (Rows 512) .f32 :=
  let a := cut 0 256 (by decide) x
  let b := cut 256 256 (by decide) x
  let p := first desc a b
  let q := first (!desc) a b
  let pl := cut 0 128 (by decide) p
  let ph := cut 128 128 (by decide) p
  let ql := cut 0 128 (by decide) q
  let qh := cut 128 128 (by decide) q
  concatenate (Rows 512) 0
    [⟨Rows 128, mergeTail desc (first desc pl ph)⟩, ⟨Rows 128, mergeTail desc (first (!desc) pl ph)⟩,
     ⟨Rows 128, mergeTail desc (first desc ql qh)⟩, ⟨Rows 128, mergeTail desc (first (!desc) ql qh)⟩] joins_four

end Cert.Proof.Net

end
-- ==== Proof.Blocks.lean ====
/- What the kernel does to its scratch array, as programs: a block of rows read, worked on and put back; two blocks compared; four
   blocks compared in two steps. -/
module

public import Idealize.ShloMosaic.Lib.VecWindow
public import Idealize.ShloMosaic.Rules.Step
public import proofs.«01_k».proof.Proof.Passes

@[expose] public section

noncomputable section

namespace Cert.Proof.Net

open Idealize.ShloMosaic Idealize.SL.Sem

variable {F : FTy → Type} [FloatOps F]
variable {nD : Nat} {τ : Topo} {sig : RefSig} {Λ : Labels}

theorem rows_pos {R : ℕ} (h : 0 < R) : 0 < (Rows R).numel := by
  simpa [Shape.numel, Fin.prod_univ_succ] using h

/-- A window of `R` rows of the array lies inside it. -/
abbrev Inside (R : ℕ) (off : Fin 2 → ℕ) : Prop := ∀ a, off a + (Rows R).size a ≤ (Rows 8192).size a

variable (m : Memref sig .tc .vmem (Rows 8192) .f32)

/-- A block of `R` rows read. -/
def fetch (R : ℕ) (hR : 0 < R) (off : Fin 2 → ℕ) (inb : Inside R off) : Prog (TpuEff nD τ sig (Elt F) Λ .tc) (Vec F (Rows R) .f32) :=
  Prog.lift (.load m (Rect.unit (s := Rows 8192) off (Rows R).size inb).toLoadRect (View.loadsAt_vmem (rows_pos hR)))

/-- A block of `R` rows put back: the kernel first reads what it writes over. -/
def putBack (R : ℕ) (hR : 0 < R) (off : Fin 2 → ℕ) (inb : Inside R off) (v : FVec F (Rows R) .f32) :
    Prog (TpuEff nD τ sig (Elt F) Λ .tc) PUnit := do
  let _ ← fetch m R hR off inb
  Prog.lift (.store m (Rect.unit (s := Rows 8192) off (Rows R).size inb) (shapeCast (Rows R) v rfl) Finset.univ
    (View.stores_vmem_bits_univ (rows_pos hR) rfl) (.inl rfl))

/-- A block read, worked on by `f`, put back. -/
def rework (R : ℕ) (hR : 0 < R) (f : FVec F (Rows R) .f32 → FVec F (Rows R) .f32) (off : Fin 2 → ℕ) (inb : Inside R off) :
    Prog (TpuEff nD τ sig (Elt F) Λ .tc) PUnit := do
  let x ← fetch m R hR off inb
  putBack m R hR off inb (f x)

variable {β : Type}

/-- Two blocks compared: the smaller rows go to the first place when `up` is set, to the second when `down` is; then `k`. -/
def pair (oA oB : Fin 2 → ℕ) (iA : Inside 256 oA) (iB : Inside 256 oB) (up down : BitVec 1) (a b : FVec F (Rows 256) .f32)
    (k : Prog (TpuEff nD τ sig (Elt F) Λ .tc) β) : Prog (TpuEff nD τ sig (Elt F) Λ .tc) β := do
  if _h : up = 1#1 then do
    putBack m 256 (by decide) oA iA (minimumf a b)
    putBack m 256 (by decide) oB iB (maximumf a b)
    pure ⟨⟩
  else do
    pure ⟨⟩
  if _h : down = 1#1 then do
    putBack m 256 (by decide) oA iA (maximumf a b)
    putBack m 256 (by decide) oB iB (minimumf a b)
    pure ⟨⟩
  else do
    pure ⟨⟩
  k

/-- Four blocks compared in two steps, the first with the third and the second with the fourth, then the neighbours; then `k`. -/
def quad (oA oB oC oD : Fin 2 → ℕ) (iA : Inside 256 oA) (iB : Inside 256 oB) (iC : Inside 256 oC) (iD : Inside 256 oD)
    (up down : BitVec 1) (a b c d : FVec F (Rows 256) .f32)
    (k : Prog (TpuEff nD τ sig (Elt F) Λ .tc) β) : Prog (TpuEff nD τ sig (Elt F) Λ .tc) β := do
  if _h : up = 1#1 then do
    putBack m 256 (by decide) oA iA (minimumf (minimumf a c) (minimumf b d))
    putBack m 256 (by decide) oB iB (maximumf (minimumf a c) (minimumf b d))
    putBack m 256 (by decide) oC iC (minimumf (maximumf a c) (maximumf b d))
    putBack m 256 (by decide) oD iD (maximumf (maximumf a c) (maximumf b d))
    pure ⟨⟩
  else do
    pure ⟨⟩
  if _h : down = 1#1 then do
    putBack m 256 (by decide) oA iA (maximumf (maximumf a c) (maximumf b d))
    putBack m 256 (by decide) oB iB (minimumf (maximumf a c) (maximumf b d))
    putBack m 256 (by decide) oC iC (maximumf (minimumf a c) (minimumf b d))
    putBack m 256 (by decide) oD iD (minimumf (minimumf a c) (minimumf b d))
    pure ⟨⟩
  else do
    pure ⟨⟩
  k

/-- Two blocks reworked. -/
def reworkTwice (R : ℕ) (hR : 0 < R) (f : FVec F (Rows R) .f32 → FVec F (Rows R) .f32) (o o' : Fin 2 → ℕ) (i : Inside R o) (i' : Inside R o') :
    Prog (TpuEff nD τ sig (Elt F) Λ .tc) PUnit := do
  rework m R hR f o i
  rework m R hR f o' i'
  pure ⟨⟩

/-- Two pairs of blocks compared; between them a value `x` nobody reads. -/
def pairTwice {γ : Type} (x : γ) (oA oB oA' oB' : Fin 2 → ℕ) (iA : Inside 256 oA) (iB : Inside 256 oB) (iA' : Inside 256 oA') (iB' : Inside 256 oB')
    (up down up' down' : BitVec 1) : Prog (TpuEff nD τ sig (Elt F) Λ .tc) PUnit := do
  let _ ← (do
    let a ← fetch m 256 (by decide) oA iA
    let b ← fetch m 256 (by decide) oB iB
    let _ ← pair m oA oB iA iB up down a b (pure x)
    let a ← fetch m 256 (by decide) oA' iA'
    let b ← fetch m 256 (by decide) oB' iB'
    pair m oA' oB' iA' iB' up' down' a b (pure PUnit.unit))
  pure ⟨⟩

/-- Two fours of blocks compared. -/
def quadTwice {γ : Type} (x : γ) (oA oB oC oD oA' oB' oC' oD' : Fin 2 → ℕ) (iA : Inside 256 oA) (iB : Inside 256 oB) (iC : Inside 256 oC) (iD : Inside 256 oD)
    (iA' : Inside 256 oA') (iB' : Inside 256 oB') (iC' : Inside 256 oC') (iD' : Inside 256 oD')
    (up down up' down' : BitVec 1) : Prog (TpuEff nD τ sig (Elt F) Λ .tc) PUnit := do
  let a ← fetch m 256 (by decide) oA iA
  let b ← fetch m 256 (by decide) oB iB
  let c ← fetch m 256 (by decide) oC iC
  let d ← fetch m 256 (by decide) oD iD
  let y ← quad m oA oB oC oD iA iB iC iD up down a b c d (do
    let a ← fetch m 256 (by decide) oA' iA'
    pure (⟨x, a⟩ : Σ' (_ : γ), FVec F (Rows 256) .f32))
  let b ← fetch m 256 (by decide) oB' iB'
  let c ← fetch m 256 (by decide) oC' iC'
  let d ← fetch m 256 (by decide) oD' iD'
  quad m oA' oB' oC' oD' iA' iB' iC' iD' up' down' y.2 b c d (pure ⟨⟩)

/-- The result of one grid point: two batch rows. -/
abbrev Out : Shape := ⟨3, ![2, 8192, 64]⟩
abbrev Slab : Shape := ⟨3, ![1, 512, 64]⟩
abbrev Half : Shape := ⟨2, ![512, 64]⟩

theorem slices_half (o : ℕ) (h : o + 64 ≤ 128) : (Rows 512).Slices ![0, o] Half := by
  refine ⟨rfl, fun a => ?_⟩
  fin_cases a <;> simp
  omega

theorem casts_slab : Half.ShapeCasts Slab := by decide

theorem slab_pos : 0 < Slab.numel := by decide

/-- Sixty-four of the lanes, as a slab of the result. -/
def slab (o : ℕ) (h : o + 64 ≤ 128) (x : FVec F (Rows 512) .f32) : FVec F Slab .f32 :=
  shapeCast Slab (extractStridedSlice Half ![0, o] x (slices_half o h)) casts_slab

abbrev InsideOut (off : Fin 3 → ℕ) : Prop := ∀ a, off a + Slab.size a ≤ Out.size a

variable (p : Memref sig .tc .vmem Out .f32)

/-- A slab stored in the result: the kernel first reads what it writes over. -/
def give (off : Fin 3 → ℕ) (inb : InsideOut off) (v : FVec F Slab .f32) : Prog (TpuEff nD τ sig (Elt F) Λ .tc) PUnit := do
  let _ : Vec F Slab .f32 ← Prog.lift (.load p (Rect.unit (s := Out) off Slab.size inb).toLoadRect (View.loadsAt_vmem slab_pos))
  Prog.lift (.store p (Rect.unit (s := Out) off Slab.size inb) v Finset.univ (View.stores_vmem_bits_univ slab_pos rfl) (.inl rfl))

/-- A block of 512 rows merged and dealt out to the two batch rows. -/
def deal (off : Fin 2 → ℕ) (inb : Inside 512 off) (oL oH : Fin 3 → ℕ) (iL : InsideOut oL) (iH : InsideOut oH) :
    Prog (TpuEff nD τ sig (Elt F) Λ .tc) PUnit := do
  let x ← fetch m 512 (by decide) off inb
  give p oL iL (slab 0 (by decide) (merge512 false x))
  give p oH iH (slab 64 (by decide) (merge512 false x))

/-- Two blocks dealt out. -/
def dealTwice (o o' : Fin 2 → ℕ) (i : Inside 512 o) (i' : Inside 512 o') (oL oH oL' oH' : Fin 3 → ℕ) (iL : InsideOut oL) (iH : InsideOut oH)
    (iL' : InsideOut oL') (iH' : InsideOut oH') : Prog (TpuEff nD τ sig (Elt F) Λ .tc) PUnit := do
  deal m p o i oL oH iL iH
  deal m p o' i' oL' oH' iL' iH'
  pure ⟨⟩

end Cert.Proof.Net

end
-- ==== Proof.Steps.lean ====
/- What the block programs do to an owned scratch array, by values. -/
module

public import Idealize.ShloMosaic.Lib.Updates.Own
public import Idealize.ShloMosaic.Lib.LaneScatter.Own
public import Idealize.ShloMosaic.Lib.Scf
public import Idealize.ShloMosaic.Lib.ReshapeSlab
public import proofs.«01_k».proof.Proof.Blocks

@[expose] public section

noncomputable section

namespace Cert.Proof.Net

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Ix : Type} [DecidableEq Ix]
variable {Name : Type} [DecidableEq Name] {U : Type} [URA U] {Lvl : Type} {Λ : Labels} [Preorder Lvl]
variable {defs : Defs nD τ sig (Elt F) Λ} (𝒱 : Variants) (c : Dev nD) (bd : Option 𝒱.V) (E : Set Name)
variable {β : Type} {Q : β → sProp (MT nD τ sig Ix (Elt F) Name U Lvl)}

/-- The block of `R` rows at `off`. -/
abbrev block (R : ℕ) (off : Fin 2 → ℕ) (inb : Inside R off) (X : FVec F (Rows 8192) .f32) : FVec F (Rows R) .f32 :=
  VecWindow.window X off (Rows R).size inb

/-- The array with the block of `R` rows at `off` replaced. -/
abbrev with' (R : ℕ) (off : Fin 2 → ℕ) (w : FVec F (Rows R) .f32) (X : FVec F (Rows 8192) .f32) : FVec F (Rows 8192) .f32 :=
  VecWindow.put X off (Rows R).size w

/-- A load of any part of an owned array. -/
theorem wp_take {s : Shape} (M : Memref sig .tc .vmem s .f32) (off size : Fin s.rank → ℕ) (inb : ∀ a, off a + size a ≤ s.size a)
    (hl : M.view.LoadsAt (Rect.unit off size inb).toLoadRect) (X : FVec F s .f32)
    (k : Vec F (Rect.unit off size inb).shape .f32 → Prog (TpuEff nD τ sig (Elt F) Λ .tc) β) :
    (owns (c : Thread nD τ) M fullShare X : sProp (MT nD τ sig Ix (Elt F) Name U Lvl))
      ⊢ iprop((owns (c : Thread nD τ) M fullShare X -∗ wp frame (wpE defs 𝒱 (c : Thread nD τ) bd) E (k (VecWindow.window X off size inb)) Q)
        -∗ wp frame (wpE defs 𝒱 (c : Thread nD τ) bd) E (Prog.lift (.load M (Rect.unit off size inb).toLoadRect hl) >>= k) Q) := by
  iintro H HK
  ihave H2 := (Updates.owns_read (c : Thread nD τ) M X) $$ H
  icases H2 with ⟨%f, Hf, %hf⟩
  iapply (wp_load 𝒱 (c : Thread nD τ) bd E (m := M) (r := (Rect.unit off size inb).toLoadRect) (hl := hl) (k := k) (S := M.view.set) (f := f) (M.view.setOn_subset_set _)) $$ Hf
  iintro Hf
  rw [View.readAt_unit M.view f inb rfl inb, hf]
  iapply HK
  iapply (LaneScatter.raw_owns (c : Thread nD τ) M hf)
  iexact Hf

/-- An unmasked store to any part of an owned array. -/
theorem wp_leave {s : Shape} (M : Memref sig .tc .vmem s .f32) (off size : Fin s.rank → ℕ) (inb : ∀ a, off a + size a ≤ s.size a)
    (w : Vec F (Rect.unit off size inb).shape .f32) (hx : (M.access (Rect.unit off size inb)).Stores Finset.univ)
    (hm : Finset.univ = Finset.univ ∨ ∀ a, (Rect.unit off size inb).stride a = 1) (X : FVec F s .f32)
    (k : PUnit → Prog (TpuEff nD τ sig (Elt F) Λ .tc) β) :
    (owns (c : Thread nD τ) M fullShare X : sProp (MT nD τ sig Ix (Elt F) Name U Lvl))
      ⊢ iprop((owns (c : Thread nD τ) M fullShare (VecWindow.put X off size w) -∗ wp frame (wpE defs 𝒱 (c : Thread nD τ) bd) E (k ⟨⟩) Q)
        -∗ wp frame (wpE defs 𝒱 (c : Thread nD τ) bd) E (Prog.lift (.store M (Rect.unit off size inb) w Finset.univ hx hm) >>= k) Q) := by
  iintro H HK
  ihave H2 := (Updates.owns_read (c : Thread nD τ) M X) $$ H
  icases H2 with ⟨%f, Hf, %hf⟩
  iapply (wp_store_writes₀ 𝒱 (c : Thread nD τ) bd E (m := M) (r := Rect.unit off size inb) (w := w) (hx := hx) (hm := hm) (k := k) (S := M.view.set) (f := f) ((Memref.set_access_subset_setOn M _).trans (M.view.setOn_subset_set _))) $$ Hf
  iintro Hf
  iapply HK
  iapply (LaneScatter.raw_owns (c : Thread nD τ) M (show M.view.read (Elt F) (M.view.writes (Elt F) f [⟨Rect.unit off size inb, w⟩]) = VecWindow.put X off size w by
    rw [View.read_writes_cons_put M.view f inb w [] rfl, ← hf]; rfl))
  iexact Hf

section blocks

variable (m : Memref sig .tc .vmem (Rows 8192) .f32) (X : FVec F (Rows 8192) .f32)

theorem wp_fetch (R : ℕ) (hR : 0 < R) (off : Fin 2 → ℕ) (inb : Inside R off) (k : Vec F (Rows R) .f32 → Prog (TpuEff nD τ sig (Elt F) Λ .tc) β) :
    (owns (c : Thread nD τ) m fullShare X : sProp (MT nD τ sig Ix (Elt F) Name U Lvl))
      ⊢ iprop((owns (c : Thread nD τ) m fullShare X -∗ wp frame (wpE defs 𝒱 (c : Thread nD τ) bd) E (k (block R off inb X)) Q)
        -∗ wp frame (wpE defs 𝒱 (c : Thread nD τ) bd) E (fetch m R hR off inb >>= k) Q) :=
  wp_take 𝒱 c bd E m off (Rows R).size inb _ X k

theorem wp_putBack (R : ℕ) (hR : 0 < R) (off : Fin 2 → ℕ) (inb : Inside R off) (v : FVec F (Rows R) .f32)
    (k : PUnit → Prog (TpuEff nD τ sig (Elt F) Λ .tc) β) :
    (owns (c : Thread nD τ) m fullShare X : sProp (MT nD τ sig Ix (Elt F) Name U Lvl))
      ⊢ iprop((owns (c : Thread nD τ) m fullShare (with' R off v X) -∗ wp frame (wpE defs 𝒱 (c : Thread nD τ) bd) E (k ⟨⟩) Q)
        -∗ wp frame (wpE defs 𝒱 (c : Thread nD τ) bd) E (putBack m R hR off inb v >>= k) Q) := by
  have e : (putBack m R hR off inb v >>= k) = (fetch m R hR off inb >>= fun _ =>
      Prog.lift (.store m (Rect.unit (s := Rows 8192) off (Rows R).size inb) (shapeCast (Rows R) v rfl) Finset.univ
        (View.stores_vmem_bits_univ (rows_pos hR) rfl) (.inl rfl)) >>= k) := rfl
  rw [e]
  iintro H HK
  iapply (wp_fetch 𝒱 c bd E m X R hR off inb) $$ H
  iintro H
  iapply (wp_leave 𝒱 c bd E m off (Rows R).size inb) $$ H
  rw [shapeCast_self]
  iexact HK

theorem wp_rework (R : ℕ) (hR : 0 < R) (f : FVec F (Rows R) .f32 → FVec F (Rows R) .f32) (off : Fin 2 → ℕ) (inb : Inside R off)
    (k : PUnit → Prog (TpuEff nD τ sig (Elt F) Λ .tc) β) :
    (owns (c : Thread nD τ) m fullShare X : sProp (MT nD τ sig Ix (Elt F) Name U Lvl))
      ⊢ iprop((owns (c : Thread nD τ) m fullShare (with' R off (f (block R off inb X)) X) -∗ wp frame (wpE defs 𝒱 (c : Thread nD τ) bd) E (k ⟨⟩) Q)
        -∗ wp frame (wpE defs 𝒱 (c : Thread nD τ) bd) E (rework m R hR f off inb >>= k) Q) := by
  have e : (rework m R hR f off inb >>= k) = (fetch m R hR off inb >>= fun x => putBack m R hR off inb (f x) >>= k) := rfl
  rw [e]
  iintro H HK
  iapply (wp_fetch 𝒱 c bd E m X R hR off inb) $$ H
  iintro H
  iapply (wp_putBack 𝒱 c bd E m X R hR off inb) $$ H
  iexact HK

/-- The array after two blocks were compared. -/
def paired (oA oB : Fin 2 → ℕ) (up : Bool) (a b : FVec F (Rows 256) .f32) (X : FVec F (Rows 8192) .f32) : FVec F (Rows 8192) .f32 :=
  with' 256 oB (first up a b) (with' 256 oA (first (!up) a b) X)

theorem wp_pair (oA oB : Fin 2 → ℕ) (iA : Inside 256 oA) (iB : Inside 256 oB) (up down : BitVec 1) (r : Bool) (hu : up = BitVec.ofBool r)
    (hd : down = BitVec.ofBool (!r)) (a b : FVec F (Rows 256) .f32) (k : Prog (TpuEff nD τ sig (Elt F) Λ .tc) β) :
    (owns (c : Thread nD τ) m fullShare X : sProp (MT nD τ sig Ix (Elt F) Name U Lvl))
      ⊢ iprop((owns (c : Thread nD τ) m fullShare (paired oA oB r a b X) -∗ wp frame (wpE defs 𝒱 (c : Thread nD τ) bd) E k Q)
        -∗ wp frame (wpE defs 𝒱 (c : Thread nD τ) bd) E (pair m oA oB iA iB up down a b k) Q) := by
  subst hu hd
  cases r <;> unfold pair
  · rw [dif_neg (by decide), dif_pos (by decide)]
    iintro H HK
    iapply (wp_putBack 𝒱 c bd E m _ 256) $$ H
    iintro H
    iapply (wp_putBack 𝒱 c bd E m _ 256) $$ H
    iexact HK
  · rw [dif_pos (by decide)]
    iintro H HK
    iapply (wp_putBack 𝒱 c bd E m _ 256) $$ H
    iintro H
    iapply (wp_putBack 𝒱 c bd E m _ 256) $$ H
    iintro H
    rw [dif_neg (by decide)]
    iapply HK
    iexact H

/-- The array after four blocks were compared in two steps. -/
def quadded (oA oB oC oD : Fin 2 → ℕ) (up : Bool) (a b c d : FVec F (Rows 256) .f32) (X : FVec F (Rows 8192) .f32) : FVec F (Rows 8192) .f32 :=
  with' 256 oD (first up (first up a c) (first up b d))
    (with' 256 oC (first (!up) (first up a c) (first up b d))
      (with' 256 oB (first up (first (!up) a c) (first (!up) b d))
        (with' 256 oA (first (!up) (first (!up) a c) (first (!up) b d)) X)))

theorem wp_quad (oA oB oC oD : Fin 2 → ℕ) (iA : Inside 256 oA) (iB : Inside 256 oB) (iC : Inside 256 oC) (iD : Inside 256 oD)
    (up down : BitVec 1) (r : Bool) (hu : up = BitVec.ofBool r) (hd : down = BitVec.ofBool (!r)) (a b c' d : FVec F (Rows 256) .f32)
    (k : Prog (TpuEff nD τ sig (Elt F) Λ .tc) β) :
    (owns (c : Thread nD τ) m fullShare X : sProp (MT nD τ sig Ix (Elt F) Name U Lvl))
      ⊢ iprop((owns (c : Thread nD τ) m fullShare (quadded oA oB oC oD r a b c' d X) -∗ wp frame (wpE defs 𝒱 (c : Thread nD τ) bd) E k Q)
        -∗ wp frame (wpE defs 𝒱 (c : Thread nD τ) bd) E (quad m oA oB oC oD iA iB iC iD up down a b c' d k) Q) := by
  subst hu hd
  cases r <;> unfold quad
  · rw [dif_neg (by decide), dif_pos (by decide)]
    iintro H HK
    iapply (wp_putBack 𝒱 c bd E m _ 256) $$ H
    iintro H
    iapply (wp_putBack 𝒱 c bd E m _ 256) $$ H
    iintro H
    iapply (wp_putBack 𝒱 c bd E m _ 256) $$ H
    iintro H
    iapply (wp_putBack 𝒱 c bd E m _ 256) $$ H
    iexact HK
  · rw [dif_pos (by decide)]
    iintro H HK
    iapply (wp_putBack 𝒱 c bd E m _ 256) $$ H
    iintro H
    iapply (wp_putBack 𝒱 c bd E m _ 256) $$ H
    iintro H
    iapply (wp_putBack 𝒱 c bd E m _ 256) $$ H
    iintro H
    iapply (wp_putBack 𝒱 c bd E m _ 256) $$ H
    iintro H
    rw [dif_neg (by decide)]
    iapply HK
    iexact H

/-- The result after a block of 512 rows was dealt out. -/
def dealt (oL oH : Fin 3 → ℕ) (x : FVec F (Rows 512) .f32) (Y : FVec F Out .f32) : FVec F Out .f32 :=
  VecWindow.put (VecWindow.put Y oL Slab.size (slab 0 (by decide) (merge512 false x))) oH Slab.size (slab 64 (by decide) (merge512 false x))

theorem wp_give (p : Memref sig .tc .vmem Out .f32) (Y : FVec F Out .f32) (off : Fin 3 → ℕ) (inb : InsideOut off) (v : FVec F Slab .f32)
    (k : PUnit → Prog (TpuEff nD τ sig (Elt F) Λ .tc) β) :
    (owns (c : Thread nD τ) p fullShare Y : sProp (MT nD τ sig Ix (Elt F) Name U Lvl))
      ⊢ iprop((owns (c : Thread nD τ) p fullShare (VecWindow.put Y off Slab.size v) -∗ wp frame (wpE defs 𝒱 (c : Thread nD τ) bd) E (k ⟨⟩) Q)
        -∗ wp frame (wpE defs 𝒱 (c : Thread nD τ) bd) E (give p off inb v >>= k) Q) := by
  have e : (give p off inb v >>= k) = (Prog.lift (.load p (Rect.unit (s := Out) off Slab.size inb).toLoadRect (View.loadsAt_vmem slab_pos)) >>= fun _ =>
      Prog.lift (.store p (Rect.unit (s := Out) off Slab.size inb) v Finset.univ (View.stores_vmem_bits_univ slab_pos rfl) (.inl rfl)) >>= k) := rfl
  rw [e]
  iintro H HK
  iapply (wp_take 𝒱 c bd E p off Slab.size inb) $$ H
  iintro H
  iapply (wp_leave 𝒱 c bd E p off Slab.size inb) $$ H
  iexact HK

theorem wp_deal (p : Memref sig .tc .vmem Out .f32) (Y : FVec F Out .f32) (off : Fin 2 → ℕ) (inb : Inside 512 off) (oL oH : Fin 3 → ℕ)
    (iL : InsideOut oL) (iH : InsideOut oH) (k : PUnit → Prog (TpuEff nD τ sig (Elt F) Λ .tc) β) :
    iprop((owns (c : Thread nD τ) m fullShare X : sProp (MT nD τ sig Ix (Elt F) Name U Lvl)) ∗ owns (c : Thread nD τ) p fullShare Y)
      ⊢ iprop((owns (c : Thread nD τ) m fullShare X -∗ owns (c : Thread nD τ) p fullShare (dealt oL oH (block 512 off inb X) Y)
          -∗ wp frame (wpE defs 𝒱 (c : Thread nD τ) bd) E (k ⟨⟩) Q)
        -∗ wp frame (wpE defs 𝒱 (c : Thread nD τ) bd) E (deal m p off inb oL oH iL iH >>= k) Q) := by
  have e : (deal m p off inb oL oH iL iH >>= k) = (fetch m 512 (by decide) off inb >>= fun x => give p oL iL (slab 0 (by decide) (merge512 false x)) >>= fun _ =>
      give p oH iH (slab 64 (by decide) (merge512 false x)) >>= k) := rfl
  rw [e]
  iintro ⟨H, G⟩ HK
  iapply (wp_fetch 𝒱 c bd E m X 512) $$ H
  iintro H
  iapply (wp_give 𝒱 c bd E p Y) $$ G
  iintro G
  iapply (wp_give 𝒱 c bd E p _) $$ G
  iintro G
  iapply HK $$ H
  iexact G

end blocks

end Cert.Proof.Net

end
-- ==== Proof.Twice.lean ====
/- Two of a kind in one trip, and a loop of trips, by values. -/
module

public import proofs.«01_k».proof.Proof.Steps

@[expose] public section

noncomputable section

namespace Cert.Proof.Net

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Ix : Type} [DecidableEq Ix]
variable {Name : Type} [DecidableEq Name] {U : Type} [URA U] {Lvl : Type} {Λ : Labels} [Preorder Lvl]
variable {defs : Defs nD τ sig (Elt F) Λ} (𝒱 : Variants) (c : Dev nD) (bd : Option 𝒱.V) (E : Set Name)

theorem ofBool_beq (b : BitVec 1) : b = BitVec.ofBool (b == 1#1) := by revert b; decide

/-- A block replaced by `f` of it. -/
def reworked (R : ℕ) (f : FVec F (Rows R) .f32 → FVec F (Rows R) .f32) (o : Fin 2 → ℕ) (i : Inside R o) (X : FVec F (Rows 8192) .f32) : FVec F (Rows 8192) .f32 :=
  with' R o (f (block R o i X)) X

def reworked2 (R : ℕ) (f : FVec F (Rows R) .f32 → FVec F (Rows R) .f32) (o o' : Fin 2 → ℕ) (i : Inside R o) (i' : Inside R o') (X : FVec F (Rows 8192) .f32) :
    FVec F (Rows 8192) .f32 :=
  reworked R f o' i' (reworked R f o i X)

/-- Two blocks of the array compared. -/
def paired1 (oA oB : Fin 2 → ℕ) (iA : Inside 256 oA) (iB : Inside 256 oB) (r : Bool) (X : FVec F (Rows 8192) .f32) : FVec F (Rows 8192) .f32 :=
  paired oA oB r (block 256 oA iA X) (block 256 oB iB X) X

def paired2 (oA oB oA' oB' : Fin 2 → ℕ) (iA : Inside 256 oA) (iB : Inside 256 oB) (iA' : Inside 256 oA') (iB' : Inside 256 oB') (r r' : Bool)
    (X : FVec F (Rows 8192) .f32) : FVec F (Rows 8192) .f32 :=
  paired1 oA' oB' iA' iB' r' (paired1 oA oB iA iB r X)

/-- Four blocks of the array compared in two steps. -/
def quaded1 (oA oB oC oD : Fin 2 → ℕ) (iA : Inside 256 oA) (iB : Inside 256 oB) (iC : Inside 256 oC) (iD : Inside 256 oD) (r : Bool)
    (X : FVec F (Rows 8192) .f32) : FVec F (Rows 8192) .f32 :=
  quadded oA oB oC oD r (block 256 oA iA X) (block 256 oB iB X) (block 256 oC iC X) (block 256 oD iD X) X

def quaded2 (oA oB oC oD oA' oB' oC' oD' : Fin 2 → ℕ) (iA : Inside 256 oA) (iB : Inside 256 oB) (iC : Inside 256 oC) (iD : Inside 256 oD)
    (iA' : Inside 256 oA') (iB' : Inside 256 oB') (iC' : Inside 256 oC') (iD' : Inside 256 oD') (r r' : Bool)
    (X : FVec F (Rows 8192) .f32) : FVec F (Rows 8192) .f32 :=
  quaded1 oA' oB' oC' oD' iA' iB' iC' iD' r' (quaded1 oA oB oC oD iA iB iC iD r X)

def dealt2 (o o' : Fin 2 → ℕ) (i : Inside 512 o) (i' : Inside 512 o') (oL oH oL' oH' : Fin 3 → ℕ) (X : FVec F (Rows 8192) .f32) (Y : FVec F Out .f32) :
    FVec F Out .f32 :=
  dealt oL' oH' (block 512 o' i' X) (dealt oL oH (block 512 o i X) Y)

section rules

variable (m : Memref sig .tc .vmem (Rows 8192) .f32) (p : Memref sig .tc .vmem Out .f32) (X : FVec F (Rows 8192) .f32) (Y : FVec F Out .f32)

/-- A program that ends at once, its postcondition at hand. -/
theorem wp_done {P : sProp (MT nD τ sig Ix (Elt F) Name U Lvl)} {γ : Type} (x : γ) {Q : γ → sProp (MT nD τ sig Ix (Elt F) Name U Lvl)} (h : P ⊢ Q x) :
    P ⊢ wp frame (wpE defs 𝒱 (c : Thread nD τ) bd) E (pure x) Q :=
  h.trans (le_wp_ret _ _ _ x Q)

theorem wp_reworkTwice (R : ℕ) (hR : 0 < R) (f : FVec F (Rows R) .f32 → FVec F (Rows R) .f32) (o o' : Fin 2 → ℕ) (i : Inside R o) (i' : Inside R o') :
    (owns (c : Thread nD τ) m fullShare X : sProp (MT nD τ sig Ix (Elt F) Name U Lvl))
      ⊢ wp frame (wpE defs 𝒱 (c : Thread nD τ) bd) E (reworkTwice m R hR f o o' i i') (fun _ => owns (c : Thread nD τ) m fullShare (reworked2 R f o o' i i' X)) := by
  unfold reworkTwice
  iintro H
  iapply (wp_rework 𝒱 c bd E m X R hR f o i) $$ H
  iintro H
  iapply (wp_rework 𝒱 c bd E m _ R hR f o' i') $$ H
  iintro H
  iapply (wp_done 𝒱 c bd E ⟨⟩ .rfl)
  iexact H

theorem wp_pairTwice (oA oB oA' oB' : Fin 2 → ℕ) (iA : Inside 256 oA) (iB : Inside 256 oB) (iA' : Inside 256 oA') (iB' : Inside 256 oB')
    (up down up' down' : BitVec 1) (r r' : Bool) (hu : up = BitVec.ofBool r) (hd : down = BitVec.ofBool (!r)) (hu' : up' = BitVec.ofBool r')
    (hd' : down' = BitVec.ofBool (!r')) {γ : Type} (x : γ) :
    (owns (c : Thread nD τ) m fullShare X : sProp (MT nD τ sig Ix (Elt F) Name U Lvl))
      ⊢ wp frame (wpE defs 𝒱 (c : Thread nD τ) bd) E (pairTwice m x oA oB oA' oB' iA iB iA' iB' up down up' down')
          (fun _ => owns (c : Thread nD τ) m fullShare (paired2 oA oB oA' oB' iA iB iA' iB' r r' X)) := by
  unfold pairTwice
  rw [wp_bind]
  iintro H
  iapply (wp_fetch 𝒱 c bd E m X 256) $$ H
  iintro H
  iapply (wp_fetch 𝒱 c bd E m X 256) $$ H
  iintro H
  rw [wp_bind]
  iapply (wp_pair 𝒱 c bd E m X oA oB iA iB up down r hu hd) $$ H
  iintro H
  iapply (wp_done 𝒱 c bd E x .rfl)
  iapply (wp_fetch 𝒱 c bd E m _ 256) $$ H
  iintro H
  iapply (wp_fetch 𝒱 c bd E m _ 256) $$ H
  iintro H
  iapply (wp_pair 𝒱 c bd E m _ oA' oB' iA' iB' up' down' r' hu' hd') $$ H
  iintro H
  iapply (wp_done 𝒱 c bd E PUnit.unit .rfl)
  iapply (wp_done 𝒱 c bd E PUnit.unit .rfl)
  iexact H

theorem wp_quadTwice (oA oB oC oD oA' oB' oC' oD' : Fin 2 → ℕ) (iA : Inside 256 oA) (iB : Inside 256 oB) (iC : Inside 256 oC) (iD : Inside 256 oD)
    (iA' : Inside 256 oA') (iB' : Inside 256 oB') (iC' : Inside 256 oC') (iD' : Inside 256 oD')
    (up down up' down' : BitVec 1) (r r' : Bool) (hu : up = BitVec.ofBool r) (hd : down = BitVec.ofBool (!r)) (hu' : up' = BitVec.ofBool r')
    (hd' : down' = BitVec.ofBool (!r')) {γ : Type} (x : γ) :
    (owns (c : Thread nD τ) m fullShare X : sProp (MT nD τ sig Ix (Elt F) Name U Lvl))
      ⊢ wp frame (wpE defs 𝒱 (c : Thread nD τ) bd) E (quadTwice m x oA oB oC oD oA' oB' oC' oD' iA iB iC iD iA' iB' iC' iD' up down up' down')
          (fun _ => owns (c : Thread nD τ) m fullShare (quaded2 oA oB oC oD oA' oB' oC' oD' iA iB iC iD iA' iB' iC' iD' r r' X)) := by
  unfold quadTwice
  iintro H
  iapply (wp_fetch 𝒱 c bd E m X 256) $$ H
  iintro H
  iapply (wp_fetch 𝒱 c bd E m X 256) $$ H
  iintro H
  iapply (wp_fetch 𝒱 c bd E m X 256) $$ H
  iintro H
  iapply (wp_fetch 𝒱 c bd E m X 256) $$ H
  iintro H
  rw [wp_bind]
  iapply (wp_quad 𝒱 c bd E m X oA oB oC oD iA iB iC iD up down r hu hd) $$ H
  iintro H
  iapply (wp_fetch 𝒱 c bd E m _ 256) $$ H
  iintro H
  iapply (wp_done 𝒱 c bd E _ .rfl)
  iapply (wp_fetch 𝒱 c bd E m _ 256) $$ H
  iintro H
  iapply (wp_fetch 𝒱 c bd E m _ 256) $$ H
  iintro H
  iapply (wp_fetch 𝒱 c bd E m _ 256) $$ H
  iintro H
  iapply (wp_quad 𝒱 c bd E m _ oA' oB' oC' oD' iA' iB' iC' iD' up' down' r' hu' hd') $$ H
  iintro H
  iapply (wp_done 𝒱 c bd E PUnit.unit .rfl)
  iexact H

theorem wp_dealTwice (o o' : Fin 2 → ℕ) (i : Inside 512 o) (i' : Inside 512 o') (oL oH oL' oH' : Fin 3 → ℕ) (iL : InsideOut oL) (iH : InsideOut oH)
    (iL' : InsideOut oL') (iH' : InsideOut oH') :
    iprop((owns (c : Thread nD τ) m fullShare X : sProp (MT nD τ sig Ix (Elt F) Name U Lvl)) ∗ owns (c : Thread nD τ) p fullShare Y)
      ⊢ wp frame (wpE defs 𝒱 (c : Thread nD τ) bd) E (dealTwice m p o o' i i' oL oH oL' oH' iL iH iL' iH')
          (fun _ => iprop(owns (c : Thread nD τ) m fullShare X ∗ owns (c : Thread nD τ) p fullShare (dealt2 o o' i i' oL oH oL' oH' X Y))) := by
  unfold dealTwice
  iintro H
  iapply (wp_deal 𝒱 c bd E m X p Y o i oL oH iL iH) $$ H
  iintro H G
  iapply (wp_deal 𝒱 c bd E m X p (dealt oL oH (block 512 o i X) Y) o' i' oL' oH' iL' iH') $$ [H G]
  · isplitl [H] <;> iassumption
  iintro H G
  iapply (wp_done 𝒱 c bd E PUnit.unit .rfl)
  isplitl [H]
  · iexact H
  iexact G

end rules

/-- The first `k` of the steps, in order. -/
def after {A : Type} {n : ℕ} (step : Fin n → A → A) : ℕ → A → A
  | 0, X => X
  | k + 1, X => if h : k < n then step ⟨k, h⟩ (after step k X) else after step k X

theorem after_succ {A : Type} {n : ℕ} (step : Fin n → A → A) (k : Fin n) (X : A) : after step (k.val + 1) X = step k (after step k.val X) := by
  show (if h : k.val < n then _ else _) = _
  rw [dif_pos k.isLt]

/-- A counted loop whose trips take what is owned from `X` to `step t X`. -/
theorem wp_loop {w : ℕ} (lb ub st : BitVec w) (hok : Scf.OK lb ub st) (body : Fin (Scf.trips lb ub st) → Unit → Prog (TpuEff nD τ sig (Elt F) Λ .tc) Unit)
    {A : Type} (Own : A → sProp (MT nD τ sig Ix (Elt F) Name U Lvl)) (step : Fin (Scf.trips lb ub st) → A → A)
    (h : ∀ t X, Own X ⊢ wp frame (wpE defs 𝒱 (c : Thread nD τ) bd) E (body t ⟨⟩) (fun _ => Own (step t X)))
    {β : Type} {Q : β → sProp (MT nD τ sig Ix (Elt F) Name U Lvl)} (X : A) (k : Unit → Prog (TpuEff nD τ sig (Elt F) Λ .tc) β) :
    Own X ⊢ iprop((Own (after step (Scf.trips lb ub st) X) -∗ wp frame (wpE defs 𝒱 (c : Thread nD τ) bd) E (k ⟨⟩) Q)
      -∗ wp frame (wpE defs 𝒱 (c : Thread nD τ) bd) E (Scf.for lb ub st hok ⟨⟩ body >>= k) Q) := by
  show Own (after step 0 X) ⊢ _
  iintro H HK
  iapply (Scf.wp_for_bind frame (wpE defs 𝒱 (c : Thread nD τ) bd) E lb ub st hok ⟨⟩ body (fun k _ => Own (after step k X))
    (fun t _ => by rw [after_succ]; exact h t _) (kk := k)) $$ [H]
  · iexact H
  iintro %_ H
  iapply HK
  iexact H

end Cert.Proof.Net

end
-- ==== Proof.Trips.lean ====
/- One trip of each of the kernel's loops: the program, and what it does to the array. -/
module

public import proofs.«01_k».proof.Proof.Twice
public import proofs.«01_k».proof.Proof.Gen.KernelIdeal.Skeleton

@[expose] public section

noncomputable section

namespace Cert.Proof.Net

open Idealize.ShloMosaic Idealize.SL.Sem
open Cert.KernelIdeal Cert.KernelIdeal.Gen

variable {F : FTy → Type} [FloatOps F]
variable {nD : Nat} {τ : Topo} {sig : RefSig} {Λ : Labels}

section programs
variable (m : Memref sig .tc .vmem (Rows 8192) .f32) (p : Memref sig .tc .vmem Out .f32)

def trip1 (t : Fin k0_t1_loop.trips) : Prog (TpuEff nD τ sig (Elt F) Λ .tc) PUnit :=
  reworkTwice m 256 (by decide) (sort256 false) (k0_off1 t) (k0_off2 t)
    (k0_off1_inb t) (k0_off2_inb t)

def trip2 (t : Fin k0_t2_loop.trips) : Prog (TpuEff nD τ sig (Elt F) Λ .tc) PUnit :=
  reworkTwice m 256 (by decide) (sort256 true) (k0_off3 t 1#32) (k0_off3 t 3#32)
    (k0_off3_inb t 0) (k0_off3_inb t 1)

def trip3 (t : Fin k0_t3_loop.trips) : Prog (TpuEff nD τ sig (Elt F) Λ .tc) PUnit :=
  reworkTwice m 512 (by decide) (merge512 false) (k0_off4 t) (k0_off5 t)
    (k0_off4_inb t) (k0_off5_inb t)

def trip4 (t : Fin k0_t4_loop.trips) : Prog (TpuEff nD τ sig (Elt F) Λ .tc) PUnit :=
  reworkTwice m 512 (by decide) (merge512 true) (k0_off6 t) (k0_off7 t)
    (k0_off6_inb t) (k0_off7_inb t)

def trip5 {γ : Type} (x : γ) (t : Fin k0_t5_loop.trips) : Prog (TpuEff nD τ sig (Elt F) Λ .tc) PUnit :=
  pairTwice m x (k0_off8 t) (k0_off9 t) (k0_off14 t) (k0_off15 t)
    (k0_off8_inb t) (k0_off9_inb t) (k0_off14_inb t) (k0_off15_inb t) (k0_cond1 t) (k0_cond2 t) (k0_cond3 t) (k0_cond4 t)

def trip6 (t : Fin k0_t6_loop.trips) : Prog (TpuEff nD τ sig (Elt F) Λ .tc) PUnit :=
  reworkTwice m 512 (by decide) (merge512 false) (k0_off20 t) (k0_off21 t)
    (k0_off20_inb t) (k0_off21_inb t)

def trip7 (t : Fin k0_t7_loop.trips) : Prog (TpuEff nD τ sig (Elt F) Λ .tc) PUnit :=
  reworkTwice m 512 (by decide) (merge512 true) (k0_off22 t) (k0_off23 t)
    (k0_off22_inb t) (k0_off23_inb t)

def trip8 {γ : Type} (x : γ) (t : Fin k0_t8_loop.trips) : Prog (TpuEff nD τ sig (Elt F) Λ .tc) PUnit :=
  quadTwice m x (k0_off24 t) (k0_off25 t 512#32) (k0_off25 t 1024#32) (k0_off26 t) (k0_off33 t) (k0_off34 t 512#32) (k0_off34 t 1024#32) (k0_off35 t)
    (k0_off24_inb t) (k0_off25_inb t 0) (k0_off25_inb t 1) (k0_off26_inb t) (k0_off33_inb t) (k0_off34_inb t 0) (k0_off34_inb t 1) (k0_off35_inb t) (k0_cond5 t) (k0_cond6 t) (k0_cond7 t) (k0_cond8 t)

def trip9 (t : Fin k0_t9_loop.trips) : Prog (TpuEff nD τ sig (Elt F) Λ .tc) PUnit :=
  reworkTwice m 512 (by decide) (merge512 false) (k0_off42 t) (k0_off43 t)
    (k0_off42_inb t) (k0_off43_inb t)

def trip10 (t : Fin k0_t10_loop.trips) : Prog (TpuEff nD τ sig (Elt F) Λ .tc) PUnit :=
  reworkTwice m 512 (by decide) (merge512 true) (k0_off44 t) (k0_off45 t)
    (k0_off44_inb t) (k0_off45_inb t)

def trip11 {γ : Type} (x : γ) (t : Fin k0_t11_loop.trips) : Prog (TpuEff nD τ sig (Elt F) Λ .tc) PUnit :=
  quadTwice m x (k0_off46 t) (k0_off47 t 1024#32) (k0_off47 t 2048#32) (k0_off48 t) (k0_off55 t) (k0_off56 t 1024#32) (k0_off56 t 2048#32) (k0_off57 t)
    (k0_off46_inb t) (k0_off47_inb t 0) (k0_off47_inb t 1) (k0_off48_inb t) (k0_off55_inb t) (k0_off56_inb t 0) (k0_off56_inb t 1) (k0_off57_inb t) (k0_cond9 t) (k0_cond10 t) (k0_cond11 t) (k0_cond12 t)

def trip12 {γ : Type} (x : γ) (t : Fin k0_t12_loop.trips) : Prog (TpuEff nD τ sig (Elt F) Λ .tc) PUnit :=
  pairTwice m x (k0_off64 t) (k0_off65 t) (k0_off70 t) (k0_off71 t)
    (k0_off64_inb t) (k0_off65_inb t) (k0_off70_inb t) (k0_off71_inb t) (k0_cond13 t) (k0_cond14 t) (k0_cond15 t) (k0_cond16 t)

def trip13 (t : Fin k0_t13_loop.trips) : Prog (TpuEff nD τ sig (Elt F) Λ .tc) PUnit :=
  reworkTwice m 512 (by decide) (merge512 false) (k0_off76 t) (k0_off77 t)
    (k0_off76_inb t) (k0_off77_inb t)

def trip14 (t : Fin k0_t14_loop.trips) : Prog (TpuEff nD τ sig (Elt F) Λ .tc) PUnit :=
  reworkTwice m 512 (by decide) (merge512 true) (k0_off78 t) (k0_off79 t)
    (k0_off78_inb t) (k0_off79_inb t)

def trip15 {γ : Type} (x : γ) (t : Fin k0_t15_loop.trips) : Prog (TpuEff nD τ sig (Elt F) Λ .tc) PUnit :=
  quadTwice m x (k0_off80 t) (k0_off81 t 2048#32) (k0_off81 t 4096#32) (k0_off82 t) (k0_off89 t) (k0_off90 t 2048#32) (k0_off90 t 4096#32) (k0_off91 t)
    (k0_off80_inb t) (k0_off81_inb t 0) (k0_off81_inb t 1) (k0_off82_inb t) (k0_off89_inb t) (k0_off90_inb t 0) (k0_off90_inb t 1) (k0_off91_inb t) (k0_cond17 t) (k0_cond18 t) (k0_cond19 t) (k0_cond20 t)

def trip16 {γ : Type} (x : γ) (t : Fin k0_t16_loop.trips) : Prog (TpuEff nD τ sig (Elt F) Λ .tc) PUnit :=
  quadTwice m x (k0_off98 t) (k0_off99 t 512#32) (k0_off99 t 1024#32) (k0_off100 t) (k0_off107 t) (k0_off108 t 512#32) (k0_off108 t 1024#32) (k0_off109 t)
    (k0_off98_inb t) (k0_off99_inb t 0) (k0_off99_inb t 1) (k0_off100_inb t) (k0_off107_inb t) (k0_off108_inb t 0) (k0_off108_inb t 1) (k0_off109_inb t) (k0_cond21 t) (k0_cond22 t) (k0_cond23 t) (k0_cond24 t)

def trip17 (t : Fin k0_t17_loop.trips) : Prog (TpuEff nD τ sig (Elt F) Λ .tc) PUnit :=
  dealTwice m p (k0_off116 t) (k0_off119 t) (k0_off116_inb t) (k0_off119_inb t)
    (k0_off117 t) (k0_off118 t) (k0_off120 t) (k0_off121 t) (k0_off117_inb t) (k0_off118_inb t) (k0_off120_inb t) (k0_off121_inb t)

end programs

section values

def step1 (t : Fin k0_t1_loop.trips) (X : FVec F (Rows 8192) .f32) : FVec F (Rows 8192) .f32 :=
  reworked2 256 (sort256 false) (k0_off1 t) (k0_off2 t) (k0_off1_inb t) (k0_off2_inb t) X

def step2 (t : Fin k0_t2_loop.trips) (X : FVec F (Rows 8192) .f32) : FVec F (Rows 8192) .f32 :=
  reworked2 256 (sort256 true) (k0_off3 t 1#32) (k0_off3 t 3#32) (k0_off3_inb t 0) (k0_off3_inb t 1) X

def step3 (t : Fin k0_t3_loop.trips) (X : FVec F (Rows 8192) .f32) : FVec F (Rows 8192) .f32 :=
  reworked2 512 (merge512 false) (k0_off4 t) (k0_off5 t) (k0_off4_inb t) (k0_off5_inb t) X

def step4 (t : Fin k0_t4_loop.trips) (X : FVec F (Rows 8192) .f32) : FVec F (Rows 8192) .f32 :=
  reworked2 512 (merge512 true) (k0_off6 t) (k0_off7 t) (k0_off6_inb t) (k0_off7_inb t) X

def step5 (t : Fin k0_t5_loop.trips) (X : FVec F (Rows 8192) .f32) : FVec F (Rows 8192) .f32 :=
  paired2 (k0_off8 t) (k0_off9 t) (k0_off14 t) (k0_off15 t)
    (k0_off8_inb t) (k0_off9_inb t) (k0_off14_inb t) (k0_off15_inb t) (k0_cond1 t == 1#1) (k0_cond3 t == 1#1) X

def step6 (t : Fin k0_t6_loop.trips) (X : FVec F (Rows 8192) .f32) : FVec F (Rows 8192) .f32 :=
  reworked2 512 (merge512 false) (k0_off20 t) (k0_off21 t) (k0_off20_inb t) (k0_off21_inb t) X

def step7 (t : Fin k0_t7_loop.trips) (X : FVec F (Rows 8192) .f32) : FVec F (Rows 8192) .f32 :=
  reworked2 512 (merge512 true) (k0_off22 t) (k0_off23 t) (k0_off22_inb t) (k0_off23_inb t) X

def step8 (t : Fin k0_t8_loop.trips) (X : FVec F (Rows 8192) .f32) : FVec F (Rows 8192) .f32 :=
  quaded2 (k0_off24 t) (k0_off25 t 512#32) (k0_off25 t 1024#32) (k0_off26 t) (k0_off33 t) (k0_off34 t 512#32) (k0_off34 t 1024#32) (k0_off35 t)
    (k0_off24_inb t) (k0_off25_inb t 0) (k0_off25_inb t 1) (k0_off26_inb t) (k0_off33_inb t) (k0_off34_inb t 0) (k0_off34_inb t 1) (k0_off35_inb t) (k0_cond5 t == 1#1) (k0_cond7 t == 1#1) X

def step9 (t : Fin k0_t9_loop.trips) (X : FVec F (Rows 8192) .f32) : FVec F (Rows 8192) .f32 :=
  reworked2 512 (merge512 false) (k0_off42 t) (k0_off43 t) (k0_off42_inb t) (k0_off43_inb t) X

def step10 (t : Fin k0_t10_loop.trips) (X : FVec F (Rows 8192) .f32) : FVec F (Rows 8192) .f32 :=
  reworked2 512 (merge512 true) (k0_off44 t) (k0_off45 t) (k0_off44_inb t) (k0_off45_inb t) X

def step11 (t : Fin k0_t11_loop.trips) (X : FVec F (Rows 8192) .f32) : FVec F (Rows 8192) .f32 :=
  quaded2 (k0_off46 t) (k0_off47 t 1024#32) (k0_off47 t 2048#32) (k0_off48 t) (k0_off55 t) (k0_off56 t 1024#32) (k0_off56 t 2048#32) (k0_off57 t)
    (k0_off46_inb t) (k0_off47_inb t 0) (k0_off47_inb t 1) (k0_off48_inb t) (k0_off55_inb t) (k0_off56_inb t 0) (k0_off56_inb t 1) (k0_off57_inb t) (k0_cond9 t == 1#1) (k0_cond11 t == 1#1) X

def step12 (t : Fin k0_t12_loop.trips) (X : FVec F (Rows 8192) .f32) : FVec F (Rows 8192) .f32 :=
  paired2 (k0_off64 t) (k0_off65 t) (k0_off70 t) (k0_off71 t)
    (k0_off64_inb t) (k0_off65_inb t) (k0_off70_inb t) (k0_off71_inb t) (k0_cond13 t == 1#1) (k0_cond15 t == 1#1) X

def step13 (t : Fin k0_t13_loop.trips) (X : FVec F (Rows 8192) .f32) : FVec F (Rows 8192) .f32 :=
  reworked2 512 (merge512 false) (k0_off76 t) (k0_off77 t) (k0_off76_inb t) (k0_off77_inb t) X

def step14 (t : Fin k0_t14_loop.trips) (X : FVec F (Rows 8192) .f32) : FVec F (Rows 8192) .f32 :=
  reworked2 512 (merge512 true) (k0_off78 t) (k0_off79 t) (k0_off78_inb t) (k0_off79_inb t) X

def step15 (t : Fin k0_t15_loop.trips) (X : FVec F (Rows 8192) .f32) : FVec F (Rows 8192) .f32 :=
  quaded2 (k0_off80 t) (k0_off81 t 2048#32) (k0_off81 t 4096#32) (k0_off82 t) (k0_off89 t) (k0_off90 t 2048#32) (k0_off90 t 4096#32) (k0_off91 t)
    (k0_off80_inb t) (k0_off81_inb t 0) (k0_off81_inb t 1) (k0_off82_inb t) (k0_off89_inb t) (k0_off90_inb t 0) (k0_off90_inb t 1) (k0_off91_inb t) (k0_cond17 t == 1#1) (k0_cond19 t == 1#1) X

def step16 (t : Fin k0_t16_loop.trips) (X : FVec F (Rows 8192) .f32) : FVec F (Rows 8192) .f32 :=
  quaded2 (k0_off98 t) (k0_off99 t 512#32) (k0_off99 t 1024#32) (k0_off100 t) (k0_off107 t) (k0_off108 t 512#32) (k0_off108 t 1024#32) (k0_off109 t)
    (k0_off98_inb t) (k0_off99_inb t 0) (k0_off99_inb t 1) (k0_off100_inb t) (k0_off107_inb t) (k0_off108_inb t 0) (k0_off108_inb t 1) (k0_off109_inb t) (k0_cond21 t == 1#1) (k0_cond23 t == 1#1) X

def step17 (X : FVec F (Rows 8192) .f32) (t : Fin k0_t17_loop.trips) (Y : FVec F Out .f32) : FVec F Out .f32 :=
  dealt2 (k0_off116 t) (k0_off119 t) (k0_off116_inb t) (k0_off119_inb t) (k0_off117 t) (k0_off118 t) (k0_off120 t) (k0_off121 t) X Y

end values

section rules

open Idealize.ShloMosaic.TcCoe
open Idealize.SL Idealize.SL.RA Idealize.SL.BI
open scoped Idealize.SL.BI
open Idealize.SL.BI.BIBase Idealize.SL.BI.Laws

variable {Ix : Type} [DecidableEq Ix] {Name : Type} [DecidableEq Name] {U : Type} [URA U] {Lvl : Type} [Preorder Lvl]
variable {defs : Defs nD τ sig (Elt F) Λ} (𝒱 : Variants) (c : Dev nD) (bd : Option 𝒱.V) (E : Set Name)
variable (m : Memref sig .tc .vmem (Rows 8192) .f32) (p : Memref sig .tc .vmem Out .f32)

/-- A trip takes the array from `X` to `step X`. -/
abbrev Takes (trip : Prog (TpuEff nD τ sig (Elt F) Λ .tc) PUnit) (step : FVec F (Rows 8192) .f32 → FVec F (Rows 8192) .f32) : Prop :=
  ∀ X, (owns (c : Thread nD τ) m fullShare X : sProp (MT nD τ sig Ix (Elt F) Name U Lvl))
    ⊢ wp frame (wpE defs 𝒱 (c : Thread nD τ) bd) E trip (fun _ => owns (c : Thread nD τ) m fullShare (step X))

theorem takes1 (t : Fin k0_t1_loop.trips) : Takes (Ix := Ix) (U := U) (Lvl := Lvl) (defs := defs) 𝒱 c bd E m (trip1 (F := F) m t) (step1 t) := fun X =>
  wp_reworkTwice 𝒱 c bd E m X _ _ _ _ _ _ _

theorem takes2 (t : Fin k0_t2_loop.trips) : Takes (Ix := Ix) (U := U) (Lvl := Lvl) (defs := defs) 𝒱 c bd E m (trip2 (F := F) m t) (step2 t) := fun X =>
  wp_reworkTwice 𝒱 c bd E m X _ _ _ _ _ _ _

theorem takes3 (t : Fin k0_t3_loop.trips) : Takes (Ix := Ix) (U := U) (Lvl := Lvl) (defs := defs) 𝒱 c bd E m (trip3 (F := F) m t) (step3 t) := fun X =>
  wp_reworkTwice 𝒱 c bd E m X _ _ _ _ _ _ _

theorem takes4 (t : Fin k0_t4_loop.trips) : Takes (Ix := Ix) (U := U) (Lvl := Lvl) (defs := defs) 𝒱 c bd E m (trip4 (F := F) m t) (step4 t) := fun X =>
  wp_reworkTwice 𝒱 c bd E m X _ _ _ _ _ _ _

theorem turns5 : ∀ t : Fin k0_t5_loop.trips, k0_cond2 t = BitVec.ofBool (!(k0_cond1 t == 1#1)) ∧ k0_cond4 t = BitVec.ofBool (!(k0_cond3 t == 1#1)) := by decide +kernel

theorem takes5 {γ : Type} (x : γ) (t : Fin k0_t5_loop.trips) : Takes (Ix := Ix) (U := U) (Lvl := Lvl) (defs := defs) 𝒱 c bd E m (trip5 (F := F) m x t) (step5 t) := fun X =>
  wp_pairTwice 𝒱 c bd E m X _ _ _ _ _ _ _ _ _ _ _ _ _ _ (ofBool_beq _) (turns5 t).1 (ofBool_beq _) (turns5 t).2 x

theorem takes6 (t : Fin k0_t6_loop.trips) : Takes (Ix := Ix) (U := U) (Lvl := Lvl) (defs := defs) 𝒱 c bd E m (trip6 (F := F) m t) (step6 t) := fun X =>
  wp_reworkTwice 𝒱 c bd E m X _ _ _ _ _ _ _

theorem takes7 (t : Fin k0_t7_loop.trips) : Takes (Ix := Ix) (U := U) (Lvl := Lvl) (defs := defs) 𝒱 c bd E m (trip7 (F := F) m t) (step7 t) := fun X =>
  wp_reworkTwice 𝒱 c bd E m X _ _ _ _ _ _ _

theorem turns8 : ∀ t : Fin k0_t8_loop.trips, k0_cond6 t = BitVec.ofBool (!(k0_cond5 t == 1#1)) ∧ k0_cond8 t = BitVec.ofBool (!(k0_cond7 t == 1#1)) := by decide +kernel

theorem takes8 {γ : Type} (x : γ) (t : Fin k0_t8_loop.trips) : Takes (Ix := Ix) (U := U) (Lvl := Lvl) (defs := defs) 𝒱 c bd E m (trip8 (F := F) m x t) (step8 t) := fun X =>
  wp_quadTwice 𝒱 c bd E m X _ _ _ _ _ _ _ _ _ _ _ _ _ _ _ _ _ _ _ _ _ _ (ofBool_beq _) (turns8 t).1 (ofBool_beq _) (turns8 t).2 x

theorem takes9 (t : Fin k0_t9_loop.trips) : Takes (Ix := Ix) (U := U) (Lvl := Lvl) (defs := defs) 𝒱 c bd E m (trip9 (F := F) m t) (step9 t) := fun X =>
  wp_reworkTwice 𝒱 c bd E m X _ _ _ _ _ _ _

theorem takes10 (t : Fin k0_t10_loop.trips) : Takes (Ix := Ix) (U := U) (Lvl := Lvl) (defs := defs) 𝒱 c bd E m (trip10 (F := F) m t) (step10 t) := fun X =>
  wp_reworkTwice 𝒱 c bd E m X _ _ _ _ _ _ _

theorem turns11 : ∀ t : Fin k0_t11_loop.trips, k0_cond10 t = BitVec.ofBool (!(k0_cond9 t == 1#1)) ∧ k0_cond12 t = BitVec.ofBool (!(k0_cond11 t == 1#1)) := by decide +kernel

theorem takes11 {γ : Type} (x : γ) (t : Fin k0_t11_loop.trips) : Takes (Ix := Ix) (U := U) (Lvl := Lvl) (defs := defs) 𝒱 c bd E m (trip11 (F := F) m x t) (step11 t) := fun X =>
  wp_quadTwice 𝒱 c bd E m X _ _ _ _ _ _ _ _ _ _ _ _ _ _ _ _ _ _ _ _ _ _ (ofBool_beq _) (turns11 t).1 (ofBool_beq _) (turns11 t).2 x

theorem turns12 : ∀ t : Fin k0_t12_loop.trips, k0_cond14 t = BitVec.ofBool (!(k0_cond13 t == 1#1)) ∧ k0_cond16 t = BitVec.ofBool (!(k0_cond15 t == 1#1)) := by decide +kernel

theorem takes12 {γ : Type} (x : γ) (t : Fin k0_t12_loop.trips) : Takes (Ix := Ix) (U := U) (Lvl := Lvl) (defs := defs) 𝒱 c bd E m (trip12 (F := F) m x t) (step12 t) := fun X =>
  wp_pairTwice 𝒱 c bd E m X _ _ _ _ _ _ _ _ _ _ _ _ _ _ (ofBool_beq _) (turns12 t).1 (ofBool_beq _) (turns12 t).2 x

theorem takes13 (t : Fin k0_t13_loop.trips) : Takes (Ix := Ix) (U := U) (Lvl := Lvl) (defs := defs) 𝒱 c bd E m (trip13 (F := F) m t) (step13 t) := fun X =>
  wp_reworkTwice 𝒱 c bd E m X _ _ _ _ _ _ _

theorem takes14 (t : Fin k0_t14_loop.trips) : Takes (Ix := Ix) (U := U) (Lvl := Lvl) (defs := defs) 𝒱 c bd E m (trip14 (F := F) m t) (step14 t) := fun X =>
  wp_reworkTwice 𝒱 c bd E m X _ _ _ _ _ _ _

theorem turns15 : ∀ t : Fin k0_t15_loop.trips, k0_cond18 t = BitVec.ofBool (!(k0_cond17 t == 1#1)) ∧ k0_cond20 t = BitVec.ofBool (!(k0_cond19 t == 1#1)) := by decide +kernel

theorem takes15 {γ : Type} (x : γ) (t : Fin k0_t15_loop.trips) : Takes (Ix := Ix) (U := U) (Lvl := Lvl) (defs := defs) 𝒱 c bd E m (trip15 (F := F) m x t) (step15 t) := fun X =>
  wp_quadTwice 𝒱 c bd E m X _ _ _ _ _ _ _ _ _ _ _ _ _ _ _ _ _ _ _ _ _ _ (ofBool_beq _) (turns15 t).1 (ofBool_beq _) (turns15 t).2 x

theorem turns16 : ∀ t : Fin k0_t16_loop.trips, k0_cond22 t = BitVec.ofBool (!(k0_cond21 t == 1#1)) ∧ k0_cond24 t = BitVec.ofBool (!(k0_cond23 t == 1#1)) := by decide +kernel

theorem takes16 {γ : Type} (x : γ) (t : Fin k0_t16_loop.trips) : Takes (Ix := Ix) (U := U) (Lvl := Lvl) (defs := defs) 𝒱 c bd E m (trip16 (F := F) m x t) (step16 t) := fun X =>
  wp_quadTwice 𝒱 c bd E m X _ _ _ _ _ _ _ _ _ _ _ _ _ _ _ _ _ _ _ _ _ _ (ofBool_beq _) (turns16 t).1 (ofBool_beq _) (turns16 t).2 x

theorem takes17 (X : FVec F (Rows 8192) .f32) (t : Fin k0_t17_loop.trips) (Y : FVec F Out .f32) :
    iprop((owns (c : Thread nD τ) m fullShare X : sProp (MT nD τ sig Ix (Elt F) Name U Lvl)) ∗ owns (c : Thread nD τ) p fullShare Y)
    ⊢ wp frame (wpE defs 𝒱 (c : Thread nD τ) bd) E (trip17 m p t)
        (fun _ => iprop(owns (c : Thread nD τ) m fullShare X ∗ owns (c : Thread nD τ) p fullShare (step17 X t Y))) :=
  wp_dealTwice 𝒱 c bd E m p X Y _ _ _ _ _ _ _ _ _ _ _ _

end rules

end Cert.Proof.Net

end
-- ==== Proof.Program.lean ====
/- The kernel's program, its loops' bodies left open, and what it does when they do their steps. -/
module

public import proofs.«01_k».proof.Proof.Trips

@[expose] public section

noncomputable section

namespace Cert.Proof.Net

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
variable {nD : Nat} {τ : Topo} {sig : RefSig} {Λ : Labels}

/-- What the scratch array holds after all the loops but the last. -/
def merged (X : FVec F (Rows 8192) .f32) : FVec F (Rows 8192) .f32 :=
  let X := after step1 k0_t1_loop.trips X
  let X := after step2 k0_t2_loop.trips X
  let X := after step3 k0_t3_loop.trips X
  let X := after step4 k0_t4_loop.trips X
  let X := after step5 k0_t5_loop.trips X
  let X := after step6 k0_t6_loop.trips X
  let X := after step7 k0_t7_loop.trips X
  let X := after step8 k0_t8_loop.trips X
  let X := after step9 k0_t9_loop.trips X
  let X := after step10 k0_t10_loop.trips X
  let X := after step11 k0_t11_loop.trips X
  let X := after step12 k0_t12_loop.trips X
  let X := after step13 k0_t13_loop.trips X
  let X := after step14 k0_t14_loop.trips X
  let X := after step15 k0_t15_loop.trips X
  let X := after step16 k0_t16_loop.trips X
  X

/-- What the result holds after the last loop. -/
def finished (X : FVec F (Rows 8192) .f32) (Y : FVec F Out .f32) : FVec F Out .f32 := after (step17 X) k0_t17_loop.trips Y

section program

variable (m1 m2 : Memref sig .tc .vmem S1x2x8192 .f32) (m3 m4 : Memref sig .tc .vmem S1x64 .f32) (m : Memref sig .tc .vmem (Rows 8192) .f32)

def program
    (b1 : Fin k0_t1_loop.trips → Unit → Prog (TpuEff nD τ sig (Elt F) Λ .tc) Unit)
    (b2 : Fin k0_t2_loop.trips → Unit → Prog (TpuEff nD τ sig (Elt F) Λ .tc) Unit)
    (b3 : Fin k0_t3_loop.trips → Unit → Prog (TpuEff nD τ sig (Elt F) Λ .tc) Unit)
    (b4 : Fin k0_t4_loop.trips → Unit → Prog (TpuEff nD τ sig (Elt F) Λ .tc) Unit)
    (b5 : Fin k0_t5_loop.trips → Unit → Prog (TpuEff nD τ sig (Elt F) Λ .tc) Unit)
    (b6 : Fin k0_t6_loop.trips → Unit → Prog (TpuEff nD τ sig (Elt F) Λ .tc) Unit)
    (b7 : Fin k0_t7_loop.trips → Unit → Prog (TpuEff nD τ sig (Elt F) Λ .tc) Unit)
    (b8 : Fin k0_t8_loop.trips → Unit → Prog (TpuEff nD τ sig (Elt F) Λ .tc) Unit)
    (b9 : Fin k0_t9_loop.trips → Unit → Prog (TpuEff nD τ sig (Elt F) Λ .tc) Unit)
    (b10 : Fin k0_t10_loop.trips → Unit → Prog (TpuEff nD τ sig (Elt F) Λ .tc) Unit)
    (b11 : Fin k0_t11_loop.trips → Unit → Prog (TpuEff nD τ sig (Elt F) Λ .tc) Unit)
    (b12 : Fin k0_t12_loop.trips → Unit → Prog (TpuEff nD τ sig (Elt F) Λ .tc) Unit)
    (b13 : Fin k0_t13_loop.trips → Unit → Prog (TpuEff nD τ sig (Elt F) Λ .tc) Unit)
    (b14 : Fin k0_t14_loop.trips → Unit → Prog (TpuEff nD τ sig (Elt F) Λ .tc) Unit)
    (b15 : Fin k0_t15_loop.trips → Unit → Prog (TpuEff nD τ sig (Elt F) Λ .tc) Unit)
    (b16 : Fin k0_t16_loop.trips → Unit → Prog (TpuEff nD τ sig (Elt F) Λ .tc) Unit)
    (b17 : Fin k0_t17_loop.trips → Unit → Prog (TpuEff nD τ sig (Elt F) Λ .tc) Unit) :
    Prog (TpuEff nD τ sig (Elt F) Λ .tc) PUnit := do
  let v0 : Vec F S1x64 .f32 ← Prog.lift (.load m3 (Rect.unit (s := S1x64) ![0, 0] S1x64.size inb_S1x64_S1x64_0_0).toLoadRect (View.loadsAt_vmem h_S1x64))
  let v2 : Vec F S1x64 .f32 ← Prog.lift (.load m4 (Rect.unit (s := S1x64) ![0, 0] S1x64.size inb_S1x64_S1x64_0_0).toLoadRect (View.loadsAt_vmem h_S1x64))
  let v10 : Vec F S1x2x8192 .f32 ← Prog.lift (.load m1 (Rect.unit (s := S1x2x8192) ![0, 0, 0] S1x2x8192.size inb_S1x2x8192_S1x2x8192_0_0_0).toLoadRect (View.loadsAt_vmem h_S1x2x8192))
  let v12 : Vec F S1x2x8192 .f32 ← Prog.lift (.load m2 (Rect.unit (s := S1x2x8192) ![0, 0, 0] S1x2x8192.size inb_S1x2x8192_S1x2x8192_0_0_0).toLoadRect (View.loadsAt_vmem h_S1x2x8192))
  let _ : Vec F S8192x128 .f32 ← Prog.lift (.load m (Rect.unit (s := S8192x128) ![0, 0] S8192x128.size inb_S8192x128_S8192x128_0_0).toLoadRect (View.loadsAt_vmem h_S8192x128))
  Prog.lift (.store m (Rect.unit (s := S8192x128) ![0, 0] S8192x128.size inb_S8192x128_S8192x128_0_0) (k0_pay2113 v0 v2 v10 v12) Finset.univ (View.stores_vmem_bits_univ h_S8192x128 rfl) (.inl rfl))
  Scf.Loop.for k0_t1_loop k0_t1_ok ⟨⟩ b1
  Scf.Loop.for k0_t2_loop k0_t2_ok ⟨⟩ b2
  Scf.Loop.for k0_t3_loop k0_t3_ok ⟨⟩ b3
  Scf.Loop.for k0_t4_loop k0_t4_ok ⟨⟩ b4
  Scf.Loop.for k0_t5_loop k0_t5_ok ⟨⟩ b5
  Scf.Loop.for k0_t6_loop k0_t6_ok ⟨⟩ b6
  Scf.Loop.for k0_t7_loop k0_t7_ok ⟨⟩ b7
  Scf.Loop.for k0_t8_loop k0_t8_ok ⟨⟩ b8
  Scf.Loop.for k0_t9_loop k0_t9_ok ⟨⟩ b9
  Scf.Loop.for k0_t10_loop k0_t10_ok ⟨⟩ b10
  Scf.Loop.for k0_t11_loop k0_t11_ok ⟨⟩ b11
  Scf.Loop.for k0_t12_loop k0_t12_ok ⟨⟩ b12
  Scf.Loop.for k0_t13_loop k0_t13_ok ⟨⟩ b13
  Scf.Loop.for k0_t14_loop k0_t14_ok ⟨⟩ b14
  Scf.Loop.for k0_t15_loop k0_t15_ok ⟨⟩ b15
  Scf.Loop.for k0_t16_loop k0_t16_ok ⟨⟩ b16
  Scf.Loop.for k0_t17_loop k0_t17_ok ⟨⟩ b17
  pure ⟨⟩

end program

section rule

variable {Ix : Type} [DecidableEq Ix] {Name : Type} [DecidableEq Name] {U : Type} [URA U] {Lvl : Type} [Preorder Lvl]
variable {defs : Defs nD τ sig (Elt F) Λ} (𝒱 : Variants) (c : Dev nD) (bd : Option 𝒱.V) (E : Set Name)
variable (m1 m2 : Memref sig .tc .vmem S1x2x8192 .f32) (m3 m4 : Memref sig .tc .vmem S1x64 .f32)
  (p : Memref sig .tc .vmem Out .f32) (m : Memref sig .tc .vmem (Rows 8192) .f32)

theorem window_full {α : Type} {s : Shape} (x : s.Idx → α) (off : Fin s.rank → ℕ) (inb : ∀ a, off a + s.size a ≤ s.size a) : VecWindow.window x off s.size inb = x := by
  funext y
  refine congrArg x (funext fun a => Fin.ext ?_)
  show off a + 1 * (y a).val = (y a).val
  have := inb a
  omega

theorem put_full {α : Type} {s : Shape} (x w : s.Idx → α) (off : Fin s.rank → ℕ) (inb : ∀ a, off a + s.size a ≤ s.size a) : VecWindow.put x off s.size w = w := by
  rw [← window_full (VecWindow.put x off s.size w) off inb]
  exact VecWindow.window_put_same x off s.size inb w

/-- A load of the whole of an owned array. -/
theorem wp_whole {s : Shape} (M : Memref sig .tc .vmem s .f32) (off : Fin s.rank → ℕ) (inb : ∀ a, off a + s.size a ≤ s.size a)
    (hl : M.view.LoadsAt (Rect.unit off s.size inb).toLoadRect) (X : FVec F s .f32) {β : Type} {Q : β → sProp (MT nD τ sig Ix (Elt F) Name U Lvl)}
    (k : Vec F (Rect.unit off s.size inb).shape .f32 → Prog (TpuEff nD τ sig (Elt F) Λ .tc) β) :
    (owns (c : Thread nD τ) M fullShare X : sProp (MT nD τ sig Ix (Elt F) Name U Lvl))
      ⊢ iprop((owns (c : Thread nD τ) M fullShare X -∗ wp frame (wpE defs 𝒱 (c : Thread nD τ) bd) E (k X) Q)
        -∗ wp frame (wpE defs 𝒱 (c : Thread nD τ) bd) E (Prog.lift (.load M (Rect.unit off s.size inb).toLoadRect hl) >>= k) Q) := by
  have h := wp_take (defs := defs) (Q := Q) 𝒱 c bd E M off s.size inb hl X k
  rwa [window_full X off inb] at h

/-- A store over the whole of an owned array. -/
theorem wp_cover {s : Shape} (M : Memref sig .tc .vmem s .f32) (off : Fin s.rank → ℕ) (inb : ∀ a, off a + s.size a ≤ s.size a)
    (w : Vec F (Rect.unit off s.size inb).shape .f32) (hx : (M.access (Rect.unit off s.size inb)).Stores Finset.univ)
    (hm : Finset.univ = Finset.univ ∨ ∀ a, (Rect.unit off s.size inb).stride a = 1) (X : FVec F s .f32)
    {β : Type} {Q : β → sProp (MT nD τ sig Ix (Elt F) Name U Lvl)} (k : PUnit → Prog (TpuEff nD τ sig (Elt F) Λ .tc) β) :
    (owns (c : Thread nD τ) M fullShare X : sProp (MT nD τ sig Ix (Elt F) Name U Lvl))
      ⊢ iprop((owns (c : Thread nD τ) M fullShare w -∗ wp frame (wpE defs 𝒱 (c : Thread nD τ) bd) E (k ⟨⟩) Q)
        -∗ wp frame (wpE defs 𝒱 (c : Thread nD τ) bd) E (Prog.lift (.store M (Rect.unit off s.size inb) w Finset.univ hx hm) >>= k) Q) := by
  have h := wp_leave (defs := defs) (Q := Q) 𝒱 c bd E M off s.size inb w hx hm X k
  rwa [put_full X w off inb] at h

/-- The program takes the scratch array through all the loops and the result with it. -/
theorem wp_program
    (b1 : Fin k0_t1_loop.trips → Unit → Prog (TpuEff nD τ sig (Elt F) Λ .tc) Unit)
    (b2 : Fin k0_t2_loop.trips → Unit → Prog (TpuEff nD τ sig (Elt F) Λ .tc) Unit)
    (b3 : Fin k0_t3_loop.trips → Unit → Prog (TpuEff nD τ sig (Elt F) Λ .tc) Unit)
    (b4 : Fin k0_t4_loop.trips → Unit → Prog (TpuEff nD τ sig (Elt F) Λ .tc) Unit)
    (b5 : Fin k0_t5_loop.trips → Unit → Prog (TpuEff nD τ sig (Elt F) Λ .tc) Unit)
    (b6 : Fin k0_t6_loop.trips → Unit → Prog (TpuEff nD τ sig (Elt F) Λ .tc) Unit)
    (b7 : Fin k0_t7_loop.trips → Unit → Prog (TpuEff nD τ sig (Elt F) Λ .tc) Unit)
    (b8 : Fin k0_t8_loop.trips → Unit → Prog (TpuEff nD τ sig (Elt F) Λ .tc) Unit)
    (b9 : Fin k0_t9_loop.trips → Unit → Prog (TpuEff nD τ sig (Elt F) Λ .tc) Unit)
    (b10 : Fin k0_t10_loop.trips → Unit → Prog (TpuEff nD τ sig (Elt F) Λ .tc) Unit)
    (b11 : Fin k0_t11_loop.trips → Unit → Prog (TpuEff nD τ sig (Elt F) Λ .tc) Unit)
    (b12 : Fin k0_t12_loop.trips → Unit → Prog (TpuEff nD τ sig (Elt F) Λ .tc) Unit)
    (b13 : Fin k0_t13_loop.trips → Unit → Prog (TpuEff nD τ sig (Elt F) Λ .tc) Unit)
    (b14 : Fin k0_t14_loop.trips → Unit → Prog (TpuEff nD τ sig (Elt F) Λ .tc) Unit)
    (b15 : Fin k0_t15_loop.trips → Unit → Prog (TpuEff nD τ sig (Elt F) Λ .tc) Unit)
    (b16 : Fin k0_t16_loop.trips → Unit → Prog (TpuEff nD τ sig (Elt F) Λ .tc) Unit)
    (b17 : Fin k0_t17_loop.trips → Unit → Prog (TpuEff nD τ sig (Elt F) Λ .tc) Unit)
    (h1 : ∀ t, Takes (Ix := Ix) (U := U) (Lvl := Lvl) (defs := defs) 𝒱 c bd E m (b1 t ⟨⟩) (step1 t))
    (h2 : ∀ t, Takes (Ix := Ix) (U := U) (Lvl := Lvl) (defs := defs) 𝒱 c bd E m (b2 t ⟨⟩) (step2 t))
    (h3 : ∀ t, Takes (Ix := Ix) (U := U) (Lvl := Lvl) (defs := defs) 𝒱 c bd E m (b3 t ⟨⟩) (step3 t))
    (h4 : ∀ t, Takes (Ix := Ix) (U := U) (Lvl := Lvl) (defs := defs) 𝒱 c bd E m (b4 t ⟨⟩) (step4 t))
    (h5 : ∀ t, Takes (Ix := Ix) (U := U) (Lvl := Lvl) (defs := defs) 𝒱 c bd E m (b5 t ⟨⟩) (step5 t))
    (h6 : ∀ t, Takes (Ix := Ix) (U := U) (Lvl := Lvl) (defs := defs) 𝒱 c bd E m (b6 t ⟨⟩) (step6 t))
    (h7 : ∀ t, Takes (Ix := Ix) (U := U) (Lvl := Lvl) (defs := defs) 𝒱 c bd E m (b7 t ⟨⟩) (step7 t))
    (h8 : ∀ t, Takes (Ix := Ix) (U := U) (Lvl := Lvl) (defs := defs) 𝒱 c bd E m (b8 t ⟨⟩) (step8 t))
    (h9 : ∀ t, Takes (Ix := Ix) (U := U) (Lvl := Lvl) (defs := defs) 𝒱 c bd E m (b9 t ⟨⟩) (step9 t))
    (h10 : ∀ t, Takes (Ix := Ix) (U := U) (Lvl := Lvl) (defs := defs) 𝒱 c bd E m (b10 t ⟨⟩) (step10 t))
    (h11 : ∀ t, Takes (Ix := Ix) (U := U) (Lvl := Lvl) (defs := defs) 𝒱 c bd E m (b11 t ⟨⟩) (step11 t))
    (h12 : ∀ t, Takes (Ix := Ix) (U := U) (Lvl := Lvl) (defs := defs) 𝒱 c bd E m (b12 t ⟨⟩) (step12 t))
    (h13 : ∀ t, Takes (Ix := Ix) (U := U) (Lvl := Lvl) (defs := defs) 𝒱 c bd E m (b13 t ⟨⟩) (step13 t))
    (h14 : ∀ t, Takes (Ix := Ix) (U := U) (Lvl := Lvl) (defs := defs) 𝒱 c bd E m (b14 t ⟨⟩) (step14 t))
    (h15 : ∀ t, Takes (Ix := Ix) (U := U) (Lvl := Lvl) (defs := defs) 𝒱 c bd E m (b15 t ⟨⟩) (step15 t))
    (h16 : ∀ t, Takes (Ix := Ix) (U := U) (Lvl := Lvl) (defs := defs) 𝒱 c bd E m (b16 t ⟨⟩) (step16 t))
    (h17 : ∀ X t Y, iprop((owns (c : Thread nD τ) m fullShare X : sProp (MT nD τ sig Ix (Elt F) Name U Lvl)) ∗ owns (c : Thread nD τ) p fullShare Y)
      ⊢ wp frame (wpE defs 𝒱 (c : Thread nD τ) bd) E (b17 t ⟨⟩)
          (fun _ => iprop(owns (c : Thread nD τ) m fullShare X ∗ owns (c : Thread nD τ) p fullShare (step17 X t Y))))
    (x1 x2 : Vec F S1x2x8192 .f32) (x3 x4 : Vec F S1x64 .f32) (Y : FVec F Out .f32) (X : FVec F (Rows 8192) .f32) :
    iprop((owns (c : Thread nD τ) m1 fullShare x1 : sProp (MT nD τ sig Ix (Elt F) Name U Lvl)) ∗ owns (c : Thread nD τ) m2 fullShare x2
        ∗ owns (c : Thread nD τ) m3 fullShare x3 ∗ owns (c : Thread nD τ) m4 fullShare x4 ∗ owns (c : Thread nD τ) p fullShare Y
        ∗ owns (c : Thread nD τ) m fullShare X)
      ⊢ wp frame (wpE defs 𝒱 (c : Thread nD τ) bd) E (program m1 m2 m3 m4 m b1 b2 b3 b4 b5 b6 b7 b8 b9 b10 b11 b12 b13 b14 b15 b16 b17)
          (fun _ => iprop(owns (c : Thread nD τ) m1 fullShare x1 ∗ owns (c : Thread nD τ) m2 fullShare x2
            ∗ owns (c : Thread nD τ) m3 fullShare x3 ∗ owns (c : Thread nD τ) m4 fullShare x4
            ∗ owns (c : Thread nD τ) p fullShare (finished (merged (k0_pay2113 x3 x4 x1 x2)) Y)
            ∗ owns (c : Thread nD τ) m fullShare (merged (k0_pay2113 x3 x4 x1 x2)))) := by
  unfold program
  iintro ⟨H1, H2, H3, H4, G, H⟩
  iapply (wp_whole 𝒱 c bd E m3 ![0, 0]) $$ H3
  iintro H3
  iapply (wp_whole 𝒱 c bd E m4 ![0, 0]) $$ H4
  iintro H4
  iapply (wp_whole 𝒱 c bd E m1 ![0, 0, 0]) $$ H1
  iintro H1
  iapply (wp_whole 𝒱 c bd E m2 ![0, 0, 0]) $$ H2
  iintro H2
  iapply (wp_whole 𝒱 c bd E m ![0, 0]) $$ H
  iintro H
  iapply (wp_cover 𝒱 c bd E m ![0, 0]) $$ H
  iintro H
  iapply (wp_loop 𝒱 c bd E _ _ _ k0_t1_ok b1 (fun X => owns (c : Thread nD τ) m fullShare X) step1 h1) $$ H
  iintro H
  iapply (wp_loop 𝒱 c bd E _ _ _ k0_t2_ok b2 (fun X => owns (c : Thread nD τ) m fullShare X) step2 h2) $$ H
  iintro H
  iapply (wp_loop 𝒱 c bd E _ _ _ k0_t3_ok b3 (fun X => owns (c : Thread nD τ) m fullShare X) step3 h3) $$ H
  iintro H
  iapply (wp_loop 𝒱 c bd E _ _ _ k0_t4_ok b4 (fun X => owns (c : Thread nD τ) m fullShare X) step4 h4) $$ H
  iintro H
  iapply (wp_loop 𝒱 c bd E _ _ _ k0_t5_ok b5 (fun X => owns (c : Thread nD τ) m fullShare X) step5 h5) $$ H
  iintro H
  iapply (wp_loop 𝒱 c bd E _ _ _ k0_t6_ok b6 (fun X => owns (c : Thread nD τ) m fullShare X) step6 h6) $$ H
  iintro H
  iapply (wp_loop 𝒱 c bd E _ _ _ k0_t7_ok b7 (fun X => owns (c : Thread nD τ) m fullShare X) step7 h7) $$ H
  iintro H
  iapply (wp_loop 𝒱 c bd E _ _ _ k0_t8_ok b8 (fun X => owns (c : Thread nD τ) m fullShare X) step8 h8) $$ H
  iintro H
  iapply (wp_loop 𝒱 c bd E _ _ _ k0_t9_ok b9 (fun X => owns (c : Thread nD τ) m fullShare X) step9 h9) $$ H
  iintro H
  iapply (wp_loop 𝒱 c bd E _ _ _ k0_t10_ok b10 (fun X => owns (c : Thread nD τ) m fullShare X) step10 h10) $$ H
  iintro H
  iapply (wp_loop 𝒱 c bd E _ _ _ k0_t11_ok b11 (fun X => owns (c : Thread nD τ) m fullShare X) step11 h11) $$ H
  iintro H
  iapply (wp_loop 𝒱 c bd E _ _ _ k0_t12_ok b12 (fun X => owns (c : Thread nD τ) m fullShare X) step12 h12) $$ H
  iintro H
  iapply (wp_loop 𝒱 c bd E _ _ _ k0_t13_ok b13 (fun X => owns (c : Thread nD τ) m fullShare X) step13 h13) $$ H
  iintro H
  iapply (wp_loop 𝒱 c bd E _ _ _ k0_t14_ok b14 (fun X => owns (c : Thread nD τ) m fullShare X) step14 h14) $$ H
  iintro H
  iapply (wp_loop 𝒱 c bd E _ _ _ k0_t15_ok b15 (fun X => owns (c : Thread nD τ) m fullShare X) step15 h15) $$ H
  iintro H
  iapply (wp_loop 𝒱 c bd E _ _ _ k0_t16_ok b16 (fun X => owns (c : Thread nD τ) m fullShare X) step16 h16) $$ H
  iintro H
  iapply (wp_loop 𝒱 c bd E _ _ _ k0_t17_ok b17 (fun Y => iprop(owns (c : Thread nD τ) m fullShare (merged (k0_pay2113 x3 x4 x1 x2)) ∗ owns (c : Thread nD τ) p fullShare Y))
    (step17 _) (h17 _)) $$ [H G]
  · isplitl [H]
    · iexact H
    iexact G
  iintro ⟨H, G⟩
  iapply (wp_done 𝒱 c bd E PUnit.unit .rfl)
  isplitl [H1]
  · iexact H1
  isplitl [H2]
  · iexact H2
  isplitl [H3]
  · iexact H3
  isplitl [H4]
  · iexact H4
  isplitl [G]
  · iexact G
  iexact H

end rule

end Cert.Proof.Net

end
-- ==== Proof.Column.lean ====
/- The lanes of a block of rows, as functions of the row. -/
module

public import Idealize.ShloMosaic.Lib.Pointwise
public import proofs.«01_k».proof.Proof.Twice

@[expose] public section

noncomputable section

namespace Cert.Proof.Net

open Idealize.ShloMosaic Idealize.ShloMosaic.Pointwise

variable {F : FTy → Type} [FloatOps F]

/-- Lane `l` of a block of `R` rows; a fixed value past its end. -/
def col {R : ℕ} (x : FVec F (Rows R) .f32) (l : Fin 128) (r : ℕ) : F .f32 :=
  if h : r < R then x (ix2 ⟨r, h⟩ l) else Scalar.ofBits .f32 0#32

theorem col_of_lt {R : ℕ} (x : FVec F (Rows R) .f32) (l : Fin 128) {r : ℕ} (h : r < R) : col x l r = x (ix2 ⟨r, h⟩ l) := dif_pos h

theorem col_at {R : ℕ} (x : FVec F (Rows R) .f32) (r : Fin R) (l : Fin 128) : x (ix2 r l) = col x l r.val := (col_of_lt x l r.isLt).symm

/-- Two blocks of rows with the same lanes are the same. -/
theorem ext_col {R : ℕ} {x y : FVec F (Rows R) .f32} (h : ∀ l r, r < R → col x l r = col y l r) : x = y := by
  funext j
  obtain ⟨r, l, rfl⟩ : ∃ (r : Fin R) (l : Fin 128), j = ix2 r l := ⟨j 0, j 1, by funext a; match a with | ⟨0, _⟩ => rfl | ⟨1, _⟩ => rfl⟩
  exact (col_at x r l).trans ((h l r r.isLt).trans (col_at y r l).symm)

theorem inside {R o : ℕ} (h : o + R ≤ 8192) : Inside R ![o, 0] := by
  intro a
  fin_cases a
  · exact h
  · simp

/-- A block of an array reads its rows from the block's first row on. -/
theorem col_block {R o : ℕ} (off : Fin 2 → ℕ) (inb : Inside R off) (ho : off = ![o, 0]) (X : FVec F (Rows 8192) .f32) (l : Fin 128) {r : ℕ} (hr : r < R) :
    col (block R off inb X) l r = col X l (o + r) := by
  subst ho
  have h0 : o + R ≤ 8192 := inb 0
  rw [col_of_lt _ _ hr, col_of_lt _ _ (show o + r < 8192 by omega)]
  refine congrArg X (funext fun a => Fin.ext ?_)
  match a with
  | ⟨0, _⟩ => show o + 1 * r = o + r; omega
  | ⟨1, _⟩ => show 0 + 1 * l.val = l.val; omega

/-- An array with a block replaced reads the block at the block's rows, and what it was elsewhere. -/
theorem col_with {R o : ℕ} (off : Fin 2 → ℕ) (inb : Inside R off) (ho : off = ![o, 0]) (w : FVec F (Rows R) .f32) (X : FVec F (Rows 8192) .f32) (l : Fin 128) (r : ℕ) :
    col (with' R off w X) l r = if o ≤ r ∧ r < o + R then col w l (r - o) else col X l r := by
  subst ho
  have h0 : o + R ≤ 8192 := inb 0
  by_cases hr : r < 8192
  · rw [col_of_lt _ _ hr]
    by_cases hb : o ≤ r ∧ r < o + R
    · have hw : ∀ a : Fin 2, (![o, 0] : Fin 2 → ℕ) a ≤ ((ix2 (n0 := 8192) (n1 := 128) ⟨r, hr⟩ l) a).val
          ∧ ((ix2 (n0 := 8192) (n1 := 128) ⟨r, hr⟩ l) a).val < (![o, 0] : Fin 2 → ℕ) a + (Rows R).size a := by
        intro a
        match a with
        | ⟨0, _⟩ => exact hb
        | ⟨1, _⟩ => exact ⟨Nat.zero_le _, by show l.val < 0 + 128; have := l.isLt; omega⟩
      rw [if_pos hb, col_of_lt _ _ (show r - o < R by omega)]
      unfold with' VecWindow.put
      rw [dif_pos hw]
      refine congrArg w (funext fun a => Fin.ext ?_)
      match a with
      | ⟨0, _⟩ => rfl
      | ⟨1, _⟩ => rfl
    · have hw : ¬ ∀ a : Fin 2, (![o, 0] : Fin 2 → ℕ) a ≤ ((ix2 (n0 := 8192) (n1 := 128) ⟨r, hr⟩ l) a).val
          ∧ ((ix2 (n0 := 8192) (n1 := 128) ⟨r, hr⟩ l) a).val < (![o, 0] : Fin 2 → ℕ) a + (Rows R).size a := fun h => hb (h 0)
      rw [if_neg hb, col_of_lt _ _ hr]
      unfold with' VecWindow.put
      rw [dif_neg hw]
  · rw [if_neg (by omega)]
    unfold col
    rw [dif_neg hr, dif_neg hr]

/-- The result with a slab stored in it. -/
theorem put_slab (b : Fin 2) (o : ℕ) (off : Fin 3 → ℕ) (ho : off = ![b.val, o, 0]) (w : FVec F Slab .f32) (Y : FVec F Out .f32) (b' : Fin 2) (r : Fin 8192) (l : Fin 64) :
    VecWindow.put Y off Slab.size w (ix3 b' r l)
      = if h : b' = b ∧ o ≤ r.val ∧ r.val < o + 512 then w (ix3 (0 : Fin 1) (⟨r.val - o, by omega⟩ : Fin 512) l) else Y (ix3 b' r l) := by
  subst ho
  unfold VecWindow.put
  by_cases hb : b' = b ∧ o ≤ r.val ∧ r.val < o + 512
  · have hw : ∀ a : Fin 3, (![b.val, o, 0] : Fin 3 → ℕ) a ≤ ((ix3 b' r l) a).val ∧ ((ix3 b' r l) a).val < (![b.val, o, 0] : Fin 3 → ℕ) a + Slab.size a := by
      intro a
      match a with
      | ⟨0, _⟩ => obtain ⟨rfl, -⟩ := hb; exact ⟨le_refl _, Nat.lt_succ_self _⟩
      | ⟨1, _⟩ => exact hb.2
      | ⟨2, _⟩ => exact ⟨Nat.zero_le _, by show l.val < 0 + 64; have := l.isLt; omega⟩
    rw [dif_pos hb, dif_pos hw]
    refine congrArg w (funext fun a => Fin.ext ?_)
    match a with
    | ⟨0, _⟩ => obtain ⟨rfl, -⟩ := hb; exact Nat.sub_self _
    | ⟨1, _⟩ => rfl
    | ⟨2, _⟩ => rfl
  · have hw : ¬ ∀ a : Fin 3, (![b.val, o, 0] : Fin 3 → ℕ) a ≤ ((ix3 b' r l) a).val ∧ ((ix3 b' r l) a).val < (![b.val, o, 0] : Fin 3 → ℕ) a + Slab.size a := fun h =>
      hb ⟨Fin.ext (by have h1 := (h 0).1; have h2 := (h 0).2; simp only [pointwise] at h1 h2; have : Slab.size 0 = 1 := rfl; simp at h1 h2; omega), h 1⟩
    rw [dif_neg hb, dif_neg hw]

/-- A slab holds the lanes from `o` on. -/
theorem slab_apply (o : ℕ) (h : o + 64 ≤ 128) (x : FVec F (Rows 512) .f32) (r : Fin 512) (l : Fin 64) :
    slab o h x (ix3 (0 : Fin 1) r l) = col x ⟨o + l.val, by omega⟩ r.val := by
  refine Eq.trans ?_ (col_at x r (⟨o + l.val, by omega⟩ : Fin 128))
  pointwise [slab]

end Cert.Proof.Net

end
-- ==== Proof.Result.lean ====
/- What the last loop leaves in the result: it fills every row, whatever was there before. -/
module

public import proofs.«01_k».proof.Proof.Column
public import proofs.«01_k».proof.Proof.Program

@[expose] public section

noncomputable section

namespace Cert.Proof.Net

open Idealize.ShloMosaic Idealize.ShloMosaic.Pointwise
open Cert.KernelIdeal Cert.KernelIdeal.Gen

variable {F : FTy → Type} [FloatOps F]

/-- The blocks the last loop reads, and where it stores them. -/
theorem lastOffsets : ∀ t : Fin k0_t17_loop.trips,
    (k0_off116 t = ![1024 * t.val, 0] ∧ k0_off119 t = ![1024 * t.val + 512, 0])
      ∧ (k0_off117 t = ![0, 1024 * t.val, 0] ∧ k0_off118 t = ![1, 1024 * t.val, 0])
      ∧ k0_off120 t = ![0, 1024 * t.val + 512, 0] ∧ k0_off121 t = ![1, 1024 * t.val + 512, 0] := by
  decide +kernel

/-- The block of 512 rows number `q`, merged. -/
def lastMerge (X : FVec F (Rows 8192) .f32) (q : ℕ) (h : q < 16) : FVec F (Rows 512) .f32 :=
  merge512 false (block 512 ![512 * q, 0] (inside (by omega)) X)

/-- The value of the result at a coordinate: the merged block the row lies in, read at the lane. -/
def resultAt (X : FVec F (Rows 8192) .f32) (b : Fin 2) (r : Fin 8192) (l : Fin 64) : F .f32 :=
  col (lastMerge X (r.val / 512) (by omega)) ⟨64 * b.val + l.val, by omega⟩ (r.val % 512)

/-- The result, as a function of the scratch array alone. -/
def result (X : FVec F (Rows 8192) .f32) : FVec F Out .f32 := fun j => resultAt X (j 0) (j 1) (j 2)

theorem block_eq {o : ℕ} (off : Fin 2 → ℕ) (inb : Inside 512 off) (ho : off = ![o, 0]) (q : ℕ) (h : q < 16) (hq : 512 * q = o) (X : FVec F (Rows 8192) .f32) :
    merge512 false (block 512 off inb X) = lastMerge X q h := by
  subst ho; subst hq; rfl

/-- A block dealt out fills its 512 rows and keeps the others. -/
theorem dealt_at (X : FVec F (Rows 8192) .f32) (Y : FVec F Out .f32) (off : Fin 2 → ℕ) (inb : Inside 512 off) (oL oH : Fin 3 → ℕ) (q : ℕ) (h : q < 16)
    (ho : off = ![512 * q, 0]) (hL : oL = ![0, 512 * q, 0]) (hH : oH = ![1, 512 * q, 0]) (b : Fin 2) (r : Fin 8192) (l : Fin 64) :
    dealt oL oH (block 512 off inb X) Y (ix3 b r l) = if r.val / 512 = q then resultAt X b r l else Y (ix3 b r l) := by
  unfold dealt
  rw [block_eq off inb ho q h rfl, put_slab 1 (512 * q) oH hH, put_slab 0 (512 * q) oL hL]
  have hb : b = 0 ∨ b = 1 := by omega
  by_cases hr : r.val / 512 = q
  · have h1 : 512 * q ≤ r.val ∧ r.val < 512 * q + 512 := by omega
    have h2 : r.val - 512 * q = r.val % 512 := by omega
    rw [if_pos hr]
    rcases hb with rfl | rfl
    · rw [dif_neg (by simp), dif_pos ⟨rfl, h1⟩, slab_apply]
      subst hr
      exact congrArg₂ (col _) (Fin.ext rfl) h2
    · rw [dif_pos ⟨rfl, h1⟩, slab_apply]
      subst hr
      exact congrArg₂ (col _) (Fin.ext rfl) h2
  · rw [if_neg hr, dif_neg (by omega), dif_neg (by omega)]

/-- A trip of the last loop fills two blocks of rows. -/
theorem step17_at (X : FVec F (Rows 8192) .f32) (t : Fin k0_t17_loop.trips) (Y : FVec F Out .f32) (b : Fin 2) (r : Fin 8192) (l : Fin 64) :
    step17 X t Y (ix3 b r l) = if r.val / 1024 = t.val then resultAt X b r l else Y (ix3 b r l) := by
  obtain ⟨⟨h116, h119⟩, ⟨h117, h118⟩, h120, h121⟩ := lastOffsets t
  have ht : t.val < 8 := t.isLt
  unfold step17 dealt2
  rw [dealt_at X _ _ _ _ _ (2 * t.val + 1) (by omega) (by rw [h119]; congr 1; omega) (by rw [h120]; congr 2; omega) (by rw [h121]; congr 2; omega),
    dealt_at X _ _ _ _ _ (2 * t.val) (by omega) (by rw [h116]; congr 1; omega) (by rw [h117]; congr 2; omega) (by rw [h118]; congr 2; omega)]
  by_cases h : r.val / 1024 = t.val
  · rw [if_pos h]
    by_cases h' : r.val / 512 = 2 * t.val + 1
    · rw [if_pos h']
    · rw [if_neg h', if_pos (by omega)]
  · rw [if_neg h, if_neg (by omega), if_neg (by omega)]

theorem after17_at (X : FVec F (Rows 8192) .f32) (Y : FVec F Out .f32) (b : Fin 2) (r : Fin 8192) (l : Fin 64) (k : ℕ) (hk : k ≤ k0_t17_loop.trips) :
    after (step17 X) k Y (ix3 b r l) = if r.val / 1024 < k then resultAt X b r l else Y (ix3 b r l) := by
  induction k with
  | zero => rw [if_neg (by omega)]; rfl
  | succ k ih =>
    rw [after_succ (step17 X) ⟨k, hk⟩ Y, step17_at, ih (by omega)]
    by_cases h : r.val / 1024 = k
    · rw [if_pos h, if_pos (by omega)]
    · rw [if_neg h]
      by_cases h' : r.val / 1024 < k
      · rw [if_pos h', if_pos (by omega)]
      · rw [if_neg h', if_neg (by omega)]

/-- The last loop leaves the result, whatever the result's memory held. -/
theorem finished_eq (X : FVec F (Rows 8192) .f32) (Y : FVec F Out .f32) : finished X Y = result X := by
  funext j
  obtain ⟨b, r, l, rfl⟩ : ∃ (b : Fin 2) (r : Fin 8192) (l : Fin 64), j = ix3 b r l :=
    ⟨j 0, j 1, j 2, by funext a; match a with | ⟨0, _⟩ => rfl | ⟨1, _⟩ => rfl | ⟨2, _⟩ => rfl⟩
  have h8 : k0_t17_loop.trips = 8 := by decide +kernel
  unfold finished
  rw [after17_at X Y b r l _ (le_refl _), if_pos (by omega)]
  rfl

end Cert.Proof.Net

end
-- ==== Proof.BodiesIdeal.lean ====
/- The bodies of the loops of the printed program are the trips. -/
module

public import proofs.«01_k».proof.Proof.Program
public import proofs.«01_k».proof.Proof.Gen.KernelIdeal.Skeleton

@[expose] public section

set_option maxRecDepth 65536

noncomputable section

namespace Cert.KernelIdeal.Gen

open Idealize.ShloMosaic Idealize.SL.Sem Cert.Proof.Net

variable {F : FTy → Type} [FloatOps F]
variable (i : grid0.Coords) (arg1 : Memref sig .tc .vmem S1x2x8192 .f32) (harg1 : arg1.IsWhole) (arg2 : Memref sig .tc .vmem S1x2x8192 .f32) (harg2 : arg2.IsWhole)
  (arg3 : Memref sig .tc .vmem S1x64 .f32) (harg3 : arg3.IsWhole) (arg4 : Memref sig .tc .vmem S1x64 .f32) (harg4 : arg4.IsWhole)
  (arg5 : Memref sig .tc .vmem S2x8192x64 .f32) (harg5 : arg5.IsWhole) (arg6 : Memref sig .tc .vmem S8192x128 .f32) (harg6 : arg6.IsWhole)

theorem body1 (t : Fin k0_t1_loop.trips) :
    k0_t1_body (F := F) i arg1 harg1 arg2 harg2 arg3 harg3 arg4 harg4 arg5 harg5 arg6 harg6 t ⟨⟩ = trip1 arg6 t := rfl

theorem body2 (t : Fin k0_t2_loop.trips) :
    k0_t2_body (F := F) i arg1 harg1 arg2 harg2 arg3 harg3 arg4 harg4 arg5 harg5 arg6 harg6 t ⟨⟩ = trip2 arg6 t := rfl

theorem body3 (t : Fin k0_t3_loop.trips) :
    k0_t3_body (F := F) i arg1 harg1 arg2 harg2 arg3 harg3 arg4 harg4 arg5 harg5 arg6 harg6 t ⟨⟩ = trip3 arg6 t := rfl

theorem body4 (t : Fin k0_t4_loop.trips) :
    k0_t4_body (F := F) i arg1 harg1 arg2 harg2 arg3 harg3 arg4 harg4 arg5 harg5 arg6 harg6 t ⟨⟩ = trip4 arg6 t := rfl

theorem body5 (t : Fin k0_t5_loop.trips) :
    ∃ x : (Σ' (_ : BitVec 32), BitVec 32), k0_t5_body (F := F) i arg1 harg1 arg2 harg2 arg3 harg3 arg4 harg4 arg5 harg5 arg6 harg6 0#32 t ⟨⟩ = trip5 arg6 x t := ⟨_, rfl⟩

theorem body6 (t : Fin k0_t6_loop.trips) :
    k0_t6_body (F := F) i arg1 harg1 arg2 harg2 arg3 harg3 arg4 harg4 arg5 harg5 arg6 harg6 0#32 t ⟨⟩ = trip6 arg6 t := rfl

theorem body7 (t : Fin k0_t7_loop.trips) :
    k0_t7_body (F := F) i arg1 harg1 arg2 harg2 arg3 harg3 arg4 harg4 arg5 harg5 arg6 harg6 0#32 t ⟨⟩ = trip7 arg6 t := rfl

theorem body8 (t : Fin k0_t8_loop.trips) :
    ∃ x : BitVec 32, k0_t8_body (F := F) i arg1 harg1 arg2 harg2 arg3 harg3 arg4 harg4 arg5 harg5 arg6 harg6 0#32 t ⟨⟩ = trip8 arg6 x t := ⟨_, rfl⟩

theorem body9 (t : Fin k0_t9_loop.trips) :
    k0_t9_body (F := F) i arg1 harg1 arg2 harg2 arg3 harg3 arg4 harg4 arg5 harg5 arg6 harg6 0#32 t ⟨⟩ = trip9 arg6 t := rfl

theorem body10 (t : Fin k0_t10_loop.trips) :
    k0_t10_body (F := F) i arg1 harg1 arg2 harg2 arg3 harg3 arg4 harg4 arg5 harg5 arg6 harg6 0#32 t ⟨⟩ = trip10 arg6 t := rfl

theorem body11 (t : Fin k0_t11_loop.trips) :
    ∃ x : BitVec 32, k0_t11_body (F := F) i arg1 harg1 arg2 harg2 arg3 harg3 arg4 harg4 arg5 harg5 arg6 harg6 0#32 t ⟨⟩ = trip11 arg6 x t := ⟨_, rfl⟩

theorem body12 (t : Fin k0_t12_loop.trips) :
    ∃ x : (Σ' (_ : BitVec 32), BitVec 32), k0_t12_body (F := F) i arg1 harg1 arg2 harg2 arg3 harg3 arg4 harg4 arg5 harg5 arg6 harg6 0#32 t ⟨⟩ = trip12 arg6 x t := ⟨_, rfl⟩

theorem body13 (t : Fin k0_t13_loop.trips) :
    k0_t13_body (F := F) i arg1 harg1 arg2 harg2 arg3 harg3 arg4 harg4 arg5 harg5 arg6 harg6 0#32 t ⟨⟩ = trip13 arg6 t := rfl

theorem body14 (t : Fin k0_t14_loop.trips) :
    k0_t14_body (F := F) i arg1 harg1 arg2 harg2 arg3 harg3 arg4 harg4 arg5 harg5 arg6 harg6 0#32 t ⟨⟩ = trip14 arg6 t := rfl

theorem body15 (t : Fin k0_t15_loop.trips) :
    ∃ x : BitVec 32, k0_t15_body (F := F) i arg1 harg1 arg2 harg2 arg3 harg3 arg4 harg4 arg5 harg5 arg6 harg6 0#32 t ⟨⟩ = trip15 arg6 x t := ⟨_, rfl⟩

theorem body16 (t : Fin k0_t16_loop.trips) :
    ∃ x : BitVec 32, k0_t16_body (F := F) i arg1 harg1 arg2 harg2 arg3 harg3 arg4 harg4 arg5 harg5 arg6 harg6 t ⟨⟩ = trip16 arg6 x t := ⟨_, rfl⟩

theorem body17 (t : Fin k0_t17_loop.trips) :
    k0_t17_body (F := F) i arg1 harg1 arg2 harg2 arg3 harg3 arg4 harg4 arg5 harg5 arg6 harg6 t ⟨⟩ = trip17 arg6 arg5 t := rfl

/-- The printed body is the program over its loops' bodies. -/
theorem kernel_eq : cc0__sw_kernel (F := F) i arg1 harg1 arg2 harg2 arg3 harg3 arg4 harg4 arg5 harg5 arg6 harg6 = program arg1 arg2 arg3 arg4 arg6 (k0_t1_body i arg1 harg1 arg2 harg2 arg3 harg3 arg4 harg4 arg5 harg5 arg6 harg6) (k0_t2_body i arg1 harg1 arg2 harg2 arg3 harg3 arg4 harg4 arg5 harg5 arg6 harg6) (k0_t3_body i arg1 harg1 arg2 harg2 arg3 harg3 arg4 harg4 arg5 harg5 arg6 harg6) (k0_t4_body i arg1 harg1 arg2 harg2 arg3 harg3 arg4 harg4 arg5 harg5 arg6 harg6) (k0_t5_body i arg1 harg1 arg2 harg2 arg3 harg3 arg4 harg4 arg5 harg5 arg6 harg6 0#32) (k0_t6_body i arg1 harg1 arg2 harg2 arg3 harg3 arg4 harg4 arg5 harg5 arg6 harg6 0#32) (k0_t7_body i arg1 harg1 arg2 harg2 arg3 harg3 arg4 harg4 arg5 harg5 arg6 harg6 0#32) (k0_t8_body i arg1 harg1 arg2 harg2 arg3 harg3 arg4 harg4 arg5 harg5 arg6 harg6 0#32) (k0_t9_body i arg1 harg1 arg2 harg2 arg3 harg3 arg4 harg4 arg5 harg5 arg6 harg6 0#32) (k0_t10_body i arg1 harg1 arg2 harg2 arg3 harg3 arg4 harg4 arg5 harg5 arg6 harg6 0#32) (k0_t11_body i arg1 harg1 arg2 harg2 arg3 harg3 arg4 harg4 arg5 harg5 arg6 harg6 0#32) (k0_t12_body i arg1 harg1 arg2 harg2 arg3 harg3 arg4 harg4 arg5 harg5 arg6 harg6 0#32) (k0_t13_body i arg1 harg1 arg2 harg2 arg3 harg3 arg4 harg4 arg5 harg5 arg6 harg6 0#32) (k0_t14_body i arg1 harg1 arg2 harg2 arg3 harg3 arg4 harg4 arg5 harg5 arg6 harg6 0#32) (k0_t15_body i arg1 harg1 arg2 harg2 arg3 harg3 arg4 harg4 arg5 harg5 arg6 harg6 0#32) (k0_t16_body i arg1 harg1 arg2 harg2 arg3 harg3 arg4 harg4 arg5 harg5 arg6 harg6) (k0_t17_body i arg1 harg1 arg2 harg2 arg3 harg3 arg4 harg4 arg5 harg5 arg6 harg6) := by
  rw [cc0__sw_kernel_eq_skeleton]
  unfold cc0__sw_kernel_skel
  rw [k0_part408_eq_skeleton, k0_part409_eq_skeleton]
  unfold k0_part408_skel k0_part409_skel program
  simp only [bind_assoc, pure_bind]

section triple

open Idealize.ShloMosaic.TcCoe
open Idealize.SL Idealize.SL.RA Idealize.SL.BI
open scoped Idealize.SL.BI
open Idealize.SL.BI.BIBase Idealize.SL.BI.Laws

variable {nD' : Nat} {τ' : Topo} {Ix : Type} [DecidableEq Ix] {Name : Type} [DecidableEq Name] {U : Type} [URA U] {Lvl : Type} [Preorder Lvl]
variable {defs : Defs nD τ sig (Elt F) Λ₀} (𝒱 : Variants) (c : Dev nD) (bd : Option 𝒱.V) (E : Set Name)

/-- What one grid point does: the four operands are kept, the result is dealt out of the sorted scratch array. -/
theorem triple (x1 x2 : Vec F S1x2x8192 .f32) (x3 x4 : Vec F S1x64 .f32) (Y : Vec F S2x8192x64 .f32) (X : Vec F S8192x128 .f32) :
    iprop((owns (c : Thread nD τ) arg1 fullShare x1 : sProp (MT nD τ sig Ix (Elt F) Name U Lvl)) ∗ owns (c : Thread nD τ) arg2 fullShare x2
        ∗ owns (c : Thread nD τ) arg3 fullShare x3 ∗ owns (c : Thread nD τ) arg4 fullShare x4 ∗ owns (c : Thread nD τ) arg5 fullShare Y
        ∗ owns (c : Thread nD τ) arg6 fullShare X)
      ⊢ wp frame (wpE defs 𝒱 (c : Thread nD τ) bd) E (cc0__sw_kernel i arg1 harg1 arg2 harg2 arg3 harg3 arg4 harg4 arg5 harg5 arg6 harg6)
          (fun _ => iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (finished (merged (k0_pay2113 x3 x4 x1 x2)) Y)
            ∗ owns (c : Thread nD τ) arg6 fullShare (merged (k0_pay2113 x3 x4 x1 x2)))) := by
  rw [kernel_eq]
  exact wp_program 𝒱 c bd E arg1 arg2 arg3 arg4 arg5 arg6 _ _ _ _ _ _ _ _ _ _ _ _ _ _ _ _ _
    (fun t => by rw [body1]; exact takes1 𝒱 c bd E arg6 t)
    (fun t => by rw [body2]; exact takes2 𝒱 c bd E arg6 t)
    (fun t => by rw [body3]; exact takes3 𝒱 c bd E arg6 t)
    (fun t => by rw [body4]; exact takes4 𝒱 c bd E arg6 t)
    (fun t => by obtain ⟨x, e⟩ := body5 (F := F) i arg1 harg1 arg2 harg2 arg3 harg3 arg4 harg4 arg5 harg5 arg6 harg6 t; rw [e]; exact takes5 𝒱 c bd E arg6 x t)
    (fun t => by rw [body6]; exact takes6 𝒱 c bd E arg6 t)
    (fun t => by rw [body7]; exact takes7 𝒱 c bd E arg6 t)
    (fun t => by obtain ⟨x, e⟩ := body8 (F := F) i arg1 harg1 arg2 harg2 arg3 harg3 arg4 harg4 arg5 harg5 arg6 harg6 t; rw [e]; exact takes8 𝒱 c bd E arg6 x t)
    (fun t => by rw [body9]; exact takes9 𝒱 c bd E arg6 t)
    (fun t => by rw [body10]; exact takes10 𝒱 c bd E arg6 t)
    (fun t => by obtain ⟨x, e⟩ := body11 (F := F) i arg1 harg1 arg2 harg2 arg3 harg3 arg4 harg4 arg5 harg5 arg6 harg6 t; rw [e]; exact takes11 𝒱 c bd E arg6 x t)
    (fun t => by obtain ⟨x, e⟩ := body12 (F := F) i arg1 harg1 arg2 harg2 arg3 harg3 arg4 harg4 arg5 harg5 arg6 harg6 t; rw [e]; exact takes12 𝒱 c bd E arg6 x t)
    (fun t => by rw [body13]; exact takes13 𝒱 c bd E arg6 t)
    (fun t => by rw [body14]; exact takes14 𝒱 c bd E arg6 t)
    (fun t => by obtain ⟨x, e⟩ := body15 (F := F) i arg1 harg1 arg2 harg2 arg3 harg3 arg4 harg4 arg5 harg5 arg6 harg6 t; rw [e]; exact takes15 𝒱 c bd E arg6 x t)
    (fun t => by obtain ⟨x, e⟩ := body16 (F := F) i arg1 harg1 arg2 harg2 arg3 harg3 arg4 harg4 arg5 harg5 arg6 harg6 t; rw [e]; exact takes16 𝒱 c bd E arg6 x t)
    (fun X t Y => by rw [body17]; exact takes17 𝒱 c bd E arg6 arg5 X t Y) x1 x2 x3 x4 Y X

end triple

end Cert.KernelIdeal.Gen

end
-- ==== Proof.RunIdeal.lean ====
/- The launch: every grid point runs the body, and the run leaves the result of every point. -/
module

public import proofs.«01_k».proof.Proof.Gen.KernelIdeal.Frame
public import proofs.«01_k».proof.Proof.BodiesIdeal
public import proofs.«01_k».proof.Proof.Result

@[expose] public section

noncomputable section

namespace Cert.KernelIdeal.Gen

open Cert.KernelIdeal Cert.Proof.Net
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

abbrev 𝒱₀ : Variants := Variants.none

variable (m : (ℓ : Loc nD τ sig) → Buf (Elt F) ℓ) (ρ : Dev nD → PrngReg)

/-- The values a point sorts: the products summed, one array of 128 lanes. -/
def filled (c : Dev nD) (t : Fin cfg0.N) : FVec F (Rows 8192) .f32 :=
  k0_pay2113 (iblk m c 2 t) (iblk m c 3 t) (iblk m c 0 t) (iblk m c 1 t)

/-- What a point leaves in its block of the result. -/
def outAt (c : Dev nD) (t : Fin cfg0.N) : Vec F S2x8192x64 .f32 := result (merged (filled m c t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The point's operation is the kernel on the point's blocks. -/
theorem defs₀_row (t : Fin cfg0.N) : defs₀ (F := F) .tc cfg0.body (cfg0.bodyArgs t (cfg0.slots t)) = bodyAt0 t := by
  unfold defs₀
  rw [Defs.onTc_tc]

/-- One point: the operands are kept, the block of the result is filled, the scratch array is given back. -/
theorem point (c : Dev nD) (t : Fin cfg0.N) (Y : Vec F S2x8192x64 .f32) :
    iprop((ΦA spec0 c : sProp (MT nD τ sig Unit (Elt F) ℕ (UR sig nD τ) ℕ))
        ∗ owns (c : Thread nD τ) (win0_0.stage (cfg0.slots t 0)) fullShare (iblk m c 0 t)
        ∗ owns (c : Thread nD τ) (win0_1.stage (cfg0.slots t 1)) fullShare (iblk m c 1 t)
        ∗ owns (c : Thread nD τ) (win0_2.stage (cfg0.slots t 2)) fullShare (iblk m c 2 t)
        ∗ owns (c : Thread nD τ) (win0_3.stage (cfg0.slots t 3)) fullShare (iblk m c 3 t)
        ∗ owns (c : Thread nD τ) (win0_4.stage (cfg0.slots t 4)) fullShare Y)
      ⊢ wp frame (wpE (defs₀ (F := F)) 𝒱₀ (c : Thread nD τ) none) Set.univ (bodyAt0 t)
          (fun _ => iprop(ΦA spec0 c
            ∗ owns (c : Thread nD τ) (win0_0.stage (cfg0.slots t 0)) fullShare (iblk m c 0 t)
            ∗ owns (c : Thread nD τ) (win0_1.stage (cfg0.slots t 1)) fullShare (iblk m c 1 t)
            ∗ owns (c : Thread nD τ) (win0_2.stage (cfg0.slots t 2)) fullShare (iblk m c 2 t)
            ∗ owns (c : Thread nD τ) (win0_3.stage (cfg0.slots t 3)) fullShare (iblk m c 3 t)
            ∗ owns (c : Thread nD τ) (win0_4.stage (cfg0.slots t 4)) fullShare (outAt m c t))) := by
  have h : ∀ f, iprop((owns (c : Thread nD τ) (win0_0.stage (cfg0.slots t 0)) fullShare (iblk m c 0 t) : sProp (MT nD τ sig Unit (Elt F) ℕ (UR sig nD τ) ℕ))
        ∗ owns (c : Thread nD τ) (win0_1.stage (cfg0.slots t 1)) fullShare (iblk m c 1 t)
        ∗ owns (c : Thread nD τ) (win0_2.stage (cfg0.slots t 2)) fullShare (iblk m c 2 t)
        ∗ owns (c : Thread nD τ) (win0_3.stage (cfg0.slots t 3)) fullShare (iblk m c 3 t)
        ∗ owns (c : Thread nD τ) (win0_4.stage (cfg0.slots t 4)) fullShare Y
        ∗ owns (c : Thread nD τ) (Memref.whole cc0_scratch0) fullShare f) ⊢ _ := fun f =>
    triple (F := F) (defs := defs₀) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
      (Memref.whole cc0_scratch0) (Memref.isWhole_whole _)
      𝒱₀ c none Set.univ (iblk m c 0 t) (iblk m c 1 t) (iblk m c 2 t) (iblk m c 3 t) Y f
  refine BIBase.Entails.trans ?_ ((sep_mono (exists_elim h) (.rfl (P := iprop(∃ r, prngReg c r)))).trans ((wp_frame_r frame _ Set.univ).trans (wp_mono frame _ Set.univ fun _ => ?_)))
  · unfold ΦA
    rw [scopedRest0_eq]
    iintro ⟨⟨⟨%f, HS⟩, HP⟩, H0, H1, H2, H3, H4⟩
    isplitr [HP]
    · iexists f
      isplitl [H0]; · iexact H0
      isplitl [H1]; · iexact H1
      isplitl [H2]; · iexact H2
      isplitl [H3]; · iexact H3
      isplitl [H4]; · iexact H4
      rw [owns_whole]
      iexact HS
    iexact HP
  · unfold ΦA
    rw [scopedRest0_eq, finished_eq, owns_whole]
    iintro ⟨⟨H0, H1, H2, H3, H4, HS⟩, HP⟩
    isplitl [HS HP]
    · isplitl [HS]
      · iexists _; iexact HS
      iexact HP
    isplitl [H0]; · iexact H0
    isplitl [H1]; · iexact H1
    isplitl [H2]; · iexact H2
    isplitl [H3]; · iexact H3
    iexact H4

theorem body_obligation (c : Dev nD) : BodyObligation (dats (F := F) m 0 c) (defs₀ (F := F)) 𝒱₀ () Set.univ := fun t => by
  rw [bigSep_W0, bigSep_W0, defs₀_row]
  simp only [before0_0, before0_1, before0_2, before0_3]
  rw [show (dats m 0 c).Φ t.succ = ΦA spec0 c from rfl, show (dats m 0 c).Φ t.castSucc = ΦA spec0 c from rfl,
    show (dats m 0 c).owesAt () t.succ = (dats m 0 c).owesAt () t.castSucc from rfl, after0_0, after0_1, after0_2, after0_3, after0_4]
  have h := fun Y => sep_mono (point m c t Y) (.rfl (P := (dats m 0 c).owesAt () t.castSucc))
  refine BIBase.Entails.trans ?_ ((exists_elim h).trans ((wp_frame_r frame _ Set.univ).trans (wp_mono frame _ Set.univ fun _ => ?_)))
  · iintro ⟨HΦ, Ho, ⟨%d0, H0⟩, ⟨%d1, H1⟩, ⟨%d2, H2⟩, ⟨%d3, H3⟩, ⟨%d4, H4⟩⟩
    iexists _
    isplitr [Ho]
    · isplitl [HΦ]; · iexact HΦ
      isplitl [H0]; · iexact H0
      isplitl [H1]; · iexact H1
      isplitl [H2]; · iexact H2
      isplitl [H3]; · iexact H3
      iexact H4
    iexact Ho
  · iintro ⟨⟨HΦ, H0, H1, H2, H3, H4⟩, Ho⟩
    isplitl [HΦ]; · iexact HΦ
    isplitl [Ho]; · iexact Ho
    isplitl [H0]; · iexact H0
    isplitl [H1]; · iexact H1
    isplitl [H2]; · iexact H2
    isplitl [H3]; · iexact H3
    iexact H4

set_option backward.isDefEq.respectTransparency.types false in
/-- Every execution ends with every array at what the points leave, and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The run keeps the arguments, and leaves every counter at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main m ρ)

end Cert.KernelIdeal.Gen

end
-- ==== Proof.Stages.lean ====
/- The stages of a bitonic sorting network over a column of values, its rows numbered from zero: what they sort. -/
module

public import Idealize.ShloMosaic.Lib.SortNet.Sorts
public import Mathlib.Tactic.Ring

@[expose] public section

namespace Cert.Proof.Net

open Idealize.ShloMosaic.SortNet

variable {α : Type*} [LinearOrder α]

/-- The lesser of two values, or with `d` the greater. -/
def pick (d : Bool) (a b : α) : α := cond d (max a b) (min a b)

theorem pick_comm (d : Bool) (a b : α) : pick d a b = pick d b a := by
  cases d
  · exact min_comm a b
  · exact max_comm a b

/-- Every row compared with the one at distance `j` in its block of `2 j` rows: the lesser to the upper row, in the rows with `D` the greater. -/
def ce (j : ℕ) (D : ℕ → Bool) (f : ℕ → α) (r : ℕ) : α :=
  if r / j % 2 = 0 then pick (D r) (f r) (f (r + j)) else pick (!D r) (f (r - j)) (f r)

/-- The stages at distances `2 ^ (q - 1)` to `1`. -/
def sweep (D : ℕ → Bool) : ℕ → (ℕ → α) → ℕ → α
  | 0, f => f
  | q + 1, f => sweep D q (ce (2 ^ q) D f)

theorem bit_clear_iff (r s : ℕ) : r / 2 ^ s % 2 = 0 ↔ r &&& 2 ^ s = 0 := by
  rw [and_two_pow_eq_zero_iff_testBit, Nat.testBit_eq_decide_div_mod_eq]
  simp only [decide_eq_false_iff_not]
  omega

/-- A stage at distance `2 ^ s` over the first `2 ^ P` rows is the network's. -/
theorem ce_stage {P s : ℕ} (hs : s < P) (D : ℕ → Bool) (hD : ∀ r, r / 2 ^ s % 2 = 0 → D (r + 2 ^ s) = D r) (f : ℕ → α) (i : Fin (2 ^ P)) :
    ce (2 ^ s) D f i.val = Network.apply (stage P s fun i => D i.val) (fun i => f i.val) i := by
  unfold ce
  by_cases hi : i.val &&& 2 ^ s = 0
  · rw [if_pos ((bit_clear_iff _ _).mpr hi), (apply_stage hs _ _ i hi).1, partner_val_of_clear hs i hi]
    cases D i.val <;> rfl
  · rw [if_neg fun h => hi ((bit_clear_iff _ _).mp h)]
    have hp := partner_and_of_set hs i hi
    have hv := partner_val_of_clear hs _ hp
    have h2 := (apply_stage hs (fun i => D i.val) (fun i => f i.val) _ hp).2
    rw [partner_partner hs] at hv h2
    rw [h2, show i.val - 2 ^ s = (partner P s i).val by omega, show D i.val = D (partner P s i).val by rw [hv]; exact hD _ ((bit_clear_iff _ _).mpr hp)]
    cases D (partner P s i).val <;> rfl

/-- Blocks of `n` rows are in one direction each. -/
def Steady (n : ℕ) (D : ℕ → Bool) : Prop := ∀ r r', r / n = r' / n → D r = D r'

theorem Steady.mono {n m : ℕ} {D : ℕ → Bool} (h : Steady n D) (hm : m ∣ n) : Steady m D := fun r r' e => h r r' (by
  obtain ⟨k, rfl⟩ := hm
  rw [← Nat.div_div_eq_div_mul, ← Nat.div_div_eq_div_mul, e])

theorem Steady.step {s : ℕ} {D : ℕ → Bool} (h : Steady (2 ^ (s + 1)) D) (r : ℕ) (hr : r / 2 ^ s % 2 = 0) : D (r + 2 ^ s) = D r := h _ _ (by
  rw [Nat.pow_succ, ← Nat.div_div_eq_div_mul, ← Nat.div_div_eq_div_mul, Nat.add_div_right _ (Nat.two_pow_pos s)]
  omega)

/-- A stage over blocks of rows, read from the start of a block. -/
theorem ce_shift (j o : ℕ) (hj : 0 < j) (ho : 2 * j ∣ o) (D : ℕ → Bool) (f : ℕ → α) (r : ℕ) :
    ce j D f (o + r) = ce j (fun r => D (o + r)) (fun r => f (o + r)) r := by
  obtain ⟨k, rfl⟩ := ho
  have e : (2 * j * k + r) / j = 2 * k + r / j := by
    rw [show 2 * j * k + r = r + j * (2 * k) by ring, Nat.add_mul_div_left _ _ hj]
    omega
  unfold ce
  rw [e, show (2 * k + r / j) % 2 = r / j % 2 by omega]
  by_cases h : r / j % 2 = 0
  · rw [if_pos h, if_pos h, Nat.add_assoc]
  · have hr : j ≤ r := by
      by_contra hr
      rw [Nat.div_eq_of_lt (by omega)] at h
      exact h rfl
    rw [if_neg h, if_neg h, Nat.add_sub_assoc hr]

/-- A stage reads the first `n` rows only, for the first `n` rows. -/
theorem ce_congr {j n : ℕ} (hj : 0 < j) (hn : 2 * j ∣ n) {D E : ℕ → Bool} {f g : ℕ → α} (hD : ∀ r < n, D r = E r) (h : ∀ r < n, f r = g r) (r : ℕ) (hr : r < n) :
    ce j D f r = ce j E g r := by
  unfold ce
  rw [hD r hr]
  by_cases hb : r / j % 2 = 0
  · have hlt : r + j < n := by
      obtain ⟨k, rfl⟩ := hn
      have h1 : r / j < 2 * k := (Nat.div_lt_iff_lt_mul hj).mpr (by rw [show 2 * k * j = 2 * j * k by ring]; exact hr)
      have h2 : r < j * (r / j + 1) := by rw [Nat.mul_add, Nat.mul_one]; have := Nat.div_add_mod r j; have := Nat.mod_lt r hj; omega
      have h3 : j * (r / j + 2) ≤ j * (2 * k) := Nat.mul_le_mul_left j (by omega)
      have h4 : j * (r / j + 2) = j * (r / j + 1) + j := by ring
      have h5 : 2 * j * k = j * (2 * k) := by ring
      omega
    rw [if_pos hb, if_pos hb, h r hr, h _ hlt]
  · rw [if_neg hb, if_neg hb, h r hr, h _ (by omega)]

theorem sweep_congr {n : ℕ} (q : ℕ) (hn : 2 ^ q ∣ n) {D E : ℕ → Bool} (hD : ∀ r < n, D r = E r) : ∀ {f g : ℕ → α}, (∀ r < n, f r = g r) → ∀ r < n, sweep D q f r = sweep E q g r := by
  induction q with
  | zero => exact fun h => h
  | succ q ih =>
    intro f g h
    exact ih ((Nat.pow_dvd_pow 2 (Nat.le_succ q)).trans hn) (ce_congr (Nat.two_pow_pos q) (by rwa [← Nat.pow_succ']) hD h)

theorem sweep_shift (o : ℕ) (D : ℕ → Bool) (q : ℕ) (ho : 2 ^ q ∣ o) : ∀ (f : ℕ → α) (r : ℕ), sweep D q f (o + r) = sweep (fun r => D (o + r)) q (fun r => f (o + r)) r := by
  induction q with
  | zero => exact fun f r => rfl
  | succ q ih =>
    intro f r
    show sweep D q (ce (2 ^ q) D f) (o + r) = sweep _ q (ce (2 ^ q) _ _) r
    rw [ih ((Nat.pow_dvd_pow 2 (Nat.le_succ q)).trans ho)]
    congr 1
    funext r
    exact ce_shift _ _ (Nat.two_pow_pos q) (by rwa [← Nat.pow_succ']) D f r

/-- Stages all in one direction over `2 ^ p` rows are the network's. -/
theorem sweep_apply {p : ℕ} (d : Bool) (q : ℕ) (hq : q ≤ p) : ∀ (f : ℕ → α) (i : Fin (2 ^ p)),
    sweep (fun _ => d) q f i.val = Network.apply ((List.range q).reverse.flatMap fun s => stage p s fun _ => d) (fun i => f i.val) i := by
  induction q with
  | zero => exact fun f i => rfl
  | succ q ih =>
    intro f i
    rw [List.range_succ, List.reverse_append, List.reverse_singleton, List.singleton_append, List.flatMap_cons, Network.apply_append]
    show sweep (fun _ => d) q (ce (2 ^ q) (fun _ => d) f) i.val = _
    rw [ih (by omega)]
    congr 1
    funext i
    exact ce_stage (by omega) (fun _ => d) (fun _ _ => rfl) f i

/-- Rows `o` to `o + n` ascend, or with `d` descend. -/
def Sorted (d : Bool) (f : ℕ → α) (o n : ℕ) : Prop := ∀ i j, i ≤ j → j < n → cond d (f (o + j) ≤ f (o + i)) (f (o + i) ≤ f (o + j))

/-- The merge: two blocks sorted in opposite directions become one sorted block. -/
theorem sweep_sorted (d e : Bool) (p o : ℕ) (f : ℕ → α) (ho : 2 ^ (p + 1) ∣ o) (D : ℕ → Bool) (hD : ∀ r < 2 ^ (p + 1), D (o + r) = d)
    (h1 : Sorted e f o (2 ^ p)) (h2 : Sorted (!e) f (o + 2 ^ p) (2 ^ p)) : Sorted d (sweep D (p + 1) f) o (2 ^ (p + 1)) := by
  have hv : DescAsc fun i : Fin (2 ^ (p + 1)) => f (o + i.val) := by
    refine ⟨2 ^ p, ?_⟩
    have a1 : ∀ i j : Fin (2 ^ (p + 1)), i ≤ j → j.val < 2 ^ p → cond e (f (o + j.val) ≤ f (o + i.val)) (f (o + i.val) ≤ f (o + j.val)) :=
      fun i j hij hj => h1 i j hij hj
    have a2 : ∀ i j : Fin (2 ^ (p + 1)), i ≤ j → 2 ^ p ≤ i.val → cond (!e) (f (o + j.val) ≤ f (o + i.val)) (f (o + i.val) ≤ f (o + j.val)) := fun i j hij hi => by
      have hij' : i.val ≤ j.val := hij
      have hj : j.val < 2 ^ p * 2 := lt_of_lt_of_eq j.isLt (Nat.pow_succ 2 p)
      have h := h2 (i.val - 2 ^ p) (j.val - 2 ^ p) (by omega) (by omega)
      rwa [show o + 2 ^ p + (i.val - 2 ^ p) = o + i.val by omega, show o + 2 ^ p + (j.val - 2 ^ p) = o + j.val by omega] at h
    cases e
    · exact Or.inr ⟨a1, a2⟩
    · exact Or.inl ⟨a1, a2⟩
  have e1 : ∀ i : Fin (2 ^ (p + 1)), sweep D (p + 1) f (o + i.val) = sweep (fun _ => d) (p + 1) (fun r => f (o + r)) i.val := fun i => by
    rw [sweep_shift o D (p + 1) ho]
    exact sweep_congr (p + 1) (dvd_refl _) hD (fun _ _ => rfl) _ i.isLt
  intro i j hij hj
  have hi : i < 2 ^ (p + 1) := by omega
  rw [e1 ⟨i, hi⟩, e1 ⟨j, hj⟩, sweep_apply d (p + 1) le_rfl _ ⟨i, hi⟩, sweep_apply d (p + 1) le_rfl _ ⟨j, hj⟩]
  cases d
  · exact mergeAscNet_apply_monotone (p + 1) _ hv hij
  · exact mergeDescNet_apply_antitone (p + 1) _ hv hij

/-- Over the first `2 ^ P` rows a stage only rearranges. -/
theorem ce_perm {P s : ℕ} (hs : s < P) (D : ℕ → Bool) (hD : Steady (2 ^ (s + 1)) D) (f : ℕ → α) :
    ∃ σ : Equiv.Perm (Fin (2 ^ P)), ∀ i, ce (2 ^ s) D f i.val = f (σ i).val := by
  obtain ⟨σ, hσ⟩ := Network.exists_perm (stage P s fun i => D i.val) (fun i => f i.val)
  exact ⟨σ, fun i => (ce_stage hs D hD.step f i).trans (congrFun hσ i)⟩

theorem sweep_perm {P : ℕ} (D : ℕ → Bool) (q : ℕ) (hq : q ≤ P) (hD : Steady (2 ^ q) D) : ∀ f : ℕ → α,
    ∃ σ : Equiv.Perm (Fin (2 ^ P)), ∀ i, sweep D q f i.val = f (σ i).val := by
  induction q with
  | zero => exact fun f => ⟨Equiv.refl _, fun i => rfl⟩
  | succ q ih =>
    intro f
    obtain ⟨σ, hσ⟩ := ih (by omega) (hD.mono (Nat.pow_dvd_pow 2 (Nat.le_succ q))) (ce (2 ^ q) D f)
    obtain ⟨τ, hτ⟩ := ce_perm (P := P) (s := q) (by omega) D hD f
    exact ⟨σ.trans τ, fun i => (hσ i).trans (hτ (σ i))⟩

/-! ## The levels of the sort -/

/-- Level after level: blocks of two rows sorted, then of four, and on, each in the direction `way` gives the level. -/
def levels (way : ℕ → ℕ → Bool) : ℕ → (ℕ → α) → ℕ → α
  | 0, f => f
  | p + 1, f => sweep (way (p + 1)) (p + 1) (levels way p f)

/-- The directions turn from each block of a level to its neighbour in the next level's block. -/
def Turns (way : ℕ → ℕ → Bool) : Prop := ∀ p, Steady (2 ^ p) (way p) ∧ ∀ o, 2 ^ (p + 1) ∣ o → way p (o + 2 ^ p) = !way p o

/-- After `p` levels every block of `2 ^ p` rows is sorted in its direction. -/
theorem levels_sorted {way : ℕ → ℕ → Bool} (hw : Turns way) (f : ℕ → α) (p : ℕ) : ∀ o, 2 ^ p ∣ o → Sorted (way p o) (levels way p f) o (2 ^ p) := by
  induction p with
  | zero =>
    intro o _ i j hij hj
    obtain rfl : i = j := by omega
    cases way 0 o <;> exact le_refl _
  | succ p ih =>
    intro o ho
    have hp : 2 ^ p ∣ o := (Nat.pow_dvd_pow 2 (Nat.le_succ p)).trans ho
    refine sweep_sorted (way (p + 1) o) (way p o) p o _ ho _ (fun r hr => (hw (p + 1)).1 _ _ ?_) (ih o hp) ?_
    · obtain ⟨k, rfl⟩ := ho
      rw [Nat.mul_add_div (Nat.two_pow_pos _), Nat.div_eq_of_lt hr, Nat.mul_div_cancel_left _ (Nat.two_pow_pos _), Nat.add_zero]
    · rw [← (hw p).2 o ho]
      exact ih _ ((Nat.dvd_add_right hp).mpr (dvd_refl _))

/-- The levels only rearrange. -/
theorem levels_perm {P : ℕ} {way : ℕ → ℕ → Bool} (hw : Turns way) (f : ℕ → α) (p : ℕ) (hp : p ≤ P) :
    ∃ σ : Equiv.Perm (Fin (2 ^ P)), ∀ i, levels way p f i.val = f (σ i).val := by
  induction p with
  | zero => exact ⟨Equiv.refl _, fun i => rfl⟩
  | succ p ih =>
    obtain ⟨σ, hσ⟩ := ih (by omega)
    obtain ⟨τ, hτ⟩ := sweep_perm (P := P) (way (p + 1)) (p + 1) hp (hw (p + 1)).1 (levels way p f)
    exact ⟨τ.trans σ, fun i => (hτ i).trans (hσ (τ i))⟩

end Cert.Proof.Net

end
-- ==== Proof.Reads.lean ====
/- One pass of the network over 128 rows, read on a lane: a stage of comparisons between rows. -/
module

public import proofs.«01_k».proof.Proof.Column
public import proofs.«01_k».proof.Proof.Stages

@[expose] public section

noncomputable section

namespace Cert.Proof.Net

open Idealize.ShloMosaic Idealize.ShloMosaic.Pointwise

/-- On lane `l` the rows hold the values `f`. -/
def Reads {R : ℕ} (l : Fin 128) (x : FVec Ideal (Rows R) .f32) (f : ℕ → EReal) : Prop := ∀ r < R, col x l r = f r

theorem Reads.refl {R : ℕ} (l : Fin 128) (x : FVec Ideal (Rows R) .f32) : Reads l x (col x l) := fun _ _ => rfl

/-- The lesser or the greater of two vectors, read at a place. -/
theorem first_apply {s : Shape} (d : Bool) (a b : FVec Ideal s .f32) (i : s.Idx) : first d a b i = pick d (a i : EReal) (b i) := by
  cases d <;> rfl

theorem Reads.first {R : ℕ} {l : Fin 128} {x y : FVec Ideal (Rows R) .f32} {f g : ℕ → EReal} (d : Bool) (hx : Reads l x f) (hy : Reads l y g) :
    Reads l (Net.first d x y) (fun r => pick d (f r) (g r)) := fun r hr => by
  rw [col_of_lt _ _ hr, first_apply]
  exact congrArg₂ (pick d) ((col_of_lt x l hr).symm.trans (hx r hr)) ((col_of_lt y l hr).symm.trans (hy r hr))

theorem select_ofBool {α : Type} (b : Bool) (x y : α) : Scalar.select (BitVec.ofBool b) x y = cond b x y := by cases b <;> rfl

/-! ## Groups of rows -/

/-- Row `r` of groups of `n` rows, on lane `l`. -/
def gcol {L n : ℕ} (y : FVec Ideal (Groups L n) .f32) (l : Fin 128) (r : ℕ) : EReal :=
  if h : r / n < L ∧ r % n < n then y (ix3 ⟨r / n, h.1⟩ ⟨r % n, h.2⟩ l) else 0

theorem gcol_at {L n : ℕ} (y : FVec Ideal (Groups L n) .f32) (g : Fin L) (s : Fin n) (l : Fin 128) : y (ix3 g s l) = gcol y l (g.val * n + s.val) := by
  have hn : 0 < n := by have := s.isLt; omega
  have h1 : (g.val * n + s.val) / n = g.val := by rw [Nat.mul_comm, Nat.mul_add_div hn, Nat.div_eq_of_lt s.isLt, Nat.add_zero]
  have h2 : (g.val * n + s.val) % n = s.val := by rw [Nat.mul_comm, Nat.mul_add_mod, Nat.mod_eq_of_lt s.isLt]
  unfold gcol
  rw [dif_pos ⟨lt_of_eq_of_lt h1 g.isLt, lt_of_eq_of_lt h2 s.isLt⟩]
  exact congrArg₂ (fun a b => y (ix3 a b l)) (Fin.ext h1.symm) (Fin.ext h2.symm)

theorem gcol_of {L n : ℕ} (y : FVec Ideal (Groups L n) .f32) (l : Fin 128) {r : ℕ} (hr : r < L * n) :
    ∃ (g : Fin L) (s : Fin n), g.val * n + s.val = r ∧ gcol y l r = y (ix3 g s l) := by
  have hn : 0 < n := Nat.pos_of_ne_zero (by rintro rfl; simp at hr)
  have h1 : r / n < L := (Nat.div_lt_iff_lt_mul hn).mpr hr
  refine ⟨⟨r / n, h1⟩, ⟨r % n, Nat.mod_lt _ hn⟩, ?_, dif_pos ⟨h1, Nat.mod_lt _ hn⟩⟩
  show r / n * n + r % n = r
  rw [Nat.mul_comm, Nat.div_add_mod]

/-- Rows cut into groups are the same rows. -/
theorem groups_at {G n R : ℕ} (h : G * n = R) (x : FVec Ideal (Rows R) .f32) (g : Fin G) (s : Fin n) (l : Fin 128) :
    shapeCast (Groups G n) x (casts_groups h) (ix3 g s l) = col x l (g.val * n + s.val) := by
  have hlt : g.val * n + s.val < R := by
    have h1 : (g.val + 1) * n ≤ G * n := Nat.mul_le_mul_right n g.isLt
    have := s.isLt
    rw [Nat.add_mul, Nat.one_mul] at h1
    omega
  rw [col_of_lt _ _ hlt]
  exact Idealize.ShloMosaic.shapeCast_apply x _ _ _ (by rw [Shape.rowMajor_val_two, Shape.rowMajor_val_three]; rfl)

theorem gcol_groups {G n R : ℕ} (h : G * n = R) (x : FVec Ideal (Rows R) .f32) (l : Fin 128) {r : ℕ} (hr : r < R) :
    gcol (shapeCast (Groups G n) x (casts_groups h)) l r = col x l r := by
  obtain ⟨g, s, e, hv⟩ := gcol_of (shapeCast (Groups G n) x (casts_groups h)) l (h ▸ hr)
  rw [hv, groups_at h, e]

theorem col_rows {G n R : ℕ} (h : G * n = R) (y : FVec Ideal (Groups G n) .f32) (l : Fin 128) {r : ℕ} (hr : r < R) :
    col (shapeCast (Rows R) y (casts_rows h)) l r = gcol y l r := by
  obtain ⟨g, s, e, hv⟩ := gcol_of y l (h ▸ hr)
  rw [hv, col_of_lt _ _ hr]
  exact Idealize.ShloMosaic.shapeCast_apply y _ _ _ (by
    rw [Shape.rowMajor_val_two, Shape.rowMajor_val_three]
    show (g.val * n + s.val) * 128 + l.val = r * 128 + l.val
    rw [e])

/-! ## A pass at a distance of at least eight rows -/

/-- The two halves side by side again, read on a lane. -/
theorem col_weave (G j : ℕ) (h : G * (2 * j) = 128) (p q : FVec Ideal (Groups G j) .f32) (l : Fin 128) (g : Fin G) (t : Fin 2) (s : Fin j) :
    col (weave G j h p q) l (g.val * (2 * j) + t.val * j + s.val) = if t.val = 0 then p (ix3 g s l) else q (ix3 g s l) := by
  have hlt : g.val * (2 * j) + t.val * j + s.val < 128 := by
    have h1 : (g.val + 1) * (2 * j) ≤ G * (2 * j) := Nat.mul_le_mul_right _ g.isLt
    have h2 : (t.val + 1) * j ≤ 2 * j := Nat.mul_le_mul_right _ t.isLt
    have := s.isLt
    rw [Nat.add_mul, Nat.one_mul] at h1 h2
    omega
  rw [col_of_lt _ _ hlt]
  unfold weave
  rw [Idealize.ShloMosaic.shapeCast_apply _ (casts_woven h) (ix2 (⟨g.val * (2 * j) + t.val * j + s.val, hlt⟩ : Fin 128) l) (ix4 g t s l) (by
    rw [Shape.rowMajor_val_two, Shape.rowMajor_val_four]
    show ((g.val * 2 + t.val) * j + s.val) * 128 + l.val = (g.val * (2 * j) + t.val * j + s.val) * 128 + l.val
    ring)]
  have hcast : ∀ (y : FVec Ideal (Groups G j) .f32), shapeCast (Parts G 1 j) y casts_parts (ix4 g (0 : Fin 1) s l) = y (ix3 g s l) := fun y =>
    Idealize.ShloMosaic.shapeCast_apply y _ _ _ (by
      rw [Shape.rowMajor_val_three, Shape.rowMajor_val_four]
      show (g.val * j + s.val) * 128 + l.val = ((g.val * 1 + 0) * j + s.val) * 128 + l.val
      ring)
  rw [← hcast p, ← hcast q]
  obtain rfl | rfl : t = 0 ∨ t = 1 := by omega
  · pointwise
    exact congrArg _ (funext fun a => Fin.ext (by fin_cases a <;> rfl))
  · pointwise
    exact congrArg _ (funext fun a => Fin.ext (by fin_cases a <;> rfl))

/-- Row `s` of the half of every group that starts at row `o`. -/
theorem half_at {G n j o R : ℕ} (h : G * n = R) (hs : (Groups G n).Slices ![0, o, 0] (Groups G j)) (x : FVec Ideal (Rows R) .f32)
    (g : Fin G) (s : Fin j) (l : Fin 128) (hb : o + s.val < n) :
    extractStridedSlice (Groups G j) ![0, o, 0] (shapeCast (Groups G n) x (casts_groups h)) hs (ix3 g s l) = col x l (g.val * n + (o + s.val)) := by
  refine Eq.trans ?_ (groups_at h x g ⟨o + s.val, hb⟩ l)
  generalize shapeCast (Groups G n) x (casts_groups h) = y
  pointwise
  refine congrArg y (funext fun a => Fin.ext ?_)
  match a with
  | ⟨0, _⟩ => exact Nat.zero_add _
  | ⟨1, _⟩ => rfl
  | ⟨2, _⟩ => exact Nat.zero_add _

/-- Every row of a block of `2 j` rows is one of a group's half. -/
theorem row_split {G j : ℕ} (h : G * (2 * j) = 128) {r : ℕ} (hr : r < 128) :
    ∃ (g : Fin G) (t : Fin 2) (s : Fin j), r = g.val * (2 * j) + t.val * j + s.val ∧ r / j % 2 = t.val ∧ r / (2 * j) = g.val := by
  have hj : 0 < j := Nat.pos_of_ne_zero (by rintro rfl; simp at h)
  have e1 := Nat.div_add_mod r j
  have e2 := Nat.div_add_mod (r / j) 2
  have e3 : r / j / 2 = r / (2 * j) := by rw [Nat.div_div_eq_div_mul, Nat.mul_comm j 2]
  refine ⟨⟨r / (2 * j), (Nat.div_lt_iff_lt_mul (by omega)).mpr (h ▸ hr)⟩, ⟨r / j % 2, Nat.mod_lt _ (by decide)⟩, ⟨r % j, Nat.mod_lt _ hj⟩, ?_, rfl, rfl⟩
  show r = r / (2 * j) * (2 * j) + r / j % 2 * j + r % j
  rw [← e3]
  calc r = j * (2 * (r / j / 2) + r / j % 2) + r % j := by rw [e2, e1]
    _ = _ := by ring

/-- Two halves put side by side again, each holding what a stage makes of it, hold the stage. -/
theorem weave_reads (G j : ℕ) (h : G * (2 * j) = 128) (l : Fin 128) (p q : FVec Ideal (Groups G j) .f32) (D : ℕ → Bool) (f : ℕ → EReal)
    (hp : ∀ (g : Fin G) (s : Fin j), p (ix3 g s l) = pick (D (g.val * (2 * j) + s.val)) (f (g.val * (2 * j) + s.val)) (f (g.val * (2 * j) + (j + s.val))))
    (hq : ∀ (g : Fin G) (s : Fin j), q (ix3 g s l) = pick (!D (g.val * (2 * j) + (j + s.val))) (f (g.val * (2 * j) + s.val)) (f (g.val * (2 * j) + (j + s.val)))) :
    Reads l (weave G j h p q) (ce j D f) := fun r hr => by
  obtain ⟨g, t, s, e, ht, -⟩ := row_split h hr
  unfold ce
  rw [ht]
  rw [e, col_weave]
  obtain rfl | rfl : t = 0 ∨ t = 1 := by omega
  · simp only [Fin.val_zero, if_true, Nat.zero_mul, Nat.add_zero, hp]
    rw [show g.val * (2 * j) + s.val + j = g.val * (2 * j) + (j + s.val) by omega]
  · simp only [Fin.val_one, one_ne_zero, if_false, Nat.one_mul, hq]
    rw [show g.val * (2 * j) + j + s.val - j = g.val * (2 * j) + s.val by omega, show g.val * (2 * j) + j + s.val = g.val * (2 * j) + (j + s.val) by omega]

theorem group_lt {G n R : ℕ} (h : G * n = R) (g : Fin G) {s : ℕ} (hs : s < n) : g.val * n + s < R := by
  have h1 : (g.val + 1) * n ≤ G * n := Nat.mul_le_mul_right n g.isLt
  rw [Nat.add_mul, Nat.one_mul] at h1
  omega

/-- The pass in one direction. -/
theorem bigPass_reads {l : Fin 128} {x : FVec Ideal (Rows 128) .f32} {f : ℕ → EReal} (G n j : ℕ) (hn : n = 2 * j) (h : G * n = 128) (desc : Bool)
    (hx : Reads l x f) : Reads l (bigPass G n j hn h desc x) (ce j (fun _ => desc) f) := by
  subst hn
  refine weave_reads G j h l _ _ _ _ (fun g s => ?_) (fun g s => ?_)
  · rw [first_apply, half_at h _ x g s l (by omega), half_at h _ x g s l (by omega), Nat.zero_add,
      hx _ (group_lt h g (by omega)), hx _ (group_lt h g (by omega))]
  · rw [first_apply, half_at h _ x g s l (by omega), half_at h _ x g s l (by omega), Nat.zero_add,
      hx _ (group_lt h g (by omega)), hx _ (group_lt h g (by omega))]

/-- The mask of the groups, read at a place. -/
theorem groupMask_at (G j : ℕ) (m : BitVec 32) (g : Fin G) (s : Fin j) (l : Fin 128) :
    groupMask G j m (ix3 g s l) = IntOp.cmpi .eq (IntOp.andi (BitVec.ofNat 32 g.val) m) 0#32 := by
  unfold groupMask
  have e : (broadcastTo (Groups G j) (shapeCast (PerGroup G)
      (cmpi .eq (andi (iota .tc (PerGroup G) 32 [0] iotas_perGroup) (broadcast (PerGroup G) m)) (broadcast (PerGroup G) 0#32)) rfl) bcasts_perGroup) (ix3 g s l)
      = (cmpi .eq (andi (iota .tc (PerGroup G) 32 [0] iotas_perGroup) (broadcast (PerGroup G) m)) (broadcast (PerGroup G) 0#32)) (ix3 g 0 0) := by
    pointwise
    refine congrArg (fun v => IntOp.cmpi .eq (IntOp.andi (BitVec.ofNat 32 v) m) 0#32) ?_
    show (if h : G = 1 then (⟨0, by omega⟩ : Fin G) else ⟨g.val, g.isLt⟩).val = g.val
    have := g.isLt
    split
    · show 0 = g.val
      omega
    · rfl
  rw [e]
  pointwise

/-- The pass whose direction turns with the groups. -/
theorem turnPass_reads {l : Fin 128} {x : FVec Ideal (Rows 128) .f32} {f : ℕ → EReal} (G n j : ℕ) (m : BitVec 32) (c : ℕ) (hn : n = 2 * j) (h : G * n = 128) (desc : Bool)
    (hm : ∀ g : Fin G, IntOp.cmpi .eq (IntOp.andi (BitVec.ofNat 32 g.val) m) 0#32 = BitVec.ofBool (!(g.val / c % 2 == 1)))
    (hx : Reads l x f) : Reads l (turnPass G n j m hn h desc x) (ce j (fun r => xor desc (r / n / c % 2 == 1)) f) := by
  subst hn
  have hg : ∀ (g : Fin G) (s : ℕ), s < 2 * j → (g.val * (2 * j) + s) / (2 * j) = g.val := fun g s hs => by
    rw [Nat.mul_comm, Nat.mul_add_div (by omega), Nat.div_eq_of_lt hs, Nat.add_zero]
  refine weave_reads G j h l _ _ _ _ (fun g s => ?_) (fun g s => ?_)
  · show Scalar.select (groupMask G j m (ix3 g s l)) (first desc _ _ (ix3 g s l)) (first (!desc) _ _ (ix3 g s l)) = _
    rw [first_apply, first_apply, half_at h _ x g s l (by omega), half_at h _ x g s l (by omega), Nat.zero_add,
      hx _ (group_lt h g (by omega)), hx _ (group_lt h g (by omega)), groupMask_at, hm, select_ofBool, hg g _ (by omega)]
    cases desc <;> cases (g.val / c % 2 == 1) <;> rfl
  · show Scalar.select (groupMask G j m (ix3 g s l)) (first (!desc) _ _ (ix3 g s l)) (first desc _ _ (ix3 g s l)) = _
    rw [first_apply, first_apply, half_at h _ x g s l (by omega), half_at h _ x g s l (by omega), Nat.zero_add,
      hx _ (group_lt h g (by omega)), hx _ (group_lt h g (by omega)), groupMask_at, hm, select_ofBool, hg g _ (by omega)]
    cases desc <;> cases (g.val / c % 2 == 1) <;> rfl

/-! ## A pass at a distance below eight rows -/

theorem rowBit_at (j : ℕ) (hj : j = 1 ∨ j = 2 ∨ j = 4) (s : Fin 8) : rowBit j (ix3 (0 : Fin 1) s (0 : Fin 1)) = BitVec.ofBool (s.val / j % 2 == 0) := by
  have e : rowBit j (ix3 (0 : Fin 1) s (0 : Fin 1)) = IntOp.cmpi .eq (IntOp.andi (BitVec.ofNat 32 s.val) (BitVec.ofNat 32 j)) 0#32 := by
    unfold rowBit
    pointwise
  rw [e]
  obtain rfl | rfl | rfl := hj <;> revert s <;> decide

theorem spread_at (L : ℕ) (m : IVec Eight 1) (g : Fin L) (s : Fin 8) (l : Fin 128) : spread L m (ix3 g s l) = m (ix3 (0 : Fin 1) s (0 : Fin 1)) := by
  unfold spread
  pointwise

theorem turn_at (L n : ℕ) (hn : n < 8) (y : FVec Ideal (Groups L 8) .f32) (g : Fin L) (s : Fin 8) (l : Fin 128) :
    turn L n y (ix3 g s l) = gcol y l (g.val * 8 + (s.val + 8 - n) % 8) := by
  rw [← gcol_at y g ⟨(s.val + 8 - n) % 8, Nat.mod_lt _ (by decide)⟩ l]
  unfold turn
  pointwise
  refine congrArg y (funext fun b => Fin.ext ?_)
  match b with
  | ⟨0, _⟩ => rfl
  | ⟨1, _⟩ =>
    show (s.val + 8 - (BitVec.ofNat 32 n).toNat % 8) % 8 = (s.val + 8 - n) % 8
    rw [BitVec.toNat_ofNat]
    omega
  | ⟨2, _⟩ => rfl

/-- On lane `l` the groups hold the values `f`. -/
def Holds {L : ℕ} (l : Fin 128) (y : FVec Ideal (Groups L 8) .f32) (f : ℕ → EReal) : Prop := ∀ (g : Fin L) (s : Fin 8), y (ix3 g s l) = f (g.val * 8 + s.val)

theorem Holds.gcol {L : ℕ} {l : Fin 128} {y : FVec Ideal (Groups L 8) .f32} {f : ℕ → EReal} (hy : Holds l y f) {r : ℕ} (hr : r < L * 8) : gcol y l r = f r := by
  obtain ⟨g, s, e, hv⟩ := gcol_of y l hr
  rw [hv, hy, e]

theorem Holds.turn {L : ℕ} {l : Fin 128} {y : FVec Ideal (Groups L 8) .f32} {f : ℕ → EReal} (n : ℕ) (hn : n < 8) (hy : Holds l y f) (g : Fin L) (s : Fin 8) :
    turn L n y (ix3 g s l) = f (g.val * 8 + (s.val + 8 - n) % 8) := by
  rw [turn_at L n hn]
  exact hy.gcol (by have := g.isLt; have := Nat.mod_lt (s.val + 8 - n) (show 0 < 8 by decide); omega)

theorem Holds.rows {l : Fin 128} {y : FVec Ideal (Groups 16 8) .f32} {f : ℕ → EReal} (hy : Holds l y f) : Reads l (shapeCast (Rows 128) y (casts_rows rfl)) f :=
  fun r hr => (col_rows rfl y l hr).trans (hy.gcol hr)

theorem Reads.groups {l : Fin 128} {x : FVec Ideal (Rows 128) .f32} {f : ℕ → EReal} (hx : Reads l x f) : Holds l (shapeCast (Groups 16 8) x (casts_groups rfl)) f :=
  fun g s => (groups_at rfl x g s l).trans (hx _ (by have := g.isLt; have := s.isLt; omega))

/-- A stage at a distance below eight rows, read in a group. -/
theorem ce_near (j : ℕ) (hj : j = 1 ∨ j = 2 ∨ j = 4) (D : ℕ → Bool) (f : ℕ → EReal) (g : ℕ) (s : Fin 8) :
    ce j D f (g * 8 + s.val) = if s.val / j % 2 = 0 then pick (D (g * 8 + s.val)) (f (g * 8 + s.val)) (f (g * 8 + (s.val + 8 - (8 - j)) % 8))
      else pick (!D (g * 8 + s.val)) (f (g * 8 + (s.val + 8 - j) % 8)) (f (g * 8 + s.val)) := by
  have := s.isLt
  unfold ce
  have e : (g * 8 + s.val) / j % 2 = s.val / j % 2 := by obtain rfl | rfl | rfl := hj <;> omega
  rw [e]
  by_cases h : s.val / j % 2 = 0
  · rw [if_pos h, if_pos h, show g * 8 + (s.val + 8 - (8 - j)) % 8 = g * 8 + s.val + j by obtain rfl | rfl | rfl := hj <;> omega]
  · rw [if_neg h, if_neg h, show g * 8 + (s.val + 8 - j) % 8 = g * 8 + s.val - j by obtain rfl | rfl | rfl := hj <;> omega]

theorem Holds.four {L : ℕ} {l : Fin 128} {y : FVec Ideal (Groups L 8) .f32} {f : ℕ → EReal} (desc : Bool) (hy : Holds l y f) :
    Holds l (four L desc y) (ce 4 (fun _ => desc) f) := fun g s => by
  show Scalar.select (spread L (cond desc (flip (rowBit 4)) (rowBit 4)) (ix3 g s l)) (min (y (ix3 g s l) : EReal) (Net.turn L 4 y (ix3 g s l)))
    (max (y (ix3 g s l) : EReal) (Net.turn L 4 y (ix3 g s l))) = _
  have hb := rowBit_at 4 (by decide) s
  have hm : (cond desc (flip (rowBit 4)) (rowBit 4)) (ix3 (0 : Fin 1) s (0 : Fin 1)) = BitVec.ofBool (xor desc (s.val / 4 % 2 == 0)) := by
    cases desc
    · rw [Bool.false_xor]
      exact hb
    · show IntOp.xori (rowBit 4 (ix3 (0 : Fin 1) s (0 : Fin 1))) 1#1 = _
      rw [hb]
      cases (s.val / 4 % 2 == 0) <;> rfl
  rw [spread_at, hm, select_ofBool, hy g s, hy.turn 4 (by decide), ce_near 4 (by decide)]
  by_cases h : s.val / 4 % 2 = 0
  · rw [if_pos h, h]
    cases desc <;> rfl
  · rw [if_neg h, show (s.val / 4 % 2 == 0) = false from beq_eq_false_iff_ne.mpr h]
    cases desc
    · exact max_comm _ _
    · exact min_comm _ _

theorem Holds.first {L : ℕ} {l : Fin 128} {x y : FVec Ideal (Groups L 8) .f32} {f g : ℕ → EReal} (d : Bool) (hx : Holds l x f) (hy : Holds l y g) :
    Holds l (Net.first d x y) (fun r => pick d (f r) (g r)) := fun a s => by
  rw [first_apply, hx, hy]

theorem Holds.near {L : ℕ} {l : Fin 128} {y : FVec Ideal (Groups L 8) .f32} {f : ℕ → EReal} (j : ℕ) (hj : j = 1 ∨ j = 2) (desc : Bool) (hy : Holds l y f) :
    Holds l (near L j desc y) (ce j (fun _ => desc) f) := fun g s => by
  have hj' : j = 1 ∨ j = 2 ∨ j = 4 := hj.elim Or.inl fun h => Or.inr (Or.inl h)
  have hr : Holds l (Net.turn L (8 - j) y) (fun r => f (r / 8 * 8 + (r % 8 + 8 - (8 - j)) % 8)) := fun g s => by
    have := s.isLt
    rw [hy.turn (8 - j) (by omega)]
    show _ = f ((g.val * 8 + s.val) / 8 * 8 + ((g.val * 8 + s.val) % 8 + 8 - (8 - j)) % 8)
    rw [show (g.val * 8 + s.val) / 8 = g.val by omega, show (g.val * 8 + s.val) % 8 = s.val by omega]
  show Scalar.select (spread L (rowBit j) (ix3 g s l)) (Net.first desc y (Net.turn L (8 - j) y) (ix3 g s l))
    (Net.turn L j (Net.first (!desc) y (Net.turn L (8 - j) y)) (ix3 g s l)) = _
  have hs := s.isLt
  rw [spread_at, rowBit_at j hj', select_ofBool, hy.first desc hr, (hy.first (!desc) hr).turn j (by omega), ce_near j hj']
  by_cases h : s.val / j % 2 = 0
  · rw [if_pos h, h]
    show pick desc _ _ = _
    rw [show (g.val * 8 + s.val) / 8 = g.val by omega, show (g.val * 8 + s.val) % 8 = s.val by omega]
  · rw [if_neg h, show (s.val / j % 2 == 0) = false from beq_eq_false_iff_ne.mpr h]
    show pick (!desc) _ (f _) = pick (!desc) _ (f _)
    congr 2
    obtain rfl | rfl := hj <;> omega

theorem Holds.uniform {L : ℕ} {l : Fin 128} {y : FVec Ideal (Groups L 8) .f32} {f : ℕ → EReal} (j : ℕ) (hj : j = 1 ∨ j = 2 ∨ j = 4) (desc : Bool) (hy : Holds l y f) :
    Holds l (uniform L j desc y) (ce j (fun _ => desc) f) := by
  obtain rfl | rfl | rfl := hj
  · exact hy.near 1 (by decide) desc
  · exact hy.near 2 (by decide) desc
  · exact hy.four desc

/-- The pass over all groups in one direction. -/
theorem wholePass_reads {l : Fin 128} {x : FVec Ideal (Rows 128) .f32} {f : ℕ → EReal} (j : ℕ) (hj : j = 1 ∨ j = 2 ∨ j = 4) (desc : Bool) (hx : Reads l x f) :
    Reads l (wholePass j desc x) (ce j (fun _ => desc) f) := (hx.groups.uniform j hj desc).rows

/-- The pass whose direction turns within the groups. -/
theorem lessPass_reads {l : Fin 128} {x : FVec Ideal (Rows 128) .f32} {f : ℕ → EReal} (j k : ℕ) (hj : j = 1 ∨ j = 2) (hk : k = 2 ∨ k = 4) (desc : Bool) (hx : Reads l x f) :
    Reads l (lessPass j k desc x) (ce j (fun r => xor desc (r / k % 2 == 1)) f) := by
  refine Holds.rows fun g s => ?_
  have hj' : j = 1 ∨ j = 2 ∨ j = 4 := hj.elim Or.inl fun h => Or.inr (Or.inl h)
  have hk' : k = 1 ∨ k = 2 ∨ k = 4 := Or.inr hk
  have hy := hx.groups
  generalize shapeCast (Groups 16 8) x (casts_groups rfl) = y at hy
  have hs := s.isLt
  set p : FVec Ideal (Groups 16 8) .f32 := select (spread 16 (rowBit j)) (turn 16 (8 - j) y) (turn 16 j y) with hp
  have hpv : p (ix3 g s l) = cond (s.val / j % 2 == 0) (f (g.val * 8 + (s.val + 8 - (8 - j)) % 8)) (f (g.val * 8 + (s.val + 8 - j) % 8)) := by
    show Scalar.select (spread 16 (rowBit j) (ix3 g s l)) (turn 16 (8 - j) y (ix3 g s l)) (turn 16 j y (ix3 g s l)) = _
    rw [spread_at, rowBit_at j hj', select_ofBool, hy.turn (8 - j) (by omega), hy.turn j (by omega)]
  show Scalar.select (spread 16 (cond desc (flip (flip (xori (rowBit j) (rowBit k)))) (flip (xori (rowBit j) (rowBit k)))) (ix3 g s l))
    (min (y (ix3 g s l) : EReal) (p (ix3 g s l))) (max (y (ix3 g s l) : EReal) (p (ix3 g s l))) = _
  have ht : (flip (xori (rowBit j) (rowBit k))) (ix3 (0 : Fin 1) s (0 : Fin 1)) = BitVec.ofBool (!(xor (s.val / j % 2 == 0) (s.val / k % 2 == 0))) := by
    show IntOp.xori (IntOp.xori (rowBit j (ix3 (0 : Fin 1) s (0 : Fin 1))) (rowBit k (ix3 (0 : Fin 1) s (0 : Fin 1)))) 1#1 = _
    rw [rowBit_at j hj', rowBit_at k hk']
    cases (s.val / j % 2 == 0) <;> cases (s.val / k % 2 == 0) <;> rfl
  have hm : (cond desc (flip (flip (xori (rowBit j) (rowBit k)))) (flip (xori (rowBit j) (rowBit k)))) (ix3 (0 : Fin 1) s (0 : Fin 1))
      = BitVec.ofBool (xor desc (!(xor (s.val / j % 2 == 0) (s.val / k % 2 == 0)))) := by
    cases desc
    · rw [Bool.false_xor]
      exact ht
    · show IntOp.xori ((flip (xori (rowBit j) (rowBit k))) (ix3 (0 : Fin 1) s (0 : Fin 1))) 1#1 = _
      rw [ht]
      cases (s.val / j % 2 == 0) <;> cases (s.val / k % 2 == 0) <;> rfl
  have hD : ((g.val * 8 + s.val) / k % 2 == 1) = !(s.val / k % 2 == 0) := by
    rw [show (g.val * 8 + s.val) / k % 2 = s.val / k % 2 by obtain rfl | rfl := hk <;> omega]
    have := Nat.mod_two_eq_zero_or_one (s.val / k)
    obtain h | h := this <;> rw [h] <;> rfl
  rw [spread_at, hm, select_ofBool, hy g s, hpv, ce_near j hj', hD]
  by_cases h : s.val / j % 2 = 0
  · rw [if_pos h, h]
    cases desc <;> cases (s.val / k % 2 == 0) <;> rfl
  · rw [if_neg h, show (s.val / j % 2 == 0) = false from beq_eq_false_iff_ne.mpr h]
    cases desc <;> cases (s.val / k % 2 == 0) <;> first | exact max_comm _ _ | exact min_comm _ _

/-- A piece of the groups. -/
theorem Holds.slice {l : Fin 128} {y : FVec Ideal (Groups 16 8) .f32} {f : ℕ → EReal} (L o : ℕ) (hs : (Groups 16 8).Slices ![o, 0, 0] (Groups L 8)) (hb : o + L ≤ 16)
    (hy : Holds l y f) : Holds l (extractStridedSlice (Groups L 8) ![o, 0, 0] y hs) (fun r => f (o * 8 + r)) := fun g s => by
  have hg := g.isLt
  refine Eq.trans ?_ ((hy ⟨o + g.val, by omega⟩ s).trans (congrArg f (by show (o + g.val) * 8 + s.val = o * 8 + (g.val * 8 + s.val); ring)))
  pointwise

/-- The pass whose direction turns with the pieces. -/
theorem piecePass_reads {l : Fin 128} {x : FVec Ideal (Rows 128) .f32} {f : ℕ → EReal} (L n j : ℕ) (h : L * n = 16) (hn : 2 ≤ n) (hj : j = 1 ∨ j = 2 ∨ j = 4) (desc : Bool)
    (hx : Reads l x f) : Reads l (piecePass L n j h hn desc x) (ce j (fun r => xor (r / (8 * L) % 2 == 1) desc) f) := by
  refine Holds.rows fun g s => ?_
  have hy := hx.groups
  generalize shapeCast (Groups 16 8) x (casts_groups rfl) = y at hy ⊢
  have hL : 0 < L := Nat.pos_of_ne_zero (by rintro rfl; simp at h)
  have hg := g.isLt
  have hr : g.val / L < n := (Nat.div_lt_iff_lt_mul hL).mpr (by rw [Nat.mul_comm, h]; exact hg)
  have hpc : Holds l (piece L n j h desc y ⟨g.val / L, hr⟩) _ := (hy.slice L (g.val / L * L) _ (by
    have := Nat.mul_le_mul_left L (show g.val / L + 1 ≤ n from hr)
    rw [h, Nat.mul_add, Nat.mul_one, Nat.mul_comm L] at this
    exact this)).uniform j hj (xor (g.val / L % 2 == 1) desc)
  have hk : g.val % L < L := Nat.mod_lt _ hL
  have e1 := Nat.div_add_mod g.val L
  refine (Idealize.ShloMosaic.concatenate_ofFn_apply (t := Groups 16 8) 0 (fun r => piece L n j h desc y r) _ rfl L rfl (ix3 g s l) ⟨g.val / L, hr⟩ rfl
    (ix3 (⟨g.val % L, hk⟩ : Fin L) s l) rfl (fun b hb => by
      match b with
      | ⟨0, _⟩ => exact absurd rfl hb
      | ⟨1, _⟩ => rfl
      | ⟨2, _⟩ => rfl)).trans ?_
  refine (hpc ⟨g.val % L, hk⟩ s).trans ?_
  have hs := s.isLt
  have hlt : g.val % L * 8 + s.val < 8 * L := by omega
  have hrow : g.val * 8 + s.val = 8 * L * (g.val / L) + (g.val % L * 8 + s.val) := by
    rw [Nat.mul_assoc, ← e1, Nat.mul_add_div hL, Nat.div_eq_of_lt (Nat.mod_lt _ hL), Nat.mul_add_mod, Nat.mod_mod, Nat.add_zero]
    ring
  have h2 : 2 * j ∣ 8 * L := Dvd.dvd.mul_right (by obtain rfl | rfl | rfl := hj <;> decide) L
  have hj0 : 0 < j := by omega
  rw [hrow, ce_shift j _ hj0 (h2.mul_right _), show g.val / L * L * 8 = 8 * L * (g.val / L) by ring]
  refine ce_congr hj0 h2 (fun r hr => ?_) (fun _ _ => rfl) _ hlt
  rw [Nat.mul_add_div (by omega), Nat.div_eq_of_lt hr, Nat.add_zero]

end Cert.Proof.Net

end
-- ==== Proof.Tails.lean ====
/- The sorts and merges of blocks of rows, read on a lane: sweeps of stages. -/
module

public import proofs.«01_k».proof.Proof.Reads

@[expose] public section

noncomputable section

namespace Cert.Proof.Net

open Idealize.ShloMosaic Idealize.ShloMosaic.Pointwise

variable {l : Fin 128}

/-- The merge of 128 rows. -/
theorem mergeTail_reads {x : FVec Ideal (Rows 128) .f32} {f : ℕ → EReal} (desc : Bool) (hx : Reads l x f) : Reads l (mergeTail desc x) (sweep (fun _ => desc) 7 f) :=
  wholePass_reads 1 (by decide) desc (wholePass_reads 2 (by decide) desc (wholePass_reads 4 (by decide) desc
    (bigPass_reads 8 16 8 rfl rfl desc (bigPass_reads 4 32 16 rfl rfl desc (bigPass_reads 2 64 32 rfl rfl desc (bigPass_reads 1 128 64 rfl rfl desc hx))))))

/-- The directions within 128 rows. -/
def way7 (desc : Bool) (p r : ℕ) : Bool := xor desc (r / 2 ^ p % 2 == 1)

theorem mask_one (G : ℕ) (hG : G ≤ 16) (g : Fin G) (c : ℕ) (hc : c = 1 ∨ c = 2 ∨ c = 4) :
    IntOp.cmpi .eq (IntOp.andi (BitVec.ofNat 32 g.val) (BitVec.ofNat 32 c)) 0#32 = BitVec.ofBool (!(g.val / c % 2 == 1)) := by
  have h : ∀ v < 16, IntOp.cmpi .eq (IntOp.andi (BitVec.ofNat 32 v) (BitVec.ofNat 32 c)) 0#32 = BitVec.ofBool (!(v / c % 2 == 1)) := by
    obtain rfl | rfl | rfl := hc <;> decide
  exact h g.val (by omega)

/-- A turning pass, its direction given by the row. -/
theorem turn_reads {x : FVec Ideal (Rows 128) .f32} {f : ℕ → EReal} (G n j c k : ℕ) (hc : c = 1 ∨ c = 2 ∨ c = 4) (hk : n * c = k) (hn : n = 2 * j) (h : G * n = 128) (hG : G ≤ 16)
    (desc : Bool) (hx : Reads l x f) : Reads l (turnPass G n j (BitVec.ofNat 32 c) hn h desc x) (ce j (fun r => xor desc (r / k % 2 == 1)) f) := by
  subst hk
  have := turnPass_reads G n j (BitVec.ofNat 32 c) c hn h desc (fun g => mask_one G hG g c hc) hx
  simpa only [Nat.div_div_eq_div_mul] using this

/-- A pass in pieces, its direction given by the row. -/
theorem piece_reads {x : FVec Ideal (Rows 128) .f32} {f : ℕ → EReal} (L n j k : ℕ) (h : L * n = 16) (hn : 2 ≤ n) (hj : j = 1 ∨ j = 2 ∨ j = 4) (hk : 8 * L = k) (desc : Bool)
    (hx : Reads l x f) : Reads l (piecePass L n j h hn desc x) (ce j (fun r => xor desc (r / k % 2 == 1)) f) := by
  subst hk
  have := piecePass_reads L n j h hn hj desc hx
  simpa only [Bool.xor_comm] using this

/-- The last level of a block of 128 rows is in one direction. -/
theorem way7_top (desc : Bool) (f : ℕ → EReal) (r : ℕ) (hr : r < 128) : sweep (fun _ => desc) 7 f r = sweep (way7 desc 7) 7 f r :=
  sweep_congr 7 (dvd_refl _) (fun r hr => by
    have : r / 2 ^ 7 = 0 := Nat.div_eq_of_lt hr
    unfold way7
    rw [this]
    cases desc <;> rfl) (fun _ _ => rfl) r hr

/-- The sort of 128 rows. -/
theorem sort128_reads {x : FVec Ideal (Rows 128) .f32} {f : ℕ → EReal} (desc : Bool) (hx : Reads l x f) : Reads l (sort128 desc x) (levels (way7 desc) 7 f) := by
  have h1 := lessPass_reads 1 2 (by decide) (by decide) desc hx
  have h2 := lessPass_reads 1 4 (by decide) (by decide) desc (lessPass_reads 2 4 (by decide) (by decide) desc h1)
  have h3 := piece_reads 1 16 1 8 rfl (by decide) (by decide) rfl desc (piece_reads 1 16 2 8 rfl (by decide) (by decide) rfl desc
    (piece_reads 1 16 4 8 rfl (by decide) (by decide) rfl desc h2))
  have h4 := turn_reads 8 16 8 1 16 (by decide) rfl rfl rfl (by decide) desc h3
  have h5 := piece_reads 2 8 1 16 rfl (by decide) (by decide) rfl desc (piece_reads 2 8 2 16 rfl (by decide) (by decide) rfl desc
    (piece_reads 2 8 4 16 rfl (by decide) (by decide) rfl desc h4))
  have h6 := turn_reads 8 16 8 2 32 (by decide) rfl rfl rfl (by decide) desc (turn_reads 4 32 16 1 32 (by decide) rfl rfl rfl (by decide) desc h5)
  have h7 := piece_reads 4 4 1 32 rfl (by decide) (by decide) rfl desc (piece_reads 4 4 2 32 rfl (by decide) (by decide) rfl desc
    (piece_reads 4 4 4 32 rfl (by decide) (by decide) rfl desc h6))
  have h8 := turn_reads 8 16 8 4 64 (by decide) rfl rfl rfl (by decide) desc (turn_reads 4 32 16 2 64 (by decide) rfl rfl rfl (by decide) desc
    (turn_reads 2 64 32 1 64 (by decide) rfl rfl rfl (by decide) desc h7))
  have h9 := piece_reads 8 2 1 64 rfl (by decide) (by decide) rfl desc (piece_reads 8 2 2 64 rfl (by decide) (by decide) rfl desc
    (piece_reads 8 2 4 64 rfl (by decide) (by decide) rfl desc h8))
  have hs : Reads l _ (levels (way7 desc) 6 f) := h9
  exact fun r hr => (mergeTail_reads desc hs r hr).trans (way7_top desc _ r hr)

/-! ## Blocks beside each other -/

/-- Rows cut from a block. -/
theorem Reads.cut {R : ℕ} {x : FVec Ideal (Rows R) .f32} {f : ℕ → EReal} (o n : ℕ) (h : o + n ≤ R) (hx : Reads l x f) : Reads l (cut o n h x) (fun r => f (o + r)) := fun r hr => by
  rw [col_of_lt _ _ hr]
  refine Eq.trans ?_ (hx (o + r) (by omega))
  rw [col_of_lt _ _ (show o + r < R by omega)]
  unfold Net.cut
  pointwise
  refine congrArg x (funext fun a => Fin.ext ?_)
  match a with
  | ⟨0, _⟩ => rfl
  | ⟨1, _⟩ => exact Nat.zero_add _

/-- The directions of the halves of two blocks. -/
theorem Reads.stack {n : ℕ} {x y : FVec Ideal (Rows n) .f32} {f : ℕ → EReal} (hx : Reads l x f) (hy : Reads l y fun r => f (n + r)) : Reads l (stack x y) f := fun r hr => by
  rw [col_of_lt _ _ hr]
  unfold Net.stack
  by_cases h : r < n
  · refine Eq.trans ?_ ((col_of_lt x l h).symm.trans (hx r h))
    refine Idealize.ShloMosaic.concatenate_ofFn_apply (t := Rows (n + n)) 0 (fun i : Fin 2 => cond (i.val == 0) x y) _ rfl n rfl _ 0 (Nat.div_eq_of_lt h)
      (ix2 (⟨r, h⟩ : Fin n) l) (Nat.mod_eq_of_lt h).symm (fun b hb => by
        match b with
        | ⟨0, _⟩ => exact absurd rfl hb
        | ⟨1, _⟩ => rfl)
  · refine Eq.trans ?_ ((col_of_lt y l (show r - n < n by omega)).symm.trans ((hy (r - n) (by omega)).trans (congrArg f (by omega))))
    have hd : r / n = 1 := by
      rw [show r = n + (r - n) by omega, Nat.add_div_left _ (by omega), Nat.div_eq_of_lt (by omega)]
    refine Idealize.ShloMosaic.concatenate_ofFn_apply (t := Rows (n + n)) 0 (fun i : Fin 2 => cond (i.val == 0) x y) _ rfl n rfl _ 1 hd
      (ix2 (⟨r - n, by omega⟩ : Fin n) l) (by show r - n = r % n; have := Nat.div_add_mod r n; rw [hd] at this; omega) (fun b hb => by
        match b with
        | ⟨0, _⟩ => exact absurd rfl hb
        | ⟨1, _⟩ => rfl)

/-- Two blocks compared row by row are the first stage of the two together. -/
theorem Reads.cross {n : ℕ} {x y : FVec Ideal (Rows n) .f32} (desc : Bool) {f : ℕ → EReal} (hx : Reads l x f) (hy : Reads l y fun r => f (n + r)) :
    Reads l (Net.first desc x y) (ce n (fun _ => desc) f) ∧ Reads l (Net.first (!desc) x y) (fun r => ce n (fun _ => desc) f (n + r)) := by
  have h0 : ∀ r < n, r / n = 0 := fun r hr => Nat.div_eq_of_lt hr
  have h1 : ∀ r < n, (n + r) / n = 1 := fun r hr => by rw [Nat.add_div_left _ (by omega), h0 r hr]
  refine ⟨fun r hr => ?_, fun r hr => ?_⟩
  · rw [(hx.first desc hy) r hr]
    unfold ce
    rw [h0 r hr, if_pos rfl, Nat.add_comm r n]
  · rw [(hx.first (!desc) hy) r hr]
    show _ = ce n (fun _ => desc) f (n + r)
    unfold ce
    rw [h1 r hr, if_neg (by decide), Nat.add_sub_cancel_left]

/-! ## The levels' directions -/

/-- The direction of level `p` at row `r` of the whole sort. -/
def way (p r : ℕ) : Bool := if p ≤ 6 then xor (r / 128 % 2 == 1) (r / 2 ^ p % 2 == 1) else r / 2 ^ p % 2 == 1

theorem odd_flip (a : ℕ) : ((a + 1) % 2 == 1) = !(a % 2 == 1) := by
  obtain h | h := Nat.mod_two_eq_zero_or_one a
  · rw [h, show (a + 1) % 2 = 1 by omega]; rfl
  · rw [h, show (a + 1) % 2 = 0 by omega]; rfl

theorem way_turns : Turns way := fun p => by
  have hp := Nat.two_pow_pos p
  refine ⟨fun r r' e => ?_, fun o ho => ?_⟩
  · unfold way
    rw [e]
    by_cases h : p ≤ 6
    · have h128 : (128 : ℕ) = 2 ^ p * 2 ^ (7 - p) := by rw [← Nat.pow_add, Nat.add_sub_cancel' (by omega)]
      have : r / 128 = r' / 128 := by rw [h128, ← Nat.div_div_eq_div_mul, ← Nat.div_div_eq_div_mul, e]
      rw [this]
    · rw [if_neg h, if_neg h]
  · have e1 : (o + 2 ^ p) / 2 ^ p = o / 2 ^ p + 1 := Nat.add_div_right _ hp
    unfold way
    rw [e1, odd_flip]
    by_cases h : p ≤ 6
    · have h128 : (128 : ℕ) = 2 ^ p * 2 * 2 ^ (6 - p) := by rw [← Nat.pow_succ, ← Nat.pow_add, show p + 1 + (6 - p) = 7 by omega]
      have h2 : o / 2 ^ p % 2 = 0 := by
        obtain ⟨k, rfl⟩ := ho
        rw [Nat.pow_succ, Nat.mul_assoc, Nat.mul_div_cancel_left _ hp, Nat.mul_mod_right]
      have h3 : (o + 2 ^ p) / 128 = o / 128 := by
        rw [h128, ← Nat.div_div_eq_div_mul, ← Nat.div_div_eq_div_mul, ← Nat.div_div_eq_div_mul, ← Nat.div_div_eq_div_mul, e1,
          show (o / 2 ^ p + 1) / 2 = o / 2 ^ p / 2 by omega]
      rw [if_pos h, if_pos h, h3]
      cases (o / 128 % 2 == 1) <;> cases (o / 2 ^ p % 2 == 1) <;> rfl
    · rw [if_neg h, if_neg h]

theorem levels_congr (n p : ℕ) (hn : 2 ^ p ∣ n) {w w' : ℕ → ℕ → Bool} (hw : ∀ q ≤ p, ∀ r < n, w q r = w' q r) {f g : ℕ → EReal} (hf : ∀ r < n, f r = g r) :
    ∀ r < n, levels w p f r = levels w' p g r := by
  induction p with
  | zero => exact hf
  | succ p ih =>
    exact sweep_congr (p + 1) hn (hw (p + 1) le_rfl) (ih ((Nat.pow_dvd_pow 2 (Nat.le_succ p)).trans hn) fun q hq => hw q (by omega))

theorem levels_shift (o p : ℕ) (ho : 2 ^ p ∣ o) (w : ℕ → ℕ → Bool) (f : ℕ → EReal) (r : ℕ) :
    levels w p f (o + r) = levels (fun q r => w q (o + r)) p (fun r => f (o + r)) r := by
  induction p generalizing r with
  | zero => rfl
  | succ p ih =>
    show sweep (w (p + 1)) (p + 1) (levels w p f) (o + r) = sweep _ (p + 1) _ r
    rw [sweep_shift o _ _ ho]
    congr 1
    funext r
    exact ih ((Nat.pow_dvd_pow 2 (Nat.le_succ p)).trans ho) r

/-- The sort of 128 rows at row `o` does the first seven levels there, if the rows' eighth bit gives its direction. -/
theorem sort128_levels (o : ℕ) (ho : 128 ∣ o) (desc : Bool) (hd : (o / 128 % 2 == 1) = desc) {x : FVec Ideal (Rows 128) .f32} {f : ℕ → EReal}
    (hx : Reads l x fun r => f (o + r)) : Reads l (sort128 desc x) (fun r => levels way 7 f (o + r)) := fun r hr => by
  rw [sort128_reads desc hx r hr]
  show _ = levels way 7 f (o + r)
  rw [levels_shift o 7 ho]
  refine levels_congr 128 7 (dvd_refl _) (fun q hq r hr => ?_) (fun _ _ => rfl) r hr
  have h1 : (o + r) / 128 = o / 128 := by obtain ⟨k, rfl⟩ := ho; omega
  unfold way7 way
  by_cases h : q ≤ 6
  · have e2 : (o + r) / 2 ^ q % 2 = r / 2 ^ q % 2 := by
      have h128 : (128 : ℕ) = 2 ^ q * (2 * 2 ^ (6 - q)) := by rw [← Nat.mul_assoc, ← Nat.pow_succ, ← Nat.pow_add, show q + 1 + (6 - q) = 7 by omega]
      obtain ⟨k, rfl⟩ := ho
      rw [h128, Nat.mul_assoc, Nat.mul_add_div (Nat.two_pow_pos q), Nat.mul_assoc, Nat.mul_add_mod]
    rw [if_pos h, h1, hd, e2]
  · obtain rfl : q = 7 := by omega
    rw [if_neg h, show (o + r) / 2 ^ 7 = o / 128 from h1, hd, show r / 2 ^ 7 = 0 from Nat.div_eq_of_lt hr]
    cases desc <;> rfl

theorem sweep_succ (q : ℕ) (D : ℕ → Bool) (f : ℕ → EReal) : sweep D (q + 1) f = sweep D q (ce (2 ^ q) D f) := rfl

/-- A merge of both halves after their rows are compared. -/
theorem Reads.tails {x y : FVec Ideal (Rows 128) .f32} {f : ℕ → EReal} (desc : Bool) (hx : Reads l x f) (hy : Reads l y fun r => f (128 + r)) :
    Reads l (Net.stack (mergeTail desc x) (mergeTail desc y)) (sweep (fun _ => desc) 7 f) :=
  Reads.stack (mergeTail_reads desc hx) fun r hr => by
    rw [mergeTail_reads desc hy r hr]
    exact (sweep_shift 128 (fun _ => desc) 7 (dvd_refl _) f r).symm

/-- The sort of 256 rows: seven levels, then a merge in its direction. -/
theorem sort256_reads {x : FVec Ideal (Rows 256) .f32} {f : ℕ → EReal} (desc : Bool) (hx : Reads l x f) :
    Reads l (sort256 desc x) (sweep (fun _ => desc) 8 (levels way 7 f)) := by
  have hlo : Reads l _ (fun r => levels way 7 f (0 + r)) := sort128_levels 0 (by decide) false rfl (hx.cut 0 128 (by decide))
  have hhi : Reads l _ (fun r => levels way 7 f (128 + r)) := sort128_levels 128 (by decide) true rfl (hx.cut 128 128 (by decide))
  simp only [Nat.zero_add] at hlo
  obtain ⟨h1, h2⟩ := Reads.cross desc hlo hhi
  rw [show sweep (fun _ => desc) 8 (levels way 7 f) = sweep (fun _ => desc) 7 (ce 128 (fun _ => desc) (levels way 7 f)) from sweep_succ 7 _ _]
  exact Reads.tails desc h1 h2

/-- Four blocks of 128 rows above each other, each holding its part. -/
theorem four_reads (x : Fin 4 → FVec Ideal (Rows 128) .f32) {f : ℕ → EReal}
    (h : Shape.Concatenates ((List.ofFn fun i : Fin 4 => (⟨Rows 128, x i⟩ : (s : Shape) × (s.Idx → Ideal .f32))).map (·.1)) (Rows 512) 0)
    (hx : ∀ i : Fin 4, Reads l (x i) fun r => f (128 * i.val + r)) :
    Reads l (concatenate (Rows 512) 0 (List.ofFn fun i : Fin 4 => ⟨Rows 128, x i⟩) h) f := fun r hr => by
  rw [col_of_lt _ _ hr]
  have hd : r / 128 < 4 := by omega
  have hm : r % 128 < 128 := by omega
  refine (Idealize.ShloMosaic.concatenate_ofFn_apply (t := Rows 512) 0 x h rfl 128 rfl _ ⟨r / 128, hd⟩ rfl (ix2 (⟨r % 128, hm⟩ : Fin 128) l) rfl (fun b hb => by
        match b with
        | ⟨0, _⟩ => exact absurd rfl hb
        | ⟨1, _⟩ => rfl)).trans ?_
  exact (col_of_lt (x ⟨r / 128, hd⟩) l hm).symm.trans ((hx ⟨r / 128, hd⟩ _ hm).trans (congrArg f (Nat.div_add_mod r 128)))

/-- The merge of 512 rows. -/
theorem merge512_reads {x : FVec Ideal (Rows 512) .f32} {f : ℕ → EReal} (desc : Bool) (hx : Reads l x f) : Reads l (merge512 desc x) (sweep (fun _ => desc) 9 f) := by
  have ha := hx.cut 0 256 (by decide)
  have hb := hx.cut 256 256 (by decide)
  simp only [Nat.zero_add] at ha
  obtain ⟨hp, hq⟩ := Reads.cross desc ha hb
  have hp0 := hp.cut 0 128 (by decide)
  have hq0 := hq.cut 0 128 (by decide)
  simp only [Nat.zero_add] at hp0 hq0
  obtain ⟨h1, h2⟩ := Reads.cross desc hp0 (hp.cut 128 128 (by decide))
  obtain ⟨h3, h4⟩ := Reads.cross desc hq0 (hq.cut 128 128 (by decide))
  have k1 := mergeTail_reads desc h1
  have k2 := mergeTail_reads desc h2
  have k3 := mergeTail_reads desc h3
  have k4 := mergeTail_reads desc h4
  rw [show sweep (fun _ => desc) 9 f = sweep (fun _ => desc) 8 (ce 256 (fun _ => desc) f) from sweep_succ 8 _ _,
    show sweep (fun _ => desc) 8 (ce 256 (fun _ => desc) f) = sweep (fun _ => desc) 7 (ce 128 (fun _ => desc) (ce 256 (fun _ => desc) f)) from sweep_succ 7 _ _]
  have hsh : ce 128 (fun _ => desc) (fun r => ce 256 (fun _ => desc) f (256 + r)) = fun r => ce 128 (fun _ => desc) (ce 256 (fun _ => desc) f) (256 + r) :=
    funext fun r => (ce_shift 128 256 (by decide) (by decide) (fun _ => desc) _ r).symm
  simp only [hsh] at k3 k4
  generalize ce 128 (fun _ => desc) (ce 256 (fun _ => desc) f) = h at *
  have hsw : ∀ o, 128 ∣ o → ∀ r, sweep (fun _ => desc) 7 (fun r => h (o + r)) r = sweep (fun _ => desc) 7 h (o + r) := fun o ho r =>
    (sweep_shift o (fun _ => desc) 7 ho h r).symm
  refine four_reads (fun i => match i with | 0 => _ | 1 => _ | 2 => _ | 3 => _) joins_four fun i => ?_
  match i with
  | 0 => exact fun r hr => (k1 r hr).trans (congrArg _ (Nat.zero_add r).symm)
  | 1 => exact fun r hr => (k2 r hr).trans (hsw 128 (by decide) r)
  | 2 => exact fun r hr => (k3 r hr).trans (hsw 256 (by decide) r)
  | 3 => exact fun r hr => (k4 r hr).trans ((congrArg (fun g => sweep _ 7 g r) (funext fun r => congrArg h (by omega))).trans (hsw 384 (by decide) r))

end Cert.Proof.Net

end
-- ==== Proof.Loops.lean ====
/- A loop over blocks of the array: each trip reworks blocks no other trip has touched. -/
module

public import proofs.«01_k».proof.Proof.Tails
public import proofs.«01_k».proof.Proof.Trips

@[expose] public section

noncomputable section

namespace Cert.Proof.Net

open Idealize.ShloMosaic Idealize.ShloMosaic.Pointwise

/-- The whole array over the reals. -/
abbrev Array8192 : Type := FVec Ideal (Rows 8192) .f32

/-- Turning the rows of unit `q` from `f` to `T`, and keeping the rows of every other unit; `own` numbers the unit of a row. -/
def Acts (l : Fin 128) (own : ℕ → ℕ) (f T : ℕ → EReal) (q : ℕ) (A : Array8192 → Array8192) : Prop :=
  ∀ X, (∀ r < 8192, own r = q → col X l r = f r) → ∀ r < 8192, col (A X) l r = if own r = q then T r else col X l r

/-- The rows of the units in `S` hold `T`, the others still `f`. -/
def Partly (l : Fin 128) (own : ℕ → ℕ) (f T : ℕ → EReal) (S : List ℕ) (X : Array8192) : Prop :=
  ∀ r < 8192, col X l r = if own r ∈ S then T r else f r

/-- The units worked on in the first trips, two in a trip, after those in `S`. -/
def done (a b : ℕ → ℕ) (S : List ℕ) : ℕ → List ℕ
  | 0 => S
  | k + 1 => b k :: a k :: done a b S k

variable {l : Fin 128} {own : ℕ → ℕ} {f T : ℕ → EReal}

theorem Acts.partly {q : ℕ} {S : List ℕ} {A : Array8192 → Array8192} {X : Array8192} (hA : Acts l own f T q A) (hq : q ∉ S) (hX : Partly l own f T S X) :
    Partly l own f T (q :: S) (A X) := fun r hr => by
  rw [hA X (fun r hr e => (hX r hr).trans (if_neg (e ▸ hq))) r hr]
  by_cases h : own r = q
  · rw [if_pos h, if_pos (h ▸ List.mem_cons_self)]
  · rw [if_neg h, hX r hr]
    by_cases h' : own r ∈ S
    · rw [if_pos h', if_pos (List.mem_cons_of_mem _ h')]
    · rw [if_neg h', if_neg (fun hm => (List.mem_cons.mp hm).elim h h')]

/-- A loop of two units a trip, every unit a new one. -/
theorem loop_partly {n : ℕ} (step : Fin n → Array8192 → Array8192) (a b : ℕ → ℕ) (S : List ℕ)
    (h : ∀ t : Fin n, ∃ A B, (∀ X, step t X = B (A X)) ∧ Acts l own f T (a t.val) A ∧ Acts l own f T (b t.val) B)
    (hS : (done a b S n).Nodup) {X : Array8192} (hX : Partly l own f T S X) : Partly l own f T (done a b S n) (after step n X) := by
  have key : ∀ k, k ≤ n → (done a b S k).Nodup → Partly l own f T (done a b S k) (after step k X) := by
    intro k
    induction k with
    | zero => exact fun _ _ => hX
    | succ k ih =>
      intro hk hnd
      obtain ⟨hb, hnd'⟩ := List.nodup_cons.mp hnd
      obtain ⟨ha, hnd''⟩ := List.nodup_cons.mp hnd'
      obtain ⟨A, B, hs, hA, hB⟩ := h ⟨k, hk⟩
      rw [after_succ step ⟨k, hk⟩ X, hs]
      exact hB.partly hb (hA.partly ha (ih (by omega) hnd''))
  exact key n le_rfl hS

/-- Before the first loop nothing is done. -/
theorem Partly.start {X : Array8192} (hX : ∀ r < 8192, col X l r = f r) : Partly l own f T [] X := fun r hr => (hX r hr).trans (if_neg List.not_mem_nil).symm

/-- When every unit is done, all rows hold `T`. -/
theorem Partly.finish {S : List ℕ} {X : Array8192} {n : ℕ} (hS : ∀ q < n, q ∈ S) (hn : ∀ r < 8192, own r < n) (hX : Partly l own f T S X) :
    ∀ r < 8192, col X l r = T r := fun r hr => (hX r hr).trans (if_pos (hS _ (hn r hr)))

/-! ## The units -/

/-- A block of `R` rows reworked. -/
theorem reworked_acts {R : ℕ} (hR : 0 < R) (q : ℕ) (g : FVec Ideal (Rows R) .f32 → FVec Ideal (Rows R) .f32) (o : Fin 2 → ℕ) (i : Inside R o) (ho : o = ![R * q, 0])
    (hg : ∀ x, Reads l x (fun r => f (R * q + r)) → Reads l (g x) fun r => T (R * q + r)) : Acts l (· / R) f T q (reworked R g o i) := fun X hX r hr => by
  have hi : R * q + R ≤ 8192 := by have := i 0; rw [ho] at this; exact this
  have hb : Reads l (block R o i X) fun r => f (R * q + r) := fun r hr => by
    rw [col_block o i ho X l hr]
    exact hX _ (by omega) (by show (R * q + r) / R = q; rw [Nat.mul_add_div hR, Nat.div_eq_of_lt hr, Nat.add_zero])
  have e : (R * q ≤ r ∧ r < R * q + R) ↔ r / R = q := by
    rw [Nat.div_eq_iff hR, Nat.mul_comm q R]
    omega
  unfold reworked
  rw [col_with o i ho]
  show _ = if r / R = q then T r else col X l r
  by_cases h : r / R = q
  · rw [if_pos h, if_pos (e.mpr h), hg _ hb _ (by have := e.mpr h; omega)]
    exact congrArg T (by have := e.mpr h; omega)
  · rw [if_neg h, if_neg fun h' => h (e.mp h')]

theorem with_reads {R : ℕ} {o : ℕ} (off : Fin 2 → ℕ) (inb : Inside R off) (ho : off = ![o, 0]) (w : FVec Ideal (Rows R) .f32) (X : Array8192)
    (hw : Reads l w fun r => T (o + r)) (r : ℕ) : col (with' R off w X) l r = if o ≤ r ∧ r < o + R then T r else col X l r := by
  rw [col_with off inb ho]
  by_cases h : o ≤ r ∧ r < o + R
  · rw [if_pos h, if_pos h, hw _ (by omega)]
    exact congrArg T (by omega)
  · rw [if_neg h, if_neg h]

/-- Two blocks of 256 rows compared. -/
theorem paired_acts {a j q : ℕ} (oA oB : Fin 2 → ℕ) (iA : Inside 256 oA) (iB : Inside 256 oB) (up : Bool) (hA : oA = ![a, 0]) (hB : oB = ![a + j, 0])
    (hown : ∀ r, own r = q ↔ (a ≤ r ∧ r < a + 256) ∨ (a + j ≤ r ∧ r < a + j + 256))
    (hTA : ∀ r < 256, T (a + r) = pick (!up) (f (a + r)) (f (a + j + r))) (hTB : ∀ r < 256, T (a + j + r) = pick up (f (a + r)) (f (a + j + r))) :
    Acts l own f T q (paired1 oA oB iA iB up) := fun X hX r hr => by
  have ia : a + 256 ≤ 8192 := by have := iA 0; rw [hA] at this; exact this
  have ib : a + j + 256 ≤ 8192 := by have := iB 0; rw [hB] at this; exact this
  have ra : Reads l (block 256 oA iA X) fun r => f (a + r) := fun r hr => by
    rw [col_block oA iA hA X l hr]
    exact hX _ (by omega) ((hown _).mpr (Or.inl (by omega)))
  have rb : Reads l (block 256 oB iB X) fun r => f (a + j + r) := fun r hr => by
    rw [col_block oB iB hB X l hr]
    exact hX _ (by omega) ((hown _).mpr (Or.inr (by omega)))
  have wa : Reads l _ (fun r => T (a + r)) := fun r hr => ((ra.first (!up) rb) r hr).trans (hTA r hr).symm
  have wb : Reads l _ (fun r => T (a + j + r)) := fun r hr => ((ra.first up rb) r hr).trans (hTB r hr).symm
  unfold paired1 paired
  rw [with_reads oB iB hB _ _ wb, with_reads oA iA hA _ _ wa]
  have := hown r
  split_ifs <;> first | rfl | omega

/-- Four blocks of 256 rows compared in two steps. -/
theorem quaded_acts {a j j2 q : ℕ} (oA oB oC oD : Fin 2 → ℕ) (iA : Inside 256 oA) (iB : Inside 256 oB) (iC : Inside 256 oC) (iD : Inside 256 oD) (up : Bool)
    (hA : oA = ![a, 0]) (hB : oB = ![a + j2, 0]) (hC : oC = ![a + j, 0]) (hD : oD = ![a + j + j2, 0])
    (hown : ∀ r, own r = q ↔ (a ≤ r ∧ r < a + 256) ∨ (a + j2 ≤ r ∧ r < a + j2 + 256) ∨ (a + j ≤ r ∧ r < a + j + 256) ∨ (a + j + j2 ≤ r ∧ r < a + j + j2 + 256))
    (hTA : ∀ r < 256, T (a + r) = pick (!up) (pick (!up) (f (a + r)) (f (a + j + r))) (pick (!up) (f (a + j2 + r)) (f (a + j + j2 + r))))
    (hTB : ∀ r < 256, T (a + j2 + r) = pick up (pick (!up) (f (a + r)) (f (a + j + r))) (pick (!up) (f (a + j2 + r)) (f (a + j + j2 + r))))
    (hTC : ∀ r < 256, T (a + j + r) = pick (!up) (pick up (f (a + r)) (f (a + j + r))) (pick up (f (a + j2 + r)) (f (a + j + j2 + r))))
    (hTD : ∀ r < 256, T (a + j + j2 + r) = pick up (pick up (f (a + r)) (f (a + j + r))) (pick up (f (a + j2 + r)) (f (a + j + j2 + r)))) :
    Acts l own f T q (quaded1 oA oB oC oD iA iB iC iD up) := fun X hX r hr => by
  have ia : a + 256 ≤ 8192 := by have := iA 0; rw [hA] at this; exact this
  have ib : a + j2 + 256 ≤ 8192 := by have := iB 0; rw [hB] at this; exact this
  have ic : a + j + 256 ≤ 8192 := by have := iC 0; rw [hC] at this; exact this
  have id : a + j + j2 + 256 ≤ 8192 := by have := iD 0; rw [hD] at this; exact this
  have ra : Reads l (block 256 oA iA X) fun r => f (a + r) := fun r hr => by
    rw [col_block oA iA hA X l hr]
    exact hX _ (by omega) ((hown _).mpr (Or.inl (by omega)))
  have rb : Reads l (block 256 oB iB X) fun r => f (a + j2 + r) := fun r hr => by
    rw [col_block oB iB hB X l hr]
    exact hX _ (by omega) ((hown _).mpr (Or.inr (Or.inl (by omega))))
  have rc : Reads l (block 256 oC iC X) fun r => f (a + j + r) := fun r hr => by
    rw [col_block oC iC hC X l hr]
    exact hX _ (by omega) ((hown _).mpr (Or.inr (Or.inr (Or.inl (by omega)))))
  have rd : Reads l (block 256 oD iD X) fun r => f (a + j + j2 + r) := fun r hr => by
    rw [col_block oD iD hD X l hr]
    exact hX _ (by omega) ((hown _).mpr (Or.inr (Or.inr (Or.inr (by omega)))))
  have wa : Reads l _ (fun r => T (a + r)) := fun r hr => (((ra.first (!up) rc).first (!up) (rb.first (!up) rd)) r hr).trans (hTA r hr).symm
  have wb : Reads l _ (fun r => T (a + j2 + r)) := fun r hr => (((ra.first (!up) rc).first up (rb.first (!up) rd)) r hr).trans (hTB r hr).symm
  have wc : Reads l _ (fun r => T (a + j + r)) := fun r hr => (((ra.first up rc).first (!up) (rb.first up rd)) r hr).trans (hTC r hr).symm
  have wd : Reads l _ (fun r => T (a + j + j2 + r)) := fun r hr => (((ra.first up rc).first up (rb.first up rd)) r hr).trans (hTD r hr).symm
  unfold quaded1 quadded
  rw [with_reads oD iD hD _ _ wd, with_reads oC iC hC _ _ wc, with_reads oB iB hB _ _ wb, with_reads oA iA hA _ _ wa]
  have := hown r
  split_ifs <;> first | rfl | omega

/-! ## The units of the network -/

theorem way_steady (p n r r' : ℕ) (hn : n ∣ 2 ^ p) (e : r / 2 ^ p = r' / 2 ^ p) : way p r = way p r' := (way_turns p).1 r r' e

theorem way_block (p n q r : ℕ) (hn : n ∣ 2 ^ p) (hr : r < n) : way p (n * q + r) = way p (n * q) :=
  ((way_turns p).1.mono hn) _ _ (by rw [Nat.mul_add_div (by omega), Nat.div_eq_of_lt hr, Nat.add_zero, Nat.mul_div_cancel_left _ (by omega)])

/-- The sort of 256 rows does the first eight levels. -/
theorem sort256_acts (desc : Bool) (q : ℕ) (hd : way 8 (256 * q) = desc) (o : Fin 2 → ℕ) (i : Inside 256 o) (ho : o = ![256 * q, 0]) :
    Acts l (· / 256) f (levels way 8 f) q (reworked 256 (sort256 desc) o i) :=
  reworked_acts (by decide) q _ o i ho fun x hx r hr => by
    rw [sort256_reads desc hx r hr]
    show _ = levels way 8 f (256 * q + r)
    rw [levels_shift (256 * q) 8 ⟨q, rfl⟩ way f r]
    show _ = sweep (fun r => way 8 (256 * q + r)) 8 (levels (fun p r => way p (256 * q + r)) 7 (fun r => f (256 * q + r))) r
    refine sweep_congr 8 (dvd_refl _) (fun r hr => (hd.symm.trans (way_block 8 256 q r (dvd_refl _) hr).symm)) (fun r hr => ?_) r hr
    refine levels_congr 256 7 (by decide) (fun p hp r hr => ?_) (fun _ _ => rfl) r hr
    unfold way
    have h1 : (256 * q + r) / 128 % 2 = r / 128 % 2 := by omega
    by_cases h : p ≤ 6
    · have e : (256 : ℕ) = 2 ^ p * (2 * 2 ^ (7 - p)) := by rw [← Nat.mul_assoc, ← Nat.pow_succ, ← Nat.pow_add, show p + 1 + (7 - p) = 8 by omega]
      rw [if_pos h, if_pos h, h1, show (256 * q + r) / 2 ^ p % 2 = r / 2 ^ p % 2 by
        rw [e, Nat.mul_assoc, Nat.mul_add_div (Nat.two_pow_pos p), Nat.mul_assoc, Nat.mul_add_mod]]
    · obtain rfl : p = 7 := by omega
      rw [if_neg h, if_neg h]
      exact congrArg (· == 1) h1.symm

/-- The merge of 512 rows ends a level. -/
theorem merge512_acts (p : ℕ) (hp : 9 ≤ p) (desc : Bool) (q : ℕ) (hd : way p (512 * q) = desc) (o : Fin 2 → ℕ) (i : Inside 512 o) (ho : o = ![512 * q, 0]) :
    Acts l (· / 512) f (sweep (way p) 9 f) q (reworked 512 (merge512 desc) o i) :=
  reworked_acts (by decide) q _ o i ho fun x hx r hr => by
    rw [merge512_reads desc hx r hr]
    show _ = sweep (way p) 9 f (512 * q + r)
    rw [sweep_shift (512 * q) (way p) 9 ⟨q, rfl⟩ f r]
    exact sweep_congr 9 (dvd_refl _) (fun r hr => (hd.symm.trans (way_block p 512 q r (Nat.pow_dvd_pow 2 hp) hr).symm)) (fun _ _ => rfl) r hr

/-- The pair of blocks a row lies in, at distance 512. -/
def pairOf (r : ℕ) : ℕ := r / 1024 * 2 + r % 512 / 256

/-- The first row of a pair. -/
def pairAt (q : ℕ) : ℕ := q / 2 * 1024 + q % 2 * 256

/-- A pair of blocks at distance 512 compared is that stage of a level. -/
theorem pair_acts (p : ℕ) (hp : 10 ≤ p) (up : Bool) (q : ℕ) (hd : way p (pairAt q) = !up) (oA oB : Fin 2 → ℕ) (iA : Inside 256 oA) (iB : Inside 256 oB)
    (hA : oA = ![pairAt q, 0]) (hB : oB = ![pairAt q + 512, 0]) : Acts l pairOf f (ce 512 (way p) f) q (paired1 oA oB iA iB up) := by
  have hw : ∀ r, r / 1024 = pairAt q / 1024 → way p r = !up := fun r e => (((way_turns p).1.mono (Nat.pow_dvd_pow 2 hp)) _ _ e).trans hd
  refine paired_acts (a := pairAt q) (j := 512) oA oB iA iB up hA hB (fun r => ?_) (fun r hr => ?_) (fun r hr => ?_)
  · unfold pairOf pairAt
    omega
  · unfold ce
    rw [hw _ (by unfold pairAt; omega), if_pos (by unfold pairAt; omega), show pairAt q + r + 512 = pairAt q + 512 + r by omega]
  · unfold ce
    rw [hw _ (by unfold pairAt; omega), if_neg (by unfold pairAt; omega), show pairAt q + 512 + r - 512 = pairAt q + r by omega, Bool.not_not]

/-- The four blocks a row lies in, at distances `256 m` and `512 m`. -/
def quadOf (m r : ℕ) : ℕ := r / (1024 * m) * m + r % (256 * m) / 256

/-- The first row of a four. -/
def quadAt (m q : ℕ) : ℕ := q / m * (1024 * m) + q % m * 256

/-- Four blocks compared in two steps are those two stages of a level. -/
theorem quad_acts (m j j2 k p : ℕ) (hm : m = 2 ∨ m = 4 ∨ m = 8) (hj : j = 512 * m) (hj2 : j2 = 256 * m) (hk : k = 1024 * m) (hp : k ∣ 2 ^ p) (up : Bool) (q : ℕ)
    (hd : way p (quadAt m q) = !up) (oA oB oC oD : Fin 2 → ℕ) (iA : Inside 256 oA) (iB : Inside 256 oB) (iC : Inside 256 oC) (iD : Inside 256 oD)
    (hA : oA = ![quadAt m q, 0]) (hB : oB = ![quadAt m q + j2, 0]) (hC : oC = ![quadAt m q + j, 0]) (hD : oD = ![quadAt m q + j + j2, 0]) :
    Acts l (quadOf m) f (ce j2 (way p) (ce j (way p) f)) q (quaded1 oA oB oC oD iA iB iC iD up) := by
  have hw : ∀ r, r / k = quadAt m q / k → way p r = !up := fun r e => (((way_turns p).1.mono hp) _ _ e).trans hd
  have h0 : ∀ r < 256, (quadAt m q + r) / k = quadAt m q / k ∧ (quadAt m q + r) / j % 2 = 0 ∧ (quadAt m q + r) / j2 % 2 = 0 := fun r hr => by
    unfold quadAt; obtain rfl | rfl | rfl := hm <;> subst hj hj2 hk <;> omega
  have h1 : ∀ r < 256, (quadAt m q + j2 + r) / k = quadAt m q / k ∧ (quadAt m q + j2 + r) / j % 2 = 0 ∧ (quadAt m q + j2 + r) / j2 % 2 ≠ 0 := fun r hr => by
    unfold quadAt; obtain rfl | rfl | rfl := hm <;> subst hj hj2 hk <;> omega
  have h2 : ∀ r < 256, (quadAt m q + j + r) / k = quadAt m q / k ∧ (quadAt m q + j + r) / j % 2 ≠ 0 ∧ (quadAt m q + j + r) / j2 % 2 = 0 := fun r hr => by
    unfold quadAt; obtain rfl | rfl | rfl := hm <;> subst hj hj2 hk <;> omega
  have h3 : ∀ r < 256, (quadAt m q + j + j2 + r) / k = quadAt m q / k ∧ (quadAt m q + j + j2 + r) / j % 2 ≠ 0 ∧ (quadAt m q + j + j2 + r) / j2 % 2 ≠ 0 := fun r hr => by
    unfold quadAt; obtain rfl | rfl | rfl := hm <;> subst hj hj2 hk <;> omega
  have c0 : ∀ r < 256, ce j (way p) f (quadAt m q + r) = pick (!up) (f (quadAt m q + r)) (f (quadAt m q + j + r)) := fun r hr => by
    unfold ce
    rw [hw _ (h0 r hr).1, if_pos (h0 r hr).2.1, show quadAt m q + r + j = quadAt m q + j + r by omega]
  have c1 : ∀ r < 256, ce j (way p) f (quadAt m q + j2 + r) = pick (!up) (f (quadAt m q + j2 + r)) (f (quadAt m q + j + j2 + r)) := fun r hr => by
    unfold ce
    rw [hw _ (h1 r hr).1, if_pos (h1 r hr).2.1, show quadAt m q + j2 + r + j = quadAt m q + j + j2 + r by omega]
  have c2 : ∀ r < 256, ce j (way p) f (quadAt m q + j + r) = pick up (f (quadAt m q + r)) (f (quadAt m q + j + r)) := fun r hr => by
    unfold ce
    rw [hw _ (h2 r hr).1, if_neg (h2 r hr).2.1, show quadAt m q + j + r - j = quadAt m q + r by omega, Bool.not_not]
  have c3 : ∀ r < 256, ce j (way p) f (quadAt m q + j + j2 + r) = pick up (f (quadAt m q + j2 + r)) (f (quadAt m q + j + j2 + r)) := fun r hr => by
    unfold ce
    rw [hw _ (h3 r hr).1, if_neg (h3 r hr).2.1, show quadAt m q + j + j2 + r - j = quadAt m q + j2 + r by omega, Bool.not_not]
  refine quaded_acts (a := quadAt m q) (j := j) (j2 := j2) oA oB oC oD iA iB iC iD up hA hB hC hD (fun r => ?_) (fun r hr => ?_) (fun r hr => ?_) (fun r hr => ?_) (fun r hr => ?_)
  · unfold quadOf quadAt
    obtain rfl | rfl | rfl := hm <;> subst hj hj2 hk <;> omega
  · rw [ce, hw _ (h0 r hr).1, if_pos (h0 r hr).2.2, show quadAt m q + r + j2 = quadAt m q + j2 + r by omega, c0 r hr, c1 r hr]
  · rw [ce, hw _ (h1 r hr).1, if_neg (h1 r hr).2.2, show quadAt m q + j2 + r - j2 = quadAt m q + r by omega, c0 r hr, c1 r hr, Bool.not_not]
  · rw [ce, hw _ (h2 r hr).1, if_pos (h2 r hr).2.2, show quadAt m q + j + r + j2 = quadAt m q + j + j2 + r by omega, c2 r hr, c3 r hr]
  · rw [ce, hw _ (h3 r hr).1, if_neg (h3 r hr).2.2, show quadAt m q + j + j2 + r - j2 = quadAt m q + j + r by omega, c2 r hr, c3 r hr, Bool.not_not]

end Cert.Proof.Net

end
-- ==== Proof.Levels.lean ====
/- The kernel's loops over the array, in closed form: which blocks each trip takes and in which direction. -/
module

public import proofs.«01_k».proof.Proof.Loops

@[expose] public section

noncomputable section

namespace Cert.Proof.Net

open Idealize.ShloMosaic
open Cert.KernelIdeal Cert.KernelIdeal.Gen

/-! ## Where the trips take their blocks -/

/-- The `u`-th block of an ascending run, runs of `S` blocks alternating. -/
def runAt (S u : ℕ) : ℕ := u / S * (2 * S) + u % S

theorem at1 : ∀ t : Fin k0_t1_loop.trips, (k0_off1 t = ![256 * (4 * t.val), 0] ∧ k0_off2 t = ![256 * (4 * t.val + 2), 0])
    ∧ way 8 (256 * (4 * t.val)) = false ∧ way 8 (256 * (4 * t.val + 2)) = false := by decide +kernel

theorem at2 : ∀ t : Fin k0_t2_loop.trips, (k0_off3 t 1#32 = ![256 * (4 * t.val + 1), 0] ∧ k0_off3 t 3#32 = ![256 * (4 * t.val + 3), 0])
    ∧ way 8 (256 * (4 * t.val + 1)) = true ∧ way 8 (256 * (4 * t.val + 3)) = true := by decide +kernel

theorem at3 : ∀ t : Fin k0_t3_loop.trips, (k0_off4 t = ![512 * runAt 1 (2 * t.val), 0] ∧ k0_off5 t = ![512 * runAt 1 (2 * t.val + 1), 0])
    ∧ way 9 (512 * runAt 1 (2 * t.val)) = false ∧ way 9 (512 * runAt 1 (2 * t.val + 1)) = false := by decide +kernel

theorem at4 : ∀ t : Fin k0_t4_loop.trips, (k0_off6 t = ![512 * (runAt 1 (2 * t.val) + 1), 0] ∧ k0_off7 t = ![512 * (runAt 1 (2 * t.val + 1) + 1), 0])
    ∧ way 9 (512 * (runAt 1 (2 * t.val) + 1)) = true ∧ way 9 (512 * (runAt 1 (2 * t.val + 1) + 1)) = true := by decide +kernel

theorem at6 : ∀ t : Fin k0_t6_loop.trips, (k0_off20 t = ![512 * runAt 2 (2 * t.val), 0] ∧ k0_off21 t = ![512 * runAt 2 (2 * t.val + 1), 0])
    ∧ way 10 (512 * runAt 2 (2 * t.val)) = false ∧ way 10 (512 * runAt 2 (2 * t.val + 1)) = false := by decide +kernel

theorem at7 : ∀ t : Fin k0_t7_loop.trips, (k0_off22 t = ![512 * (runAt 2 (2 * t.val) + 2), 0] ∧ k0_off23 t = ![512 * (runAt 2 (2 * t.val + 1) + 2), 0])
    ∧ way 10 (512 * (runAt 2 (2 * t.val) + 2)) = true ∧ way 10 (512 * (runAt 2 (2 * t.val + 1) + 2)) = true := by decide +kernel

theorem at9 : ∀ t : Fin k0_t9_loop.trips, (k0_off42 t = ![512 * runAt 4 (2 * t.val), 0] ∧ k0_off43 t = ![512 * runAt 4 (2 * t.val + 1), 0])
    ∧ way 11 (512 * runAt 4 (2 * t.val)) = false ∧ way 11 (512 * runAt 4 (2 * t.val + 1)) = false := by decide +kernel

theorem at10 : ∀ t : Fin k0_t10_loop.trips, (k0_off44 t = ![512 * (runAt 4 (2 * t.val) + 4), 0] ∧ k0_off45 t = ![512 * (runAt 4 (2 * t.val + 1) + 4), 0])
    ∧ way 11 (512 * (runAt 4 (2 * t.val) + 4)) = true ∧ way 11 (512 * (runAt 4 (2 * t.val + 1) + 4)) = true := by decide +kernel

theorem at13 : ∀ t : Fin k0_t13_loop.trips, (k0_off76 t = ![512 * runAt 8 (2 * t.val), 0] ∧ k0_off77 t = ![512 * runAt 8 (2 * t.val + 1), 0])
    ∧ way 12 (512 * runAt 8 (2 * t.val)) = false ∧ way 12 (512 * runAt 8 (2 * t.val + 1)) = false := by decide +kernel

theorem at14 : ∀ t : Fin k0_t14_loop.trips, (k0_off78 t = ![512 * (runAt 8 (2 * t.val) + 8), 0] ∧ k0_off79 t = ![512 * (runAt 8 (2 * t.val + 1) + 8), 0])
    ∧ way 12 (512 * (runAt 8 (2 * t.val) + 8)) = true ∧ way 12 (512 * (runAt 8 (2 * t.val + 1) + 8)) = true := by decide +kernel

theorem at5 : ∀ t : Fin k0_t5_loop.trips, (k0_off8 t = ![pairAt (2 * t.val), 0] ∧ k0_off9 t = ![pairAt (2 * t.val) + 512, 0])
    ∧ (k0_off14 t = ![pairAt (2 * t.val + 1), 0] ∧ k0_off15 t = ![pairAt (2 * t.val + 1) + 512, 0])
    ∧ way 10 (pairAt (2 * t.val)) = !(k0_cond1 t == 1#1) ∧ way 10 (pairAt (2 * t.val + 1)) = !(k0_cond3 t == 1#1) := by decide +kernel

theorem at12 : ∀ t : Fin k0_t12_loop.trips, (k0_off64 t = ![pairAt (2 * t.val), 0] ∧ k0_off65 t = ![pairAt (2 * t.val) + 512, 0])
    ∧ (k0_off70 t = ![pairAt (2 * t.val + 1), 0] ∧ k0_off71 t = ![pairAt (2 * t.val + 1) + 512, 0])
    ∧ way 12 (pairAt (2 * t.val)) = !(k0_cond13 t == 1#1) ∧ way 12 (pairAt (2 * t.val + 1)) = !(k0_cond15 t == 1#1) := by decide +kernel

theorem at8 : ∀ t : Fin k0_t8_loop.trips, (k0_off24 t = ![quadAt 2 (2 * t.val), 0] ∧ k0_off25 t 512#32 = ![quadAt 2 (2 * t.val) + 512, 0]
      ∧ k0_off25 t 1024#32 = ![quadAt 2 (2 * t.val) + 1024, 0] ∧ k0_off26 t = ![quadAt 2 (2 * t.val) + 1024 + 512, 0])
    ∧ (k0_off33 t = ![quadAt 2 (2 * t.val + 1), 0] ∧ k0_off34 t 512#32 = ![quadAt 2 (2 * t.val + 1) + 512, 0]
      ∧ k0_off34 t 1024#32 = ![quadAt 2 (2 * t.val + 1) + 1024, 0] ∧ k0_off35 t = ![quadAt 2 (2 * t.val + 1) + 1024 + 512, 0])
    ∧ way 11 (quadAt 2 (2 * t.val)) = !(k0_cond5 t == 1#1) ∧ way 11 (quadAt 2 (2 * t.val + 1)) = !(k0_cond7 t == 1#1) := by decide +kernel

theorem at11 : ∀ t : Fin k0_t11_loop.trips, (k0_off46 t = ![quadAt 4 (2 * t.val), 0] ∧ k0_off47 t 1024#32 = ![quadAt 4 (2 * t.val) + 1024, 0]
      ∧ k0_off47 t 2048#32 = ![quadAt 4 (2 * t.val) + 2048, 0] ∧ k0_off48 t = ![quadAt 4 (2 * t.val) + 2048 + 1024, 0])
    ∧ (k0_off55 t = ![quadAt 4 (2 * t.val + 1), 0] ∧ k0_off56 t 1024#32 = ![quadAt 4 (2 * t.val + 1) + 1024, 0]
      ∧ k0_off56 t 2048#32 = ![quadAt 4 (2 * t.val + 1) + 2048, 0] ∧ k0_off57 t = ![quadAt 4 (2 * t.val + 1) + 2048 + 1024, 0])
    ∧ way 12 (quadAt 4 (2 * t.val)) = !(k0_cond9 t == 1#1) ∧ way 12 (quadAt 4 (2 * t.val + 1)) = !(k0_cond11 t == 1#1) := by decide +kernel

theorem at15 : ∀ t : Fin k0_t15_loop.trips, (k0_off80 t = ![quadAt 8 (2 * t.val), 0] ∧ k0_off81 t 2048#32 = ![quadAt 8 (2 * t.val) + 2048, 0]
      ∧ k0_off81 t 4096#32 = ![quadAt 8 (2 * t.val) + 4096, 0] ∧ k0_off82 t = ![quadAt 8 (2 * t.val) + 4096 + 2048, 0])
    ∧ (k0_off89 t = ![quadAt 8 (2 * t.val + 1), 0] ∧ k0_off90 t 2048#32 = ![quadAt 8 (2 * t.val + 1) + 2048, 0]
      ∧ k0_off90 t 4096#32 = ![quadAt 8 (2 * t.val + 1) + 4096, 0] ∧ k0_off91 t = ![quadAt 8 (2 * t.val + 1) + 4096 + 2048, 0])
    ∧ way 13 (quadAt 8 (2 * t.val)) = !(k0_cond17 t == 1#1) ∧ way 13 (quadAt 8 (2 * t.val + 1)) = !(k0_cond19 t == 1#1) := by decide +kernel

theorem at16 : ∀ t : Fin k0_t16_loop.trips, (k0_off98 t = ![quadAt 2 (2 * t.val), 0] ∧ k0_off99 t 512#32 = ![quadAt 2 (2 * t.val) + 512, 0]
      ∧ k0_off99 t 1024#32 = ![quadAt 2 (2 * t.val) + 1024, 0] ∧ k0_off100 t = ![quadAt 2 (2 * t.val) + 1024 + 512, 0])
    ∧ (k0_off107 t = ![quadAt 2 (2 * t.val + 1), 0] ∧ k0_off108 t 512#32 = ![quadAt 2 (2 * t.val + 1) + 512, 0]
      ∧ k0_off108 t 1024#32 = ![quadAt 2 (2 * t.val + 1) + 1024, 0] ∧ k0_off109 t = ![quadAt 2 (2 * t.val + 1) + 1024 + 512, 0])
    ∧ way 13 (quadAt 2 (2 * t.val)) = !(k0_cond21 t == 1#1) ∧ way 13 (quadAt 2 (2 * t.val + 1)) = !(k0_cond23 t == 1#1) := by decide +kernel

/-! ## A level of the sort -/

/-- On lane `l` the whole array holds `f`. -/
abbrev Whole (l : Fin 128) (X : Array8192) (f : ℕ → EReal) : Prop := Reads l X f

variable {l : Fin 128} {X : Array8192} {f : ℕ → EReal}

theorem trip_of {own : ℕ → ℕ} {T : ℕ → EReal} {a b : ℕ} {A B S : Array8192 → Array8192} (hA : Acts l own f T a A) (hB : Acts l own f T b B) (hs : ∀ X, S X = B (A X)) :
    ∃ A B, (∀ X, S X = B (A X)) ∧ Acts l own f T a A ∧ Acts l own f T b B := ⟨A, B, hs, hA, hB⟩

theorem levels_reads (h : Whole l X f) : Whole l (after step2 k0_t2_loop.trips (after step1 k0_t1_loop.trips X)) (levels way 8 f) := by
  have h1 := loop_partly (l := l) (own := (· / 256)) (f := f) (T := levels way 8 f) step1 (fun t => 4 * t) (fun t => 4 * t + 2) []
    (fun t => trip_of (sort256_acts false _ (at1 t).2.1 _ (k0_off1_inb t) (at1 t).1.1)
      (sort256_acts false _ (at1 t).2.2 _ (k0_off2_inb t) (at1 t).1.2) (fun _ => rfl))
    (by decide +kernel) (Partly.start h)
  have h2 := loop_partly step2 (fun t => 4 * t + 1) (fun t => 4 * t + 3) _
    (fun t => trip_of (sort256_acts true _ (at2 t).2.1 _ (k0_off3_inb t 0) (at2 t).1.1)
      (sort256_acts true _ (at2 t).2.2 _ (k0_off3_inb t 1) (at2 t).1.2) (fun _ => rfl))
    (by decide +kernel) h1
  exact h2.finish (n := 32) (by decide +kernel) (fun r hr => by show r / 256 < 32; omega)

theorem merge9_reads (h : Whole l X f) : Whole l (after step4 k0_t4_loop.trips (after step3 k0_t3_loop.trips X)) (sweep (way 9) 9 f) := by
  have h1 := loop_partly (l := l) (own := (· / 512)) (f := f) (T := sweep (way 9) 9 f) step3 (fun t => runAt 1 (2 * t)) (fun t => runAt 1 (2 * t + 1)) []
    (fun t => trip_of (merge512_acts 9 (by decide) false _ (at3 t).2.1 _ (k0_off4_inb t) (at3 t).1.1)
      (merge512_acts 9 (by decide) false _ (at3 t).2.2 _ (k0_off5_inb t) (at3 t).1.2) (fun _ => rfl)) (by decide +kernel) (Partly.start h)
  have h2 := loop_partly step4 (fun t => runAt 1 (2 * t) + 1) (fun t => runAt 1 (2 * t + 1) + 1) _
    (fun t => trip_of (merge512_acts 9 (by decide) true _ (at4 t).2.1 _ (k0_off6_inb t) (at4 t).1.1)
      (merge512_acts 9 (by decide) true _ (at4 t).2.2 _ (k0_off7_inb t) (at4 t).1.2) (fun _ => rfl)) (by decide +kernel) h1
  exact h2.finish (n := 16) (by decide +kernel) (fun r hr => by show r / 512 < 16; omega)

theorem merge10_reads (h : Whole l X f) : Whole l (after step7 k0_t7_loop.trips (after step6 k0_t6_loop.trips X)) (sweep (way 10) 9 f) := by
  have h1 := loop_partly (l := l) (own := (· / 512)) (f := f) (T := sweep (way 10) 9 f) step6 (fun t => runAt 2 (2 * t)) (fun t => runAt 2 (2 * t + 1)) []
    (fun t => trip_of (merge512_acts 10 (by decide) false _ (at6 t).2.1 _ (k0_off20_inb t) (at6 t).1.1)
      (merge512_acts 10 (by decide) false _ (at6 t).2.2 _ (k0_off21_inb t) (at6 t).1.2) (fun _ => rfl)) (by decide +kernel) (Partly.start h)
  have h2 := loop_partly step7 (fun t => runAt 2 (2 * t) + 2) (fun t => runAt 2 (2 * t + 1) + 2) _
    (fun t => trip_of (merge512_acts 10 (by decide) true _ (at7 t).2.1 _ (k0_off22_inb t) (at7 t).1.1)
      (merge512_acts 10 (by decide) true _ (at7 t).2.2 _ (k0_off23_inb t) (at7 t).1.2) (fun _ => rfl)) (by decide +kernel) h1
  exact h2.finish (n := 16) (by decide +kernel) (fun r hr => by show r / 512 < 16; omega)

theorem merge11_reads (h : Whole l X f) : Whole l (after step10 k0_t10_loop.trips (after step9 k0_t9_loop.trips X)) (sweep (way 11) 9 f) := by
  have h1 := loop_partly (l := l) (own := (· / 512)) (f := f) (T := sweep (way 11) 9 f) step9 (fun t => runAt 4 (2 * t)) (fun t => runAt 4 (2 * t + 1)) []
    (fun t => trip_of (merge512_acts 11 (by decide) false _ (at9 t).2.1 _ (k0_off42_inb t) (at9 t).1.1)
      (merge512_acts 11 (by decide) false _ (at9 t).2.2 _ (k0_off43_inb t) (at9 t).1.2) (fun _ => rfl)) (by decide +kernel) (Partly.start h)
  have h2 := loop_partly step10 (fun t => runAt 4 (2 * t) + 4) (fun t => runAt 4 (2 * t + 1) + 4) _
    (fun t => trip_of (merge512_acts 11 (by decide) true _ (at10 t).2.1 _ (k0_off44_inb t) (at10 t).1.1)
      (merge512_acts 11 (by decide) true _ (at10 t).2.2 _ (k0_off45_inb t) (at10 t).1.2) (fun _ => rfl)) (by decide +kernel) h1
  exact h2.finish (n := 16) (by decide +kernel) (fun r hr => by show r / 512 < 16; omega)

theorem merge12_reads (h : Whole l X f) : Whole l (after step14 k0_t14_loop.trips (after step13 k0_t13_loop.trips X)) (sweep (way 12) 9 f) := by
  have h1 := loop_partly (l := l) (own := (· / 512)) (f := f) (T := sweep (way 12) 9 f) step13 (fun t => runAt 8 (2 * t)) (fun t => runAt 8 (2 * t + 1)) []
    (fun t => trip_of (merge512_acts 12 (by decide) false _ (at13 t).2.1 _ (k0_off76_inb t) (at13 t).1.1)
      (merge512_acts 12 (by decide) false _ (at13 t).2.2 _ (k0_off77_inb t) (at13 t).1.2) (fun _ => rfl)) (by decide +kernel) (Partly.start h)
  have h2 := loop_partly step14 (fun t => runAt 8 (2 * t) + 8) (fun t => runAt 8 (2 * t + 1) + 8) _
    (fun t => trip_of (merge512_acts 12 (by decide) true _ (at14 t).2.1 _ (k0_off78_inb t) (at14 t).1.1)
      (merge512_acts 12 (by decide) true _ (at14 t).2.2 _ (k0_off79_inb t) (at14 t).1.2) (fun _ => rfl)) (by decide +kernel) h1
  exact h2.finish (n := 16) (by decide +kernel) (fun r hr => by show r / 512 < 16; omega)

theorem pairs5_reads (h : Whole l X f) : Whole l (after step5 k0_t5_loop.trips X) (ce 512 (way 10) f) := by
  have h1 := loop_partly (l := l) (own := pairOf) (f := f) (T := ce 512 (way 10) f) step5 (fun t => 2 * t) (fun t => 2 * t + 1) []
    (fun t => trip_of (pair_acts 10 (by decide) _ _ (at5 t).2.2.1 _ _ (k0_off8_inb t) (k0_off9_inb t) (at5 t).1.1 (at5 t).1.2)
      (pair_acts 10 (by decide) _ _ (at5 t).2.2.2 _ _ (k0_off14_inb t) (k0_off15_inb t) (at5 t).2.1.1 (at5 t).2.1.2) (fun _ => rfl)) (by decide +kernel) (Partly.start h)
  exact h1.finish (n := 16) (by decide +kernel) (fun r hr => by unfold pairOf; omega)

theorem pairs12_reads (h : Whole l X f) : Whole l (after step12 k0_t12_loop.trips X) (ce 512 (way 12) f) := by
  have h1 := loop_partly (l := l) (own := pairOf) (f := f) (T := ce 512 (way 12) f) step12 (fun t => 2 * t) (fun t => 2 * t + 1) []
    (fun t => trip_of (pair_acts 12 (by decide) _ _ (at12 t).2.2.1 _ _ (k0_off64_inb t) (k0_off65_inb t) (at12 t).1.1 (at12 t).1.2)
      (pair_acts 12 (by decide) _ _ (at12 t).2.2.2 _ _ (k0_off70_inb t) (k0_off71_inb t) (at12 t).2.1.1 (at12 t).2.1.2) (fun _ => rfl)) (by decide +kernel) (Partly.start h)
  exact h1.finish (n := 16) (by decide +kernel) (fun r hr => by unfold pairOf; omega)

theorem quads8_reads (h : Whole l X f) : Whole l (after step8 k0_t8_loop.trips X) (ce 512 (way 11) (ce 1024 (way 11) f)) := by
  have h1 := loop_partly (l := l) (own := quadOf 2) (f := f) (T := ce 512 (way 11) (ce 1024 (way 11) f)) step8 (fun t => 2 * t) (fun t => 2 * t + 1) []
    (fun t => trip_of (quad_acts 2 1024 512 2048 11 (by decide) rfl rfl rfl (by decide) _ _ (at8 t).2.2.1 _ _ _ _
        (k0_off24_inb t) (k0_off25_inb t 0) (k0_off25_inb t 1) (k0_off26_inb t) (at8 t).1.1 (at8 t).1.2.1 (at8 t).1.2.2.1 (at8 t).1.2.2.2)
      (quad_acts 2 1024 512 2048 11 (by decide) rfl rfl rfl (by decide) _ _ (at8 t).2.2.2 _ _ _ _
        (k0_off33_inb t) (k0_off34_inb t 0) (k0_off34_inb t 1) (k0_off35_inb t) (at8 t).2.1.1 (at8 t).2.1.2.1 (at8 t).2.1.2.2.1 (at8 t).2.1.2.2.2) (fun _ => rfl))
    (by decide +kernel) (Partly.start h)
  exact h1.finish (n := 8) (by decide +kernel) (fun r hr => by unfold quadOf; omega)

theorem quads11_reads (h : Whole l X f) : Whole l (after step11 k0_t11_loop.trips X) (ce 1024 (way 12) (ce 2048 (way 12) f)) := by
  have h1 := loop_partly (l := l) (own := quadOf 4) (f := f) (T := ce 1024 (way 12) (ce 2048 (way 12) f)) step11 (fun t => 2 * t) (fun t => 2 * t + 1) []
    (fun t => trip_of (quad_acts 4 2048 1024 4096 12 (by decide) rfl rfl rfl (by decide) _ _ (at11 t).2.2.1 _ _ _ _
        (k0_off46_inb t) (k0_off47_inb t 0) (k0_off47_inb t 1) (k0_off48_inb t) (at11 t).1.1 (at11 t).1.2.1 (at11 t).1.2.2.1 (at11 t).1.2.2.2)
      (quad_acts 4 2048 1024 4096 12 (by decide) rfl rfl rfl (by decide) _ _ (at11 t).2.2.2 _ _ _ _
        (k0_off55_inb t) (k0_off56_inb t 0) (k0_off56_inb t 1) (k0_off57_inb t) (at11 t).2.1.1 (at11 t).2.1.2.1 (at11 t).2.1.2.2.1 (at11 t).2.1.2.2.2) (fun _ => rfl))
    (by decide +kernel) (Partly.start h)
  exact h1.finish (n := 8) (by decide +kernel) (fun r hr => by unfold quadOf; omega)

theorem quads15_reads (h : Whole l X f) : Whole l (after step15 k0_t15_loop.trips X) (ce 2048 (way 13) (ce 4096 (way 13) f)) := by
  have h1 := loop_partly (l := l) (own := quadOf 8) (f := f) (T := ce 2048 (way 13) (ce 4096 (way 13) f)) step15 (fun t => 2 * t) (fun t => 2 * t + 1) []
    (fun t => trip_of (quad_acts 8 4096 2048 8192 13 (by decide) rfl rfl rfl (by decide) _ _ (at15 t).2.2.1 _ _ _ _
        (k0_off80_inb t) (k0_off81_inb t 0) (k0_off81_inb t 1) (k0_off82_inb t) (at15 t).1.1 (at15 t).1.2.1 (at15 t).1.2.2.1 (at15 t).1.2.2.2)
      (quad_acts 8 4096 2048 8192 13 (by decide) rfl rfl rfl (by decide) _ _ (at15 t).2.2.2 _ _ _ _
        (k0_off89_inb t) (k0_off90_inb t 0) (k0_off90_inb t 1) (k0_off91_inb t) (at15 t).2.1.1 (at15 t).2.1.2.1 (at15 t).2.1.2.2.1 (at15 t).2.1.2.2.2) (fun _ => rfl))
    (by decide +kernel) (Partly.start h)
  exact h1.finish (n := 8) (by decide +kernel) (fun r hr => by unfold quadOf; omega)

theorem quads16_reads (h : Whole l X f) : Whole l (after step16 k0_t16_loop.trips X) (ce 512 (way 13) (ce 1024 (way 13) f)) := by
  have h1 := loop_partly (l := l) (own := quadOf 2) (f := f) (T := ce 512 (way 13) (ce 1024 (way 13) f)) step16 (fun t => 2 * t) (fun t => 2 * t + 1) []
    (fun t => trip_of (quad_acts 2 1024 512 2048 13 (by decide) rfl rfl rfl (by decide) _ _ (at16 t).2.2.1 _ _ _ _
        (k0_off98_inb t) (k0_off99_inb t 0) (k0_off99_inb t 1) (k0_off100_inb t) (at16 t).1.1 (at16 t).1.2.1 (at16 t).1.2.2.1 (at16 t).1.2.2.2)
      (quad_acts 2 1024 512 2048 13 (by decide) rfl rfl rfl (by decide) _ _ (at16 t).2.2.2 _ _ _ _
        (k0_off107_inb t) (k0_off108_inb t 0) (k0_off108_inb t 1) (k0_off109_inb t) (at16 t).2.1.1 (at16 t).2.1.2.1 (at16 t).2.1.2.2.1 (at16 t).2.1.2.2.2) (fun _ => rfl))
    (by decide +kernel) (Partly.start h)
  exact h1.finish (n := 8) (by decide +kernel) (fun r hr => by unfold quadOf; omega)

end Cert.Proof.Net

end
-- ==== Proof.Sorting.lean ====
/- What the kernel's loops leave: every lane of the scratch array sorted. -/
module

public import proofs.«01_k».proof.Proof.Levels
public import proofs.«01_k».proof.Proof.Result

@[expose] public section

noncomputable section

namespace Cert.Proof.Net

open Idealize.ShloMosaic Idealize.ShloMosaic.Pointwise
open Cert.KernelIdeal Cert.KernelIdeal.Gen

variable {l : Fin 128} {X : Array8192} {f : ℕ → EReal}

theorem levels_succ (p : ℕ) (f : ℕ → EReal) : levels way (p + 1) f = sweep (way (p + 1)) (p + 1) (levels way p f) := rfl

theorem level9 (f : ℕ → EReal) : levels way 9 f = sweep (way 9) 9 (levels way 8 f) := levels_succ 8 f

theorem level10 (f : ℕ → EReal) : levels way 10 f = sweep (way 10) 9 (ce 512 (way 10) (levels way 9 f)) :=
  (levels_succ 9 f).trans (sweep_succ 9 _ _)

theorem level11 (f : ℕ → EReal) : levels way 11 f = sweep (way 11) 9 (ce 512 (way 11) (ce 1024 (way 11) (levels way 10 f))) :=
  (levels_succ 10 f).trans ((sweep_succ 10 _ _).trans (sweep_succ 9 _ _))

theorem level12 (f : ℕ → EReal) : levels way 12 f = sweep (way 12) 9 (ce 512 (way 12) (ce 1024 (way 12) (ce 2048 (way 12) (levels way 11 f)))) :=
  (levels_succ 11 f).trans ((sweep_succ 11 _ _).trans ((sweep_succ 10 _ _).trans (sweep_succ 9 _ _)))

theorem level13 (f : ℕ → EReal) :
    levels way 13 f = sweep (way 13) 9 (ce 512 (way 13) (ce 1024 (way 13) (ce 2048 (way 13) (ce 4096 (way 13) (levels way 12 f))))) :=
  (levels_succ 12 f).trans ((sweep_succ 12 _ _).trans ((sweep_succ 11 _ _).trans ((sweep_succ 10 _ _).trans (sweep_succ 9 _ _))))

/-- After the first sixteen loops all but the last stages of the last level are done. -/
theorem merged_reads (h : Reads l X f) :
    Reads l (merged X) (ce 512 (way 13) (ce 1024 (way 13) (ce 2048 (way 13) (ce 4096 (way 13) (levels way 12 f))))) := by
  have h8 := levels_reads h
  have h9 := merge9_reads h8
  rw [← level9] at h9
  have h10 := merge10_reads (pairs5_reads h9)
  rw [← level10] at h10
  have h11 := merge11_reads (quads8_reads h10)
  rw [← level11] at h11
  have h12 := merge12_reads (pairs12_reads (quads11_reads h11))
  rw [← level12] at h12
  exact quads16_reads (quads15_reads h12)

/-- The last level ascends everywhere. -/
theorem way13 (r : ℕ) (hr : r < 8192) : way 13 r = false := by
  have h : r / 2 ^ 13 = 0 := Nat.div_eq_of_lt hr
  unfold way
  rw [if_neg (by decide), h]
  rfl

/-- The result, read on a lane: thirteen levels of the lane's values. -/
theorem resultAt_eq (X : Array8192) (b : Fin 2) (r : Fin 8192) (l : Fin 64) :
    resultAt (merged X) b r l = levels way 13 (col X ⟨64 * b.val + l.val, by omega⟩) r.val := by
  unfold resultAt lastMerge
  have hm := merged_reads (Reads.refl ⟨64 * b.val + l.val, by omega⟩ X)
  rw [level13]
  generalize ce 512 (way 13) (ce 1024 (way 13) (ce 2048 (way 13) (ce 4096 (way 13) (levels way 12 (col X ⟨64 * b.val + l.val, by omega⟩))))) = g at hm ⊢
  have hb : Reads ⟨64 * b.val + l.val, by omega⟩ (block 512 ![512 * (r.val / 512), 0] (inside (by omega)) (merged X)) fun s => g (512 * (r.val / 512) + s) := fun s hs => by
    rw [col_block _ _ rfl _ _ hs]
    exact hm _ (by omega)
  rw [merge512_reads false hb _ (by omega)]
  refine Eq.trans ?_ (congrArg (sweep (way 13) 9 g) (Nat.div_add_mod r.val 512))
  refine Eq.trans ?_ (sweep_shift (512 * (r.val / 512)) (way 13) 9 ⟨r.val / 512, rfl⟩ g (r.val % 512)).symm
  exact sweep_congr 9 (dvd_refl _) (fun s hs => (way13 _ (by omega)).symm) (fun _ _ => rfl) _ (Nat.mod_lt _ (by decide))

/-- The levels sort the first 8192 values, ascending. -/
theorem levels_ascend (f : ℕ → EReal) (i j : ℕ) (hij : i ≤ j) (hj : j < 8192) : levels way 13 f i ≤ levels way 13 f j := by
  have h := levels_sorted way_turns f 13 0 (dvd_zero _) i j hij hj
  rw [way13 0 (by decide), Nat.zero_add, Nat.zero_add] at h
  exact h

/-- The levels only rearrange the first 8192 values. -/
theorem levels_rearrange (f : ℕ → EReal) : ∃ σ : Equiv.Perm (Fin 8192), ∀ i, levels way 13 f i.val = f (σ i).val :=
  levels_perm (P := 13) way_turns f 13 le_rfl

end Cert.Proof.Net

end
-- ==== Proof.HostSort.lean ====
/- The reference's sort along the rows gives what any ascending rearrangement gives. -/
module

public import proofs.«01_k».proof.Proof.Sorting
public import proofs.«01_k».proof.Proof.Gen.ReferenceIdeal.Run
public import Idealize.ShloMosaic.Lib.SortFacts
public import Mathlib.Data.List.Sort
public import Mathlib.Data.List.FinRange

@[expose] public section

noncomputable section

namespace Cert.Proof.Net

open Idealize.ShloMosaic Idealize.ShloMosaic.Pointwise

/-- The comparator is "less than" on the extended reals. -/
theorem comparator_eq (a b : EReal) : Cert.ReferenceIdeal.comparator_f32_d1 (F := Ideal) a b = BitVec.ofBool (decide (a < b)) := by
  have hz : (FloatOps.ofBits .f32 0x00000000#32 : Ideal .f32) = (0 : EReal) := Ideal.ofBits_zero_f32
  have h1 : ∀ c : EReal, Scalar.select (Ideal.cmp .oeq c 0) (0 : EReal) c = c := fun c => by
    show Scalar.select (BitVec.ofBool (decide (c = 0))) (0 : EReal) c = c
    rw [select_ofBool]
    by_cases h : c = 0
    · rw [h, decide_eq_true rfl]; rfl
    · rw [decide_eq_false h]; rfl
  have h2 : ∀ c d e : EReal, Scalar.select (Ideal.cmp .une c c) d e = e := fun c d e => by
    show Scalar.select (BitVec.ofBool (decide (c ≠ c))) d e = e
    rw [select_ofBool, decide_eq_false (fun h => h rfl)]; rfl
  unfold Cert.ReferenceIdeal.comparator_f32_d1
  simp only [hz, Ideal.cmpf_def, Ideal.cmpfTotal_def]
  rw [h1, h1, h2, h2]
  rfl

/-- A position of the sorted order is not before an earlier one. -/
theorem sortedFrom_mono {n : ℕ} (f : Fin n → EReal) : Monotone (f ∘ sortedFrom fun k k' => decide (f k < f k')) := fun i j hij => by
  rcases hij.eq_or_lt with rfl | h
  · exact le_refl _
  · have := sortedFrom_noInversion (fun k k' => decide (f k < f k')) (fun k k' => decide (f k < f k'))
      (fun a b h => by simpa using (le_of_lt (by simpa using h))) (fun a b h => h)
      (fun a b c h1 h2 => by
        simp only [decide_eq_false_iff_not, not_lt] at *
        exact le_trans h2 h1) i j h
    simpa using this

/-- Two ascending rearrangements of the same values agree. -/
theorem ascending_unique {n : ℕ} (f : Fin n → EReal) (σ τ : Equiv.Perm (Fin n)) (hσ : Monotone (f ∘ σ)) (hτ : Monotone (f ∘ τ)) :
    f ∘ σ = f ∘ τ := by
  have hp : (List.ofFn (f ∘ σ)).Perm (List.ofFn (f ∘ τ)) := (σ.ofFn_comp_perm f).trans (τ.ofFn_comp_perm f).symm
  exact List.ofFn_injective (List.Perm.eq_of_sortedLE (List.sortedLE_ofFn_iff.mpr hσ) (List.sortedLE_ofFn_iff.mpr hτ) hp)

/-- The reference's sort, read on a lane: the thirteen levels of the lane's values. -/
theorem hostSort_apply (x : FVec Ideal Cert.ReferenceIdeal.S32x8192x64 .f32) (B : Fin 32) (r : Fin 8192) (l : Fin 64) (f : ℕ → EReal)
    (hf : ∀ r : Fin 8192, x (ix3 B r l) = f r.val) :
    Host.sort Cert.ReferenceIdeal.S32x8192x64 1 Cert.ReferenceIdeal.comparator_f32_d1 x (ix3 B r l) = levels way 13 f r.val := by
  have halong : ∀ k : Fin 8192, x ((ix3 B r l : Cert.ReferenceIdeal.S32x8192x64.Idx).along (1 : Fin 3) k) = f k.val := fun k => by
    rw [← hf]
    refine congrArg x (funext fun a => ?_)
    match a with
    | ⟨0, _⟩ => rfl
    | ⟨1, _⟩ => rfl
    | ⟨2, _⟩ => rfl
  unfold Host.sort
  rw [dif_pos (by decide)]
  show x ((ix3 B r l : Cert.ReferenceIdeal.S32x8192x64.Idx).along (1 : Fin 3) (sortedFrom (fun k k' : Fin 8192 =>
    Cert.ReferenceIdeal.comparator_f32_d1 (F := Ideal) (x ((ix3 B r l : Cert.ReferenceIdeal.S32x8192x64.Idx).along (1 : Fin 3) k))
      (x ((ix3 B r l : Cert.ReferenceIdeal.S32x8192x64.Idx).along (1 : Fin 3) k')) == 1#1) r)) = _
  have key : ∀ before : Fin 8192 → Fin 8192 → Bool, (before = fun k k' => decide (f k.val < f k'.val)) →
      x ((ix3 B r l : Cert.ReferenceIdeal.S32x8192x64.Idx).along (1 : Fin 3) (sortedFrom before r)) = levels way 13 f r.val := by
    rintro _ rfl
    refine (halong _).trans ?_
    obtain ⟨σ, hσ⟩ := levels_rearrange f
    let g : Fin 8192 → EReal := fun i => f i.val
    let τ : Equiv.Perm (Fin 8192) := Equiv.ofBijective _ ⟨sortedFrom_injective fun k k' => decide (g k < g k'), sortedFrom_surjective _⟩
    have h1 : Monotone (g ∘ τ) := sortedFrom_mono g
    have h2 : Monotone (g ∘ σ) := fun i j hij => by
      show f (σ i).val ≤ f (σ j).val
      rw [← hσ, ← hσ]
      exact levels_ascend f i.val j.val hij j.isLt
    have h3 : g (τ r) = g (σ r) := congrFun (ascending_unique g τ σ h1 h2) r
    exact h3.trans (hσ r).symm
  refine key _ (funext fun k => funext fun k' => ?_)
  refine (congrArg₂ (fun a b : EReal => Cert.ReferenceIdeal.comparator_f32_d1 (F := Ideal) a b == 1#1) (halong k) (halong k')).trans ?_
  show (Cert.ReferenceIdeal.comparator_f32_d1 (F := Ideal) (f k.val) (f k'.val) == 1#1) = _
  rw [comparator_eq]
  cases decide (f k.val < f k'.val) <;> rfl

end Cert.Proof.Net

end
-- ==== Proof.Filled.lean ====
/- What a point sorts, on the extended reals: two products summed, for each row of coefficients and each lane. -/
module

public import proofs.«01_k».proof.Proof.RunIdeal
public import proofs.«01_k».proof.Proof.HostSort

@[expose] public section

noncomputable section

namespace Cert.KernelIdeal.Gen

open Cert.KernelIdeal Cert.Proof.Net
open Idealize.ShloMosaic Idealize.ShloMosaic.TcCoe Idealize.ShloMosaic.Pointwise

/-- The coefficients of the two rows a point handles, one pair above the other. -/
def coeffs (v10 v12 : Vec Ideal S1x2x8192 .f32) : FVec Ideal S4x8192 .f32 :=
  concatenate S4x8192 0 [⟨S2x8192, shapeCast S2x8192 v10 shapeCasts_S1x2x8192_S2x8192⟩, ⟨S2x8192, shapeCast S2x8192 v12 shapeCasts_S1x2x8192_S2x8192⟩] concatenates_S2x8192_S2x8192_S4x8192_d0

/-- The two basis rows, each laid once in the low and once in the high half of the lanes. -/
def bases (v0 v2 z : FVec Ideal S1x64 .f32) : FVec Ideal S4x128 .f32 :=
  concatenate S4x128 0 [⟨S1x128, concatenate S1x128 1 [⟨S1x64, v0⟩, ⟨S1x64, z⟩] concatenates_S1x64_S1x64_S1x128_d1⟩,
      ⟨S1x128, concatenate S1x128 1 [⟨S1x64, z⟩, ⟨S1x64, v0⟩] concatenates_S1x64_S1x64_S1x128_d1⟩,
      ⟨S1x128, concatenate S1x128 1 [⟨S1x64, v2⟩, ⟨S1x64, z⟩] concatenates_S1x64_S1x64_S1x128_d1⟩,
      ⟨S1x128, concatenate S1x128 1 [⟨S1x64, z⟩, ⟨S1x64, v2⟩] concatenates_S1x64_S1x64_S1x128_d1⟩] concatenates_S1x128_S1x128_S1x128_S1x128_S4x128_d0

theorem coeffs_apply (v10 v12 : Vec Ideal S1x2x8192 .f32) (k : Fin 4) (r : Fin 8192) :
    coeffs v10 v12 (ix2 k r) = if h : k.val < 2 then v10 (ix3 0 ⟨k.val, h⟩ r) else v12 (ix3 0 ⟨k.val - 2, by omega⟩ r) := by
  pointwise [coeffs]

/-- A basis row read in the low half of the lanes. -/
theorem bases_low (v0 v2 z : FVec Ideal S1x64 .f32) (k : Fin 4) (l : Fin 64) (L : Fin 128) (hL : L.val = l.val) :
    bases v0 v2 z (ix2 k L) = ![v0 (ix2 0 l), z (ix2 0 l), v2 (ix2 0 l), z (ix2 0 l)] k := by
  obtain rfl : L = ⟨l.val, l.isLt.trans (by decide)⟩ := Fin.ext hL
  fin_cases k <;> pointwise [bases] <;> simp

/-- A basis row read in the high half of the lanes. -/
theorem bases_high (v0 v2 z : FVec Ideal S1x64 .f32) (k : Fin 4) (l : Fin 64) (L : Fin 128) (hL : L.val = 64 + l.val) :
    bases v0 v2 z (ix2 k L) = ![z (ix2 0 l), v0 (ix2 0 l), z (ix2 0 l), v2 (ix2 0 l)] k := by
  obtain rfl : L = ⟨64 + l.val, Nat.add_lt_add_left l.isLt 64⟩ := Fin.ext hL
  fin_cases k <;> pointwise [bases] <;> simp

theorem dot_apply (A : FVec Ideal S4x8192 .f32) (B : FVec Ideal S4x128 .f32) (r : Fin 8192) (l : Fin 128) :
    matmul dot_S4x8192_S4x128_S8192x128_0_0_1_1_n_n (some .fp32) A B (constant S8192x128 .f32 0x00000000#32) (ix2 r l)
      = ∑ k : Fin 4, A (ix2 k r) * B (ix2 k l) := by
  pointwise

/-- What a point sorts, at a row and a lane: the other half's terms vanish. -/
theorem pay_apply (v0 v2 : Vec Ideal S1x64 .f32) (v10 v12 : Vec Ideal S1x2x8192 .f32) (b : Fin 2) (r : Fin 8192) (l : Fin 64) (L : Fin 128) (hL : L.val = 64 * b.val + l.val) :
    (k0_pay2113 v0 v2 v10 v12 (ix2 r L) : EReal)
      = (v0 (ix2 0 l) : EReal) * v10 (ix3 0 b r) + (v2 (ix2 0 l) : EReal) * v12 (ix3 0 b r) := by
  have hz : (Scalar.ofBits .f32 0x00000000#32 : Ideal .f32) = (0 : EReal) := Ideal.ofBits_zero_f32
  have h : k0_pay2113 v0 v2 v10 v12 = matmul dot_S4x8192_S4x128_S8192x128_0_0_1_1_n_n (some .fp32) (coeffs v10 v12) (bases (shapeCast S1x64 v0 shapeCasts_S1x64_S1x64) (shapeCast S1x64 v2 shapeCasts_S1x64_S1x64) (broadcast S1x64 (Scalar.ofBits .f32 0x00000000#32 : Ideal .f32))) (constant S8192x128 .f32 0x00000000#32) :=
    shapeCast_id _ _
  have hb : (broadcast S1x64 (Scalar.ofBits .f32 0x00000000#32 : Ideal .f32) (ix2 0 l) : EReal) = 0 := hz
  rw [h, shapeCast_id v0, shapeCast_id v2, dot_apply, Fin.sum_univ_four, coeffs_apply, coeffs_apply, coeffs_apply, coeffs_apply]
  match b, hL with
  | ⟨0, _⟩, hL =>
    have hL : L.val = l.val := by simpa using hL
    rw [bases_low _ _ _ 0 l L hL, bases_low _ _ _ 1 l L hL, bases_low _ _ _ 2 l L hL, bases_low _ _ _ 3 l L hL]
    show (v10 (ix3 0 0 r) : EReal) * v0 (ix2 0 l) + (v10 (ix3 0 1 r) : EReal) * (broadcast S1x64 (Scalar.ofBits .f32 0x00000000#32 : Ideal .f32) (ix2 0 l) : EReal)
      + (v12 (ix3 0 0 r) : EReal) * v2 (ix2 0 l) + (v12 (ix3 0 1 r) : EReal) * (broadcast S1x64 (Scalar.ofBits .f32 0x00000000#32 : Ideal .f32) (ix2 0 l) : EReal)
      = (v0 (ix2 0 l) : EReal) * v10 (ix3 0 0 r) + (v2 (ix2 0 l) : EReal) * v12 (ix3 0 0 r)
    rw [hb, mul_zero, mul_zero, add_zero, add_zero]
    exact congrArg₂ (· + ·) (mul_comm _ _) (mul_comm _ _)
  | ⟨1, _⟩, hL =>
    have hL : L.val = 64 + l.val := by simpa using hL
    rw [bases_high _ _ _ 0 l L hL, bases_high _ _ _ 1 l L hL, bases_high _ _ _ 2 l L hL, bases_high _ _ _ 3 l L hL]
    show (v10 (ix3 0 0 r) : EReal) * (broadcast S1x64 (Scalar.ofBits .f32 0x00000000#32 : Ideal .f32) (ix2 0 l) : EReal) + (v10 (ix3 0 1 r) : EReal) * v0 (ix2 0 l)
      + (v12 (ix3 0 0 r) : EReal) * (broadcast S1x64 (Scalar.ofBits .f32 0x00000000#32 : Ideal .f32) (ix2 0 l) : EReal) + (v12 (ix3 0 1 r) : EReal) * v2 (ix2 0 l)
      = (v0 (ix2 0 l) : EReal) * v10 (ix3 0 1 r) + (v2 (ix2 0 l) : EReal) * v12 (ix3 0 1 r)
    rw [hb, mul_zero, mul_zero, add_zero, zero_add]
    exact congrArg₂ (· + ·) (mul_comm _ _) (mul_comm _ _)

end Cert.KernelIdeal.Gen

end
-- ==== Proof.OutIdeal.lean ====
/- The result array after the run: the reference's term of the four arguments. -/
module

public import proofs.«01_k».proof.Proof.Filled
public import Idealize.ShloMosaic.Lib.Pipeline.ValueKit

@[expose] public section

noncomputable section

namespace Cert.KernelIdeal.Gen

open Cert.KernelIdeal Cert.Proof.Net
open Idealize.ShloMosaic Idealize.ShloMosaic.TcCoe Idealize.ShloMosaic.Pointwise Idealize.SL.Sem

/-- The values the reference sorts. -/
def summed (a0 a1 : FVec Ideal Cert.ReferenceIdeal.S32x8192 .f32) (a2 a3 : FVec Ideal Cert.ReferenceIdeal.S64 .f32) : FVec Ideal Cert.ReferenceIdeal.S32x8192x64 .f32 :=
  addf
    (mulf (broadcastInDim Cert.ReferenceIdeal.S32x8192x64 ![0, 1, 2] Cert.ReferenceIdeal.Gen.facts.bcast_S1x1x64_S32x8192x64_0_1_2 (broadcastInDim Cert.ReferenceIdeal.S1x1x64 ![2] Cert.ReferenceIdeal.Gen.facts.bcast_S64_S1x1x64_2 a2))
      (broadcastInDim Cert.ReferenceIdeal.S32x8192x64 ![0, 1, 2] Cert.ReferenceIdeal.Gen.facts.bcast_S32x8192x1_S32x8192x64_0_1_2 (broadcastInDim Cert.ReferenceIdeal.S32x8192x1 ![0, 1] Cert.ReferenceIdeal.Gen.facts.bcast_S32x8192_S32x8192x1_0_1 a0)))
    (mulf (broadcastInDim Cert.ReferenceIdeal.S32x8192x64 ![0, 1, 2] Cert.ReferenceIdeal.Gen.facts.bcast_S1x1x64_S32x8192x64_0_1_2 (broadcastInDim Cert.ReferenceIdeal.S1x1x64 ![2] Cert.ReferenceIdeal.Gen.facts.bcast_S64_S1x1x64_2 a3))
      (broadcastInDim Cert.ReferenceIdeal.S32x8192x64 ![0, 1, 2] Cert.ReferenceIdeal.Gen.facts.bcast_S32x8192x1_S32x8192x64_0_1_2 (broadcastInDim Cert.ReferenceIdeal.S32x8192x1 ![0, 1] Cert.ReferenceIdeal.Gen.facts.bcast_S32x8192_S32x8192x1_0_1 a1)))

/-- The reference's result. -/
def sorted (a0 a1 : FVec Ideal Cert.ReferenceIdeal.S32x8192 .f32) (a2 a3 : FVec Ideal Cert.ReferenceIdeal.S64 .f32) : FVec Ideal Cert.ReferenceIdeal.S32x8192x64 .f32 :=
  Host.sort Cert.ReferenceIdeal.S32x8192x64 1 Cert.ReferenceIdeal.comparator_f32_d1 (summed a0 a1 a2 a3)

/-- The values the reference sorts, at a coordinate. -/
theorem summed_apply (a0 a1 : FVec Ideal Cert.ReferenceIdeal.S32x8192 .f32) (a2 a3 : FVec Ideal Cert.ReferenceIdeal.S64 .f32) (B : Fin 32) (r : Fin 8192) (l : Fin 64) :
    (summed a0 a1 a2 a3 (ix3 B r l) : EReal) = (a2 (ix1 l) : EReal) * a0 (ix2 B r) + (a3 (ix1 l) : EReal) * a1 (ix2 B r) := by
  pointwise [summed]

variable (m : (ℓ : Loc nD τ sig) → Buf (Elt Ideal) ℓ) (c : Dev nD)

theorem V_main_v0 : V m c main_v0 = shapeCast S1x64 (m ((c : Thread nD τ).loc main_arg2)) shapeCasts_S64_S1x64 := by
  show StableHlo.after hostOps0 _ (Proc.devRef .tc main_v0) = _
  after_results
  rfl

theorem V_main_v1 : V m c main_v1 = shapeCast S1x64 (m ((c : Thread nD τ).loc main_arg3)) shapeCasts_S64_S1x64 := by
  show StableHlo.after hostOps0 _ (Proc.devRef .tc main_v1) = _
  after_results
  rfl

theorem V_main_v2 : V m c main_v2 = shapeCast S16x2x8192 (m ((c : Thread nD τ).loc main_arg0)) shapeCasts_S32x8192_S16x2x8192 := by
  show StableHlo.after hostOps0 _ (Proc.devRef .tc main_v2) = _
  after_results
  rfl

theorem V_main_v3 : V m c main_v3 = shapeCast S16x2x8192 (m ((c : Thread nD τ).loc main_arg1)) shapeCasts_S32x8192_S16x2x8192 := by
  show StableHlo.after hostOps0 _ (Proc.devRef .tc main_v3) = _
  after_results
  rfl

theorem index0_0 : ∀ t : Fin cfg0.N, win0_0.index t = ![t.val, 0, 0] := (by decide +kernel : ∀ t : Fin grid0.N, _)
theorem index0_1 : ∀ t : Fin cfg0.N, win0_1.index t = ![t.val, 0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![0, 0] := (by decide +kernel : ∀ t : Fin grid0.N, _)
theorem index0_4 : ∀ t : Fin cfg0.N, win0_4.index t = ![t.val, 0, 0] := (by decide +kernel : ∀ t : Fin grid0.N, _)

/-- Thirty-two rows taken as sixteen pairs. -/
theorem paired (x : S32x8192.Idx → EReal) (T : Fin 16) (b : Fin 2) (r : Fin 8192) (B : Fin 32) (hB : B.val = 2 * T.val + b.val) :
    shapeCast S16x2x8192 x shapeCasts_S32x8192_S16x2x8192 (ix3 T b r) = x (ix2 B r) :=
  shapeCast_apply x _ _ _ (by
    rw [Shape.rowMajor_val_three, Shape.rowMajor_val_two]
    show B.val * 8192 + r.val = (T.val * 2 + b.val) * 8192 + r.val
    omega)

/-- A row of the first coefficients, as the point finds it. -/
theorem iblk_0 (t : Fin cfg0.N) (T : Fin 16) (hT : T.val = t.val) (b : Fin 2) (r : Fin 8192) (B : Fin 32) (hB : B.val = 2 * t.val + b.val) :
   (iblk m c 0 t : S1x2x8192.Idx → EReal) (ix3 0 b r) = m ((c : Thread nD τ).loc main_arg0) (ix2 B r) := by
  have he : ((win0_0.blk t).view.emb (ix3 0 b r) : S16x2x8192.Idx) = ix3 T b r := by
    blk_ext [index0_0]
  blk_simp [iblk]
  rw [V_main_v2]
  exact (congrArg (shapeCast S16x2x8192 (m ((c : Thread nD τ).loc main_arg0)) shapeCasts_S32x8192_S16x2x8192) he).trans
    (paired _ T b r B (by omega))

/-- A row of the second coefficients, as the point finds it. -/
theorem iblk_1 (t : Fin cfg0.N) (T : Fin 16) (hT : T.val = t.val) (b : Fin 2) (r : Fin 8192) (B : Fin 32) (hB : B.val = 2 * t.val + b.val) :
   (iblk m c 1 t : S1x2x8192.Idx → EReal) (ix3 0 b r) = m ((c : Thread nD τ).loc main_arg1) (ix2 B r) := by
  have he : ((win0_1.blk t).view.emb (ix3 0 b r) : S16x2x8192.Idx) = ix3 T b r := by
    blk_ext [index0_1]
  blk_simp [iblk]
  rw [V_main_v3]
  exact (congrArg (shapeCast S16x2x8192 (m ((c : Thread nD τ).loc main_arg1)) shapeCasts_S32x8192_S16x2x8192) he).trans
    (paired _ T b r B (by omega))

/-- The first basis, as the point finds it. -/
theorem iblk_2 (t : Fin cfg0.N) (l : Fin 64) :
   (iblk m c 2 t : S1x64.Idx → EReal) (ix2 0 l) = m ((c : Thread nD τ).loc main_arg2) (ix1 l) := by
  have he : ((win0_2.blk t).view.emb (ix2 0 l) : S1x64.Idx) = ix2 0 l := by
    blk_ext [index0_2]
  blk_simp [iblk]
  rw [V_main_v0]
  refine (congrArg (shapeCast S1x64 (m ((c : Thread nD τ).loc main_arg2)) shapeCasts_S64_S1x64) he).trans ?_
  pointwise

/-- The second basis, as the point finds it. -/
theorem iblk_3 (t : Fin cfg0.N) (l : Fin 64) :
   (iblk m c 3 t : S1x64.Idx → EReal) (ix2 0 l) = m ((c : Thread nD τ).loc main_arg3) (ix1 l) := by
  have he : ((win0_3.blk t).view.emb (ix2 0 l) : S1x64.Idx) = ix2 0 l := by
    blk_ext [index0_3]
  blk_simp [iblk]
  rw [V_main_v1]
  refine (congrArg (shapeCast S1x64 (m ((c : Thread nD τ).loc main_arg3)) shapeCasts_S64_S1x64) he).trans ?_
  pointwise

/-- What a point sorts, read on a lane: the reference's values of the row that the lane stands for. -/
theorem filled_apply (t : Fin cfg0.N) (T : Fin 16) (hT : T.val = t.val) (b : Fin 2) (r : Fin 8192) (l : Fin 64) (B : Fin 32) (hB : B.val = 2 * t.val + b.val) (L : Fin 128) (hL : L.val = 64 * b.val + l.val) :
    summed (m ((c : Thread nD τ).loc main_arg0)) (m ((c : Thread nD τ).loc main_arg1)) (m ((c : Thread nD τ).loc main_arg2)) (m ((c : Thread nD τ).loc main_arg3)) (ix3 B r l)
      = filled m c t (ix2 r L) := by
  rw [summed_apply]
  unfold filled
  rw [pay_apply _ _ _ _ b r l L hL, iblk_0 m c t T hT b r B hB, iblk_1 m c t T hT b r B hB, iblk_2, iblk_3]

/-- The block a point leaves is the reference's result there. -/
theorem outAt_apply (t : Fin cfg0.N) (T : Fin 16) (hT : T.val = t.val) (b : Fin 2) (r : Fin 8192) (l : Fin 64) (B : Fin 32) (hB : B.val = 2 * t.val + b.val) :
    outAt m c t (ix3 b r l)
      = sorted (m ((c : Thread nD τ).loc main_arg0)) (m ((c : Thread nD τ).loc main_arg1)) (m ((c : Thread nD τ).loc main_arg2)) (m ((c : Thread nD τ).loc main_arg3)) (ix3 B r l) :=
  (resultAt_eq (filled m c t) b r l).trans
    (hostSort_apply _ B r l (col (filled m c t) ⟨64 * b.val + l.val, by omega⟩) fun r' =>
      (filled_apply m c t T hT b r' l B hB _ rfl).trans (col_at _ r' _)).symm

/-- The run leaves the reference's result in the result array. -/
theorem out_eq :
    (dats m 0 c).arrAt 4 cfg0.N = sorted (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  obtain ⟨b, r, l, rfl⟩ : ∃ (b : Fin 2) (r : Fin 8192) (l : Fin 64), y = ix3 b r l :=
    ⟨y 0, y 1, y 2, by funext a; match a with | ⟨0, _⟩ => rfl | ⟨1, _⟩ => rfl | ⟨2, _⟩ => rfl⟩
  have ht : t.val < 16 := t.isLt
  have he : ((win0_4.blk t).view.emb (ix3 b r l) : S32x8192x64.Idx) = ix3 ⟨2 * t.val + b.val, by omega⟩ r l := by
    blk_ext [index0_4]
  exact (outAt_apply m c t ⟨t.val, ht⟩ rfl b r l ⟨2 * t.val + b.val, by omega⟩ rfl).trans (congrArg _ he.symm)

/-- The run leaves the reference's result, and keeps the arguments. -/
theorem value (ρ : Dev nD → PrngReg) : θ_run defs (onTc (τ := τ) (main (F := Ideal))) ⟨m, fun _ => 0, ρ⟩ (fun r => ∀ c : Dev nD,
      r.2.mem ((c.tc : Thread nD τ).loc main_v4) = sorted (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.out_eq c 4).trans (out_eq m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_main m ρ)

end Cert.KernelIdeal.Gen

end
-- ==== Proof.lean ====
/- The certificate: the claims of Defs.lean, from the runs of the three programs. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import proofs.«01_k».proof.Proof.RunKernel
public import proofs.«01_k».proof.Proof.OutIdeal

@[expose] public section

noncomputable section

namespace Cert.Proof

open Idealize.ShloMosaic Idealize.SL.Sem

/-- The reference runs and keeps its arguments; it has no counter. -/
theorem referenceKept : Cert.quiescent_ReferenceIdeal (hReferenceIdeal := ReferenceIdeal.Gen.facts) := fun m g _ =>
  (θ_run _ _ _).mono (fun r h => ⟨fun c => (h c).2, sem_eq_zero_of_no_sems (by decide) r.2⟩) (ReferenceIdeal.Value.run m g)

/-- The ideal reading of the kernel and the reference leave one result, for the same arguments. -/
theorem same : Cert.algebraic_KernelIdeal_ReferenceIdeal (hKernelIdeal := KernelIdeal.Gen.facts) (hReferenceIdeal := ReferenceIdeal.Gen.facts) := fun m g m' g' _ ha =>
  ⟨_, KernelIdeal.Gen.value m g, (θ_run _ _ _).mono (fun r h c => ⟨(h c).1.trans (by
    obtain ⟨h0, h1, h2, h3⟩ := ha c
    rw [h0, h1, h2, h3]
    rfl), (h c).2⟩) (ReferenceIdeal.Value.run m' g')⟩

/-- The kernel, its ideal reading and the reference each run and keep their arguments, and the last two agree. -/
theorem claim : Cert.Claim :=
  ⟨Kernel.Gen.facts, KernelIdeal.Gen.facts, ReferenceIdeal.Gen.facts,
    fun m g _ => Kernel.Gen.kept m g, fun m g _ => KernelIdeal.Gen.kept m g, referenceKept, trivial, same⟩

end Cert.Proof

end
